-- ==== Defs.lean ====
def Pre_KAttn (m : (ℓ : Loc Cert.KAttn.nD Cert.KAttn.τ Cert.KAttn.sig) → Buf (Elt Bits) ℓ) : Prop :=
  True

def Pre_KAttnIdeal (m : (ℓ : Loc Cert.KAttnIdeal.nD Cert.KAttnIdeal.τ Cert.KAttnIdeal.sig) → Buf (Elt Ideal) ℓ) : Prop :=
  True

def Pre_RAttnIdeal (m : (ℓ : Loc Cert.RAttnIdeal.nD Cert.RAttnIdeal.τ Cert.RAttnIdeal.sig) → Buf (Elt Ideal) ℓ) : Prop :=
  True

def Pre_KOut (m : (ℓ : Loc Cert.KOut.nD Cert.KOut.τ Cert.KOut.sig) → Buf (Elt Bits) ℓ) : Prop :=
  True

def Pre_KOutIdeal (m : (ℓ : Loc Cert.KOutIdeal.nD Cert.KOutIdeal.τ Cert.KOutIdeal.sig) → Buf (Elt Ideal) ℓ) : Prop :=
  True

def Pre_ROutIdeal (m : (ℓ : Loc Cert.ROutIdeal.nD Cert.ROutIdeal.τ Cert.ROutIdeal.sig) → Buf (Elt Ideal) ℓ) : Prop :=
  True

def Pre_KMlp (m : (ℓ : Loc Cert.KMlp.nD Cert.KMlp.τ Cert.KMlp.sig) → Buf (Elt Bits) ℓ) : Prop :=
  True

def Pre_KMlpIdeal (m : (ℓ : Loc Cert.KMlpIdeal.nD Cert.KMlpIdeal.τ Cert.KMlpIdeal.sig) → Buf (Elt Ideal) ℓ) : Prop :=
  True

def Pre_RMlpIdeal (m : (ℓ : Loc Cert.RMlpIdeal.nD Cert.RMlpIdeal.τ Cert.RMlpIdeal.sig) → Buf (Elt Ideal) ℓ) : Prop :=
  True

def Pre_KV (m : (ℓ : Loc Cert.KV.nD Cert.KV.τ Cert.KV.sig) → Buf (Elt Bits) ℓ) : Prop :=
  True

def Pre_KVIdeal (m : (ℓ : Loc Cert.KVIdeal.nD Cert.KVIdeal.τ Cert.KVIdeal.sig) → Buf (Elt Ideal) ℓ) : Prop :=
  True

def Pre_RVIdeal (m : (ℓ : Loc Cert.RVIdeal.nD Cert.RVIdeal.τ Cert.RVIdeal.sig) → Buf (Elt Ideal) ℓ) : Prop :=
  True

def Pre_KQk (m : (ℓ : Loc Cert.KQk.nD Cert.KQk.τ Cert.KQk.sig) → Buf (Elt Bits) ℓ) : Prop :=
  True

def Pre_KQkIdeal (m : (ℓ : Loc Cert.KQkIdeal.nD Cert.KQkIdeal.τ Cert.KQkIdeal.sig) → Buf (Elt Ideal) ℓ) : Prop :=
  True

def Pre_RQkIdeal (m : (ℓ : Loc Cert.RQkIdeal.nD Cert.RQkIdeal.τ Cert.RQkIdeal.sig) → Buf (Elt Ideal) ℓ) : Prop :=
  True

def Pre_KLn (m : (ℓ : Loc Cert.KLn.nD Cert.KLn.τ Cert.KLn.sig) → Buf (Elt Bits) ℓ) : Prop :=
  True

def Pre_KLnIdeal (m : (ℓ : Loc Cert.KLnIdeal.nD Cert.KLnIdeal.τ Cert.KLnIdeal.sig) → Buf (Elt Ideal) ℓ) : Prop :=
  True

def Pre_RLnIdeal (m : (ℓ : Loc Cert.RLnIdeal.nD Cert.RLnIdeal.τ Cert.RLnIdeal.sig) → Buf (Elt Ideal) ℓ) : Prop :=
  True

def quiescent_KAttn [hKAttn : Cert.KAttn.Facts] : Prop :=
  ∀ (m : (ℓ : Loc Cert.KAttn.nD Cert.KAttn.τ Cert.KAttn.sig) → Buf (Elt Bits) ℓ) (g : Dev Cert.KAttn.nD → PrngReg), Pre_KAttn m →
    θ_run (Cert.KAttn.defs (F := Bits)) (onTc (τ := Cert.KAttn.τ) (Cert.KAttn.main (F := Bits))) ⟨m, fun _ => 0, g⟩ (fun r => (∀ c : Dev Cert.KAttn.nD,
      r.2.mem ((c.tc : Thread Cert.KAttn.nD Cert.KAttn.τ).loc Cert.KAttn.main_arg0) = m ((c.tc : Thread Cert.KAttn.nD Cert.KAttn.τ).loc Cert.KAttn.main_arg0)
      ∧ r.2.mem ((c.tc : Thread Cert.KAttn.nD Cert.KAttn.τ).loc Cert.KAttn.main_arg1) = m ((c.tc : Thread Cert.KAttn.nD Cert.KAttn.τ).loc Cert.KAttn.main_arg1)
      ∧ r.2.mem ((c.tc : Thread Cert.KAttn.nD Cert.KAttn.τ).loc Cert.KAttn.main_arg2) = m ((c.tc : Thread Cert.KAttn.nD Cert.KAttn.τ).loc Cert.KAttn.main_arg2)
      ∧ r.2.mem ((c.tc : Thread Cert.KAttn.nD Cert.KAttn.τ).loc Cert.KAttn.main_arg3) = m ((c.tc : Thread Cert.KAttn.nD Cert.KAttn.τ).loc Cert.KAttn.main_arg3))
      ∧ r.2.sem = fun _ => 0)

def quiescent_KAttnIdeal [hKAttnIdeal : Cert.KAttnIdeal.Facts] : Prop :=
  ∀ (m : (ℓ : Loc Cert.KAttnIdeal.nD Cert.KAttnIdeal.τ Cert.KAttnIdeal.sig) → Buf (Elt Ideal) ℓ) (g : Dev Cert.KAttnIdeal.nD → PrngReg), Pre_KAttnIdeal m →
    θ_run (Cert.KAttnIdeal.defs (F := Ideal)) (onTc (τ := Cert.KAttnIdeal.τ) (Cert.KAttnIdeal.main (F := Ideal))) ⟨m, fun _ => 0, g⟩ (fun r => (∀ c : Dev Cert.KAttnIdeal.nD,
      r.2.mem ((c.tc : Thread Cert.KAttnIdeal.nD Cert.KAttnIdeal.τ).loc Cert.KAttnIdeal.main_arg0) = m ((c.tc : Thread Cert.KAttnIdeal.nD Cert.KAttnIdeal.τ).loc Cert.KAttnIdeal.main_arg0)
      ∧ r.2.mem ((c.tc : Thread Cert.KAttnIdeal.nD Cert.KAttnIdeal.τ).loc Cert.KAttnIdeal.main_arg1) = m ((c.tc : Thread Cert.KAttnIdeal.nD Cert.KAttnIdeal.τ).loc Cert.KAttnIdeal.main_arg1)
      ∧ r.2.mem ((c.tc : Thread Cert.KAttnIdeal.nD Cert.KAttnIdeal.τ).loc Cert.KAttnIdeal.main_arg2) = m ((c.tc : Thread Cert.KAttnIdeal.nD Cert.KAttnIdeal.τ).loc Cert.KAttnIdeal.main_arg2)
      ∧ r.2.mem ((c.tc : Thread Cert.KAttnIdeal.nD Cert.KAttnIdeal.τ).loc Cert.KAttnIdeal.main_arg3) = m ((c.tc : Thread Cert.KAttnIdeal.nD Cert.KAttnIdeal.τ).loc Cert.KAttnIdeal.main_arg3))
      ∧ r.2.sem = fun _ => 0)

def quiescent_RAttnIdeal [hRAttnIdeal : Cert.RAttnIdeal.Facts] : Prop :=
  ∀ (m : (ℓ : Loc Cert.RAttnIdeal.nD Cert.RAttnIdeal.τ Cert.RAttnIdeal.sig) → Buf (Elt Ideal) ℓ) (g : Dev Cert.RAttnIdeal.nD → PrngReg), Pre_RAttnIdeal m →
    θ_run (Cert.RAttnIdeal.defs (F := Ideal)) (onTc (τ := Cert.RAttnIdeal.τ) (Cert.RAttnIdeal.main (F := Ideal))) ⟨m, fun _ => 0, g⟩ (fun r => (∀ c : Dev Cert.RAttnIdeal.nD,
      r.2.mem ((c.tc : Thread Cert.RAttnIdeal.nD Cert.RAttnIdeal.τ).loc Cert.RAttnIdeal.main_arg0) = m ((c.tc : Thread Cert.RAttnIdeal.nD Cert.RAttnIdeal.τ).loc Cert.RAttnIdeal.main_arg0)
      ∧ r.2.mem ((c.tc : Thread Cert.RAttnIdeal.nD Cert.RAttnIdeal.τ).loc Cert.RAttnIdeal.main_arg1) = m ((c.tc : Thread Cert.RAttnIdeal.nD Cert.RAttnIdeal.τ).loc Cert.RAttnIdeal.main_arg1)
      ∧ r.2.mem ((c.tc : Thread Cert.RAttnIdeal.nD Cert.RAttnIdeal.τ).loc Cert.RAttnIdeal.main_arg2) = m ((c.tc : Thread Cert.RAttnIdeal.nD Cert.RAttnIdeal.τ).loc Cert.RAttnIdeal.main_arg2)
      ∧ r.2.mem ((c.tc : Thread Cert.RAttnIdeal.nD Cert.RAttnIdeal.τ).loc Cert.RAttnIdeal.main_arg3) = m ((c.tc : Thread Cert.RAttnIdeal.nD Cert.RAttnIdeal.τ).loc Cert.RAttnIdeal.main_arg3))
      ∧ r.2.sem = fun _ => 0)

def quiescent_KOut [hKOut : Cert.KOut.Facts] : Prop :=
  ∀ (m : (ℓ : Loc Cert.KOut.nD Cert.KOut.τ Cert.KOut.sig) → Buf (Elt Bits) ℓ) (g : Dev Cert.KOut.nD → PrngReg), Pre_KOut m →
    θ_run (Cert.KOut.defs (F := Bits)) (onTc (τ := Cert.KOut.τ) (Cert.KOut.main (F := Bits))) ⟨m, fun _ => 0, g⟩ (fun r => (∀ c : Dev Cert.KOut.nD,
      r.2.mem ((c.tc : Thread Cert.KOut.nD Cert.KOut.τ).loc Cert.KOut.main_arg0) = m ((c.tc : Thread Cert.KOut.nD Cert.KOut.τ).loc Cert.KOut.main_arg0)
      ∧ r.2.mem ((c.tc : Thread Cert.KOut.nD Cert.KOut.τ).loc Cert.KOut.main_arg1) = m ((c.tc : Thread Cert.KOut.nD Cert.KOut.τ).loc Cert.KOut.main_arg1)
      ∧ r.2.mem ((c.tc : Thread Cert.KOut.nD Cert.KOut.τ).loc Cert.KOut.main_arg2) = m ((c.tc : Thread Cert.KOut.nD Cert.KOut.τ).loc Cert.KOut.main_arg2)
      ∧ r.2.mem ((c.tc : Thread Cert.KOut.nD Cert.KOut.τ).loc Cert.KOut.main_arg3) = m ((c.tc : Thread Cert.KOut.nD Cert.KOut.τ).loc Cert.KOut.main_arg3)
      ∧ r.2.mem ((c.tc : Thread Cert.KOut.nD Cert.KOut.τ).loc Cert.KOut.main_arg4) = m ((c.tc : Thread Cert.KOut.nD Cert.KOut.τ).loc Cert.KOut.main_arg4)
      ∧ r.2.mem ((c.tc : Thread Cert.KOut.nD Cert.KOut.τ).loc Cert.KOut.main_arg5) = m ((c.tc : Thread Cert.KOut.nD Cert.KOut.τ).loc Cert.KOut.main_arg5)
      ∧ r.2.mem ((c.tc : Thread Cert.KOut.nD Cert.KOut.τ).loc Cert.KOut.main_arg6) = m ((c.tc : Thread Cert.KOut.nD Cert.KOut.τ).loc Cert.KOut.main_arg6)
      ∧ r.2.mem ((c.tc : Thread Cert.KOut.nD Cert.KOut.τ).loc Cert.KOut.main_arg7) = m ((c.tc : Thread Cert.KOut.nD Cert.KOut.τ).loc Cert.KOut.main_arg7)
      ∧ r.2.mem ((c.tc : Thread Cert.KOut.nD Cert.KOut.τ).loc Cert.KOut.main_arg8) = m ((c.tc : Thread Cert.KOut.nD Cert.KOut.τ).loc Cert.KOut.main_arg8))
      ∧ r.2.sem = fun _ => 0)

def quiescent_KOutIdeal [hKOutIdeal : Cert.KOutIdeal.Facts] : Prop :=
  ∀ (m : (ℓ : Loc Cert.KOutIdeal.nD Cert.KOutIdeal.τ Cert.KOutIdeal.sig) → Buf (Elt Ideal) ℓ) (g : Dev Cert.KOutIdeal.nD → PrngReg), Pre_KOutIdeal m →
    θ_run (Cert.KOutIdeal.defs (F := Ideal)) (onTc (τ := Cert.KOutIdeal.τ) (Cert.KOutIdeal.main (F := Ideal))) ⟨m, fun _ => 0, g⟩ (fun r => (∀ c : Dev Cert.KOutIdeal.nD,
      r.2.mem ((c.tc : Thread Cert.KOutIdeal.nD Cert.KOutIdeal.τ).loc Cert.KOutIdeal.main_arg0) = m ((c.tc : Thread Cert.KOutIdeal.nD Cert.KOutIdeal.τ).loc Cert.KOutIdeal.main_arg0)
      ∧ r.2.mem ((c.tc : Thread Cert.KOutIdeal.nD Cert.KOutIdeal.τ).loc Cert.KOutIdeal.main_arg1) = m ((c.tc : Thread Cert.KOutIdeal.nD Cert.KOutIdeal.τ).loc Cert.KOutIdeal.main_arg1)
      ∧ r.2.mem ((c.tc : Thread Cert.KOutIdeal.nD Cert.KOutIdeal.τ).loc Cert.KOutIdeal.main_arg2) = m ((c.tc : Thread Cert.KOutIdeal.nD Cert.KOutIdeal.τ).loc Cert.KOutIdeal.main_arg2)
      ∧ r.2.mem ((c.tc : Thread Cert.KOutIdeal.nD Cert.KOutIdeal.τ).loc Cert.KOutIdeal.main_arg3) = m ((c.tc : Thread Cert.KOutIdeal.nD Cert.KOutIdeal.τ).loc Cert.KOutIdeal.main_arg3)
      ∧ r.2.mem ((c.tc : Thread Cert.KOutIdeal.nD Cert.KOutIdeal.τ).loc Cert.KOutIdeal.main_arg4) = m ((c.tc : Thread Cert.KOutIdeal.nD Cert.KOutIdeal.τ).loc Cert.KOutIdeal.main_arg4)
      ∧ r.2.mem ((c.tc : Thread Cert.KOutIdeal.nD Cert.KOutIdeal.τ).loc Cert.KOutIdeal.main_arg5) = m ((c.tc : Thread Cert.KOutIdeal.nD Cert.KOutIdeal.τ).loc Cert.KOutIdeal.main_arg5)
      ∧ r.2.mem ((c.tc : Thread Cert.KOutIdeal.nD Cert.KOutIdeal.τ).loc Cert.KOutIdeal.main_arg6) = m ((c.tc : Thread Cert.KOutIdeal.nD Cert.KOutIdeal.τ).loc Cert.KOutIdeal.main_arg6)
      ∧ r.2.mem ((c.tc : Thread Cert.KOutIdeal.nD Cert.KOutIdeal.τ).loc Cert.KOutIdeal.main_arg7) = m ((c.tc : Thread Cert.KOutIdeal.nD Cert.KOutIdeal.τ).loc Cert.KOutIdeal.main_arg7)
      ∧ r.2.mem ((c.tc : Thread Cert.KOutIdeal.nD Cert.KOutIdeal.τ).loc Cert.KOutIdeal.main_arg8) = m ((c.tc : Thread Cert.KOutIdeal.nD Cert.KOutIdeal.τ).loc Cert.KOutIdeal.main_arg8))
      ∧ r.2.sem = fun _ => 0)

def quiescent_ROutIdeal [hROutIdeal : Cert.ROutIdeal.Facts] : Prop :=
  ∀ (m : (ℓ : Loc Cert.ROutIdeal.nD Cert.ROutIdeal.τ Cert.ROutIdeal.sig) → Buf (Elt Ideal) ℓ) (g : Dev Cert.ROutIdeal.nD → PrngReg), Pre_ROutIdeal m →
    θ_run (Cert.ROutIdeal.defs (F := Ideal)) (onTc (τ := Cert.ROutIdeal.τ) (Cert.ROutIdeal.main (F := Ideal))) ⟨m, fun _ => 0, g⟩ (fun r => (∀ c : Dev Cert.ROutIdeal.nD,
      r.2.mem ((c.tc : Thread Cert.ROutIdeal.nD Cert.ROutIdeal.τ).loc Cert.ROutIdeal.main_arg0) = m ((c.tc : Thread Cert.ROutIdeal.nD Cert.ROutIdeal.τ).loc Cert.ROutIdeal.main_arg0)
      ∧ r.2.mem ((c.tc : Thread Cert.ROutIdeal.nD Cert.ROutIdeal.τ).loc Cert.ROutIdeal.main_arg1) = m ((c.tc : Thread Cert.ROutIdeal.nD Cert.ROutIdeal.τ).loc Cert.ROutIdeal.main_arg1)
      ∧ r.2.mem ((c.tc : Thread Cert.ROutIdeal.nD Cert.ROutIdeal.τ).loc Cert.ROutIdeal.main_arg2) = m ((c.tc : Thread Cert.ROutIdeal.nD Cert.ROutIdeal.τ).loc Cert.ROutIdeal.main_arg2)
      ∧ r.2.mem ((c.tc : Thread Cert.ROutIdeal.nD Cert.ROutIdeal.τ).loc Cert.ROutIdeal.main_arg3) = m ((c.tc : Thread Cert.ROutIdeal.nD Cert.ROutIdeal.τ).loc Cert.ROutIdeal.main_arg3)
      ∧ r.2.mem ((c.tc : Thread Cert.ROutIdeal.nD Cert.ROutIdeal.τ).loc Cert.ROutIdeal.main_arg4) = m ((c.tc : Thread Cert.ROutIdeal.nD Cert.ROutIdeal.τ).loc Cert.ROutIdeal.main_arg4)
      ∧ r.2.mem ((c.tc : Thread Cert.ROutIdeal.nD Cert.ROutIdeal.τ).loc Cert.ROutIdeal.main_arg5) = m ((c.tc : Thread Cert.ROutIdeal.nD Cert.ROutIdeal.τ).loc Cert.ROutIdeal.main_arg5)
      ∧ r.2.mem ((c.tc : Thread Cert.ROutIdeal.nD Cert.ROutIdeal.τ).loc Cert.ROutIdeal.main_arg6) = m ((c.tc : Thread Cert.ROutIdeal.nD Cert.ROutIdeal.τ).loc Cert.ROutIdeal.main_arg6)
      ∧ r.2.mem ((c.tc : Thread Cert.ROutIdeal.nD Cert.ROutIdeal.τ).loc Cert.ROutIdeal.main_arg7) = m ((c.tc : Thread Cert.ROutIdeal.nD Cert.ROutIdeal.τ).loc Cert.ROutIdeal.main_arg7)
      ∧ r.2.mem ((c.tc : Thread Cert.ROutIdeal.nD Cert.ROutIdeal.τ).loc Cert.ROutIdeal.main_arg8) = m ((c.tc : Thread Cert.ROutIdeal.nD Cert.ROutIdeal.τ).loc Cert.ROutIdeal.main_arg8))
      ∧ r.2.sem = fun _ => 0)

def quiescent_KMlp [hKMlp : Cert.KMlp.Facts] : Prop :=
  ∀ (m : (ℓ : Loc Cert.KMlp.nD Cert.KMlp.τ Cert.KMlp.sig) → Buf (Elt Bits) ℓ) (g : Dev Cert.KMlp.nD → PrngReg), Pre_KMlp m →
    θ_run (Cert.KMlp.defs (F := Bits)) (onTc (τ := Cert.KMlp.τ) (Cert.KMlp.main (F := Bits))) ⟨m, fun _ => 0, g⟩ (fun r => (∀ c : Dev Cert.KMlp.nD,
      r.2.mem ((c.tc : Thread Cert.KMlp.nD Cert.KMlp.τ).loc Cert.KMlp.main_arg0) = m ((c.tc : Thread Cert.KMlp.nD Cert.KMlp.τ).loc Cert.KMlp.main_arg0)
      ∧ r.2.mem ((c.tc : Thread Cert.KMlp.nD Cert.KMlp.τ).loc Cert.KMlp.main_arg1) = m ((c.tc : Thread Cert.KMlp.nD Cert.KMlp.τ).loc Cert.KMlp.main_arg1)
      ∧ r.2.mem ((c.tc : Thread Cert.KMlp.nD Cert.KMlp.τ).loc Cert.KMlp.main_arg2) = m ((c.tc : Thread Cert.KMlp.nD Cert.KMlp.τ).loc Cert.KMlp.main_arg2)
      ∧ r.2.mem ((c.tc : Thread Cert.KMlp.nD Cert.KMlp.τ).loc Cert.KMlp.main_arg3) = m ((c.tc : Thread Cert.KMlp.nD Cert.KMlp.τ).loc Cert.KMlp.main_arg3)
      ∧ r.2.mem ((c.tc : Thread Cert.KMlp.nD Cert.KMlp.τ).loc Cert.KMlp.main_arg4) = m ((c.tc : Thread Cert.KMlp.nD Cert.KMlp.τ).loc Cert.KMlp.main_arg4)
      ∧ r.2.mem ((c.tc : Thread Cert.KMlp.nD Cert.KMlp.τ).loc Cert.KMlp.main_arg5) = m ((c.tc : Thread Cert.KMlp.nD Cert.KMlp.τ).loc Cert.KMlp.main_arg5))
      ∧ r.2.sem = fun _ => 0)

def quiescent_KMlpIdeal [hKMlpIdeal : Cert.KMlpIdeal.Facts] : Prop :=
  ∀ (m : (ℓ : Loc Cert.KMlpIdeal.nD Cert.KMlpIdeal.τ Cert.KMlpIdeal.sig) → Buf (Elt Ideal) ℓ) (g : Dev Cert.KMlpIdeal.nD → PrngReg), Pre_KMlpIdeal m →
    θ_run (Cert.KMlpIdeal.defs (F := Ideal)) (onTc (τ := Cert.KMlpIdeal.τ) (Cert.KMlpIdeal.main (F := Ideal))) ⟨m, fun _ => 0, g⟩ (fun r => (∀ c : Dev Cert.KMlpIdeal.nD,
      r.2.mem ((c.tc : Thread Cert.KMlpIdeal.nD Cert.KMlpIdeal.τ).loc Cert.KMlpIdeal.main_arg0) = m ((c.tc : Thread Cert.KMlpIdeal.nD Cert.KMlpIdeal.τ).loc Cert.KMlpIdeal.main_arg0)
      ∧ r.2.mem ((c.tc : Thread Cert.KMlpIdeal.nD Cert.KMlpIdeal.τ).loc Cert.KMlpIdeal.main_arg1) = m ((c.tc : Thread Cert.KMlpIdeal.nD Cert.KMlpIdeal.τ).loc Cert.KMlpIdeal.main_arg1)
      ∧ r.2.mem ((c.tc : Thread Cert.KMlpIdeal.nD Cert.KMlpIdeal.τ).loc Cert.KMlpIdeal.main_arg2) = m ((c.tc : Thread Cert.KMlpIdeal.nD Cert.KMlpIdeal.τ).loc Cert.KMlpIdeal.main_arg2)
      ∧ r.2.mem ((c.tc : Thread Cert.KMlpIdeal.nD Cert.KMlpIdeal.τ).loc Cert.KMlpIdeal.main_arg3) = m ((c.tc : Thread Cert.KMlpIdeal.nD Cert.KMlpIdeal.τ).loc Cert.KMlpIdeal.main_arg3)
      ∧ r.2.mem ((c.tc : Thread Cert.KMlpIdeal.nD Cert.KMlpIdeal.τ).loc Cert.KMlpIdeal.main_arg4) = m ((c.tc : Thread Cert.KMlpIdeal.nD Cert.KMlpIdeal.τ).loc Cert.KMlpIdeal.main_arg4)
      ∧ r.2.mem ((c.tc : Thread Cert.KMlpIdeal.nD Cert.KMlpIdeal.τ).loc Cert.KMlpIdeal.main_arg5) = m ((c.tc : Thread Cert.KMlpIdeal.nD Cert.KMlpIdeal.τ).loc Cert.KMlpIdeal.main_arg5))
      ∧ r.2.sem = fun _ => 0)

def quiescent_RMlpIdeal [hRMlpIdeal : Cert.RMlpIdeal.Facts] : Prop :=
  ∀ (m : (ℓ : Loc Cert.RMlpIdeal.nD Cert.RMlpIdeal.τ Cert.RMlpIdeal.sig) → Buf (Elt Ideal) ℓ) (g : Dev Cert.RMlpIdeal.nD → PrngReg), Pre_RMlpIdeal m →
    θ_run (Cert.RMlpIdeal.defs (F := Ideal)) (onTc (τ := Cert.RMlpIdeal.τ) (Cert.RMlpIdeal.main (F := Ideal))) ⟨m, fun _ => 0, g⟩ (fun r => (∀ c : Dev Cert.RMlpIdeal.nD,
      r.2.mem ((c.tc : Thread Cert.RMlpIdeal.nD Cert.RMlpIdeal.τ).loc Cert.RMlpIdeal.main_arg0) = m ((c.tc : Thread Cert.RMlpIdeal.nD Cert.RMlpIdeal.τ).loc Cert.RMlpIdeal.main_arg0)
      ∧ r.2.mem ((c.tc : Thread Cert.RMlpIdeal.nD Cert.RMlpIdeal.τ).loc Cert.RMlpIdeal.main_arg1) = m ((c.tc : Thread Cert.RMlpIdeal.nD Cert.RMlpIdeal.τ).loc Cert.RMlpIdeal.main_arg1)
      ∧ r.2.mem ((c.tc : Thread Cert.RMlpIdeal.nD Cert.RMlpIdeal.τ).loc Cert.RMlpIdeal.main_arg2) = m ((c.tc : Thread Cert.RMlpIdeal.nD Cert.RMlpIdeal.τ).loc Cert.RMlpIdeal.main_arg2)
      ∧ r.2.mem ((c.tc : Thread Cert.RMlpIdeal.nD Cert.RMlpIdeal.τ).loc Cert.RMlpIdeal.main_arg3) = m ((c.tc : Thread Cert.RMlpIdeal.nD Cert.RMlpIdeal.τ).loc Cert.RMlpIdeal.main_arg3)
      ∧ r.2.mem ((c.tc : Thread Cert.RMlpIdeal.nD Cert.RMlpIdeal.τ).loc Cert.RMlpIdeal.main_arg4) = m ((c.tc : Thread Cert.RMlpIdeal.nD Cert.RMlpIdeal.τ).loc Cert.RMlpIdeal.main_arg4)
      ∧ r.2.mem ((c.tc : Thread Cert.RMlpIdeal.nD Cert.RMlpIdeal.τ).loc Cert.RMlpIdeal.main_arg5) = m ((c.tc : Thread Cert.RMlpIdeal.nD Cert.RMlpIdeal.τ).loc Cert.RMlpIdeal.main_arg5))
      ∧ r.2.sem = fun _ => 0)

def quiescent_KV [hKV : Cert.KV.Facts] : Prop :=
  ∀ (m : (ℓ : Loc Cert.KV.nD Cert.KV.τ Cert.KV.sig) → Buf (Elt Bits) ℓ) (g : Dev Cert.KV.nD → PrngReg), Pre_KV m →
    θ_run (Cert.KV.defs (F := Bits)) (onTc (τ := Cert.KV.τ) (Cert.KV.main (F := Bits))) ⟨m, fun _ => 0, g⟩ (fun r => (∀ c : Dev Cert.KV.nD,
      r.2.mem ((c.tc : Thread Cert.KV.nD Cert.KV.τ).loc Cert.KV.main_arg0) = m ((c.tc : Thread Cert.KV.nD Cert.KV.τ).loc Cert.KV.main_arg0)
      ∧ r.2.mem ((c.tc : Thread Cert.KV.nD Cert.KV.τ).loc Cert.KV.main_arg1) = m ((c.tc : Thread Cert.KV.nD Cert.KV.τ).loc Cert.KV.main_arg1)
      ∧ r.2.mem ((c.tc : Thread Cert.KV.nD Cert.KV.τ).loc Cert.KV.main_arg2) = m ((c.tc : Thread Cert.KV.nD Cert.KV.τ).loc Cert.KV.main_arg2)
      ∧ r.2.mem ((c.tc : Thread Cert.KV.nD Cert.KV.τ).loc Cert.KV.main_arg3) = m ((c.tc : Thread Cert.KV.nD Cert.KV.τ).loc Cert.KV.main_arg3)
      ∧ r.2.mem ((c.tc : Thread Cert.KV.nD Cert.KV.τ).loc Cert.KV.main_arg4) = m ((c.tc : Thread Cert.KV.nD Cert.KV.τ).loc Cert.KV.main_arg4))
      ∧ r.2.sem = fun _ => 0)

def quiescent_KVIdeal [hKVIdeal : Cert.KVIdeal.Facts] : Prop :=
  ∀ (m : (ℓ : Loc Cert.KVIdeal.nD Cert.KVIdeal.τ Cert.KVIdeal.sig) → Buf (Elt Ideal) ℓ) (g : Dev Cert.KVIdeal.nD → PrngReg), Pre_KVIdeal m →
    θ_run (Cert.KVIdeal.defs (F := Ideal)) (onTc (τ := Cert.KVIdeal.τ) (Cert.KVIdeal.main (F := Ideal))) ⟨m, fun _ => 0, g⟩ (fun r => (∀ c : Dev Cert.KVIdeal.nD,
      r.2.mem ((c.tc : Thread Cert.KVIdeal.nD Cert.KVIdeal.τ).loc Cert.KVIdeal.main_arg0) = m ((c.tc : Thread Cert.KVIdeal.nD Cert.KVIdeal.τ).loc Cert.KVIdeal.main_arg0)
      ∧ r.2.mem ((c.tc : Thread Cert.KVIdeal.nD Cert.KVIdeal.τ).loc Cert.KVIdeal.main_arg1) = m ((c.tc : Thread Cert.KVIdeal.nD Cert.KVIdeal.τ).loc Cert.KVIdeal.main_arg1)
      ∧ r.2.mem ((c.tc : Thread Cert.KVIdeal.nD Cert.KVIdeal.τ).loc Cert.KVIdeal.main_arg2) = m ((c.tc : Thread Cert.KVIdeal.nD Cert.KVIdeal.τ).loc Cert.KVIdeal.main_arg2)
      ∧ r.2.mem ((c.tc : Thread Cert.KVIdeal.nD Cert.KVIdeal.τ).loc Cert.KVIdeal.main_arg3) = m ((c.tc : Thread Cert.KVIdeal.nD Cert.KVIdeal.τ).loc Cert.KVIdeal.main_arg3)
      ∧ r.2.mem ((c.tc : Thread Cert.KVIdeal.nD Cert.KVIdeal.τ).loc Cert.KVIdeal.main_arg4) = m ((c.tc : Thread Cert.KVIdeal.nD Cert.KVIdeal.τ).loc Cert.KVIdeal.main_arg4))
      ∧ r.2.sem = fun _ => 0)

def quiescent_RVIdeal [hRVIdeal : Cert.RVIdeal.Facts] : Prop :=
  ∀ (m : (ℓ : Loc Cert.RVIdeal.nD Cert.RVIdeal.τ Cert.RVIdeal.sig) → Buf (Elt Ideal) ℓ) (g : Dev Cert.RVIdeal.nD → PrngReg), Pre_RVIdeal m →
    θ_run (Cert.RVIdeal.defs (F := Ideal)) (onTc (τ := Cert.RVIdeal.τ) (Cert.RVIdeal.main (F := Ideal))) ⟨m, fun _ => 0, g⟩ (fun r => (∀ c : Dev Cert.RVIdeal.nD,
      r.2.mem ((c.tc : Thread Cert.RVIdeal.nD Cert.RVIdeal.τ).loc Cert.RVIdeal.main_arg0) = m ((c.tc : Thread Cert.RVIdeal.nD Cert.RVIdeal.τ).loc Cert.RVIdeal.main_arg0)
      ∧ r.2.mem ((c.tc : Thread Cert.RVIdeal.nD Cert.RVIdeal.τ).loc Cert.RVIdeal.main_arg1) = m ((c.tc : Thread Cert.RVIdeal.nD Cert.RVIdeal.τ).loc Cert.RVIdeal.main_arg1)
      ∧ r.2.mem ((c.tc : Thread Cert.RVIdeal.nD Cert.RVIdeal.τ).loc Cert.RVIdeal.main_arg2) = m ((c.tc : Thread Cert.RVIdeal.nD Cert.RVIdeal.τ).loc Cert.RVIdeal.main_arg2)
      ∧ r.2.mem ((c.tc : Thread Cert.RVIdeal.nD Cert.RVIdeal.τ).loc Cert.RVIdeal.main_arg3) = m ((c.tc : Thread Cert.RVIdeal.nD Cert.RVIdeal.τ).loc Cert.RVIdeal.main_arg3)
      ∧ r.2.mem ((c.tc : Thread Cert.RVIdeal.nD Cert.RVIdeal.τ).loc Cert.RVIdeal.main_arg4) = m ((c.tc : Thread Cert.RVIdeal.nD Cert.RVIdeal.τ).loc Cert.RVIdeal.main_arg4))
      ∧ r.2.sem = fun _ => 0)

def quiescent_KQk [hKQk : Cert.KQk.Facts] : Prop :=
  ∀ (m : (ℓ : Loc Cert.KQk.nD Cert.KQk.τ Cert.KQk.sig) → Buf (Elt Bits) ℓ) (g : Dev Cert.KQk.nD → PrngReg), Pre_KQk m →
    θ_run (Cert.KQk.defs (F := Bits)) (onTc (τ := Cert.KQk.τ) (Cert.KQk.main (F := Bits))) ⟨m, fun _ => 0, g⟩ (fun r => (∀ c : Dev Cert.KQk.nD,
      r.2.mem ((c.tc : Thread Cert.KQk.nD Cert.KQk.τ).loc Cert.KQk.main_arg0) = m ((c.tc : Thread Cert.KQk.nD Cert.KQk.τ).loc Cert.KQk.main_arg0)
      ∧ r.2.mem ((c.tc : Thread Cert.KQk.nD Cert.KQk.τ).loc Cert.KQk.main_arg1) = m ((c.tc : Thread Cert.KQk.nD Cert.KQk.τ).loc Cert.KQk.main_arg1)
      ∧ r.2.mem ((c.tc : Thread Cert.KQk.nD Cert.KQk.τ).loc Cert.KQk.main_arg2) = m ((c.tc : Thread Cert.KQk.nD Cert.KQk.τ).loc Cert.KQk.main_arg2)
      ∧ r.2.mem ((c.tc : Thread Cert.KQk.nD Cert.KQk.τ).loc Cert.KQk.main_arg3) = m ((c.tc : Thread Cert.KQk.nD Cert.KQk.τ).loc Cert.KQk.main_arg3)
      ∧ r.2.mem ((c.tc : Thread Cert.KQk.nD Cert.KQk.τ).loc Cert.KQk.main_arg4) = m ((c.tc : Thread Cert.KQk.nD Cert.KQk.τ).loc Cert.KQk.main_arg4)
      ∧ r.2.mem ((c.tc : Thread Cert.KQk.nD Cert.KQk.τ).loc Cert.KQk.main_arg5) = m ((c.tc : Thread Cert.KQk.nD Cert.KQk.τ).loc Cert.KQk.main_arg5)
      ∧ r.2.mem ((c.tc : Thread Cert.KQk.nD Cert.KQk.τ).loc Cert.KQk.main_arg6) = m ((c.tc : Thread Cert.KQk.nD Cert.KQk.τ).loc Cert.KQk.main_arg6)
      ∧ r.2.mem ((c.tc : Thread Cert.KQk.nD Cert.KQk.τ).loc Cert.KQk.main_arg7) = m ((c.tc : Thread Cert.KQk.nD Cert.KQk.τ).loc Cert.KQk.main_arg7)
      ∧ r.2.mem ((c.tc : Thread Cert.KQk.nD Cert.KQk.τ).loc Cert.KQk.main_arg8) = m ((c.tc : Thread Cert.KQk.nD Cert.KQk.τ).loc Cert.KQk.main_arg8))
      ∧ r.2.sem = fun _ => 0)

def quiescent_KQkIdeal [hKQkIdeal : Cert.KQkIdeal.Facts] : Prop :=
  ∀ (m : (ℓ : Loc Cert.KQkIdeal.nD Cert.KQkIdeal.τ Cert.KQkIdeal.sig) → Buf (Elt Ideal) ℓ) (g : Dev Cert.KQkIdeal.nD → PrngReg), Pre_KQkIdeal m →
    θ_run (Cert.KQkIdeal.defs (F := Ideal)) (onTc (τ := Cert.KQkIdeal.τ) (Cert.KQkIdeal.main (F := Ideal))) ⟨m, fun _ => 0, g⟩ (fun r => (∀ c : Dev Cert.KQkIdeal.nD,
      r.2.mem ((c.tc : Thread Cert.KQkIdeal.nD Cert.KQkIdeal.τ).loc Cert.KQkIdeal.main_arg0) = m ((c.tc : Thread Cert.KQkIdeal.nD Cert.KQkIdeal.τ).loc Cert.KQkIdeal.main_arg0)
      ∧ r.2.mem ((c.tc : Thread Cert.KQkIdeal.nD Cert.KQkIdeal.τ).loc Cert.KQkIdeal.main_arg1) = m ((c.tc : Thread Cert.KQkIdeal.nD Cert.KQkIdeal.τ).loc Cert.KQkIdeal.main_arg1)
      ∧ r.2.mem ((c.tc : Thread Cert.KQkIdeal.nD Cert.KQkIdeal.τ).loc Cert.KQkIdeal.main_arg2) = m ((c.tc : Thread Cert.KQkIdeal.nD Cert.KQkIdeal.τ).loc Cert.KQkIdeal.main_arg2)
      ∧ r.2.mem ((c.tc : Thread Cert.KQkIdeal.nD Cert.KQkIdeal.τ).loc Cert.KQkIdeal.main_arg3) = m ((c.tc : Thread Cert.KQkIdeal.nD Cert.KQkIdeal.τ).loc Cert.KQkIdeal.main_arg3)
      ∧ r.2.mem ((c.tc : Thread Cert.KQkIdeal.nD Cert.KQkIdeal.τ).loc Cert.KQkIdeal.main_arg4) = m ((c.tc : Thread Cert.KQkIdeal.nD Cert.KQkIdeal.τ).loc Cert.KQkIdeal.main_arg4)
      ∧ r.2.mem ((c.tc : Thread Cert.KQkIdeal.nD Cert.KQkIdeal.τ).loc Cert.KQkIdeal.main_arg5) = m ((c.tc : Thread Cert.KQkIdeal.nD Cert.KQkIdeal.τ).loc Cert.KQkIdeal.main_arg5)
      ∧ r.2.mem ((c.tc : Thread Cert.KQkIdeal.nD Cert.KQkIdeal.τ).loc Cert.KQkIdeal.main_arg6) = m ((c.tc : Thread Cert.KQkIdeal.nD Cert.KQkIdeal.τ).loc Cert.KQkIdeal.main_arg6)
      ∧ r.2.mem ((c.tc : Thread Cert.KQkIdeal.nD Cert.KQkIdeal.τ).loc Cert.KQkIdeal.main_arg7) = m ((c.tc : Thread Cert.KQkIdeal.nD Cert.KQkIdeal.τ).loc Cert.KQkIdeal.main_arg7)
      ∧ r.2.mem ((c.tc : Thread Cert.KQkIdeal.nD Cert.KQkIdeal.τ).loc Cert.KQkIdeal.main_arg8) = m ((c.tc : Thread Cert.KQkIdeal.nD Cert.KQkIdeal.τ).loc Cert.KQkIdeal.main_arg8))
      ∧ r.2.sem = fun _ => 0)

def quiescent_RQkIdeal [hRQkIdeal : Cert.RQkIdeal.Facts] : Prop :=
  ∀ (m : (ℓ : Loc Cert.RQkIdeal.nD Cert.RQkIdeal.τ Cert.RQkIdeal.sig) → Buf (Elt Ideal) ℓ) (g : Dev Cert.RQkIdeal.nD → PrngReg), Pre_RQkIdeal m →
    θ_run (Cert.RQkIdeal.defs (F := Ideal)) (onTc (τ := Cert.RQkIdeal.τ) (Cert.RQkIdeal.main (F := Ideal))) ⟨m, fun _ => 0, g⟩ (fun r => (∀ c : Dev Cert.RQkIdeal.nD,
      r.2.mem ((c.tc : Thread Cert.RQkIdeal.nD Cert.RQkIdeal.τ).loc Cert.RQkIdeal.main_arg0) = m ((c.tc : Thread Cert.RQkIdeal.nD Cert.RQkIdeal.τ).loc Cert.RQkIdeal.main_arg0)
      ∧ r.2.mem ((c.tc : Thread Cert.RQkIdeal.nD Cert.RQkIdeal.τ).loc Cert.RQkIdeal.main_arg1) = m ((c.tc : Thread Cert.RQkIdeal.nD Cert.RQkIdeal.τ).loc Cert.RQkIdeal.main_arg1)
      ∧ r.2.mem ((c.tc : Thread Cert.RQkIdeal.nD Cert.RQkIdeal.τ).loc Cert.RQkIdeal.main_arg2) = m ((c.tc : Thread Cert.RQkIdeal.nD Cert.RQkIdeal.τ).loc Cert.RQkIdeal.main_arg2)
      ∧ r.2.mem ((c.tc : Thread Cert.RQkIdeal.nD Cert.RQkIdeal.τ).loc Cert.RQkIdeal.main_arg3) = m ((c.tc : Thread Cert.RQkIdeal.nD Cert.RQkIdeal.τ).loc Cert.RQkIdeal.main_arg3)
      ∧ r.2.mem ((c.tc : Thread Cert.RQkIdeal.nD Cert.RQkIdeal.τ).loc Cert.RQkIdeal.main_arg4) = m ((c.tc : Thread Cert.RQkIdeal.nD Cert.RQkIdeal.τ).loc Cert.RQkIdeal.main_arg4)
      ∧ r.2.mem ((c.tc : Thread Cert.RQkIdeal.nD Cert.RQkIdeal.τ).loc Cert.RQkIdeal.main_arg5) = m ((c.tc : Thread Cert.RQkIdeal.nD Cert.RQkIdeal.τ).loc Cert.RQkIdeal.main_arg5)
      ∧ r.2.mem ((c.tc : Thread Cert.RQkIdeal.nD Cert.RQkIdeal.τ).loc Cert.RQkIdeal.main_arg6) = m ((c.tc : Thread Cert.RQkIdeal.nD Cert.RQkIdeal.τ).loc Cert.RQkIdeal.main_arg6)
      ∧ r.2.mem ((c.tc : Thread Cert.RQkIdeal.nD Cert.RQkIdeal.τ).loc Cert.RQkIdeal.main_arg7) = m ((c.tc : Thread Cert.RQkIdeal.nD Cert.RQkIdeal.τ).loc Cert.RQkIdeal.main_arg7)
      ∧ r.2.mem ((c.tc : Thread Cert.RQkIdeal.nD Cert.RQkIdeal.τ).loc Cert.RQkIdeal.main_arg8) = m ((c.tc : Thread Cert.RQkIdeal.nD Cert.RQkIdeal.τ).loc Cert.RQkIdeal.main_arg8))
      ∧ r.2.sem = fun _ => 0)

def quiescent_KLn [hKLn : Cert.KLn.Facts] : Prop :=
  ∀ (m : (ℓ : Loc Cert.KLn.nD Cert.KLn.τ Cert.KLn.sig) → Buf (Elt Bits) ℓ) (g : Dev Cert.KLn.nD → PrngReg), Pre_KLn m →
    θ_run (Cert.KLn.defs (F := Bits)) (onTc (τ := Cert.KLn.τ) (Cert.KLn.main (F := Bits))) ⟨m, fun _ => 0, g⟩ (fun r => (∀ c : Dev Cert.KLn.nD,
      r.2.mem ((c.tc : Thread Cert.KLn.nD Cert.KLn.τ).loc Cert.KLn.main_arg0) = m ((c.tc : Thread Cert.KLn.nD Cert.KLn.τ).loc Cert.KLn.main_arg0)
      ∧ r.2.mem ((c.tc : Thread Cert.KLn.nD Cert.KLn.τ).loc Cert.KLn.main_arg1) = m ((c.tc : Thread Cert.KLn.nD Cert.KLn.τ).loc Cert.KLn.main_arg1)
      ∧ r.2.mem ((c.tc : Thread Cert.KLn.nD Cert.KLn.τ).loc Cert.KLn.main_arg2) = m ((c.tc : Thread Cert.KLn.nD Cert.KLn.τ).loc Cert.KLn.main_arg2)
      ∧ r.2.mem ((c.tc : Thread Cert.KLn.nD Cert.KLn.τ).loc Cert.KLn.main_arg3) = m ((c.tc : Thread Cert.KLn.nD Cert.KLn.τ).loc Cert.KLn.main_arg3))
      ∧ r.2.sem = fun _ => 0)

def quiescent_KLnIdeal [hKLnIdeal : Cert.KLnIdeal.Facts] : Prop :=
  ∀ (m : (ℓ : Loc Cert.KLnIdeal.nD Cert.KLnIdeal.τ Cert.KLnIdeal.sig) → Buf (Elt Ideal) ℓ) (g : Dev Cert.KLnIdeal.nD → PrngReg), Pre_KLnIdeal m →
    θ_run (Cert.KLnIdeal.defs (F := Ideal)) (onTc (τ := Cert.KLnIdeal.τ) (Cert.KLnIdeal.main (F := Ideal))) ⟨m, fun _ => 0, g⟩ (fun r => (∀ c : Dev Cert.KLnIdeal.nD,
      r.2.mem ((c.tc : Thread Cert.KLnIdeal.nD Cert.KLnIdeal.τ).loc Cert.KLnIdeal.main_arg0) = m ((c.tc : Thread Cert.KLnIdeal.nD Cert.KLnIdeal.τ).loc Cert.KLnIdeal.main_arg0)
      ∧ r.2.mem ((c.tc : Thread Cert.KLnIdeal.nD Cert.KLnIdeal.τ).loc Cert.KLnIdeal.main_arg1) = m ((c.tc : Thread Cert.KLnIdeal.nD Cert.KLnIdeal.τ).loc Cert.KLnIdeal.main_arg1)
      ∧ r.2.mem ((c.tc : Thread Cert.KLnIdeal.nD Cert.KLnIdeal.τ).loc Cert.KLnIdeal.main_arg2) = m ((c.tc : Thread Cert.KLnIdeal.nD Cert.KLnIdeal.τ).loc Cert.KLnIdeal.main_arg2)
      ∧ r.2.mem ((c.tc : Thread Cert.KLnIdeal.nD Cert.KLnIdeal.τ).loc Cert.KLnIdeal.main_arg3) = m ((c.tc : Thread Cert.KLnIdeal.nD Cert.KLnIdeal.τ).loc Cert.KLnIdeal.main_arg3))
      ∧ r.2.sem = fun _ => 0)

def quiescent_RLnIdeal [hRLnIdeal : Cert.RLnIdeal.Facts] : Prop :=
  ∀ (m : (ℓ : Loc Cert.RLnIdeal.nD Cert.RLnIdeal.τ Cert.RLnIdeal.sig) → Buf (Elt Ideal) ℓ) (g : Dev Cert.RLnIdeal.nD → PrngReg), Pre_RLnIdeal m →
    θ_run (Cert.RLnIdeal.defs (F := Ideal)) (onTc (τ := Cert.RLnIdeal.τ) (Cert.RLnIdeal.main (F := Ideal))) ⟨m, fun _ => 0, g⟩ (fun r => (∀ c : Dev Cert.RLnIdeal.nD,
      r.2.mem ((c.tc : Thread Cert.RLnIdeal.nD Cert.RLnIdeal.τ).loc Cert.RLnIdeal.main_arg0) = m ((c.tc : Thread Cert.RLnIdeal.nD Cert.RLnIdeal.τ).loc Cert.RLnIdeal.main_arg0)
      ∧ r.2.mem ((c.tc : Thread Cert.RLnIdeal.nD Cert.RLnIdeal.τ).loc Cert.RLnIdeal.main_arg1) = m ((c.tc : Thread Cert.RLnIdeal.nD Cert.RLnIdeal.τ).loc Cert.RLnIdeal.main_arg1)
      ∧ r.2.mem ((c.tc : Thread Cert.RLnIdeal.nD Cert.RLnIdeal.τ).loc Cert.RLnIdeal.main_arg2) = m ((c.tc : Thread Cert.RLnIdeal.nD Cert.RLnIdeal.τ).loc Cert.RLnIdeal.main_arg2)
      ∧ r.2.mem ((c.tc : Thread Cert.RLnIdeal.nD Cert.RLnIdeal.τ).loc Cert.RLnIdeal.main_arg3) = m ((c.tc : Thread Cert.RLnIdeal.nD Cert.RLnIdeal.τ).loc Cert.RLnIdeal.main_arg3))
      ∧ r.2.sem = fun _ => 0)

def preserves_KAttn_KAttnIdeal : Prop :=
  IdealRules.named_const.Statement Cert.KAttnIdeal.κ "score_scale" .f32 0x3E0293EE#32 (((Real.sqrt 128)⁻¹ * (Real.log 2)⁻¹ : ℝ) : EReal)

def algebraic_KAttnIdeal_RAttnIdeal [hKAttnIdeal : Cert.KAttnIdeal.Facts] [hRAttnIdeal : Cert.RAttnIdeal.Facts] : Prop :=
  ∀ (m : (ℓ : Loc Cert.KAttnIdeal.nD Cert.KAttnIdeal.τ Cert.KAttnIdeal.sig) → Buf (Elt Ideal) ℓ) (g : Dev Cert.KAttnIdeal.nD → PrngReg)
    (m' : (ℓ : Loc Cert.RAttnIdeal.nD Cert.RAttnIdeal.τ Cert.RAttnIdeal.sig) → Buf (Elt Ideal) ℓ) (g' : Dev Cert.RAttnIdeal.nD → PrngReg), Pre_KAttnIdeal m →
    (∀ c : Dev Cert.KAttnIdeal.nD,
      m' ((c.tc : Thread Cert.RAttnIdeal.nD Cert.RAttnIdeal.τ).loc Cert.RAttnIdeal.main_arg0) = m ((c.tc : Thread Cert.KAttnIdeal.nD Cert.KAttnIdeal.τ).loc Cert.KAttnIdeal.main_arg0)
      ∧ m' ((c.tc : Thread Cert.RAttnIdeal.nD Cert.RAttnIdeal.τ).loc Cert.RAttnIdeal.main_arg1) = m ((c.tc : Thread Cert.KAttnIdeal.nD Cert.KAttnIdeal.τ).loc Cert.KAttnIdeal.main_arg1)
      ∧ m' ((c.tc : Thread Cert.RAttnIdeal.nD Cert.RAttnIdeal.τ).loc Cert.RAttnIdeal.main_arg2) = m ((c.tc : Thread Cert.KAttnIdeal.nD Cert.KAttnIdeal.τ).loc Cert.KAttnIdeal.main_arg2)
      ∧ m' ((c.tc : Thread Cert.RAttnIdeal.nD Cert.RAttnIdeal.τ).loc Cert.RAttnIdeal.main_arg3) = m ((c.tc : Thread Cert.KAttnIdeal.nD Cert.KAttnIdeal.τ).loc Cert.KAttnIdeal.main_arg3)) →
    ∃ (v0 : (c : Dev Cert.KAttnIdeal.nD) → Buf (Elt Ideal) ((c.tc : Thread Cert.KAttnIdeal.nD Cert.KAttnIdeal.τ).loc Cert.KAttnIdeal.main_v1_0)) (v1 : (c : Dev Cert.KAttnIdeal.nD) → Buf (Elt Ideal) ((c.tc : Thread Cert.KAttnIdeal.nD Cert.KAttnIdeal.τ).loc Cert.KAttnIdeal.main_v1_1)),
      θ_run (Cert.KAttnIdeal.defs (F := Ideal)) (onTc (τ := Cert.KAttnIdeal.τ) (Cert.KAttnIdeal.main (F := Ideal))) ⟨m, fun _ => 0, g⟩ (fun r => ∀ c : Dev Cert.KAttnIdeal.nD,
          r.2.mem ((c.tc : Thread Cert.KAttnIdeal.nD Cert.KAttnIdeal.τ).loc Cert.KAttnIdeal.main_v1_0) = v0 c
          ∧ r.2.mem ((c.tc : Thread Cert.KAttnIdeal.nD Cert.KAttnIdeal.τ).loc Cert.KAttnIdeal.main_v1_1) = v1 c
          ∧ r.2.mem ((c.tc : Thread Cert.KAttnIdeal.nD Cert.KAttnIdeal.τ).loc Cert.KAttnIdeal.main_arg0) = m ((c.tc : Thread Cert.KAttnIdeal.nD Cert.KAttnIdeal.τ).loc Cert.KAttnIdeal.main_arg0)
          ∧ r.2.mem ((c.tc : Thread Cert.KAttnIdeal.nD Cert.KAttnIdeal.τ).loc Cert.KAttnIdeal.main_arg1) = m ((c.tc : Thread Cert.KAttnIdeal.nD Cert.KAttnIdeal.τ).loc Cert.KAttnIdeal.main_arg1)
          ∧ r.2.mem ((c.tc : Thread Cert.KAttnIdeal.nD Cert.KAttnIdeal.τ).loc Cert.KAttnIdeal.main_arg2) = m ((c.tc : Thread Cert.KAttnIdeal.nD Cert.KAttnIdeal.τ).loc Cert.KAttnIdeal.main_arg2)
          ∧ r.2.mem ((c.tc : Thread Cert.KAttnIdeal.nD Cert.KAttnIdeal.τ).loc Cert.KAttnIdeal.main_arg3) = m ((c.tc : Thread Cert.KAttnIdeal.nD Cert.KAttnIdeal.τ).loc Cert.KAttnIdeal.main_arg3))
      ∧ θ_run (Cert.RAttnIdeal.defs (F := Ideal)) (onTc (τ := Cert.RAttnIdeal.τ) (Cert.RAttnIdeal.main (F := Ideal))) ⟨m', fun _ => 0, g'⟩ (fun r => ∀ c : Dev Cert.RAttnIdeal.nD,
          r.2.mem ((c.tc : Thread Cert.RAttnIdeal.nD Cert.RAttnIdeal.τ).loc Cert.RAttnIdeal.main_v2_0) = v0 c
          ∧ r.2.mem ((c.tc : Thread Cert.RAttnIdeal.nD Cert.RAttnIdeal.τ).loc Cert.RAttnIdeal.main_v2_1) = v1 c
          ∧ r.2.mem ((c.tc : Thread Cert.RAttnIdeal.nD Cert.RAttnIdeal.τ).loc Cert.RAttnIdeal.main_arg0) = m' ((c.tc : Thread Cert.RAttnIdeal.nD Cert.RAttnIdeal.τ).loc Cert.RAttnIdeal.main_arg0)
          ∧ r.2.mem ((c.tc : Thread Cert.RAttnIdeal.nD Cert.RAttnIdeal.τ).loc Cert.RAttnIdeal.main_arg1) = m' ((c.tc : Thread Cert.RAttnIdeal.nD Cert.RAttnIdeal.τ).loc Cert.RAttnIdeal.main_arg1)
          ∧ r.2.mem ((c.tc : Thread Cert.RAttnIdeal.nD Cert.RAttnIdeal.τ).loc Cert.RAttnIdeal.main_arg2) = m' ((c.tc : Thread Cert.RAttnIdeal.nD Cert.RAttnIdeal.τ).loc Cert.RAttnIdeal.main_arg2)
          ∧ r.2.mem ((c.tc : Thread Cert.RAttnIdeal.nD Cert.RAttnIdeal.τ).loc Cert.RAttnIdeal.main_arg3) = m' ((c.tc : Thread Cert.RAttnIdeal.nD Cert.RAttnIdeal.τ).loc Cert.RAttnIdeal.main_arg3))

def preserves_KOut_KOutIdeal : Prop :=
  True

def algebraic_KOutIdeal_ROutIdeal [hKOutIdeal : Cert.KOutIdeal.Facts] [hROutIdeal : Cert.ROutIdeal.Facts] : Prop :=
  ∀ (m : (ℓ : Loc Cert.KOutIdeal.nD Cert.KOutIdeal.τ Cert.KOutIdeal.sig) → Buf (Elt Ideal) ℓ) (g : Dev Cert.KOutIdeal.nD → PrngReg)
    (m' : (ℓ : Loc Cert.ROutIdeal.nD Cert.ROutIdeal.τ Cert.ROutIdeal.sig) → Buf (Elt Ideal) ℓ) (g' : Dev Cert.ROutIdeal.nD → PrngReg), Pre_KOutIdeal m →
    (∀ c : Dev Cert.KOutIdeal.nD,
      m' ((c.tc : Thread Cert.ROutIdeal.nD Cert.ROutIdeal.τ).loc Cert.ROutIdeal.main_arg0) = m ((c.tc : Thread Cert.KOutIdeal.nD Cert.KOutIdeal.τ).loc Cert.KOutIdeal.main_arg0)
      ∧ m' ((c.tc : Thread Cert.ROutIdeal.nD Cert.ROutIdeal.τ).loc Cert.ROutIdeal.main_arg1) = m ((c.tc : Thread Cert.KOutIdeal.nD Cert.KOutIdeal.τ).loc Cert.KOutIdeal.main_arg1)
      ∧ m' ((c.tc : Thread Cert.ROutIdeal.nD Cert.ROutIdeal.τ).loc Cert.ROutIdeal.main_arg2) = m ((c.tc : Thread Cert.KOutIdeal.nD Cert.KOutIdeal.τ).loc Cert.KOutIdeal.main_arg2)
      ∧ m' ((c.tc : Thread Cert.ROutIdeal.nD Cert.ROutIdeal.τ).loc Cert.ROutIdeal.main_arg3) = m ((c.tc : Thread Cert.KOutIdeal.nD Cert.KOutIdeal.τ).loc Cert.KOutIdeal.main_arg3)
      ∧ m' ((c.tc : Thread Cert.ROutIdeal.nD Cert.ROutIdeal.τ).loc Cert.ROutIdeal.main_arg4) = m ((c.tc : Thread Cert.KOutIdeal.nD Cert.KOutIdeal.τ).loc Cert.KOutIdeal.main_arg4)
      ∧ m' ((c.tc : Thread Cert.ROutIdeal.nD Cert.ROutIdeal.τ).loc Cert.ROutIdeal.main_arg5) = m ((c.tc : Thread Cert.KOutIdeal.nD Cert.KOutIdeal.τ).loc Cert.KOutIdeal.main_arg5)
      ∧ m' ((c.tc : Thread Cert.ROutIdeal.nD Cert.ROutIdeal.τ).loc Cert.ROutIdeal.main_arg6) = m ((c.tc : Thread Cert.KOutIdeal.nD Cert.KOutIdeal.τ).loc Cert.KOutIdeal.main_arg6)
      ∧ m' ((c.tc : Thread Cert.ROutIdeal.nD Cert.ROutIdeal.τ).loc Cert.ROutIdeal.main_arg7) = m ((c.tc : Thread Cert.KOutIdeal.nD Cert.KOutIdeal.τ).loc Cert.KOutIdeal.main_arg7)
      ∧ m' ((c.tc : Thread Cert.ROutIdeal.nD Cert.ROutIdeal.τ).loc Cert.ROutIdeal.main_arg8) = m ((c.tc : Thread Cert.KOutIdeal.nD Cert.KOutIdeal.τ).loc Cert.KOutIdeal.main_arg8)) →
    ∃ (v0 : (c : Dev Cert.KOutIdeal.nD) → Buf (Elt Ideal) ((c.tc : Thread Cert.KOutIdeal.nD Cert.KOutIdeal.τ).loc Cert.KOutIdeal.main_v6)),
      θ_run (Cert.KOutIdeal.defs (F := Ideal)) (onTc (τ := Cert.KOutIdeal.τ) (Cert.KOutIdeal.main (F := Ideal))) ⟨m, fun _ => 0, g⟩ (fun r => ∀ c : Dev Cert.KOutIdeal.nD,
          r.2.mem ((c.tc : Thread Cert.KOutIdeal.nD Cert.KOutIdeal.τ).loc Cert.KOutIdeal.main_v6) = v0 c
          ∧ r.2.mem ((c.tc : Thread Cert.KOutIdeal.nD Cert.KOutIdeal.τ).loc Cert.KOutIdeal.main_arg0) = m ((c.tc : Thread Cert.KOutIdeal.nD Cert.KOutIdeal.τ).loc Cert.KOutIdeal.main_arg0)
          ∧ r.2.mem ((c.tc : Thread Cert.KOutIdeal.nD Cert.KOutIdeal.τ).loc Cert.KOutIdeal.main_arg1) = m ((c.tc : Thread Cert.KOutIdeal.nD Cert.KOutIdeal.τ).loc Cert.KOutIdeal.main_arg1)
          ∧ r.2.mem ((c.tc : Thread Cert.KOutIdeal.nD Cert.KOutIdeal.τ).loc Cert.KOutIdeal.main_arg2) = m ((c.tc : Thread Cert.KOutIdeal.nD Cert.KOutIdeal.τ).loc Cert.KOutIdeal.main_arg2)
          ∧ r.2.mem ((c.tc : Thread Cert.KOutIdeal.nD Cert.KOutIdeal.τ).loc Cert.KOutIdeal.main_arg3) = m ((c.tc : Thread Cert.KOutIdeal.nD Cert.KOutIdeal.τ).loc Cert.KOutIdeal.main_arg3)
          ∧ r.2.mem ((c.tc : Thread Cert.KOutIdeal.nD Cert.KOutIdeal.τ).loc Cert.KOutIdeal.main_arg4) = m ((c.tc : Thread Cert.KOutIdeal.nD Cert.KOutIdeal.τ).loc Cert.KOutIdeal.main_arg4)
          ∧ r.2.mem ((c.tc : Thread Cert.KOutIdeal.nD Cert.KOutIdeal.τ).loc Cert.KOutIdeal.main_arg5) = m ((c.tc : Thread Cert.KOutIdeal.nD Cert.KOutIdeal.τ).loc Cert.KOutIdeal.main_arg5)
          ∧ r.2.mem ((c.tc : Thread Cert.KOutIdeal.nD Cert.KOutIdeal.τ).loc Cert.KOutIdeal.main_arg6) = m ((c.tc : Thread Cert.KOutIdeal.nD Cert.KOutIdeal.τ).loc Cert.KOutIdeal.main_arg6)
          ∧ r.2.mem ((c.tc : Thread Cert.KOutIdeal.nD Cert.KOutIdeal.τ).loc Cert.KOutIdeal.main_arg7) = m ((c.tc : Thread Cert.KOutIdeal.nD Cert.KOutIdeal.τ).loc Cert.KOutIdeal.main_arg7)
          ∧ r.2.mem ((c.tc : Thread Cert.KOutIdeal.nD Cert.KOutIdeal.τ).loc Cert.KOutIdeal.main_arg8) = m ((c.tc : Thread Cert.KOutIdeal.nD Cert.KOutIdeal.τ).loc Cert.KOutIdeal.main_arg8))
      ∧ θ_run (Cert.ROutIdeal.defs (F := Ideal)) (onTc (τ := Cert.ROutIdeal.τ) (Cert.ROutIdeal.main (F := Ideal))) ⟨m', fun _ => 0, g'⟩ (fun r => ∀ c : Dev Cert.ROutIdeal.nD,
          r.2.mem ((c.tc : Thread Cert.ROutIdeal.nD Cert.ROutIdeal.τ).loc Cert.ROutIdeal.main_v4) = v0 c
          ∧ r.2.mem ((c.tc : Thread Cert.ROutIdeal.nD Cert.ROutIdeal.τ).loc Cert.ROutIdeal.main_arg0) = m' ((c.tc : Thread Cert.ROutIdeal.nD Cert.ROutIdeal.τ).loc Cert.ROutIdeal.main_arg0)
          ∧ r.2.mem ((c.tc : Thread Cert.ROutIdeal.nD Cert.ROutIdeal.τ).loc Cert.ROutIdeal.main_arg1) = m' ((c.tc : Thread Cert.ROutIdeal.nD Cert.ROutIdeal.τ).loc Cert.ROutIdeal.main_arg1)
          ∧ r.2.mem ((c.tc : Thread Cert.ROutIdeal.nD Cert.ROutIdeal.τ).loc Cert.ROutIdeal.main_arg2) = m' ((c.tc : Thread Cert.ROutIdeal.nD Cert.ROutIdeal.τ).loc Cert.ROutIdeal.main_arg2)
          ∧ r.2.mem ((c.tc : Thread Cert.ROutIdeal.nD Cert.ROutIdeal.τ).loc Cert.ROutIdeal.main_arg3) = m' ((c.tc : Thread Cert.ROutIdeal.nD Cert.ROutIdeal.τ).loc Cert.ROutIdeal.main_arg3)
          ∧ r.2.mem ((c.tc : Thread Cert.ROutIdeal.nD Cert.ROutIdeal.τ).loc Cert.ROutIdeal.main_arg4) = m' ((c.tc : Thread Cert.ROutIdeal.nD Cert.ROutIdeal.τ).loc Cert.ROutIdeal.main_arg4)
          ∧ r.2.mem ((c.tc : Thread Cert.ROutIdeal.nD Cert.ROutIdeal.τ).loc Cert.ROutIdeal.main_arg5) = m' ((c.tc : Thread Cert.ROutIdeal.nD Cert.ROutIdeal.τ).loc Cert.ROutIdeal.main_arg5)
          ∧ r.2.mem ((c.tc : Thread Cert.ROutIdeal.nD Cert.ROutIdeal.τ).loc Cert.ROutIdeal.main_arg6) = m' ((c.tc : Thread Cert.ROutIdeal.nD Cert.ROutIdeal.τ).loc Cert.ROutIdeal.main_arg6)
          ∧ r.2.mem ((c.tc : Thread Cert.ROutIdeal.nD Cert.ROutIdeal.τ).loc Cert.ROutIdeal.main_arg7) = m' ((c.tc : Thread Cert.ROutIdeal.nD Cert.ROutIdeal.τ).loc Cert.ROutIdeal.main_arg7)
          ∧ r.2.mem ((c.tc : Thread Cert.ROutIdeal.nD Cert.ROutIdeal.τ).loc Cert.ROutIdeal.main_arg8) = m' ((c.tc : Thread Cert.ROutIdeal.nD Cert.ROutIdeal.τ).loc Cert.ROutIdeal.main_arg8))

def preserves_KMlp_KMlpIdeal : Prop :=
  True

def algebraic_KMlpIdeal_RMlpIdeal [hKMlpIdeal : Cert.KMlpIdeal.Facts] [hRMlpIdeal : Cert.RMlpIdeal.Facts] : Prop :=
  ∀ (m : (ℓ : Loc Cert.KMlpIdeal.nD Cert.KMlpIdeal.τ Cert.KMlpIdeal.sig) → Buf (Elt Ideal) ℓ) (g : Dev Cert.KMlpIdeal.nD → PrngReg)
    (m' : (ℓ : Loc Cert.RMlpIdeal.nD Cert.RMlpIdeal.τ Cert.RMlpIdeal.sig) → Buf (Elt Ideal) ℓ) (g' : Dev Cert.RMlpIdeal.nD → PrngReg), Pre_KMlpIdeal m →
    (∀ c : Dev Cert.KMlpIdeal.nD,
      m' ((c.tc : Thread Cert.RMlpIdeal.nD Cert.RMlpIdeal.τ).loc Cert.RMlpIdeal.main_arg0) = m ((c.tc : Thread Cert.KMlpIdeal.nD Cert.KMlpIdeal.τ).loc Cert.KMlpIdeal.main_arg0)
      ∧ m' ((c.tc : Thread Cert.RMlpIdeal.nD Cert.RMlpIdeal.τ).loc Cert.RMlpIdeal.main_arg1) = m ((c.tc : Thread Cert.KMlpIdeal.nD Cert.KMlpIdeal.τ).loc Cert.KMlpIdeal.main_arg1)
      ∧ m' ((c.tc : Thread Cert.RMlpIdeal.nD Cert.RMlpIdeal.τ).loc Cert.RMlpIdeal.main_arg2) = m ((c.tc : Thread Cert.KMlpIdeal.nD Cert.KMlpIdeal.τ).loc Cert.KMlpIdeal.main_arg2)
      ∧ m' ((c.tc : Thread Cert.RMlpIdeal.nD Cert.RMlpIdeal.τ).loc Cert.RMlpIdeal.main_arg3) = m ((c.tc : Thread Cert.KMlpIdeal.nD Cert.KMlpIdeal.τ).loc Cert.KMlpIdeal.main_arg3)
      ∧ m' ((c.tc : Thread Cert.RMlpIdeal.nD Cert.RMlpIdeal.τ).loc Cert.RMlpIdeal.main_arg4) = m ((c.tc : Thread Cert.KMlpIdeal.nD Cert.KMlpIdeal.τ).loc Cert.KMlpIdeal.main_arg4)
      ∧ m' ((c.tc : Thread Cert.RMlpIdeal.nD Cert.RMlpIdeal.τ).loc Cert.RMlpIdeal.main_arg5) = m ((c.tc : Thread Cert.KMlpIdeal.nD Cert.KMlpIdeal.τ).loc Cert.KMlpIdeal.main_arg5)) →
    ∃ (v0 : (c : Dev Cert.KMlpIdeal.nD) → Buf (Elt Ideal) ((c.tc : Thread Cert.KMlpIdeal.nD Cert.KMlpIdeal.τ).loc Cert.KMlpIdeal.main_v4_0)) (v1 : (c : Dev Cert.KMlpIdeal.nD) → Buf (Elt Ideal) ((c.tc : Thread Cert.KMlpIdeal.nD Cert.KMlpIdeal.τ).loc Cert.KMlpIdeal.main_v4_1)),
      θ_run (Cert.KMlpIdeal.defs (F := Ideal)) (onTc (τ := Cert.KMlpIdeal.τ) (Cert.KMlpIdeal.main (F := Ideal))) ⟨m, fun _ => 0, g⟩ (fun r => ∀ c : Dev Cert.KMlpIdeal.nD,
          r.2.mem ((c.tc : Thread Cert.KMlpIdeal.nD Cert.KMlpIdeal.τ).loc Cert.KMlpIdeal.main_v4_0) = v0 c
          ∧ r.2.mem ((c.tc : Thread Cert.KMlpIdeal.nD Cert.KMlpIdeal.τ).loc Cert.KMlpIdeal.main_v4_1) = v1 c
          ∧ r.2.mem ((c.tc : Thread Cert.KMlpIdeal.nD Cert.KMlpIdeal.τ).loc Cert.KMlpIdeal.main_arg0) = m ((c.tc : Thread Cert.KMlpIdeal.nD Cert.KMlpIdeal.τ).loc Cert.KMlpIdeal.main_arg0)
          ∧ r.2.mem ((c.tc : Thread Cert.KMlpIdeal.nD Cert.KMlpIdeal.τ).loc Cert.KMlpIdeal.main_arg1) = m ((c.tc : Thread Cert.KMlpIdeal.nD Cert.KMlpIdeal.τ).loc Cert.KMlpIdeal.main_arg1)
          ∧ r.2.mem ((c.tc : Thread Cert.KMlpIdeal.nD Cert.KMlpIdeal.τ).loc Cert.KMlpIdeal.main_arg2) = m ((c.tc : Thread Cert.KMlpIdeal.nD Cert.KMlpIdeal.τ).loc Cert.KMlpIdeal.main_arg2)
          ∧ r.2.mem ((c.tc : Thread Cert.KMlpIdeal.nD Cert.KMlpIdeal.τ).loc Cert.KMlpIdeal.main_arg3) = m ((c.tc : Thread Cert.KMlpIdeal.nD Cert.KMlpIdeal.τ).loc Cert.KMlpIdeal.main_arg3)
          ∧ r.2.mem ((c.tc : Thread Cert.KMlpIdeal.nD Cert.KMlpIdeal.τ).loc Cert.KMlpIdeal.main_arg4) = m ((c.tc : Thread Cert.KMlpIdeal.nD Cert.KMlpIdeal.τ).loc Cert.KMlpIdeal.main_arg4)
          ∧ r.2.mem ((c.tc : Thread Cert.KMlpIdeal.nD Cert.KMlpIdeal.τ).loc Cert.KMlpIdeal.main_arg5) = m ((c.tc : Thread Cert.KMlpIdeal.nD Cert.KMlpIdeal.τ).loc Cert.KMlpIdeal.main_arg5))
      ∧ θ_run (Cert.RMlpIdeal.defs (F := Ideal)) (onTc (τ := Cert.RMlpIdeal.τ) (Cert.RMlpIdeal.main (F := Ideal))) ⟨m', fun _ => 0, g'⟩ (fun r => ∀ c : Dev Cert.RMlpIdeal.nD,
          r.2.mem ((c.tc : Thread Cert.RMlpIdeal.nD Cert.RMlpIdeal.τ).loc Cert.RMlpIdeal.main_v4_0) = v0 c
          ∧ r.2.mem ((c.tc : Thread Cert.RMlpIdeal.nD Cert.RMlpIdeal.τ).loc Cert.RMlpIdeal.main_v4_1) = v1 c
          ∧ r.2.mem ((c.tc : Thread Cert.RMlpIdeal.nD Cert.RMlpIdeal.τ).loc Cert.RMlpIdeal.main_arg0) = m' ((c.tc : Thread Cert.RMlpIdeal.nD Cert.RMlpIdeal.τ).loc Cert.RMlpIdeal.main_arg0)
          ∧ r.2.mem ((c.tc : Thread Cert.RMlpIdeal.nD Cert.RMlpIdeal.τ).loc Cert.RMlpIdeal.main_arg1) = m' ((c.tc : Thread Cert.RMlpIdeal.nD Cert.RMlpIdeal.τ).loc Cert.RMlpIdeal.main_arg1)
          ∧ r.2.mem ((c.tc : Thread Cert.RMlpIdeal.nD Cert.RMlpIdeal.τ).loc Cert.RMlpIdeal.main_arg2) = m' ((c.tc : Thread Cert.RMlpIdeal.nD Cert.RMlpIdeal.τ).loc Cert.RMlpIdeal.main_arg2)
          ∧ r.2.mem ((c.tc : Thread Cert.RMlpIdeal.nD Cert.RMlpIdeal.τ).loc Cert.RMlpIdeal.main_arg3) = m' ((c.tc : Thread Cert.RMlpIdeal.nD Cert.RMlpIdeal.τ).loc Cert.RMlpIdeal.main_arg3)
          ∧ r.2.mem ((c.tc : Thread Cert.RMlpIdeal.nD Cert.RMlpIdeal.τ).loc Cert.RMlpIdeal.main_arg4) = m' ((c.tc : Thread Cert.RMlpIdeal.nD Cert.RMlpIdeal.τ).loc Cert.RMlpIdeal.main_arg4)
          ∧ r.2.mem ((c.tc : Thread Cert.RMlpIdeal.nD Cert.RMlpIdeal.τ).loc Cert.RMlpIdeal.main_arg5) = m' ((c.tc : Thread Cert.RMlpIdeal.nD Cert.RMlpIdeal.τ).loc Cert.RMlpIdeal.main_arg5))

def preserves_KV_KVIdeal : Prop :=
  True

def algebraic_KVIdeal_RVIdeal [hKVIdeal : Cert.KVIdeal.Facts] [hRVIdeal : Cert.RVIdeal.Facts] : Prop :=
  ∀ (m : (ℓ : Loc Cert.KVIdeal.nD Cert.KVIdeal.τ Cert.KVIdeal.sig) → Buf (Elt Ideal) ℓ) (g : Dev Cert.KVIdeal.nD → PrngReg)
    (m' : (ℓ : Loc Cert.RVIdeal.nD Cert.RVIdeal.τ Cert.RVIdeal.sig) → Buf (Elt Ideal) ℓ) (g' : Dev Cert.RVIdeal.nD → PrngReg), Pre_KVIdeal m →
    (∀ c : Dev Cert.KVIdeal.nD,
      m' ((c.tc : Thread Cert.RVIdeal.nD Cert.RVIdeal.τ).loc Cert.RVIdeal.main_arg0) = m ((c.tc : Thread Cert.KVIdeal.nD Cert.KVIdeal.τ).loc Cert.KVIdeal.main_arg0)
      ∧ m' ((c.tc : Thread Cert.RVIdeal.nD Cert.RVIdeal.τ).loc Cert.RVIdeal.main_arg1) = m ((c.tc : Thread Cert.KVIdeal.nD Cert.KVIdeal.τ).loc Cert.KVIdeal.main_arg1)
      ∧ m' ((c.tc : Thread Cert.RVIdeal.nD Cert.RVIdeal.τ).loc Cert.RVIdeal.main_arg2) = m ((c.tc : Thread Cert.KVIdeal.nD Cert.KVIdeal.τ).loc Cert.KVIdeal.main_arg2)
      ∧ m' ((c.tc : Thread Cert.RVIdeal.nD Cert.RVIdeal.τ).loc Cert.RVIdeal.main_arg3) = m ((c.tc : Thread Cert.KVIdeal.nD Cert.KVIdeal.τ).loc Cert.KVIdeal.main_arg3)
      ∧ m' ((c.tc : Thread Cert.RVIdeal.nD Cert.RVIdeal.τ).loc Cert.RVIdeal.main_arg4) = m ((c.tc : Thread Cert.KVIdeal.nD Cert.KVIdeal.τ).loc Cert.KVIdeal.main_arg4)) →
    ∃ (v0 : (c : Dev Cert.KVIdeal.nD) → Buf (Elt Ideal) ((c.tc : Thread Cert.KVIdeal.nD Cert.KVIdeal.τ).loc Cert.KVIdeal.main_v3)),
      θ_run (Cert.KVIdeal.defs (F := Ideal)) (onTc (τ := Cert.KVIdeal.τ) (Cert.KVIdeal.main (F := Ideal))) ⟨m, fun _ => 0, g⟩ (fun r => ∀ c : Dev Cert.KVIdeal.nD,
          r.2.mem ((c.tc : Thread Cert.KVIdeal.nD Cert.KVIdeal.τ).loc Cert.KVIdeal.main_v3) = v0 c
          ∧ r.2.mem ((c.tc : Thread Cert.KVIdeal.nD Cert.KVIdeal.τ).loc Cert.KVIdeal.main_arg0) = m ((c.tc : Thread Cert.KVIdeal.nD Cert.KVIdeal.τ).loc Cert.KVIdeal.main_arg0)
          ∧ r.2.mem ((c.tc : Thread Cert.KVIdeal.nD Cert.KVIdeal.τ).loc Cert.KVIdeal.main_arg1) = m ((c.tc : Thread Cert.KVIdeal.nD Cert.KVIdeal.τ).loc Cert.KVIdeal.main_arg1)
          ∧ r.2.mem ((c.tc : Thread Cert.KVIdeal.nD Cert.KVIdeal.τ).loc Cert.KVIdeal.main_arg2) = m ((c.tc : Thread Cert.KVIdeal.nD Cert.KVIdeal.τ).loc Cert.KVIdeal.main_arg2)
          ∧ r.2.mem ((c.tc : Thread Cert.KVIdeal.nD Cert.KVIdeal.τ).loc Cert.KVIdeal.main_arg3) = m ((c.tc : Thread Cert.KVIdeal.nD Cert.KVIdeal.τ).loc Cert.KVIdeal.main_arg3)
          ∧ r.2.mem ((c.tc : Thread Cert.KVIdeal.nD Cert.KVIdeal.τ).loc Cert.KVIdeal.main_arg4) = m ((c.tc : Thread Cert.KVIdeal.nD Cert.KVIdeal.τ).loc Cert.KVIdeal.main_arg4))
      ∧ θ_run (Cert.RVIdeal.defs (F := Ideal)) (onTc (τ := Cert.RVIdeal.τ) (Cert.RVIdeal.main (F := Ideal))) ⟨m', fun _ => 0, g'⟩ (fun r => ∀ c : Dev Cert.RVIdeal.nD,
          r.2.mem ((c.tc : Thread Cert.RVIdeal.nD Cert.RVIdeal.τ).loc Cert.RVIdeal.main_v3) = v0 c
          ∧ r.2.mem ((c.tc : Thread Cert.RVIdeal.nD Cert.RVIdeal.τ).loc Cert.RVIdeal.main_arg0) = m' ((c.tc : Thread Cert.RVIdeal.nD Cert.RVIdeal.τ).loc Cert.RVIdeal.main_arg0)
          ∧ r.2.mem ((c.tc : Thread Cert.RVIdeal.nD Cert.RVIdeal.τ).loc Cert.RVIdeal.main_arg1) = m' ((c.tc : Thread Cert.RVIdeal.nD Cert.RVIdeal.τ).loc Cert.RVIdeal.main_arg1)
          ∧ r.2.mem ((c.tc : Thread Cert.RVIdeal.nD Cert.RVIdeal.τ).loc Cert.RVIdeal.main_arg2) = m' ((c.tc : Thread Cert.RVIdeal.nD Cert.RVIdeal.τ).loc Cert.RVIdeal.main_arg2)
          ∧ r.2.mem ((c.tc : Thread Cert.RVIdeal.nD Cert.RVIdeal.τ).loc Cert.RVIdeal.main_arg3) = m' ((c.tc : Thread Cert.RVIdeal.nD Cert.RVIdeal.τ).loc Cert.RVIdeal.main_arg3)
          ∧ r.2.mem ((c.tc : Thread Cert.RVIdeal.nD Cert.RVIdeal.τ).loc Cert.RVIdeal.main_arg4) = m' ((c.tc : Thread Cert.RVIdeal.nD Cert.RVIdeal.τ).loc Cert.RVIdeal.main_arg4))

def preserves_KQk_KQkIdeal : Prop :=
  True

def algebraic_KQkIdeal_RQkIdeal [hKQkIdeal : Cert.KQkIdeal.Facts] [hRQkIdeal : Cert.RQkIdeal.Facts] : Prop :=
  ∀ (m : (ℓ : Loc Cert.KQkIdeal.nD Cert.KQkIdeal.τ Cert.KQkIdeal.sig) → Buf (Elt Ideal) ℓ) (g : Dev Cert.KQkIdeal.nD → PrngReg)
    (m' : (ℓ : Loc Cert.RQkIdeal.nD Cert.RQkIdeal.τ Cert.RQkIdeal.sig) → Buf (Elt Ideal) ℓ) (g' : Dev Cert.RQkIdeal.nD → PrngReg), Pre_KQkIdeal m →
    (∀ c : Dev Cert.KQkIdeal.nD,
      m' ((c.tc : Thread Cert.RQkIdeal.nD Cert.RQkIdeal.τ).loc Cert.RQkIdeal.main_arg0) = m ((c.tc : Thread Cert.KQkIdeal.nD Cert.KQkIdeal.τ).loc Cert.KQkIdeal.main_arg0)
      ∧ m' ((c.tc : Thread Cert.RQkIdeal.nD Cert.RQkIdeal.τ).loc Cert.RQkIdeal.main_arg1) = m ((c.tc : Thread Cert.KQkIdeal.nD Cert.KQkIdeal.τ).loc Cert.KQkIdeal.main_arg1)
      ∧ m' ((c.tc : Thread Cert.RQkIdeal.nD Cert.RQkIdeal.τ).loc Cert.RQkIdeal.main_arg2) = m ((c.tc : Thread Cert.KQkIdeal.nD Cert.KQkIdeal.τ).loc Cert.KQkIdeal.main_arg2)
      ∧ m' ((c.tc : Thread Cert.RQkIdeal.nD Cert.RQkIdeal.τ).loc Cert.RQkIdeal.main_arg3) = m ((c.tc : Thread Cert.KQkIdeal.nD Cert.KQkIdeal.τ).loc Cert.KQkIdeal.main_arg3)
      ∧ m' ((c.tc : Thread Cert.RQkIdeal.nD Cert.RQkIdeal.τ).loc Cert.RQkIdeal.main_arg4) = m ((c.tc : Thread Cert.KQkIdeal.nD Cert.KQkIdeal.τ).loc Cert.KQkIdeal.main_arg4)
      ∧ m' ((c.tc : Thread Cert.RQkIdeal.nD Cert.RQkIdeal.τ).loc Cert.RQkIdeal.main_arg5) = m ((c.tc : Thread Cert.KQkIdeal.nD Cert.KQkIdeal.τ).loc Cert.KQkIdeal.main_arg5)
      ∧ m' ((c.tc : Thread Cert.RQkIdeal.nD Cert.RQkIdeal.τ).loc Cert.RQkIdeal.main_arg6) = m ((c.tc : Thread Cert.KQkIdeal.nD Cert.KQkIdeal.τ).loc Cert.KQkIdeal.main_arg6)
      ∧ m' ((c.tc : Thread Cert.RQkIdeal.nD Cert.RQkIdeal.τ).loc Cert.RQkIdeal.main_arg7) = m ((c.tc : Thread Cert.KQkIdeal.nD Cert.KQkIdeal.τ).loc Cert.KQkIdeal.main_arg7)
      ∧ m' ((c.tc : Thread Cert.RQkIdeal.nD Cert.RQkIdeal.τ).loc Cert.RQkIdeal.main_arg8) = m ((c.tc : Thread Cert.KQkIdeal.nD Cert.KQkIdeal.τ).loc Cert.KQkIdeal.main_arg8)) →
    ∃ (v0 : (c : Dev Cert.KQkIdeal.nD) → Buf (Elt Ideal) ((c.tc : Thread Cert.KQkIdeal.nD Cert.KQkIdeal.τ).loc Cert.KQkIdeal.main_v15)),
      θ_run (Cert.KQkIdeal.defs (F := Ideal)) (onTc (τ := Cert.KQkIdeal.τ) (Cert.KQkIdeal.main (F := Ideal))) ⟨m, fun _ => 0, g⟩ (fun r => ∀ c : Dev Cert.KQkIdeal.nD,
          r.2.mem ((c.tc : Thread Cert.KQkIdeal.nD Cert.KQkIdeal.τ).loc Cert.KQkIdeal.main_v15) = v0 c
          ∧ r.2.mem ((c.tc : Thread Cert.KQkIdeal.nD Cert.KQkIdeal.τ).loc Cert.KQkIdeal.main_arg0) = m ((c.tc : Thread Cert.KQkIdeal.nD Cert.KQkIdeal.τ).loc Cert.KQkIdeal.main_arg0)
          ∧ r.2.mem ((c.tc : Thread Cert.KQkIdeal.nD Cert.KQkIdeal.τ).loc Cert.KQkIdeal.main_arg1) = m ((c.tc : Thread Cert.KQkIdeal.nD Cert.KQkIdeal.τ).loc Cert.KQkIdeal.main_arg1)
          ∧ r.2.mem ((c.tc : Thread Cert.KQkIdeal.nD Cert.KQkIdeal.τ).loc Cert.KQkIdeal.main_arg2) = m ((c.tc : Thread Cert.KQkIdeal.nD Cert.KQkIdeal.τ).loc Cert.KQkIdeal.main_arg2)
          ∧ r.2.mem ((c.tc : Thread Cert.KQkIdeal.nD Cert.KQkIdeal.τ).loc Cert.KQkIdeal.main_arg3) = m ((c.tc : Thread Cert.KQkIdeal.nD Cert.KQkIdeal.τ).loc Cert.KQkIdeal.main_arg3)
          ∧ r.2.mem ((c.tc : Thread Cert.KQkIdeal.nD Cert.KQkIdeal.τ).loc Cert.KQkIdeal.main_arg4) = m ((c.tc : Thread Cert.KQkIdeal.nD Cert.KQkIdeal.τ).loc Cert.KQkIdeal.main_arg4)
          ∧ r.2.mem ((c.tc : Thread Cert.KQkIdeal.nD Cert.KQkIdeal.τ).loc Cert.KQkIdeal.main_arg5) = m ((c.tc : Thread Cert.KQkIdeal.nD Cert.KQkIdeal.τ).loc Cert.KQkIdeal.main_arg5)
          ∧ r.2.mem ((c.tc : Thread Cert.KQkIdeal.nD Cert.KQkIdeal.τ).loc Cert.KQkIdeal.main_arg6) = m ((c.tc : Thread Cert.KQkIdeal.nD Cert.KQkIdeal.τ).loc Cert.KQkIdeal.main_arg6)
          ∧ r.2.mem ((c.tc : Thread Cert.KQkIdeal.nD Cert.KQkIdeal.τ).loc Cert.KQkIdeal.main_arg7) = m ((c.tc : Thread Cert.KQkIdeal.nD Cert.KQkIdeal.τ).loc Cert.KQkIdeal.main_arg7)
          ∧ r.2.mem ((c.tc : Thread Cert.KQkIdeal.nD Cert.KQkIdeal.τ).loc Cert.KQkIdeal.main_arg8) = m ((c.tc : Thread Cert.KQkIdeal.nD Cert.KQkIdeal.τ).loc Cert.KQkIdeal.main_arg8))
      ∧ θ_run (Cert.RQkIdeal.defs (F := Ideal)) (onTc (τ := Cert.RQkIdeal.τ) (Cert.RQkIdeal.main (F := Ideal))) ⟨m', fun _ => 0, g'⟩ (fun r => ∀ c : Dev Cert.RQkIdeal.nD,
          r.2.mem ((c.tc : Thread Cert.RQkIdeal.nD Cert.RQkIdeal.τ).loc Cert.RQkIdeal.main_v5) = v0 c
          ∧ r.2.mem ((c.tc : Thread Cert.RQkIdeal.nD Cert.RQkIdeal.τ).loc Cert.RQkIdeal.main_arg0) = m' ((c.tc : Thread Cert.RQkIdeal.nD Cert.RQkIdeal.τ).loc Cert.RQkIdeal.main_arg0)
          ∧ r.2.mem ((c.tc : Thread Cert.RQkIdeal.nD Cert.RQkIdeal.τ).loc Cert.RQkIdeal.main_arg1) = m' ((c.tc : Thread Cert.RQkIdeal.nD Cert.RQkIdeal.τ).loc Cert.RQkIdeal.main_arg1)
          ∧ r.2.mem ((c.tc : Thread Cert.RQkIdeal.nD Cert.RQkIdeal.τ).loc Cert.RQkIdeal.main_arg2) = m' ((c.tc : Thread Cert.RQkIdeal.nD Cert.RQkIdeal.τ).loc Cert.RQkIdeal.main_arg2)
          ∧ r.2.mem ((c.tc : Thread Cert.RQkIdeal.nD Cert.RQkIdeal.τ).loc Cert.RQkIdeal.main_arg3) = m' ((c.tc : Thread Cert.RQkIdeal.nD Cert.RQkIdeal.τ).loc Cert.RQkIdeal.main_arg3)
          ∧ r.2.mem ((c.tc : Thread Cert.RQkIdeal.nD Cert.RQkIdeal.τ).loc Cert.RQkIdeal.main_arg4) = m' ((c.tc : Thread Cert.RQkIdeal.nD Cert.RQkIdeal.τ).loc Cert.RQkIdeal.main_arg4)
          ∧ r.2.mem ((c.tc : Thread Cert.RQkIdeal.nD Cert.RQkIdeal.τ).loc Cert.RQkIdeal.main_arg5) = m' ((c.tc : Thread Cert.RQkIdeal.nD Cert.RQkIdeal.τ).loc Cert.RQkIdeal.main_arg5)
          ∧ r.2.mem ((c.tc : Thread Cert.RQkIdeal.nD Cert.RQkIdeal.τ).loc Cert.RQkIdeal.main_arg6) = m' ((c.tc : Thread Cert.RQkIdeal.nD Cert.RQkIdeal.τ).loc Cert.RQkIdeal.main_arg6)
          ∧ r.2.mem ((c.tc : Thread Cert.RQkIdeal.nD Cert.RQkIdeal.τ).loc Cert.RQkIdeal.main_arg7) = m' ((c.tc : Thread Cert.RQkIdeal.nD Cert.RQkIdeal.τ).loc Cert.RQkIdeal.main_arg7)
          ∧ r.2.mem ((c.tc : Thread Cert.RQkIdeal.nD Cert.RQkIdeal.τ).loc Cert.RQkIdeal.main_arg8) = m' ((c.tc : Thread Cert.RQkIdeal.nD Cert.RQkIdeal.τ).loc Cert.RQkIdeal.main_arg8))

def preserves_KLn_KLnIdeal : Prop :=
  True

def algebraic_KLnIdeal_RLnIdeal [hKLnIdeal : Cert.KLnIdeal.Facts] [hRLnIdeal : Cert.RLnIdeal.Facts] : Prop :=
  ∀ (m : (ℓ : Loc Cert.KLnIdeal.nD Cert.KLnIdeal.τ Cert.KLnIdeal.sig) → Buf (Elt Ideal) ℓ) (g : Dev Cert.KLnIdeal.nD → PrngReg)
    (m' : (ℓ : Loc Cert.RLnIdeal.nD Cert.RLnIdeal.τ Cert.RLnIdeal.sig) → Buf (Elt Ideal) ℓ) (g' : Dev Cert.RLnIdeal.nD → PrngReg), Pre_KLnIdeal m →
    (∀ c : Dev Cert.KLnIdeal.nD,
      m' ((c.tc : Thread Cert.RLnIdeal.nD Cert.RLnIdeal.τ).loc Cert.RLnIdeal.main_arg0) = m ((c.tc : Thread Cert.KLnIdeal.nD Cert.KLnIdeal.τ).loc Cert.KLnIdeal.main_arg0)
      ∧ m' ((c.tc : Thread Cert.RLnIdeal.nD Cert.RLnIdeal.τ).loc Cert.RLnIdeal.main_arg1) = m ((c.tc : Thread Cert.KLnIdeal.nD Cert.KLnIdeal.τ).loc Cert.KLnIdeal.main_arg1)
      ∧ m' ((c.tc : Thread Cert.RLnIdeal.nD Cert.RLnIdeal.τ).loc Cert.RLnIdeal.main_arg2) = m ((c.tc : Thread Cert.KLnIdeal.nD Cert.KLnIdeal.τ).loc Cert.KLnIdeal.main_arg2)
      ∧ m' ((c.tc : Thread Cert.RLnIdeal.nD Cert.RLnIdeal.τ).loc Cert.RLnIdeal.main_arg3) = m ((c.tc : Thread Cert.KLnIdeal.nD Cert.KLnIdeal.τ).loc Cert.KLnIdeal.main_arg3)) →
    ∃ (v0 : (c : Dev Cert.KLnIdeal.nD) → Buf (Elt Ideal) ((c.tc : Thread Cert.KLnIdeal.nD Cert.KLnIdeal.τ).loc Cert.KLnIdeal.main_v4)),
      θ_run (Cert.KLnIdeal.defs (F := Ideal)) (onTc (τ := Cert.KLnIdeal.τ) (Cert.KLnIdeal.main (F := Ideal))) ⟨m, fun _ => 0, g⟩ (fun r => ∀ c : Dev Cert.KLnIdeal.nD,
          r.2.mem ((c.tc : Thread Cert.KLnIdeal.nD Cert.KLnIdeal.τ).loc Cert.KLnIdeal.main_v4) = v0 c
          ∧ r.2.mem ((c.tc : Thread Cert.KLnIdeal.nD Cert.KLnIdeal.τ).loc Cert.KLnIdeal.main_arg0) = m ((c.tc : Thread Cert.KLnIdeal.nD Cert.KLnIdeal.τ).loc Cert.KLnIdeal.main_arg0)
          ∧ r.2.mem ((c.tc : Thread Cert.KLnIdeal.nD Cert.KLnIdeal.τ).loc Cert.KLnIdeal.main_arg1) = m ((c.tc : Thread Cert.KLnIdeal.nD Cert.KLnIdeal.τ).loc Cert.KLnIdeal.main_arg1)
          ∧ r.2.mem ((c.tc : Thread Cert.KLnIdeal.nD Cert.KLnIdeal.τ).loc Cert.KLnIdeal.main_arg2) = m ((c.tc : Thread Cert.KLnIdeal.nD Cert.KLnIdeal.τ).loc Cert.KLnIdeal.main_arg2)
          ∧ r.2.mem ((c.tc : Thread Cert.KLnIdeal.nD Cert.KLnIdeal.τ).loc Cert.KLnIdeal.main_arg3) = m ((c.tc : Thread Cert.KLnIdeal.nD Cert.KLnIdeal.τ).loc Cert.KLnIdeal.main_arg3))
      ∧ θ_run (Cert.RLnIdeal.defs (F := Ideal)) (onTc (τ := Cert.RLnIdeal.τ) (Cert.RLnIdeal.main (F := Ideal))) ⟨m', fun _ => 0, g'⟩ (fun r => ∀ c : Dev Cert.RLnIdeal.nD,
          r.2.mem ((c.tc : Thread Cert.RLnIdeal.nD Cert.RLnIdeal.τ).loc Cert.RLnIdeal.main_v27) = v0 c
          ∧ r.2.mem ((c.tc : Thread Cert.RLnIdeal.nD Cert.RLnIdeal.τ).loc Cert.RLnIdeal.main_arg0) = m' ((c.tc : Thread Cert.RLnIdeal.nD Cert.RLnIdeal.τ).loc Cert.RLnIdeal.main_arg0)
          ∧ r.2.mem ((c.tc : Thread Cert.RLnIdeal.nD Cert.RLnIdeal.τ).loc Cert.RLnIdeal.main_arg1) = m' ((c.tc : Thread Cert.RLnIdeal.nD Cert.RLnIdeal.τ).loc Cert.RLnIdeal.main_arg1)
          ∧ r.2.mem ((c.tc : Thread Cert.RLnIdeal.nD Cert.RLnIdeal.τ).loc Cert.RLnIdeal.main_arg2) = m' ((c.tc : Thread Cert.RLnIdeal.nD Cert.RLnIdeal.τ).loc Cert.RLnIdeal.main_arg2)
          ∧ r.2.mem ((c.tc : Thread Cert.RLnIdeal.nD Cert.RLnIdeal.τ).loc Cert.RLnIdeal.main_arg3) = m' ((c.tc : Thread Cert.RLnIdeal.nD Cert.RLnIdeal.τ).loc Cert.RLnIdeal.main_arg3))

def Claim : Prop :=
  ∃ (hKAttn : Cert.KAttn.Facts) (hKAttnIdeal : Cert.KAttnIdeal.Facts) (hRAttnIdeal : Cert.RAttnIdeal.Facts) (hKOut : Cert.KOut.Facts) (hKOutIdeal : Cert.KOutIdeal.Facts) (hROutIdeal : Cert.ROutIdeal.Facts) (hKMlp : Cert.KMlp.Facts) (hKMlpIdeal : Cert.KMlpIdeal.Facts) (hRMlpIdeal : Cert.RMlpIdeal.Facts) (hKV : Cert.KV.Facts) (hKVIdeal : Cert.KVIdeal.Facts) (hRVIdeal : Cert.RVIdeal.Facts) (hKQk : Cert.KQk.Facts) (hKQkIdeal : Cert.KQkIdeal.Facts) (hRQkIdeal : Cert.RQkIdeal.Facts) (hKLn : Cert.KLn.Facts) (hKLnIdeal : Cert.KLnIdeal.Facts) (hRLnIdeal : Cert.RLnIdeal.Facts),
    quiescent_KAttn (hKAttn := hKAttn)
    ∧ quiescent_KAttnIdeal (hKAttnIdeal := hKAttnIdeal)
    ∧ quiescent_RAttnIdeal (hRAttnIdeal := hRAttnIdeal)
    ∧ quiescent_KOut (hKOut := hKOut)
    ∧ quiescent_KOutIdeal (hKOutIdeal := hKOutIdeal)
    ∧ quiescent_ROutIdeal (hROutIdeal := hROutIdeal)
    ∧ quiescent_KMlp (hKMlp := hKMlp)
    ∧ quiescent_KMlpIdeal (hKMlpIdeal := hKMlpIdeal)
    ∧ quiescent_RMlpIdeal (hRMlpIdeal := hRMlpIdeal)
    ∧ quiescent_KV (hKV := hKV)
    ∧ quiescent_KVIdeal (hKVIdeal := hKVIdeal)
    ∧ quiescent_RVIdeal (hRVIdeal := hRVIdeal)
    ∧ quiescent_KQk (hKQk := hKQk)
    ∧ quiescent_KQkIdeal (hKQkIdeal := hKQkIdeal)
    ∧ quiescent_RQkIdeal (hRQkIdeal := hRQkIdeal)
    ∧ quiescent_KLn (hKLn := hKLn)
    ∧ quiescent_KLnIdeal (hKLnIdeal := hKLnIdeal)
    ∧ quiescent_RLnIdeal (hRLnIdeal := hRLnIdeal)
    ∧ preserves_KAttn_KAttnIdeal
    ∧ algebraic_KAttnIdeal_RAttnIdeal (hKAttnIdeal := hKAttnIdeal) (hRAttnIdeal := hRAttnIdeal)
    ∧ preserves_KOut_KOutIdeal
    ∧ algebraic_KOutIdeal_ROutIdeal (hKOutIdeal := hKOutIdeal) (hROutIdeal := hROutIdeal)
    ∧ preserves_KMlp_KMlpIdeal
    ∧ algebraic_KMlpIdeal_RMlpIdeal (hKMlpIdeal := hKMlpIdeal) (hRMlpIdeal := hRMlpIdeal)
    ∧ preserves_KV_KVIdeal
    ∧ algebraic_KVIdeal_RVIdeal (hKVIdeal := hKVIdeal) (hRVIdeal := hRVIdeal)
    ∧ preserves_KQk_KQkIdeal
    ∧ algebraic_KQkIdeal_RQkIdeal (hKQkIdeal := hKQkIdeal) (hRQkIdeal := hRQkIdeal)
    ∧ preserves_KLn_KLnIdeal
    ∧ algebraic_KLnIdeal_RLnIdeal (hKLnIdeal := hKLnIdeal) (hRLnIdeal := hRLnIdeal)
-- ==== KAttn.lean ====
abbrev S9216x6144 : Shape := ⟨2, ![9216, 6144]⟩
abbrev S2x3072x4608 : Shape := ⟨3, ![2, 3072, 4608]⟩
abbrev S2 : Shape := ⟨1, ![2]⟩
abbrev S_ : Shape := ⟨0, ![]⟩
abbrev S1x1 : Shape := ⟨2, ![1, 1]⟩
abbrev S9216x3072 : Shape := ⟨2, ![9216, 3072]⟩
abbrev S4608x128 : Shape := ⟨2, ![4608, 128]⟩
abbrev S1x128x4608 : Shape := ⟨3, ![1, 128, 4608]⟩
abbrev S4608x512 : Shape := ⟨2, ![4608, 512]⟩
abbrev S8x128 : Shape := ⟨2, ![8, 128]⟩
abbrev S1 : Shape := ⟨1, ![1]⟩
abbrev S512x128 : Shape := ⟨2, ![512, 128]⟩
abbrev S8x512 : Shape := ⟨2, ![8, 512]⟩
abbrev S512x512 : Shape := ⟨2, ![512, 512]⟩
abbrev S512 : Shape := ⟨1, ![512]⟩
abbrev S1x512 : Shape := ⟨2, ![1, 512]⟩
abbrev S128x4608 : Shape := ⟨2, ![128, 4608]⟩
abbrev S128x512 : Shape := ⟨2, ![128, 512]⟩
abbrev S1x8x128 : Shape := ⟨3, ![1, 8, 128]⟩
abbrev S1x1x1 : Shape := ⟨3, ![1, 1, 1]⟩

abbrev nBuf : Space → Nat
  | .hbm => 7
  | .vmem => 12
  | .smem => 2
  | _ => 0

abbrev bufTy : (tb : Table) → Fin (tcTables nBuf tb) → BufTy
  | .hbm, ⟨0, _⟩ => ⟨S9216x6144, .bf16⟩
  | .hbm, ⟨1, _⟩ => ⟨S2x3072x4608, .bf16⟩
  | .hbm, ⟨2, _⟩ => ⟨S2, .i32⟩
  | .hbm, ⟨3, _⟩ => ⟨S_, .f32⟩
  | .hbm, ⟨4, _⟩ => ⟨S1x1, .f32⟩
  | .hbm, ⟨5, _⟩ => ⟨S9216x3072, .fp8e4m3⟩
  | .hbm, ⟨6, _⟩ => ⟨S1x1, .f32⟩
  | .local _ .vmem, ⟨0, _⟩ => ⟨S4608x128, .bf16⟩
  | .local _ .vmem, ⟨1, _⟩ => ⟨S4608x128, .bf16⟩
  | .local _ .vmem, ⟨2, _⟩ => ⟨S4608x128, .bf16⟩
  | .local _ .vmem, ⟨3, _⟩ => ⟨S4608x128, .bf16⟩
  | .local _ .vmem, ⟨4, _⟩ => ⟨S1x128x4608, .bf16⟩
  | .local _ .vmem, ⟨5, _⟩ => ⟨S1x128x4608, .bf16⟩
  | .local _ .vmem, ⟨6, _⟩ => ⟨S4608x128, .fp8e4m3⟩
  | .local _ .vmem, ⟨7, _⟩ => ⟨S4608x128, .fp8e4m3⟩
  | .local _ .vmem, ⟨8, _⟩ => ⟨S1x1, .f32⟩
  | .local _ .vmem, ⟨9, _⟩ => ⟨S4608x512, .f32⟩
  | .local _ .vmem, ⟨10, _⟩ => ⟨S4608x512, .bf16⟩
  | .local _ .vmem, ⟨11, _⟩ => ⟨S8x128, .f32⟩
  | .local _ .smem, ⟨0, _⟩ => ⟨S2, .i32⟩
  | .local _ .smem, ⟨1, _⟩ => ⟨S1x1, .f32⟩
  | _, _ => ⟨S9216x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_stg0_0 : Ref sig .tc := ⟨.smem, 0, rfl⟩
abbrev cc0_stg4_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨2, ![2, 24], ![false, false]⟩

def k0_off1 (i : grid0.Coords) : Fin 1 → Nat :=
  let arg0 : BitVec 32 := BitVec.ofNat 32 (i 0).val
  let v0 : Index := Scalar.indexCast arg0
  ![v0.toNat]
@[reducible] def k0_t1_loop : Scf.Loop 32 :=
  let c0_i32_3 : BitVec 32 := 0#32
  let c9_i32 : BitVec 32 := 9#32
  let v8 : BitVec 32 := Scalar.addi c0_i32_3 c9_i32
  let c1_i32 : BitVec 32 := 1#32
  ⟨c0_i32_3, v8, c1_i32⟩
def k0_mult1 (k0_t1 : Fin k0_t1_loop.trips) : BitVec 32 :=
  let c0_i32_3 : BitVec 32 := 0#32
  let c1_i32 : BitVec 32 := 1#32
  let arg12 : BitVec 32 := Scf.iv c0_i32_3 c1_i32 k0_t1
  let c512_i32 : BitVec 32 := 512#32
  let v14 : BitVec 32 := Scalar.muli arg12 c512_i32
  v14
def k0_off2 (k0_t1 : Fin k0_t1_loop.trips) : Fin 2 → Nat :=
  let c0_i32_3 : BitVec 32 := 0#32
  let c1_i32 : BitVec 32 := 1#32
  let arg12 : BitVec 32 := Scf.iv c0_i32_3 c1_i32 k0_t1
  let c512_i32 : BitVec 32 := 512#32
  let v14 : BitVec 32 := Scalar.muli arg12 c512_i32
  let v15 : BitVec 32 := v14
  let v16 : Index := Scalar.indexCast v15
  let c0_7 : Index := 0#32
  ![v16.toNat, 0]
def k0_mult2 (k0_t1 : Fin k0_t1_loop.trips) : BitVec 32 :=
  let c0_i32_3 : BitVec 32 := 0#32
  let c1_i32 : BitVec 32 := 1#32
  let arg12 : BitVec 32 := Scf.iv c0_i32_3 c1_i32 k0_t1
  let c512_i32_109 : BitVec 32 := 512#32
  let v2534 : BitVec 32 := Scalar.muli arg12 c512_i32_109
  v2534
def k0_cond2 (i : grid0.Coords) : BitVec 1 :=
  let arg0 : BitVec 32 := BitVec.ofNat 32 (i 0).val
  let c1_i32_5 : BitVec 32 := 1#32
  let v9 : BitVec 1 := Scalar.cmpi .eq arg0 c1_i32_5
  let arg1 : BitVec 32 := BitVec.ofNat 32 (i 1).val
  let c23_i32 : BitVec 32 := 23#32
  let v10 : BitVec 1 := Scalar.cmpi .eq arg1 c23_i32
  let v11 : BitVec 1 := Scalar.andi v9 v10
  let v12 : BitVec 32 := Scalar.extui v11
  let c0_i32_6 : BitVec 32 := 0#32
  let v13 : BitVec 1 := Scalar.cmpi .ne v12 c0_i32_6
  v13

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi arg1 c24_i32
  let c0_i32 : BitVec 32 := 0#32
  ![arg0.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S4608x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4608x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x4608 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S4608x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== KAttnIdeal.lean ====
variable {F : FTy → Type} [FloatOps F] [Named F]
def κ : String → Option EReal := fun
  | "score_scale" => some (((Real.sqrt 128)⁻¹ * (Real.log 2)⁻¹ : ℝ) : EReal)
  | _ => none
-- ==== RAttnIdeal.lean ====
abbrev S9216x6144 : Shape := ⟨2, ![9216, 6144]⟩
abbrev S2x3072x4608 : Shape := ⟨3, ![2, 3072, 4608]⟩
abbrev S2 : Shape := ⟨1, ![2]⟩
abbrev S_ : Shape := ⟨0, ![]⟩
abbrev S2x1 : Shape := ⟨2, ![2, 1]⟩
abbrev S1x1 : Shape := ⟨2, ![1, 1]⟩
abbrev S9216x3072 : Shape := ⟨2, ![9216, 3072]⟩
abbrev S2x4608x24x128 : Shape := ⟨4, ![2, 4608, 24, 128]⟩
abbrev S2x4608x3072 : Shape := ⟨3, ![2, 4608, 3072]⟩
abbrev S2x4608 : Shape := ⟨2, ![2, 4608]⟩
abbrev S2x1x1x4608 : Shape := ⟨4, ![2, 1, 1, 4608]⟩
abbrev S2x24x4608x4608 : Shape := ⟨4, ![2, 24, 4608, 4608]⟩
abbrev S2x24x4608 : Shape := ⟨3, ![2, 24, 4608]⟩
abbrev S2x24x4608x1 : Shape := ⟨4, ![2, 24, 4608, 1]⟩
abbrev S2x24x128x4608 : Shape := ⟨4, ![2, 24, 128, 4608]⟩
abbrev S2x4608x24 : Shape := ⟨3, ![2, 4608, 24]⟩
abbrev S2x4608x24x1 : Shape := ⟨4, ![2, 4608, 24, 1]⟩
abbrev S1x2x4608x24x128 : Shape := ⟨5, ![1, 2, 4608, 24, 128]⟩
abbrev S1 : Shape := ⟨1, ![1]⟩
abbrev S1x1x1x1x1 : Shape := ⟨5, ![1, 1, 1, 1, 1]⟩

abbrev nBuf : Space → Nat
  | .hbm => 8
  | .vmem => 5
  | .smem => 1
  | _ => 0

abbrev bufTy : (tb : Table) → Fin (tcTables nBuf tb) → BufTy
  | .hbm, ⟨0, _⟩ => ⟨S9216x6144, .bf16⟩
  | .hbm, ⟨1, _⟩ => ⟨S2x3072x4608, .bf16⟩
  | .hbm, ⟨2, _⟩ => ⟨S2, .i32⟩
  | .hbm, ⟨3, _⟩ => ⟨S_, .f32⟩
  | .hbm, ⟨4, _⟩ => ⟨S2x1, .i32⟩
  | .hbm, ⟨5, _⟩ => ⟨S1x1, .f32⟩
  | .hbm, ⟨6, _⟩ => ⟨S9216x3072, .fp8e4m3⟩
  | .hbm, ⟨7, _⟩ => ⟨S1x1, .f32⟩
  | .local _ .vmem, ⟨0, _⟩ => ⟨S9216x6144, .bf16⟩
  | .local _ .vmem, ⟨1, _⟩ => ⟨S2x3072x4608, .bf16⟩
  | .local _ .vmem, ⟨2, _⟩ => ⟨S2x1, .i32⟩
  | .local _ .vmem, ⟨3, _⟩ => ⟨S9216x3072, .fp8e4m3⟩
  | .local _ .vmem, ⟨4, _⟩ => ⟨S1x1, .f32⟩
  | .local _ .smem, ⟨0, _⟩ => ⟨S1x1, .f32⟩
  | _, _ => ⟨S9216x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg3_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F] [Named F]

def κ : String → Option EReal := fun
  | "inv_sqrt_d" => some (((Real.sqrt 128)⁻¹ : ℝ) : EReal)
  | "log2_e" => some (((Real.log 2)⁻¹ : ℝ) : EReal)
  | _ => none

abbrev grid0 : Pipeline.Grid := .none

abbrev stage0_0 : Fin 1 → Memref sig .tc .vmem S9216x6144 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x3072x4608 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S9216x3072 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KOut.lean ====
abbrev S9216x3072 : Shape := ⟨2, ![9216, 3072]⟩
abbrev S9216x12288 : Shape := ⟨2, ![9216, 12288]⟩
abbrev S15360x3072 : Shape := ⟨2, ![15360, 3072]⟩
abbrev S3072 : Shape := ⟨1, ![3072]⟩
abbrev S2x4608x3072 : Shape := ⟨3, ![2, 4608, 3072]⟩
abbrev S2x3072 : Shape := ⟨2, ![2, 3072]⟩
abbrev S_ : Shape := ⟨0, ![]⟩
abbrev S1x1 : Shape := ⟨2, ![1, 1]⟩
abbrev S1x3072 : Shape := ⟨2, ![1, 3072]⟩
abbrev S2x1x3072 : Shape := ⟨3, ![2, 1, 3072]⟩
abbrev S512x3072 : Shape := ⟨2, ![512, 3072]⟩
abbrev S512x12288 : Shape := ⟨2, ![512, 12288]⟩
abbrev S15360x512 : Shape := ⟨2, ![15360, 512]⟩
abbrev S1x512 : Shape := ⟨2, ![1, 512]⟩
abbrev S512x512 : Shape := ⟨2, ![512, 512]⟩
abbrev S1x1x512 : Shape := ⟨3, ![1, 1, 512]⟩
abbrev S3072x256 : Shape := ⟨2, ![3072, 256]⟩
abbrev S512x256 : Shape := ⟨2, ![512, 256]⟩
abbrev S12288x256 : Shape := ⟨2, ![12288, 256]⟩
abbrev S1x256 : Shape := ⟨2, ![1, 256]⟩
abbrev S1x1x256 : Shape := ⟨3, ![1, 1, 256]⟩

abbrev nBuf : Space → Nat
  | .hbm => 16
  | .vmem => 16
  | .smem => 2
  | _ => 0

abbrev bufTy : (tb : Table) → Fin (tcTables nBuf tb) → BufTy
  | .hbm, ⟨0, _⟩ => ⟨S9216x3072, .fp8e4m3⟩
  | .hbm, ⟨1, _⟩ => ⟨S9216x12288, .fp8e4m3⟩
  | .hbm, ⟨2, _⟩ => ⟨S15360x3072, .fp8e4m3⟩
  | .hbm, ⟨3, _⟩ => ⟨S3072, .f32⟩
  | .hbm, ⟨4, _⟩ => ⟨S3072, .f32⟩
  | .hbm, ⟨5, _⟩ => ⟨S2x4608x3072, .bf16⟩
  | .hbm, ⟨6, _⟩ => ⟨S2x3072, .f32⟩
  | .hbm, ⟨7, _⟩ => ⟨S_, .f32⟩
  | .hbm, ⟨8, _⟩ => ⟨S_, .f32⟩
  | .hbm, ⟨9, _⟩ => ⟨S1x1, .f32⟩
  | .hbm, ⟨10, _⟩ => ⟨S1x1, .f32⟩
  | .hbm, ⟨11, _⟩ => ⟨S1x3072, .f32⟩
  | .hbm, ⟨12, _⟩ => ⟨S1x3072, .f32⟩
  | .hbm, ⟨13, _⟩ => ⟨S9216x3072, .bf16⟩
  | .hbm, ⟨14, _⟩ => ⟨S2x1x3072, .f32⟩
  | .hbm, ⟨15, _⟩ => ⟨S9216x3072, .bf16⟩
  | .local _ .vmem, ⟨0, _⟩ => ⟨S512x3072, .fp8e4m3⟩
  | .local _ .vmem, ⟨1, _⟩ => ⟨S512x3072, .fp8e4m3⟩
  | .local _ .vmem, ⟨2, _⟩ => ⟨S512x12288, .fp8e4m3⟩
  | .local _ .vmem, ⟨3, _⟩ => ⟨S512x12288, .fp8e4m3⟩
  | .local _ .vmem, ⟨4, _⟩ => ⟨S15360x512, .fp8e4m3⟩
  | .local _ .vmem, ⟨5, _⟩ => ⟨S15360x512, .fp8e4m3⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S512x512, .bf16⟩
  | .local _ .vmem, ⟨11, _⟩ => ⟨S512x512, .bf16⟩
  | .local _ .vmem, ⟨12, _⟩ => ⟨S1x1x512, .f32⟩
  | .local _ .vmem, ⟨13, _⟩ => ⟨S1x1x512, .f32⟩
  | .local _ .vmem, ⟨14, _⟩ => ⟨S512x512, .bf16⟩
  | .local _ .vmem, ⟨15, _⟩ => ⟨S512x512, .bf16⟩
  | .local _ .smem, ⟨0, _⟩ => ⟨S1x1, .f32⟩
  | .local _ .smem, ⟨1, _⟩ => ⟨S1x1, .f32⟩
  | _, _ => ⟨S9216x3072, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg7_0 : Ref sig .tc := ⟨.smem, 0, rfl⟩
abbrev cc0_stg8_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![18, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 3 → Nat :=
  let arg0 : BitVec 32 := BitVec.ofNat 32 (i 0).val
  let arg1 : BitVec 32 := BitVec.ofNat 32 (i 1).val
  let c9_i32 : BitVec 32 := 9#32
  let v0 : BitVec 32 := Scalar.divsi arg0 c9_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c9_i32 c0_i32_1
  let v7 : BitVec 32 := Scalar.extui v6
  let c0_i32_2 : BitVec 32 := 0#32
  let v8 : BitVec 1 := Scalar.cmpi .slt c9_i32 c0_i32_2
  let v9 : BitVec 32 := Scalar.extui v8
  let v10 : BitVec 32 := Scalar.subi v7 v9
  let v11 : BitVec 1 := Scalar.cmpi .ne v5 v10
  let v12 : BitVec 32 := Scalar.remsi arg0 c9_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x3072 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x12288 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S15360x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .smem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .smem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ROutIdeal.lean ====
abbrev S9216x3072 : Shape := ⟨2, ![9216, 3072]⟩
abbrev S9216x12288 : Shape := ⟨2, ![9216, 12288]⟩
abbrev S15360x3072 : Shape := ⟨2, ![15360, 3072]⟩
abbrev S3072 : Shape := ⟨1, ![3072]⟩
abbrev S2x4608x3072 : Shape := ⟨3, ![2, 4608, 3072]⟩
abbrev S2x3072 : Shape := ⟨2, ![2, 3072]⟩
abbrev S_ : Shape := ⟨0, ![]⟩
abbrev S1x3072 : Shape := ⟨2, ![1, 3072]⟩
abbrev S1x1 : Shape := ⟨2, ![1, 1]⟩
abbrev S3072x3072 : Shape := ⟨2, ![3072, 3072]⟩
abbrev S12288x3072 : Shape := ⟨2, ![12288, 3072]⟩
abbrev S2x1x3072 : Shape := ⟨3, ![2, 1, 3072]⟩

abbrev nBuf : Space → Nat
  | .hbm => 14
  | .vmem => 8
  | .smem => 2
  | _ => 0

abbrev bufTy : (tb : Table) → Fin (tcTables nBuf tb) → BufTy
  | .hbm, ⟨0, _⟩ => ⟨S9216x3072, .fp8e4m3⟩
  | .hbm, ⟨1, _⟩ => ⟨S9216x12288, .fp8e4m3⟩
  | .hbm, ⟨2, _⟩ => ⟨S15360x3072, .fp8e4m3⟩
  | .hbm, ⟨3, _⟩ => ⟨S3072, .f32⟩
  | .hbm, ⟨4, _⟩ => ⟨S3072, .f32⟩
  | .hbm, ⟨5, _⟩ => ⟨S2x4608x3072, .bf16⟩
  | .hbm, ⟨6, _⟩ => ⟨S2x3072, .f32⟩
  | .hbm, ⟨7, _⟩ => ⟨S_, .f32⟩
  | .hbm, ⟨8, _⟩ => ⟨S_, .f32⟩
  | .hbm, ⟨9, _⟩ => ⟨S1x3072, .f32⟩
  | .hbm, ⟨10, _⟩ => ⟨S1x3072, .f32⟩
  | .hbm, ⟨11, _⟩ => ⟨S1x1, .f32⟩
  | .hbm, ⟨12, _⟩ => ⟨S1x1, .f32⟩
  | .hbm, ⟨13, _⟩ => ⟨S9216x3072, .bf16⟩
  | .local _ .vmem, ⟨0, _⟩ => ⟨S9216x3072, .fp8e4m3⟩
  | .local _ .vmem, ⟨1, _⟩ => ⟨S9216x12288, .fp8e4m3⟩
  | .local _ .vmem, ⟨2, _⟩ => ⟨S15360x3072, .fp8e4m3⟩
  | .local _ .vmem, ⟨3, _⟩ => ⟨S1x3072, .f32⟩
  | .local _ .vmem, ⟨4, _⟩ => ⟨S1x3072, .f32⟩
  | .local _ .vmem, ⟨5, _⟩ => ⟨S2x4608x3072, .bf16⟩
  | .local _ .vmem, ⟨6, _⟩ => ⟨S2x3072, .f32⟩
  | .local _ .vmem, ⟨7, _⟩ => ⟨S9216x3072, .bf16⟩
  | .local _ .smem, ⟨0, _⟩ => ⟨S1x1, .f32⟩
  | .local _ .smem, ⟨1, _⟩ => ⟨S1x1, .f32⟩
  | _, _ => ⟨S9216x3072, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg9_0 : Ref sig .tc := ⟨.vmem, 7, rfl⟩
abbrev cc0_stg7_0 : Ref sig .tc := ⟨.smem, 0, rfl⟩
abbrev cc0_stg8_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S9216x3072 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S9216x12288 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S15360x3072 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x4608x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .smem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .smem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S9216x3072 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== KMlp.lean ====
abbrev S9216x3072 : Shape := ⟨2, ![9216, 3072]⟩
abbrev S3072x21504 : Shape := ⟨2, ![3072, 21504]⟩
abbrev S21504 : Shape := ⟨1, ![21504]⟩
abbrev S_ : Shape := ⟨0, ![]⟩
abbrev S1x21504 : Shape := ⟨2, ![1, 21504]⟩
abbrev S1x1 : Shape := ⟨2, ![1, 1]⟩
abbrev S9216x12288 : Shape := ⟨2, ![9216, 12288]⟩
abbrev S1024x3072 : Shape := ⟨2, ![1024, 3072]⟩
abbrev S3072x1024 : Shape := ⟨2, ![3072, 1024]⟩
abbrev S1x1024 : Shape := ⟨2, ![1, 1024]⟩
abbrev S1024x1024 : Shape := ⟨2, ![1024, 1024]⟩
abbrev S8x128 : Shape := ⟨2, ![8, 128]⟩
abbrev S3072x256 : Shape := ⟨2, ![3072, 256]⟩
abbrev S1024x256 : Shape := ⟨2, ![1024, 256]⟩
abbrev S1x256 : Shape := ⟨2, ![1, 256]⟩
abbrev S8x256 : Shape := ⟨2, ![8, 256]⟩
abbrev S1x8x128 : Shape := ⟨3, ![1, 8, 128]⟩
abbrev S1 : Shape := ⟨1, ![1]⟩
abbrev S1x1x1 : Shape := ⟨3, ![1, 1, 1]⟩

abbrev nBuf : Space → Nat
  | .hbm => 12
  | .vmem => 12
  | .smem => 2
  | _ => 0

abbrev bufTy : (tb : Table) → Fin (tcTables nBuf tb) → BufTy
  | .hbm, ⟨0, _⟩ => ⟨S9216x3072, .fp8e4m3⟩
  | .hbm, ⟨1, _⟩ => ⟨S3072x21504, .fp8e4m3⟩
  | .hbm, ⟨2, _⟩ => ⟨S21504, .f32⟩
  | .hbm, ⟨3, _⟩ => ⟨S21504, .f32⟩
  | .hbm, ⟨4, _⟩ => ⟨S_, .f32⟩
  | .hbm, ⟨5, _⟩ => ⟨S_, .f32⟩
  | .hbm, ⟨6, _⟩ => ⟨S1x21504, .f32⟩
  | .hbm, ⟨7, _⟩ => ⟨S1x21504, .f32⟩
  | .hbm, ⟨8, _⟩ => ⟨S1x1, .f32⟩
  | .hbm, ⟨9, _⟩ => ⟨S1x1, .f32⟩
  | .hbm, ⟨10, _⟩ => ⟨S9216x12288, .fp8e4m3⟩
  | .hbm, ⟨11, _⟩ => ⟨S1x1, .f32⟩
  | .local _ .vmem, ⟨0, _⟩ => ⟨S1024x3072, .fp8e4m3⟩
  | .local _ .vmem, ⟨1, _⟩ => ⟨S1024x3072, .fp8e4m3⟩
  | .local _ .vmem, ⟨2, _⟩ => ⟨S3072x1024, .fp8e4m3⟩
  | .local _ .vmem, ⟨3, _⟩ => ⟨S3072x1024, .fp8e4m3⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .fp8e4m3⟩
  | .local _ .vmem, ⟨9, _⟩ => ⟨S1024x1024, .fp8e4m3⟩
  | .local _ .vmem, ⟨10, _⟩ => ⟨S1x1, .f32⟩
  | .local _ .vmem, ⟨11, _⟩ => ⟨S8x128, .f32⟩
  | .local _ .smem, ⟨0, _⟩ => ⟨S1x1, .f32⟩
  | .local _ .smem, ⟨1, _⟩ => ⟨S1x1, .f32⟩
  | _, _ => ⟨S9216x3072, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_scratch0 : Ref sig .tc := ⟨.vmem, 11, rfl⟩
abbrev cc0_stg4_0 : Ref sig .tc := ⟨.smem, 0, rfl⟩
abbrev cc0_stg5_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨2, ![9, 12], ![false, false]⟩

def k0_cond2 (i : grid0.Coords) : BitVec 1 :=
  let arg0 : BitVec 32 := BitVec.ofNat 32 (i 0).val
  let c8_i32 : BitVec 32 := 8#32
  let v1199 : BitVec 1 := Scalar.cmpi .eq arg0 c8_i32
  let arg1 : BitVec 32 := BitVec.ofNat 32 (i 1).val
  let c11_i32 : BitVec 32 := 11#32
  let v1200 : BitVec 1 := Scalar.cmpi .eq arg1 c11_i32
  let v1201 : BitVec 1 := Scalar.andi v1199 v1200
  let v1202 : BitVec 32 := Scalar.extui v1201
  let c0_i32_85 : BitVec 32 := 0#32
  let v1203 : BitVec 1 := Scalar.cmpi .ne v1202 c0_i32_85
  v1203

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi arg1 c9_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi arg1 c9_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi arg1 c9_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x3072 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S3072x1024 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .smem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== RMlpIdeal.lean ====
abbrev S9216x3072 : Shape := ⟨2, ![9216, 3072]⟩
abbrev S3072x21504 : Shape := ⟨2, ![3072, 21504]⟩
abbrev S21504 : Shape := ⟨1, ![21504]⟩
abbrev S_ : Shape := ⟨0, ![]⟩
abbrev S1x21504 : Shape := ⟨2, ![1, 21504]⟩
abbrev S1x1 : Shape := ⟨2, ![1, 1]⟩
abbrev S9216x12288 : Shape := ⟨2, ![9216, 12288]⟩
abbrev S3072x12288 : Shape := ⟨2, ![3072, 12288]⟩
abbrev S1x12288 : Shape := ⟨2, ![1, 12288]⟩
abbrev S1x9216x12288 : Shape := ⟨3, ![1, 9216, 12288]⟩
abbrev S1 : Shape := ⟨1, ![1]⟩
abbrev S1x1x1 : Shape := ⟨3, ![1, 1, 1]⟩

abbrev nBuf : Space → Nat
  | .hbm => 12
  | .vmem => 6
  | .smem => 2
  | _ => 0

abbrev bufTy : (tb : Table) → Fin (tcTables nBuf tb) → BufTy
  | .hbm, ⟨0, _⟩ => ⟨S9216x3072, .fp8e4m3⟩
  | .hbm, ⟨1, _⟩ => ⟨S3072x21504, .fp8e4m3⟩
  | .hbm, ⟨2, _⟩ => ⟨S21504, .f32⟩
  | .hbm, ⟨3, _⟩ => ⟨S21504, .f32⟩
  | .hbm, ⟨4, _⟩ => ⟨S_, .f32⟩
  | .hbm, ⟨5, _⟩ => ⟨S_, .f32⟩
  | .hbm, ⟨6, _⟩ => ⟨S1x21504, .f32⟩
  | .hbm, ⟨7, _⟩ => ⟨S1x21504, .f32⟩
  | .hbm, ⟨8, _⟩ => ⟨S1x1, .f32⟩
  | .hbm, ⟨9, _⟩ => ⟨S1x1, .f32⟩
  | .hbm, ⟨10, _⟩ => ⟨S9216x12288, .fp8e4m3⟩
  | .hbm, ⟨11, _⟩ => ⟨S1x1, .f32⟩
  | .local _ .vmem, ⟨0, _⟩ => ⟨S9216x3072, .fp8e4m3⟩
  | .local _ .vmem, ⟨1, _⟩ => ⟨S3072x21504, .fp8e4m3⟩
  | .local _ .vmem, ⟨2, _⟩ => ⟨S1x21504, .f32⟩
  | .local _ .vmem, ⟨3, _⟩ => ⟨S1x21504, .f32⟩
  | .local _ .vmem, ⟨4, _⟩ => ⟨S9216x12288, .fp8e4m3⟩
  | .local _ .vmem, ⟨5, _⟩ => ⟨S1x1, .f32⟩
  | .local _ .smem, ⟨0, _⟩ => ⟨S1x1, .f32⟩
  | .local _ .smem, ⟨1, _⟩ => ⟨S1x1, .f32⟩
  | _, _ => ⟨S9216x3072, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg6_0 : Ref sig .tc := ⟨.vmem, 4, rfl⟩
abbrev cc0_stg7_0 : Ref sig .tc := ⟨.vmem, 5, rfl⟩
abbrev cc0_stg4_0 : Ref sig .tc := ⟨.smem, 0, rfl⟩
abbrev cc0_stg5_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S9216x3072 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x21504 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x21504 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x21504 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S9216x12288 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== KV.lean ====
abbrev S9216x3072 : Shape := ⟨2, ![9216, 3072]⟩
abbrev S3072x21504 : Shape := ⟨2, ![3072, 21504]⟩
abbrev S21504 : Shape := ⟨1, ![21504]⟩
abbrev S_ : Shape := ⟨0, ![]⟩
abbrev S1x21504 : Shape := ⟨2, ![1, 21504]⟩
abbrev S1x1 : Shape := ⟨2, ![1, 1]⟩
abbrev S2x3072x4608 : Shape := ⟨3, ![2, 3072, 4608]⟩
abbrev S512x3072 : Shape := ⟨2, ![512, 3072]⟩
abbrev S3072x1024 : Shape := ⟨2, ![3072, 1024]⟩
abbrev S1x1024 : Shape := ⟨2, ![1, 1024]⟩
abbrev S1x1024x512 : Shape := ⟨3, ![1, 1024, 512]⟩
abbrev S3072x256 : Shape := ⟨2, ![3072, 256]⟩
abbrev S512x256 : Shape := ⟨2, ![512, 256]⟩
abbrev S1x256 : Shape := ⟨2, ![1, 256]⟩
abbrev S256x512 : Shape := ⟨2, ![256, 512]⟩
abbrev S1x256x512 : Shape := ⟨3, ![1, 256, 512]⟩

abbrev nBuf : Space → Nat
  | .hbm => 9
  | .vmem => 10
  | .smem => 1
  | _ => 0

abbrev bufTy : (tb : Table) → Fin (tcTables nBuf tb) → BufTy
  | .hbm, ⟨0, _⟩ => ⟨S9216x3072, .fp8e4m3⟩
  | .hbm, ⟨1, _⟩ => ⟨S3072x21504, .fp8e4m3⟩
  | .hbm, ⟨2, _⟩ => ⟨S21504, .f32⟩
  | .hbm, ⟨3, _⟩ => ⟨S21504, .f32⟩
  | .hbm, ⟨4, _⟩ => ⟨S_, .f32⟩
  | .hbm, ⟨5, _⟩ => ⟨S1x21504, .f32⟩
  | .hbm, ⟨6, _⟩ => ⟨S1x21504, .f32⟩
  | .hbm, ⟨7, _⟩ => ⟨S1x1, .f32⟩
  | .hbm, ⟨8, _⟩ => ⟨S2x3072x4608, .bf16⟩
  | .local _ .vmem, ⟨0, _⟩ => ⟨S512x3072, .fp8e4m3⟩
  | .local _ .vmem, ⟨1, _⟩ => ⟨S512x3072, .fp8e4m3⟩
  | .local _ .vmem, ⟨2, _⟩ => ⟨S3072x1024, .fp8e4m3⟩
  | .local _ .vmem, ⟨3, _⟩ => ⟨S3072x1024, .fp8e4m3⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024x512, .bf16⟩
  | .local _ .vmem, ⟨9, _⟩ => ⟨S1x1024x512, .bf16⟩
  | .local _ .smem, ⟨0, _⟩ => ⟨S1x1, .f32⟩
  | _, _ => ⟨S9216x3072, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg4_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![18, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi arg1 c6_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi arg1 c6_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi arg1 c6_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c9_i32 : BitVec 32 := 9#32
  let v0 : BitVec 32 := Scalar.divsi arg0 c9_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c9_i32 c0_i32_1
  let v7 : BitVec 32 := Scalar.extui v6
  let c0_i32_2 : BitVec 32 := 0#32
  let v8 : BitVec 1 := Scalar.cmpi .slt c9_i32 c0_i32_2
  let v9 : BitVec 32 := Scalar.extui v8
  let v10 : BitVec 32 := Scalar.subi v7 v9
  let v11 : BitVec 1 := Scalar.cmpi .ne v5 v10
  let v12 : BitVec 32 := Scalar.remsi arg0 c9_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c9_i32_4 : BitVec 32 := 9#32
  let c0_i32_5 : BitVec 32 := 0#32
  let v17 : BitVec 1 := Scalar.cmpi .eq c9_i32_4 c0_i32_5
  let c1_i32_6 : BitVec 32 := 1#32
  let v18 : BitVec 32 := Scalar.select v17 c1_i32_6 c9_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

abbrev stage0_0 : Fin 2 → Memref sig .tc .vmem S512x3072 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S3072x1024 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RVIdeal.lean ====
abbrev S9216x3072 : Shape := ⟨2, ![9216, 3072]⟩
abbrev S3072x21504 : Shape := ⟨2, ![3072, 21504]⟩
abbrev S21504 : Shape := ⟨1, ![21504]⟩
abbrev S_ : Shape := ⟨0, ![]⟩
abbrev S1x21504 : Shape := ⟨2, ![1, 21504]⟩
abbrev S1x1 : Shape := ⟨2, ![1, 1]⟩
abbrev S2x3072x4608 : Shape := ⟨3, ![2, 3072, 4608]⟩
abbrev S3072x3072 : Shape := ⟨2, ![3072, 3072]⟩
abbrev S1x3072 : Shape := ⟨2, ![1, 3072]⟩
abbrev S2x4608x3072 : Shape := ⟨3, ![2, 4608, 3072]⟩

abbrev nBuf : Space → Nat
  | .hbm => 9
  | .vmem => 5
  | .smem => 1
  | _ => 0

abbrev bufTy : (tb : Table) → Fin (tcTables nBuf tb) → BufTy
  | .hbm, ⟨0, _⟩ => ⟨S9216x3072, .fp8e4m3⟩
  | .hbm, ⟨1, _⟩ => ⟨S3072x21504, .fp8e4m3⟩
  | .hbm, ⟨2, _⟩ => ⟨S21504, .f32⟩
  | .hbm, ⟨3, _⟩ => ⟨S21504, .f32⟩
  | .hbm, ⟨4, _⟩ => ⟨S_, .f32⟩
  | .hbm, ⟨5, _⟩ => ⟨S1x21504, .f32⟩
  | .hbm, ⟨6, _⟩ => ⟨S1x21504, .f32⟩
  | .hbm, ⟨7, _⟩ => ⟨S1x1, .f32⟩
  | .hbm, ⟨8, _⟩ => ⟨S2x3072x4608, .bf16⟩
  | .local _ .vmem, ⟨0, _⟩ => ⟨S9216x3072, .fp8e4m3⟩
  | .local _ .vmem, ⟨1, _⟩ => ⟨S3072x21504, .fp8e4m3⟩
  | .local _ .vmem, ⟨2, _⟩ => ⟨S1x21504, .f32⟩
  | .local _ .vmem, ⟨3, _⟩ => ⟨S1x21504, .f32⟩
  | .local _ .vmem, ⟨4, _⟩ => ⟨S2x3072x4608, .bf16⟩
  | .local _ .smem, ⟨0, _⟩ => ⟨S1x1, .f32⟩
  | _, _ => ⟨S9216x3072, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg5_0 : Ref sig .tc := ⟨.vmem, 4, rfl⟩
abbrev cc0_stg4_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S9216x3072 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x21504 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x21504 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x21504 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x3072x4608 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KQk.lean ====
abbrev S9216x3072 : Shape := ⟨2, ![9216, 3072]⟩
abbrev S3072x21504 : Shape := ⟨2, ![3072, 21504]⟩
abbrev S21504 : Shape := ⟨1, ![21504]⟩
abbrev S128 : Shape := ⟨1, ![128]⟩
abbrev S2x4608x64 : Shape := ⟨3, ![2, 4608, 64]⟩
abbrev S_ : Shape := ⟨0, ![]⟩
abbrev S9216x64 : Shape := ⟨2, ![9216, 64]⟩
abbrev S9216x64x2 : Shape := ⟨3, ![9216, 64, 2]⟩
abbrev S9216x128 : Shape := ⟨2, ![9216, 128]⟩
abbrev S2x4608x64x1 : Shape := ⟨4, ![2, 4608, 64, 1]⟩
abbrev S2x4608x64x2 : Shape := ⟨4, ![2, 4608, 64, 2]⟩
abbrev S1x21504 : Shape := ⟨2, ![1, 21504]⟩
abbrev S1x1 : Shape := ⟨2, ![1, 1]⟩
abbrev S1x128 : Shape := ⟨2, ![1, 128]⟩
abbrev S2x128 : Shape := ⟨2, ![2, 128]⟩
abbrev S2x1x128 : Shape := ⟨3, ![2, 1, 128]⟩
abbrev S9216x6144 : Shape := ⟨2, ![9216, 6144]⟩
abbrev S1024x3072 : Shape := ⟨2, ![1024, 3072]⟩
abbrev S3072x1024 : Shape := ⟨2, ![3072, 1024]⟩
abbrev S1x1024 : Shape := ⟨2, ![1, 1024]⟩
abbrev S1x1x128 : Shape := ⟨3, ![1, 1, 128]⟩
abbrev S1024x128 : Shape := ⟨2, ![1024, 128]⟩
abbrev S1024x1024 : Shape := ⟨2, ![1024, 1024]⟩
abbrev S3072x256 : Shape := ⟨2, ![3072, 256]⟩
abbrev S1024x256 : Shape := ⟨2, ![1024, 256]⟩
abbrev S1024 : Shape := ⟨1, ![1024]⟩
abbrev S1024x1 : Shape := ⟨2, ![1024, 1]⟩

abbrev nBuf : Space → Nat
  | .hbm => 25
  | .vmem => 16
  | .smem => 1
  | _ => 0

abbrev bufTy : (tb : Table) → Fin (tcTables nBuf tb) → BufTy
  | .hbm, ⟨0, _⟩ => ⟨S9216x3072, .fp8e4m3⟩
  | .hbm, ⟨1, _⟩ => ⟨S3072x21504, .fp8e4m3⟩
  | .hbm, ⟨2, _⟩ => ⟨S21504, .f32⟩
  | .hbm, ⟨3, _⟩ => ⟨S21504, .f32⟩
  | .hbm, ⟨4, _⟩ => ⟨S128, .f32⟩
  | .hbm, ⟨5, _⟩ => ⟨S128, .f32⟩
  | .hbm, ⟨6, _⟩ => ⟨S2x4608x64, .f32⟩
  | .hbm, ⟨7, _⟩ => ⟨S2x4608x64, .f32⟩
  | .hbm, ⟨8, _⟩ => ⟨S_, .f32⟩
  | .hbm, ⟨9, _⟩ => ⟨S9216x64, .f32⟩
  | .hbm, ⟨10, _⟩ => ⟨S9216x64x2, .f32⟩
  | .hbm, ⟨11, _⟩ => ⟨S9216x128, .f32⟩
  | .hbm, ⟨12, _⟩ => ⟨S2x4608x64, .f32⟩
  | .hbm, ⟨13, _⟩ => ⟨S2x4608x64x1, .f32⟩
  | .hbm, ⟨14, _⟩ => ⟨S2x4608x64x1, .f32⟩
  | .hbm, ⟨15, _⟩ => ⟨S2x4608x64x2, .f32⟩
  | .hbm, ⟨16, _⟩ => ⟨S9216x128, .f32⟩
  | .hbm, ⟨17, _⟩ => ⟨S1x21504, .f32⟩
  | .hbm, ⟨18, _⟩ => ⟨S1x21504, .f32⟩
  | .hbm, ⟨19, _⟩ => ⟨S1x1, .f32⟩
  | .hbm, ⟨20, _⟩ => ⟨S1x128, .f32⟩
  | .hbm, ⟨21, _⟩ => ⟨S1x128, .f32⟩
  | .hbm, ⟨22, _⟩ => ⟨S2x128, .f32⟩
  | .hbm, ⟨23, _⟩ => ⟨S2x1x128, .f32⟩
  | .hbm, ⟨24, _⟩ => ⟨S9216x6144, .bf16⟩
  | .local _ .vmem, ⟨0, _⟩ => ⟨S1024x3072, .fp8e4m3⟩
  | .local _ .vmem, ⟨1, _⟩ => ⟨S1024x3072, .fp8e4m3⟩
  | .local _ .vmem, ⟨2, _⟩ => ⟨S3072x1024, .fp8e4m3⟩
  | .local _ .vmem, ⟨3, _⟩ => ⟨S3072x1024, .fp8e4m3⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1x128, .f32⟩
  | .local _ .vmem, ⟨9, _⟩ => ⟨S1x1x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x1024, .bf16⟩
  | .local _ .vmem, ⟨15, _⟩ => ⟨S1024x1024, .bf16⟩
  | .local _ .smem, ⟨0, _⟩ => ⟨S1x1, .f32⟩
  | _, _ => ⟨S9216x3072, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg7_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![9, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.divsi arg1 c3_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg1 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x3072 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S3072x1024 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .smem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== RQkIdeal.lean ====
abbrev S9216x3072 : Shape := ⟨2, ![9216, 3072]⟩
abbrev S3072x21504 : Shape := ⟨2, ![3072, 21504]⟩
abbrev S21504 : Shape := ⟨1, ![21504]⟩
abbrev S128 : Shape := ⟨1, ![128]⟩
abbrev S2x4608x64 : Shape := ⟨3, ![2, 4608, 64]⟩
abbrev S_ : Shape := ⟨0, ![]⟩
abbrev S1x21504 : Shape := ⟨2, ![1, 21504]⟩
abbrev S1x128 : Shape := ⟨2, ![1, 128]⟩
abbrev S1x1 : Shape := ⟨2, ![1, 1]⟩
abbrev S9216x6144 : Shape := ⟨2, ![9216, 6144]⟩
abbrev S3072x3072 : Shape := ⟨2, ![3072, 3072]⟩
abbrev S1x3072 : Shape := ⟨2, ![1, 3072]⟩
abbrev S9216x24x128 : Shape := ⟨3, ![9216, 24, 128]⟩
abbrev S9216x24 : Shape := ⟨2, ![9216, 24]⟩
abbrev S9216x24x1 : Shape := ⟨3, ![9216, 24, 1]⟩
abbrev S1x1x128 : Shape := ⟨3, ![1, 1, 128]⟩
abbrev S9216x64 : Shape := ⟨2, ![9216, 64]⟩
abbrev S9216x24x64x2 : Shape := ⟨4, ![9216, 24, 64, 2]⟩
abbrev S9216x24x64x1 : Shape := ⟨4, ![9216, 24, 64, 1]⟩
abbrev S9216x24x64 : Shape := ⟨3, ![9216, 24, 64]⟩
abbrev S9216x1x64 : Shape := ⟨3, ![9216, 1, 64]⟩

abbrev nBuf : Space → Nat
  | .hbm => 15
  | .vmem => 9
  | .smem => 1
  | _ => 0

abbrev bufTy : (tb : Table) → Fin (tcTables nBuf tb) → BufTy
  | .hbm, ⟨0, _⟩ => ⟨S9216x3072, .fp8e4m3⟩
  | .hbm, ⟨1, _⟩ => ⟨S3072x21504, .fp8e4m3⟩
  | .hbm, ⟨2, _⟩ => ⟨S21504, .f32⟩
  | .hbm, ⟨3, _⟩ => ⟨S21504, .f32⟩
  | .hbm, ⟨4, _⟩ => ⟨S128, .f32⟩
  | .hbm, ⟨5, _⟩ => ⟨S128, .f32⟩
  | .hbm, ⟨6, _⟩ => ⟨S2x4608x64, .f32⟩
  | .hbm, ⟨7, _⟩ => ⟨S2x4608x64, .f32⟩
  | .hbm, ⟨8, _⟩ => ⟨S_, .f32⟩
  | .hbm, ⟨9, _⟩ => ⟨S1x21504, .f32⟩
  | .hbm, ⟨10, _⟩ => ⟨S1x21504, .f32⟩
  | .hbm, ⟨11, _⟩ => ⟨S1x128, .f32⟩
  | .hbm, ⟨12, _⟩ => ⟨S1x128, .f32⟩
  | .hbm, ⟨13, _⟩ => ⟨S1x1, .f32⟩
  | .hbm, ⟨14, _⟩ => ⟨S9216x6144, .bf16⟩
  | .local _ .vmem, ⟨0, _⟩ => ⟨S9216x3072, .fp8e4m3⟩
  | .local _ .vmem, ⟨1, _⟩ => ⟨S3072x21504, .fp8e4m3⟩
  | .local _ .vmem, ⟨2, _⟩ => ⟨S1x21504, .f32⟩
  | .local _ .vmem, ⟨3, _⟩ => ⟨S1x21504, .f32⟩
  | .local _ .vmem, ⟨4, _⟩ => ⟨S1x128, .f32⟩
  | .local _ .vmem, ⟨5, _⟩ => ⟨S1x128, .f32⟩
  | .local _ .vmem, ⟨6, _⟩ => ⟨S2x4608x64, .f32⟩
  | .local _ .vmem, ⟨7, _⟩ => ⟨S2x4608x64, .f32⟩
  | .local _ .vmem, ⟨8, _⟩ => ⟨S9216x6144, .bf16⟩
  | .local _ .smem, ⟨0, _⟩ => ⟨S1x1, .f32⟩
  | _, _ => ⟨S9216x3072, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg9_0 : Ref sig .tc := ⟨.vmem, 8, rfl⟩
abbrev cc0_stg8_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S9216x3072 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x21504 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x21504 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x21504 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x4608x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x4608x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .smem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S9216x6144 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== KLn.lean ====
abbrev S2x4608x3072 : Shape := ⟨3, ![2, 4608, 3072]⟩
abbrev S2x3072 : Shape := ⟨2, ![2, 3072]⟩
abbrev S_ : Shape := ⟨0, ![]⟩
abbrev S9216x3072 : Shape := ⟨2, ![9216, 3072]⟩
abbrev S1x1 : Shape := ⟨2, ![1, 1]⟩
abbrev S2x1x3072 : Shape := ⟨3, ![2, 1, 3072]⟩
abbrev S256x3072 : Shape := ⟨2, ![256, 3072]⟩
abbrev S1x1x3072 : Shape := ⟨3, ![1, 1, 3072]⟩
abbrev S256 : Shape := ⟨1, ![256]⟩
abbrev S256x1 : Shape := ⟨2, ![256, 1]⟩
abbrev S1x3072 : Shape := ⟨2, ![1, 3072]⟩

abbrev nBuf : Space → Nat
  | .hbm => 9
  | .vmem => 8
  | .smem => 1
  | _ => 0

abbrev bufTy : (tb : Table) → Fin (tcTables nBuf tb) → BufTy
  | .hbm, ⟨0, _⟩ => ⟨S2x4608x3072, .bf16⟩
  | .hbm, ⟨1, _⟩ => ⟨S2x3072, .f32⟩
  | .hbm, ⟨2, _⟩ => ⟨S2x3072, .f32⟩
  | .hbm, ⟨3, _⟩ => ⟨S_, .f32⟩
  | .hbm, ⟨4, _⟩ => ⟨S9216x3072, .bf16⟩
  | .hbm, ⟨5, _⟩ => ⟨S1x1, .f32⟩
  | .hbm, ⟨6, _⟩ => ⟨S2x1x3072, .f32⟩
  | .hbm, ⟨7, _⟩ => ⟨S2x1x3072, .f32⟩
  | .hbm, ⟨8, _⟩ => ⟨S9216x3072, .fp8e4m3⟩
  | .local _ .vmem, ⟨0, _⟩ => ⟨S256x3072, .bf16⟩
  | .local _ .vmem, ⟨1, _⟩ => ⟨S256x3072, .bf16⟩
  | .local _ .vmem, ⟨2, _⟩ => ⟨S1x1x3072, .f32⟩
  | .local _ .vmem, ⟨3, _⟩ => ⟨S1x1x3072, .f32⟩
  | .local _ .vmem, ⟨4, _⟩ => ⟨S1x1x3072, .f32⟩
  | .local _ .vmem, ⟨5, _⟩ => ⟨S1x1x3072, .f32⟩
  | .local _ .vmem, ⟨6, _⟩ => ⟨S256x3072, .fp8e4m3⟩
  | .local _ .vmem, ⟨7, _⟩ => ⟨S256x3072, .fp8e4m3⟩
  | .local _ .smem, ⟨0, _⟩ => ⟨S1x1, .f32⟩
  | _, _ => ⟨S2x4608x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg3_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c18_i32 : BitVec 32 := 18#32
  let v0 : BitVec 32 := Scalar.divsi arg0 c18_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c18_i32 c0_i32_1
  let v7 : BitVec 32 := Scalar.extui v6
  let c0_i32_2 : BitVec 32 := 0#32
  let v8 : BitVec 1 := Scalar.cmpi .slt c18_i32 c0_i32_2
  let v9 : BitVec 32 := Scalar.extui v8
  let v10 : BitVec 32 := Scalar.subi v7 v9
  let v11 : BitVec 1 := Scalar.cmpi .ne v5 v10
  let v12 : BitVec 32 := Scalar.remsi arg0 c18_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c18_i32 : BitVec 32 := 18#32
  let v0 : BitVec 32 := Scalar.divsi arg0 c18_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c18_i32 c0_i32_1
  let v7 : BitVec 32 := Scalar.extui v6
  let c0_i32_2 : BitVec 32 := 0#32
  let v8 : BitVec 1 := Scalar.cmpi .slt c18_i32 c0_i32_2
  let v9 : BitVec 32 := Scalar.extui v8
  let v10 : BitVec 32 := Scalar.subi v7 v9
  let v11 : BitVec 1 := Scalar.cmpi .ne v5 v10
  let v12 : BitVec 32 := Scalar.remsi arg0 c18_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x3072 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RLnIdeal.lean ====
abbrev S2x4608x3072 : Shape := ⟨3, ![2, 4608, 3072]⟩
abbrev S2x3072 : Shape := ⟨2, ![2, 3072]⟩
abbrev S_ : Shape := ⟨0, ![]⟩
abbrev S2x4608 : Shape := ⟨2, ![2, 4608]⟩
abbrev S2x4608x1 : Shape := ⟨3, ![2, 4608, 1]⟩
abbrev S2x1x3072 : Shape := ⟨3, ![2, 1, 3072]⟩
abbrev S9216x3072 : Shape := ⟨2, ![9216, 3072]⟩
abbrev S1x1 : Shape := ⟨2, ![1, 1]⟩

abbrev nBuf : Space → Nat
  | .hbm => 38
  | .vmem => 2
  | .smem => 1
  | _ => 0

abbrev bufTy : (tb : Table) → Fin (tcTables nBuf tb) → BufTy
  | .hbm, ⟨0, _⟩ => ⟨S2x4608x3072, .bf16⟩
  | .hbm, ⟨1, _⟩ => ⟨S2x3072, .f32⟩
  | .hbm, ⟨2, _⟩ => ⟨S2x3072, .f32⟩
  | .hbm, ⟨3, _⟩ => ⟨S_, .f32⟩
  | .hbm, ⟨4, _⟩ => ⟨S2x4608x3072, .f32⟩
  | .hbm, ⟨5, _⟩ => ⟨S_, .f32⟩
  | .hbm, ⟨6, _⟩ => ⟨S2x4608, .f32⟩
  | .hbm, ⟨7, _⟩ => ⟨S2x4608x1, .f32⟩
  | .hbm, ⟨8, _⟩ => ⟨S_, .f32⟩
  | .hbm, ⟨9, _⟩ => ⟨S2x4608x1, .f32⟩
  | .hbm, ⟨10, _⟩ => ⟨S2x4608x1, .f32⟩
  | .hbm, ⟨11, _⟩ => ⟨S2x4608x3072, .f32⟩
  | .hbm, ⟨12, _⟩ => ⟨S2x4608x3072, .f32⟩
  | .hbm, ⟨13, _⟩ => ⟨S2x4608x3072, .f32⟩
  | .hbm, ⟨14, _⟩ => ⟨S_, .f32⟩
  | .hbm, ⟨15, _⟩ => ⟨S2x4608, .f32⟩
  | .hbm, ⟨16, _⟩ => ⟨S2x4608x1, .f32⟩
  | .hbm, ⟨17, _⟩ => ⟨S_, .f32⟩
  | .hbm, ⟨18, _⟩ => ⟨S2x4608x1, .f32⟩
  | .hbm, ⟨19, _⟩ => ⟨S2x4608x1, .f32⟩
  | .hbm, ⟨20, _⟩ => ⟨S_, .f32⟩
  | .hbm, ⟨21, _⟩ => ⟨S2x4608x1, .f32⟩
  | .hbm, ⟨22, _⟩ => ⟨S2x4608x1, .f32⟩
  | .hbm, ⟨23, _⟩ => ⟨S2x4608x1, .f32⟩
  | .hbm, ⟨24, _⟩ => ⟨S2x4608x3072, .f32⟩
  | .hbm, ⟨25, _⟩ => ⟨S2x4608x3072, .f32⟩
  | .hbm, ⟨26, _⟩ => ⟨S2x1x3072, .f32⟩
  | .hbm, ⟨27, _⟩ => ⟨S_, .f32⟩
  | .hbm, ⟨28, _⟩ => ⟨S2x1x3072, .f32⟩
  | .hbm, ⟨29, _⟩ => ⟨S2x1x3072, .f32⟩
  | .hbm, ⟨30, _⟩ => ⟨S2x4608x3072, .f32⟩
  | .hbm, ⟨31, _⟩ => ⟨S2x4608x3072, .f32⟩
  | .hbm, ⟨32, _⟩ => ⟨S2x1x3072, .f32⟩
  | .hbm, ⟨33, _⟩ => ⟨S2x4608x3072, .f32⟩
  | .hbm, ⟨34, _⟩ => ⟨S2x4608x3072, .f32⟩
  | .hbm, ⟨35, _⟩ => ⟨S9216x3072, .f32⟩
  | .hbm, ⟨36, _⟩ => ⟨S1x1, .f32⟩
  | .hbm, ⟨37, _⟩ => ⟨S9216x3072, .fp8e4m3⟩
  | .local _ .vmem, ⟨0, _⟩ => ⟨S9216x3072, .f32⟩
  | .local _ .vmem, ⟨1, _⟩ => ⟨S9216x3072, .fp8e4m3⟩
  | .local _ .smem, ⟨0, _⟩ => ⟨S1x1, .f32⟩
  | _, _ => ⟨S2x4608x3072, .bf16⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev cc0_stg0_0 : Ref sig .tc := ⟨.vmem, 0, rfl⟩
abbrev cc0_stg2_0 : Ref sig .tc := ⟨.vmem, 1, rfl⟩
abbrev cc0_stg1_0 : Ref sig .tc := ⟨.smem, 0, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S9216x3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S9216x3072 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.KAttnRun.lean ====
module

public import Idealize.ShloMosaic.Lib.WritesUnit
public import Idealize.ShloMosaic.Lib.VecWindow
public import Idealize.ShloMosaic.Lib.WholeRead
public import proofs.«01_k».proof.Proof.Gen.KAttn.Loops
public import proofs.«01_k».proof.Proof.Gen.KAttn.Frame

/-!
  The attention kernel's body, run at one grid point.

  The kernel's two large scratch buffers (the scores and the probabilities of one block of queries) are written and read
  back within one trip of its loop, so what they held before does not matter. Here that is proved, and the body's three
  cases (first point, middle points, last point) are run to explicit results: the codes of the 4608 query rows, the
  running maximum the third scratch carries from point to point, and at the last point the maximum of it all.
-/

@[expose] public section
set_option maxRecDepth 16384

noncomputable section

namespace Cert.KAttn.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What one trip of the loop computes -/

/-- The codes trip `k` stores: those of query rows `512k … 512k + 511`. -/
def codeAt (arg3 : Memref sig .tc .vmem S4608x128 .bf16) (arg4 : Memref sig .tc .vmem S4608x128 .bf16) (arg5 : Memref sig .tc .vmem S1x128x4608 .bf16) (arg9 : Memref sig .tc .vmem S4608x512 .f32) (arg10 : Memref sig .tc .vmem S4608x512 .bf16) (v1 : Elt F .i32) (v2 : Elt F .f32) (X3 : BufTy.Contents (Elt F) arg3.view.ty) (X4 : BufTy.Contents (Elt F) arg4.view.ty) (X5 : BufTy.Contents (Elt F) arg5.view.ty) (k : Fin k0_t1_loop.trips) : FVec F S512x128 .fp8e4m3 :=
  trip_k0_t1.sl.r_87 arg3 arg4 arg5 arg9 arg10 v1 v2 X3 X4 X5 k

/-- The running maximum after trip `k`, from the one before it. -/
def partAt (arg3 : Memref sig .tc .vmem S4608x128 .bf16) (arg4 : Memref sig .tc .vmem S4608x128 .bf16) (arg5 : Memref sig .tc .vmem S1x128x4608 .bf16) (arg9 : Memref sig .tc .vmem S4608x512 .f32) (arg10 : Memref sig .tc .vmem S4608x512 .bf16) (v1 : Elt F .i32) (X3 : BufTy.Contents (Elt F) arg3.view.ty) (X4 : BufTy.Contents (Elt F) arg4.view.ty) (X5 : BufTy.Contents (Elt F) arg5.view.ty) (k : Fin k0_t1_loop.trips) (old : Vec F S8x128 .f32) : Vec F S8x128 .f32 :=
  k0_pay108 (k0_pay107 (trip_k0_t1.sl.r_84 arg3 arg4 arg9 v1 X3 X4 k)
    (View.readAt (Elt F) arg5.view (Rect.unit ![0, 0, 0] S1x128x4608.size inb_S1x128x4608_S1x128x4608_0_0_0).toLoadRect X5)
    (trip_k0_t1.sl.v2476 arg3 arg4 arg9 arg10 v1 X3 X4 k) old)

/-- The running maximum after the first `n` trips, from `init`. -/
def accTo (arg3 : Memref sig .tc .vmem S4608x128 .bf16) (arg4 : Memref sig .tc .vmem S4608x128 .bf16) (arg5 : Memref sig .tc .vmem S1x128x4608 .bf16) (arg9 : Memref sig .tc .vmem S4608x512 .f32) (arg10 : Memref sig .tc .vmem S4608x512 .bf16) (v1 : Elt F .i32) (X3 : BufTy.Contents (Elt F) arg3.view.ty) (X4 : BufTy.Contents (Elt F) arg4.view.ty) (X5 : BufTy.Contents (Elt F) arg5.view.ty) (init : Vec F S8x128 .f32) : ℕ → Vec F S8x128 .f32
  | 0 => init
  | n + 1 => if h : n < k0_t1_loop.trips then partAt arg3 arg4 arg5 arg9 arg10 v1 X3 X4 X5 ⟨n, h⟩ (accTo arg3 arg4 arg5 arg9 arg10 v1 X3 X4 X5 init n) else accTo arg3 arg4 arg5 arg9 arg10 v1 X3 X4 X5 init n

theorem trips_eq : k0_t1_loop.trips = 9 := by decide +kernel

/-- Where row `r` lies in its block: row `r % 512`. -/
def rowIdx (x : S4608x128.Idx) : S512x128.Idx :=
  Fin.cons ⟨(x (0 : Fin 2)).val % 512, Nat.mod_lt _ (by decide)⟩ (Fin.cons ⟨(x (1 : Fin 2)).val, (x (1 : Fin 2)).isLt⟩ (fun a => a.elim0))

/-- The codes of all rows: row `r` is row `r % 512` of trip `r / 512`. -/
def codesVec (arg3 : Memref sig .tc .vmem S4608x128 .bf16) (arg4 : Memref sig .tc .vmem S4608x128 .bf16) (arg5 : Memref sig .tc .vmem S1x128x4608 .bf16) (arg9 : Memref sig .tc .vmem S4608x512 .f32) (arg10 : Memref sig .tc .vmem S4608x512 .bf16) (v1 : Elt F .i32) (v2 : Elt F .f32) (X3 : BufTy.Contents (Elt F) arg3.view.ty) (X4 : BufTy.Contents (Elt F) arg4.view.ty) (X5 : BufTy.Contents (Elt F) arg5.view.ty) : Vec F S4608x128 .fp8e4m3 := fun x =>
  codeAt arg3 arg4 arg5 arg9 arg10 v1 v2 X3 X4 X5 ⟨(x (0 : Fin 2)).val / 512, by rw [trips_eq]; have : (x (0 : Fin 2)).val < 4608 := (x (0 : Fin 2)).isLt; omega⟩ (rowIdx x)

section Loop
variable (𝒱 : Variants) (c : Dev nD) (bd : Option 𝒱.V) (i : grid0.Coords) (arg2 : Memref sig .tc .smem S2 .i32) (harg2 : arg2.IsWhole) (arg3 : Memref sig .tc .vmem S4608x128 .bf16) (harg3 : arg3.IsWhole) (arg4 : Memref sig .tc .vmem S4608x128 .bf16) (harg4 : arg4.IsWhole) (arg5 : Memref sig .tc .vmem S1x128x4608 .bf16) (harg5 : arg5.IsWhole) (arg6 : Memref sig .tc .smem S1x1 .f32) (harg6 : arg6.IsWhole) (arg7 : Memref sig .tc .vmem S4608x128 .fp8e4m3) (harg7 : arg7.IsWhole) (arg8 : Memref sig .tc .vmem S1x1 .f32) (harg8 : arg8.IsWhole) (arg9 : Memref sig .tc .vmem S4608x512 .f32) (harg9 : arg9.IsWhole) (arg10 : Memref sig .tc .vmem S4608x512 .bf16) (harg10 : arg10.IsWhole) (arg11 : Memref sig .tc .vmem S8x128 .f32) (harg11 : arg11.IsWhole) (v1 : Elt F .i32) (v2 : Elt F .f32) (X3 : BufTy.Contents (Elt F) arg3.view.ty) (X4 : BufTy.Contents (Elt F) arg4.view.ty) (X5 : BufTy.Contents (Elt F) arg5.view.ty) (G7 : BufTy.Contents (Elt F) arg7.view.ty) (G9 : BufTy.Contents (Elt F) arg9.view.ty) (G10 : BufTy.Contents (Elt F) arg10.view.ty) (G11 : BufTy.Contents (Elt F) arg11.view.ty)

theorem trip_codes (k : Fin k0_t1_loop.trips) :
    (trip_k0_t1 (F := F) 𝒱 c bd i arg2 harg2 arg3 harg3 arg4 harg4 arg5 harg5 arg6 harg6 arg7 harg7 arg8 harg8 arg9 harg9 arg10 harg10 arg11 harg11 v1 v2 X3 X4 X5 k).1 G7 G9 G10 G11
      = [⟨Rect.unit (s := S4608x128) (k0_off2 k) S512x128.size (k0_off2_inb k), codeAt arg3 arg4 arg5 arg9 arg10 v1 v2 X3 X4 X5 k⟩] := by
  unfold trip_k0_t1 codeAt; rfl

theorem trip_part (k : Fin k0_t1_loop.trips) :
    (trip_k0_t1 (F := F) 𝒱 c bd i arg2 harg2 arg3 harg3 arg4 harg4 arg5 harg5 arg6 harg6 arg7 harg7 arg8 harg8 arg9 harg9 arg10 harg10 arg11 harg11 v1 v2 X3 X4 X5 k).2.2.2.1 G7 G9 G10 G11
      = [⟨Rect.unit (s := S8x128) ![0, 0] S8x128.size inb_S8x128_S8x128_0_0, partAt arg3 arg4 arg5 arg9 arg10 v1 X3 X4 X5 k (arg11.view.read (Elt F) G11)⟩] := by
  unfold trip_k0_t1 partAt; dsimp only; unfold trip_k0_t1.sl.r_86; rw [View.readAt_full arg11.view]

/-- After `n` trips the rows of the first `n` blocks hold their codes. -/
theorem pb_codes (n : ℕ) (hn : n ≤ 9) (x : S4608x128.Idx) (hx : (x (0 : Fin 2)).val < 512 * n) :
    arg7.view.read (Elt F) (arg7.view.writes (Elt F) G7 (pb_k0_t1 (F := F) 𝒱 c bd i arg2 harg2 arg3 harg3 arg4 harg4 arg5 harg5 arg6 harg6 arg7 harg7 arg8 harg8 arg9 harg9 arg10 harg10 arg11 harg11 v1 v2 X3 X4 X5 G7 G9 G10 G11 n).1) x
      = codesVec arg3 arg4 arg5 arg9 arg10 v1 v2 X3 X4 X5 x := by
  induction n with
  | zero => omega
  | succ n ih =>
    have hk : n < k0_t1_loop.trips := by rw [trips_eq]; omega
    have e := pb_k0_t1_succ (F := F) 𝒱 c bd i arg2 harg2 arg3 harg3 arg4 harg4 arg5 harg5 arg6 harg6 arg7 harg7 arg8 harg8 arg9 harg9 arg10 harg10 arg11 harg11 v1 v2 X3 X4 X5 G7 G9 G10 G11 ⟨n, hk⟩
    rw [show (⟨n, hk⟩ : Fin k0_t1_loop.trips).val = n from rfl] at e
    rw [e]
    dsimp only
    rw [trip_codes]
    by_cases h : (x (0 : Fin 2)).val < 512 * n
    · refine Eq.trans ?_ (ih (by omega) h)
      exact View.read_writes_cons_rows_of_not_mem _ _ _ _ _ x (k0_off2_eq ⟨n, hk⟩) rfl (Or.inl h)
    · unfold codesVec
      have hq : (x (0 : Fin 2)).val / 512 = n := by omega
      refine (View.read_writes_cons_rows_of_mem _ _ _ _ _ x
        (rowIdx x)
        (k0_off2_eq ⟨n, hk⟩) ?_ rfl).trans ?_
      · show (x (0 : Fin 2)).val = 512 * n + (x (0 : Fin 2)).val % 512
        omega
      · exact congrArg (fun k => codeAt arg3 arg4 arg5 arg9 arg10 v1 v2 X3 X4 X5 k (rowIdx x)) (Fin.ext hq.symm)

/-- After `n` trips the carried scratch holds the running maximum. -/
theorem pb_part (n : ℕ) (hn : n ≤ 9) :
    arg11.view.read (Elt F) (arg11.view.writes (Elt F) G11 (pb_k0_t1 (F := F) 𝒱 c bd i arg2 harg2 arg3 harg3 arg4 harg4 arg5 harg5 arg6 harg6 arg7 harg7 arg8 harg8 arg9 harg9 arg10 harg10 arg11 harg11 v1 v2 X3 X4 X5 G7 G9 G10 G11 n).2.2.2)
      = accTo arg3 arg4 arg5 arg9 arg10 v1 X3 X4 X5 (arg11.view.read (Elt F) G11) n := by
  induction n with
  | zero => rfl
  | succ n ih =>
    have hk : n < k0_t1_loop.trips := by rw [trips_eq]; omega
    have e := pb_k0_t1_succ (F := F) 𝒱 c bd i arg2 harg2 arg3 harg3 arg4 harg4 arg5 harg5 arg6 harg6 arg7 harg7 arg8 harg8 arg9 harg9 arg10 harg10 arg11 harg11 v1 v2 X3 X4 X5 G7 G9 G10 G11 ⟨n, hk⟩
    rw [show (⟨n, hk⟩ : Fin k0_t1_loop.trips).val = n from rfl] at e
    rw [e]
    dsimp only
    rw [trip_part]
    unfold accTo
    rw [dif_pos hk, ← ih (by omega)]
    exact View.read_writes_full _ _ _ _ _

end Loop

/-! ## The body at one grid point -/

/-- The first point of the grid. -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- The last point of the grid. -/
abbrev cond0_1 (i : grid0.Coords) : Prop := k0_cond2 i = 1#1

/-- The text length of the point's batch entry. -/
def lenOf (i : grid0.Coords) (x0 : Vec F S2 .i32) : Elt F .i32 :=
  x0 ((Rect.unit (s := S2) (k0_off1 i) S1.size (k0_off1_inb i)).toLoadRect.idx (Shape.Idx.first (show 0 < S1.numel by decide)))
/-- The scale of the codes. -/
def saOf (x4 : Vec F S1x1 .f32) : Elt F .f32 :=
  x4 ((Rect.unit (s := S1x1) ![0, 0] S1x1.size inb_S1x1_S1x1_0_0).toLoadRect.idx (Shape.Idx.first (by decide)))

section Outs
variable (i : grid0.Coords) (arg3 : Memref sig .tc .vmem S4608x128 .bf16) (harg3 : arg3.IsWhole) (arg4 : Memref sig .tc .vmem S4608x128 .bf16) (harg4 : arg4.IsWhole) (arg5 : Memref sig .tc .vmem S1x128x4608 .bf16) (harg5 : arg5.IsWhole) (arg9 : Memref sig .tc .vmem S4608x512 .f32) (arg10 : Memref sig .tc .vmem S4608x512 .bf16) (x0 : Vec F S2 .i32) (x1 : Vec F S4608x128 .bf16) (x2 : Vec F S4608x128 .bf16) (x3 : Vec F S1x128x4608 .bf16) (x4 : Vec F S1x1 .f32)

/-- The codes the body leaves at a point with these inputs. -/
def codesOut : Vec F S4608x128 .fp8e4m3 :=
  codesVec arg3 arg4 arg5 arg9 arg10 (lenOf i x0) (saOf x4) (harg3.unread x1) (harg4.unread x2) (harg5.unread x3)
/-- The running maximum the body leaves, from the one it finds. -/
def accOut (init : Vec F S8x128 .f32) : Vec F S8x128 .f32 :=
  accTo arg3 arg4 arg5 arg9 arg10 (lenOf i x0) (harg3.unread x1) (harg4.unread x2) (harg5.unread x3) init 9

end Outs

set_option maxHeartbeats 2000000 in
/-- The body at the first point: from the inputs' contents to the codes and the new running maximum. -/
theorem run_A (c : Dev nD) (i : grid0.Coords) (arg2 : Memref sig .tc .smem S2 .i32) (harg2 : arg2.IsWhole) (arg3 : Memref sig .tc .vmem S4608x128 .bf16) (harg3 : arg3.IsWhole) (arg4 : Memref sig .tc .vmem S4608x128 .bf16) (harg4 : arg4.IsWhole) (arg5 : Memref sig .tc .vmem S1x128x4608 .bf16) (harg5 : arg5.IsWhole) (arg6 : Memref sig .tc .smem S1x1 .f32) (harg6 : arg6.IsWhole) (arg7 : Memref sig .tc .vmem S4608x128 .fp8e4m3) (harg7 : arg7.IsWhole) (arg8 : Memref sig .tc .vmem S1x1 .f32) (harg8 : arg8.IsWhole) (arg9 : Memref sig .tc .vmem S4608x512 .f32) (harg9 : arg9.IsWhole) (arg10 : Memref sig .tc .vmem S4608x512 .bf16) (harg10 : arg10.IsWhole) (arg11 : Memref sig .tc .vmem S8x128 .f32) (harg11 : arg11.IsWhole) (hc0 : cond0_0 i) (hc1 : ¬cond0_1 i)
    (x0 : Vec F S2 .i32) (x1 : Vec F S4608x128 .bf16) (x2 : Vec F S4608x128 .bf16) (x3 : Vec F S1x128x4608 .bf16) (x4 : Vec F S1x1 .f32) (xi6 : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xi6 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (codesOut i arg3 harg3 arg4 harg4 arg5 harg5 arg9 arg10 x0 x1 x2 x3 x4) ∗ owns (c : Thread nD τ) arg8 fullShare xi6 ∗ (∃ d, owns (c : Thread nD τ) arg9 fullShare d) ∗ (∃ d, owns (c : Thread nD τ) arg10 fullShare d) ∗ owns (c : Thread nD τ) arg11 fullShare (accOut i arg3 harg3 arg4 harg4 arg5 harg5 arg9 arg10 x0 x1 x2 x3 (k0_pay1 (F := F)))) -∗ K ⟨⟩))
      ⊢ wp frame (wpE (defs₀ (F := F)) Variants.none c none) E (cc0_attention i arg2 harg2 arg3 harg3 arg4 harg4 arg5 harg5 arg6 harg6 arg7 harg7 arg8 harg8 arg9 harg9 arg10 harg10 arg11 harg11) K := by
  simp only [cc0_attention_eq_skeleton]; unfold cc0_attention_skel
  simp only [k0_part45_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%d9, %f9, -, H9⟩, ⟨%d10, %f10, -, H10⟩, ⟨%d11, %f11, -, H11⟩, Hk⟩
  obtain rfl := harg2.eq_unread hf0; obtain rfl := harg3.eq_unread hf1; obtain rfl := harg4.eq_unread hf2; obtain rfl := harg5.eq_unread hf3; obtain rfl := harg6.eq_unread hf4; obtain rfl := harg8.eq_unread hf6
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro; funext x
    exact (pb_codes Variants.none c none i arg2 harg2 arg3 harg3 arg4 harg4 arg5 harg5 arg6 harg6 arg7 harg7 arg8 harg8 arg9 harg9 arg10 harg10 arg11 harg11 _ _ _ _ _ _ _ _ _ 9 le_rfl x (x (0 : Fin 2)).isLt).trans (by
      unfold codesOut run_A.sl.r run_A.sl.r_1 saOf lenOf; simp only [harg2.readAt_unread, harg6.readAt_unread])
  isplitl [H6]
  · iexists _; isplitr; · ipureintro; exact harg8.read_unread _
    iexact H6
  isplitl [H9]
  · iexists _; iexists _; isplitr
    swap; · iexact H9
    ipureintro; rfl
  isplitl [H10]
  · iexists _; iexists _; isplitr
    swap; · iexact H10
    ipureintro; rfl
  iexists _; isplitr
  swap; · iexact H11
  ipureintro
  rw [View.writes_append]
  refine (pb_part Variants.none c none i arg2 harg2 arg3 harg3 arg4 harg4 arg5 harg5 arg6 harg6 arg7 harg7 arg8 harg8 arg9 harg9 arg10 harg10 arg11 harg11 _ _ _ _ _ _ _ _ _ 9 le_rfl).trans ?_
  unfold accOut run_A.sl.r run_A.sl.H11_1 lenOf; rw [View.read_writes_full]; simp only [harg2.readAt_unread]

set_option maxHeartbeats 2000000 in
/-- The body at a middle point: from the inputs' contents to the codes and the new running maximum. -/
theorem run_B (c : Dev nD) (i : grid0.Coords) (arg2 : Memref sig .tc .smem S2 .i32) (harg2 : arg2.IsWhole) (arg3 : Memref sig .tc .vmem S4608x128 .bf16) (harg3 : arg3.IsWhole) (arg4 : Memref sig .tc .vmem S4608x128 .bf16) (harg4 : arg4.IsWhole) (arg5 : Memref sig .tc .vmem S1x128x4608 .bf16) (harg5 : arg5.IsWhole) (arg6 : Memref sig .tc .smem S1x1 .f32) (harg6 : arg6.IsWhole) (arg7 : Memref sig .tc .vmem S4608x128 .fp8e4m3) (harg7 : arg7.IsWhole) (arg8 : Memref sig .tc .vmem S1x1 .f32) (harg8 : arg8.IsWhole) (arg9 : Memref sig .tc .vmem S4608x512 .f32) (harg9 : arg9.IsWhole) (arg10 : Memref sig .tc .vmem S4608x512 .bf16) (harg10 : arg10.IsWhole) (arg11 : Memref sig .tc .vmem S8x128 .f32) (harg11 : arg11.IsWhole) (hc0 : ¬cond0_0 i) (hc1 : ¬cond0_1 i)
    (x0 : Vec F S2 .i32) (x1 : Vec F S4608x128 .bf16) (x2 : Vec F S4608x128 .bf16) (x3 : Vec F S1x128x4608 .bf16) (x4 : Vec F S1x1 .f32) (xs : Vec F S8x128 .f32) (xi6 : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xi6 ∗ (∃ d, owns (c : Thread nD τ) arg9 fullShare d) ∗ (∃ d, owns (c : Thread nD τ) arg10 fullShare d) ∗ owns (c : Thread nD τ) arg11 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (codesOut i arg3 harg3 arg4 harg4 arg5 harg5 arg9 arg10 x0 x1 x2 x3 x4) ∗ owns (c : Thread nD τ) arg8 fullShare xi6 ∗ (∃ d, owns (c : Thread nD τ) arg9 fullShare d) ∗ (∃ d, owns (c : Thread nD τ) arg10 fullShare d) ∗ owns (c : Thread nD τ) arg11 fullShare (accOut i arg3 harg3 arg4 harg4 arg5 harg5 arg9 arg10 x0 x1 x2 x3 xs)) -∗ K ⟨⟩))
      ⊢ wp frame (wpE (defs₀ (F := F)) Variants.none c none) E (cc0_attention i arg2 harg2 arg3 harg3 arg4 harg4 arg5 harg5 arg6 harg6 arg7 harg7 arg8 harg8 arg9 harg9 arg10 harg10 arg11 harg11) K := by
  simp only [cc0_attention_eq_skeleton]; unfold cc0_attention_skel
  simp only [k0_part45_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%d9, %f9, -, H9⟩, ⟨%d10, %f10, -, H10⟩, ⟨%f11, %hf11, H11⟩, Hk⟩
  obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg11.eq_unread hf11
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro; funext x
    exact (pb_codes Variants.none c none i arg2 harg2 arg3 harg3 arg4 harg4 arg5 harg5 arg6 harg6 arg7 harg7 arg8 harg8 arg9 harg9 arg10 harg10 arg11 harg11 _ _ _ _ _ _ _ _ _ 9 le_rfl x (x (0 : Fin 2)).isLt).trans (by
      unfold codesOut run_B.sl.r run_B.sl.r_1 saOf lenOf; simp only [harg2.readAt_unread, harg6.readAt_unread])
  isplitl [H6]
  · iexists _; isplitr; · ipureintro; exact harg8.read_unread _
    iexact H6
  isplitl [H9]
  · iexists _; iexists _; isplitr
    swap; · iexact H9
    ipureintro; rfl
  isplitl [H10]
  · iexists _; iexists _; isplitr
    swap; · iexact H10
    ipureintro; rfl
  iexists _; isplitr
  swap; · iexact H11
  ipureintro
  refine (pb_part Variants.none c none i arg2 harg2 arg3 harg3 arg4 harg4 arg5 harg5 arg6 harg6 arg7 harg7 arg8 harg8 arg9 harg9 arg10 harg10 arg11 harg11 _ _ _ _ _ _ _ _ _ 9 le_rfl).trans ?_
  unfold accOut run_B.sl.r lenOf; simp only [harg2.readAt_unread, harg11.read_unread]

set_option maxHeartbeats 2000000 in
/-- The body at the last point: from the inputs' contents to the codes, the overall maximum and the new running maximum. -/
theorem run_C (c : Dev nD) (i : grid0.Coords) (arg2 : Memref sig .tc .smem S2 .i32) (harg2 : arg2.IsWhole) (arg3 : Memref sig .tc .vmem S4608x128 .bf16) (harg3 : arg3.IsWhole) (arg4 : Memref sig .tc .vmem S4608x128 .bf16) (harg4 : arg4.IsWhole) (arg5 : Memref sig .tc .vmem S1x128x4608 .bf16) (harg5 : arg5.IsWhole) (arg6 : Memref sig .tc .smem S1x1 .f32) (harg6 : arg6.IsWhole) (arg7 : Memref sig .tc .vmem S4608x128 .fp8e4m3) (harg7 : arg7.IsWhole) (arg8 : Memref sig .tc .vmem S1x1 .f32) (harg8 : arg8.IsWhole) (arg9 : Memref sig .tc .vmem S4608x512 .f32) (harg9 : arg9.IsWhole) (arg10 : Memref sig .tc .vmem S4608x512 .bf16) (harg10 : arg10.IsWhole) (arg11 : Memref sig .tc .vmem S8x128 .f32) (harg11 : arg11.IsWhole) (hc0 : ¬cond0_0 i) (hc1 : cond0_1 i)
    (x0 : Vec F S2 .i32) (x1 : Vec F S4608x128 .bf16) (x2 : Vec F S4608x128 .bf16) (x3 : Vec F S1x128x4608 .bf16) (x4 : Vec F S1x1 .f32) (xs : Vec F S8x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (codesOut i arg3 harg3 arg4 harg4 arg5 harg5 arg9 arg10 x0 x1 x2 x3 x4) ∗ owns (c : Thread nD τ) arg8 fullShare (k0_pay2 (accOut i arg3 harg3 arg4 harg4 arg5 harg5 arg9 arg10 x0 x1 x2 x3 xs)) ∗ (∃ d, owns (c : Thread nD τ) arg9 fullShare d) ∗ (∃ d, owns (c : Thread nD τ) arg10 fullShare d) ∗ owns (c : Thread nD τ) arg11 fullShare (accOut i arg3 harg3 arg4 harg4 arg5 harg5 arg9 arg10 x0 x1 x2 x3 xs)) -∗ K ⟨⟩))
      ⊢ wp frame (wpE (defs₀ (F := F)) Variants.none c none) E (cc0_attention i arg2 harg2 arg3 harg3 arg4 harg4 arg5 harg5 arg6 harg6 arg7 harg7 arg8 harg8 arg9 harg9 arg10 harg10 arg11 harg11) K := by
  simp only [cc0_attention_eq_skeleton]; unfold cc0_attention_skel
  simp only [k0_part45_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d9, %f9, -, H9⟩, ⟨%d10, %f10, -, H10⟩, ⟨%f11, %hf11, H11⟩, Hk⟩
  obtain rfl := harg2.eq_unread hf0; obtain rfl := harg3.eq_unread hf1; obtain rfl := harg4.eq_unread hf2; obtain rfl := harg5.eq_unread hf3; obtain rfl := harg6.eq_unread hf4; obtain rfl := harg11.eq_unread hf11
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro; funext x
    exact (pb_codes Variants.none c none i arg2 harg2 arg3 harg3 arg4 harg4 arg5 harg5 arg6 harg6 arg7 harg7 arg8 harg8 arg9 harg9 arg10 harg10 arg11 harg11 _ _ _ _ _ _ _ _ _ 9 le_rfl x (x (0 : Fin 2)).isLt).trans (by
      unfold codesOut run_C.sl.r run_C.sl.r_1 saOf lenOf; simp only [harg2.readAt_unread, harg6.readAt_unread])
  isplitl [H6]
  · iexists _; isplitr
    swap; · iexact H6
    ipureintro
    rw [View.read_writes_full]
    refine congrArg k0_pay2 ?_
    unfold run_C.sl.v14 run_C.sl.r
    refine (View.readAt_full arg11.view _ _).trans ?_
    refine (pb_part Variants.none c none i arg2 harg2 arg3 harg3 arg4 harg4 arg5 harg5 arg6 harg6 arg7 harg7 arg8 harg8 arg9 harg9 arg10 harg10 arg11 harg11 _ _ _ _ _ _ _ _ _ 9 le_rfl).trans ?_
    unfold accOut lenOf; simp only [harg2.readAt_unread, harg11.read_unread]
  isplitl [H9]
  · iexists _; iexists _; isplitr
    swap; · iexact H9
    ipureintro; rfl
  isplitl [H10]
  · iexists _; iexists _; isplitr
    swap; · iexact H10
    ipureintro; rfl
  iexists _; isplitr
  swap; · iexact H11
  ipureintro
  refine (pb_part Variants.none c none i arg2 harg2 arg3 harg3 arg4 harg4 arg5 harg5 arg6 harg6 arg7 harg7 arg8 harg8 arg9 harg9 arg10 harg10 arg11 harg11 _ _ _ _ _ _ _ _ _ 9 le_rfl).trans ?_
  unfold accOut run_C.sl.r lenOf; simp only [harg2.readAt_unread, harg11.read_unread]

end Cert.KAttn.Gen
-- ==== Proof.KAttnFrame.lean ====
module

public import Idealize.ShloMosaic.Lib.Claim
public import proofs.«01_k».proof.Proof.KAttnRun

/-!
  The frame of the attention kernel: its pipeline's proof data, from the body's runs, and the launch.

  After point `t` the codes' staging buffer holds `codesT t`, the carried scratch `accS (t + 1)`; the two other scratch
  buffers hold anything. The maximum's buffer is stored at the last point alone.
-/

@[expose] public section
set_option maxRecDepth 16384

noncomputable section

namespace Cert.KAttn.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points and the windows -/

theorem hcond0_0 : ∀ t : Fin cfg0.N, cond0_0 (grid0.coords t) ↔ t.val % 48 = 0 :=
  (fun t => by
    have ht : t.val < 48 := Nat.lt_of_lt_of_eq t.isLt N_0
    have e0 : (grid0.coords t 0).val = t.val / 24 % 2 := Pipeline.Grid.coords_val t 0 (by decide) rfl
    have e1 : (grid0.coords t 1).val = t.val / 1 % 24 := Pipeline.Grid.coords_val t 1 (by decide) rfl
    simp only [cond0_0, e0, e1]
    word_cmp
   : ∀ t : Fin grid0.N, cond0_0 (grid0.coords t) ↔ t.val % 48 = 0)

theorem hcond0_1 : ∀ t : Fin cfg0.N, cond0_1 (grid0.coords t) ↔ t.val % 48 = 47 :=
  (fun t => by
    have ht : t.val < 48 := Nat.lt_of_lt_of_eq t.isLt N_0
    have e0 : (grid0.coords t 0).val = t.val / 24 % 2 := Pipeline.Grid.coords_val t 0 (by decide) rfl
    have e1 : (grid0.coords t 1).val = t.val / 1 % 24 := Pipeline.Grid.coords_val t 1 (by decide) rfl
    simp only [cond0_1, k0_cond2, e0, e1]
    word_cmp
   : ∀ t : Fin grid0.N, cond0_1 (grid0.coords t) ↔ t.val % 48 = 47)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6 : ∀ t : Fin cfg0.N, cond0_1 (grid0.coords t) → cfg0.idle 6 (grid0.coords t) = false := by decide +kernel

abbrev ms0_0 (t : Fin cfg0.N) : Memref sig .tc .smem S2 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4608x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4608x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x4608 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .smem S1x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4608x128 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1 .f32 := win0_6.stage (cfg0.slots t 6)
abbrev hs0_6 (t : Fin cfg0.N) : (ms0_6 t).IsWhole := hstage0_6 ((cfg0.slots t 6).cast nbuf0_6)
abbrev scM0_0 : Memref sig .tc .vmem S4608x512 .f32 := Memref.whole cc0_scratch0
abbrev scM0_1 : Memref sig .tc .vmem S4608x512 .bf16 := Memref.whole cc0_scratch1
abbrev scM0_2 : Memref sig .tc .vmem S8x128 .f32 := Memref.whole cc0_scratch2

/-- The frame kit's invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-! ## What the body leaves -/

/-- The codes after point `t`. -/
def codesT (c : Dev nD) (t : Fin cfg0.N) : Vec F S4608x128 .fp8e4m3 := codesOut (grid0.coords t) (ms0_1 t) (hs0_1 t) (ms0_2 t) (hs0_2 t) (ms0_3 t) (hs0_3 t) scM0_0 scM0_1 (iblk m c 0 t) (iblk m c 1 t) (iblk m c 2 t) (iblk m c 3 t) (iblk m c 4 t)

/-- The running maximum after point `t`, from the one before. -/
def accT (c : Dev nD) (t : Fin cfg0.N) (init : Vec F S8x128 .f32) : Vec F S8x128 .f32 := accOut (grid0.coords t) (ms0_1 t) (hs0_1 t) (ms0_2 t) (hs0_2 t) (ms0_3 t) (hs0_3 t) scM0_0 scM0_1 (iblk m c 0 t) (iblk m c 1 t) (iblk m c 2 t) (iblk m c 3 t) init

/-- The running maximum before point `n`: what the first point stores, then point by point. -/
def accS (c : Dev nD) : ℕ → Vec F S8x128 .f32
  | 0 => k0_pay1 (F := F)
  | n + 1 => if h : n < cfg0.N then accT m c ⟨n, h⟩ (accS c n) else accS c n

theorem accS_succ (c : Dev nD) (t : Fin cfg0.N) : accS m c (t.val + 1) = accT m c t (accS m c t.val) := dif_pos t.isLt

/-- The region invariant before point `n`: before the first every scratch at anything; afterwards the carried scratch at
    the running maximum, the others at anything. -/
def PhiS (c : Dev nD) : ℕ → sProp 𝕄
  | 0 => Pipeline.ΦA spec0 c
  | n + 1 => iprop(iprop((∃ d, owns (c : Thread nD τ) scM0_0 fullShare d) ∗ (∃ d, owns (c : Thread nD τ) scM0_1 fullShare d) ∗ owns (c : Thread nD τ) scM0_2 fullShare (accS m c (n + 1))) ∗ (∃ r, prngReg c r))

theorem PhiS_zero (c : Dev nD) (n : ℕ) (hz : n = 0) : PhiS m c n = Pipeline.ΦA spec0 c := by
  subst hz; rfl

theorem PhiS_pos (c : Dev nD) (n : ℕ) (hz : n ≠ 0) :
    PhiS m c n = iprop(iprop((∃ d, owns (c : Thread nD τ) scM0_0 fullShare d) ∗ (∃ d, owns (c : Thread nD τ) scM0_1 fullShare d) ∗ owns (c : Thread nD τ) scM0_2 fullShare (accS m c n)) ∗ (∃ r, prngReg c r)) := by
  cases n with
  | zero => exact absurd rfl hz
  | succ n => rfl

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => codesT m c t
    | ⟨6, _⟩ => k0_pay2 (accS m c (t.val + 1))
  Φ t := PhiS m c t.val
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val := by
  dsimp only [dats]; rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = codesT m c t := by dsimp only [dats]
theorem after0_6 (c : Dev nD) (t : Fin cfg0.N) : (dats m 0 c).after 6 t = k0_pay2 (accS m c (t.val + 1)) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))
/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 2000000 in
/-- The body at any point, case by case. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) from rfl, PhiS_pos m c (t.val + 1) (Nat.succ_ne_zero _), PhiS_castSucc m c t]
  have hN : t.val < 48 := lt_of_lt_of_eq t.isLt (show cfg0.N = 48 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  by_cases h0 : t.val % 48 = 0
  · have h1 : ¬ t.val % 48 = 47 := by omega
    rw [Dat.leavesExact_idle (dats m 0 c) 6 t (idleAt0_6 t (fun h => h1 ((hcond0_1 t).mp h))) (noFlush0_6 t (fun h => h1 ((hcond0_1 t).mp h)))]
    have hz : t.val = 0 := by omega
    rw [PhiS_zero m c _ hz, PhiA0_eq, accS_succ, show accS m c t.val = k0_pay1 (F := F) from by rw [hz]; rfl]
    unfold codesT accT
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
    iapply (run_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [HS0]; · iexact HS0
    isplitl [HS1]; · iexact HS1
    isplitl [HS2]; · iexact HS2
    iintro ⟨H0, H1, H2, H3, H4, H5, H6, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · by_cases h1 : t.val % 48 = 47
    · skip
      rw [show (dats m 0 c).leavesExact 6 t = owns (c : Thread nD τ) (ms0_6 t) fullShare ((dats m 0 c).after 6 t) from by
        unfold Dat.leavesExact; rw [liveAt0_6 t ((hcond0_1 t).mpr h1)], after0_6]
      have hz : t.val ≠ 0 := by omega
      rw [PhiS_pos m c _ hz, accS_succ]
      unfold codesT accT
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply (run_C c (grid0.coords t) _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      isplitl [HS2]; · iexact HS2
      iintro ⟨H0, H1, H2, H3, H4, H5, H6, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · skip
      rw [Dat.leavesExact_idle (dats m 0 c) 6 t (idleAt0_6 t (fun h => h1 ((hcond0_1 t).mp h))) (noFlush0_6 t (fun h => h1 ((hcond0_1 t).mp h)))]
      have hz : t.val ≠ 0 := by omega
      rw [PhiS_pos m c _ hz, accS_succ]
      unfold codesT accT
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply (run_B c (grid0.coords t) _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexact HS0
      isplitl [HS1]; · iexact HS1
      isplitl [HS2]; · iexact HS2
      iintro ⟨H0, H1, H2, H3, H4, H5, H6, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 from rfl, PhiS_zero m c 0 rfl]
  try exact Idealize.SL.BI.Entails.refl _

/-- After the last point the invariant gives the scratch buffers back, at some contents. -/
theorem hout (c : Dev nD) : (dats m 0 c).Φ (Fin.last cfg0.N) ⊢ Pipeline.ΦA spec0 c := by
  rw [show (dats m 0 c).Φ (Fin.last cfg0.N) = PhiS m c cfg0.N from rfl,
    PhiS_pos m c _ (by have : cfg0.N = 48 := N_0; omega), PhiA0_eq]
  iintro ⟨⟨HS0, HS1, HS2⟩, Hg⟩
  isplitl [HS0 HS1 HS2]
  · isplitl [HS0]; · iexact HS0
    isplitl [HS1]; · iexact HS1
    iexists _; iexact HS2
  iexact Hg

/-! ## The run and the frame -/

set_option backward.isDefEq.respectTransparency.types false in
/-- The launch: every execution ends with the pipeline's arrays as the proof data say, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: the arguments end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KAttn.Gen
-- ==== Proof.Common.lean ====
/-
  Hand-written. Small facts that the value proofs of the several calls share.
-/
module

public import Idealize.ShloMosaic.Lib.Pipeline.ValueKit
public import Idealize.ShloMosaic.Lib.Pointwise

@[expose] public section

noncomputable section

namespace Cert.Proof.Common

open Idealize.ShloMosaic

/-- The one index of a scalar. -/
def pt : (⟨0, ![]⟩ : Shape).Idx := fun a => a.elim0

/-- A scalar reshaped to a one-by-one array reads the scalar. -/
theorem scalar_read {α : Type} (X : (⟨0, ![]⟩ : Shape).Idx → α) (h) (i) :
    shapeCast (⟨2, ![1, 1]⟩ : Shape) X h i = X pt :=
  congrArg X (funext fun a => a.elim0)

end Cert.Proof.Common

end
-- ==== Proof.AttnMath.lean ====
/-
  Hand-written. THE ATTENTION, AS MATHEMATICS: what one query's row of scores makes of the values.
-/
module

public import Idealize.ShloMosaic.Lib.Pipeline.ValueKit
public import Idealize.ShloMosaic.Lib.Pointwise
public import proofs.«01_k».proof.Proof.Common

@[expose] public section

set_option maxRecDepth 16384

noncomputable section

namespace Cert.Proof.AttnMath

open Cert.Proof.Common
open Idealize.ShloMosaic Idealize.ShloMosaic.TcCoe Idealize.SL.Sem
open Idealize.ShloMosaic.Pipeline (Dat)

/-- The quantiser: divide by the scale, clamp to the largest code. -/
def quantise (h s : EReal) : EReal :=
  min (Ideal.ofBits .f32 0x43E00000#32) (max (Ideal.ofBits .f32 0xC3E00000#32) (Ideal.div h s))

/-- The absolute value. -/
def magnitude (x : EReal) : EReal := max x (-x)

/-- The reciprocal of the square root of the head dimension. -/
def invSqrtD : EReal := (((Real.sqrt 128)⁻¹ : ℝ) : EReal)

/-- The binary logarithm of e. -/
def log2E : EReal := (((Real.log 2)⁻¹ : ℝ) : EReal)

/-- Their product. -/
def scale : EReal := (((Real.sqrt 128)⁻¹ * (Real.log 2)⁻¹ : ℝ) : EReal)

/-- Whether key `j` is a text key past the text's length. -/
def masked (len : BitVec 32) (j : ℕ) : BitVec 1 :=
  Scalar.andi (Scalar.cmpi .sge (BitVec.ofNat 32 j) len) (Scalar.cmpi .slt (BitVec.ofNat 32 j) 512#32)

/-- A query's score against a key, scaled; minus infinity where the key is masked. -/
def score (len : BitVec 32) (q : Fin 128 → EReal) (k : Fin 4608 → Fin 128 → EReal) (j : Fin 4608) : EReal :=
  if masked len j = 1#1 then ⊥ else (∑ d, q d * k j d) * invSqrtD * log2E

/-- The least whole number above. -/
def ceilE (x : EReal) : EReal := Ideal.liftRound Int.ceil x

/-- A key's weight: two to the score less the greatest score rounded up. -/
def weight (t : Fin 4608 → EReal) (j : Fin 4608) : EReal := Ideal.exp2 (t j - ceilE (⨆ i, t i))

/-- The values under the weights, over the sum of the weights. -/
def attend (t v : Fin 4608 → EReal) : EReal := Ideal.div (∑ j, weight t j * v j) (∑ j, weight t j)

/-- The attention of head `h` of batch entry `b` at query `i`, channel `d`: queries in the first half of the columns of `qk`, keys in
    the second, 128 channels per head; the values with their channels down the rows. -/
def attention (qk : FVec Ideal ⟨2, ![9216, 6144]⟩ .bf16) (vt : FVec Ideal ⟨3, ![2, 3072, 4608]⟩ .bf16) (txt : (⟨1, ![2]⟩ : Shape).Idx → BitVec 32)
    (b : Fin 2) (h : Fin 24) (i : Fin 4608) (d : Fin 128) : EReal :=
  attend
    (score (txt (ix1 b)) (fun d => qk (ix2 (⟨4608 * b.val + i.val, by omega⟩ : Fin 9216) (⟨128 * h.val + d.val, by omega⟩ : Fin 6144)))
      (fun j d => qk (ix2 (⟨4608 * b.val + j.val, by omega⟩ : Fin 9216) (⟨3072 + (128 * h.val + d.val), by omega⟩ : Fin 6144))))
    (fun j => vt (ix3 b (⟨128 * h.val + d.val, by omega⟩ : Fin 3072) j))

/-- The codes of the attention, the heads side by side. -/
def CODES (qk : FVec Ideal ⟨2, ![9216, 6144]⟩ .bf16) (vt : FVec Ideal ⟨3, ![2, 3072, 4608]⟩ .bf16) (txt : (⟨1, ![2]⟩ : Shape).Idx → BitVec 32)
    (sa : FVec Ideal ⟨0, ![]⟩ .f32) (y : (⟨2, ![9216, 3072]⟩ : Shape).Idx) : EReal :=
  have h0 : (y (0 : Fin 2)).val < 9216 := (y (0 : Fin 2)).isLt
  have h1 : (y (1 : Fin 2)).val < 3072 := (y (1 : Fin 2)).isLt
  quantise (attention qk vt txt ⟨(y (0 : Fin 2)).val / 4608, by omega⟩ ⟨(y (1 : Fin 2)).val / 128, by omega⟩
    ⟨(y (0 : Fin 2)).val % 4608, by omega⟩ ⟨(y (1 : Fin 2)).val % 128, by omega⟩) (sa pt)

/-- The greatest absolute value of the attention. -/
def AMAX (qk : FVec Ideal ⟨2, ![9216, 6144]⟩ .bf16) (vt : FVec Ideal ⟨3, ![2, 3072, 4608]⟩ .bf16) (txt : (⟨1, ![2]⟩ : Shape).Idx → BitVec 32)
    (y : (⟨2, ![1, 1]⟩ : Shape).Idx) : EReal :=
  ⨆ (b : Fin 2) (h : Fin 24) (i : Fin 4608) (d : Fin 128), magnitude (attention qk vt txt b h i d)

end Cert.Proof.AttnMath

end
-- ==== Proof.AttnFold.lean ====
/-
  Hand-written. THE ATTENTION'S FOLDS: what each stretch of the kernel's folds over the row blocks of a block of scores holds.
-/
module

public import proofs.«01_k».proof.Proof.Gen.KAttnIdeal.Skeleton
public import proofs.«01_k».proof.Proof.Common

@[expose] public section

set_option maxRecDepth 16384

noncomputable section

namespace Cert.Proof.AttnFold

open Cert.Proof.Common
open Idealize.ShloMosaic Idealize.ShloMosaic.TcCoe Idealize.SL.Sem
open Idealize.ShloMosaic.Pipeline (Dat)
open Cert.KAttnIdeal Cert.KAttnIdeal.Gen

/-- The greatest of `z` and `n` entries of column `l` of `w`, eight rows apart, from row `8 * lo + a`. -/
def run (w : ℕ → ℕ → EReal) (a l lo n : ℕ) (z : EReal) : EReal :=
  Nat.rec z (fun k acc => max acc (w (8 * (lo + k) + a) l)) n

/-- `z` plus `n` entries of column `l` of `w`, eight rows apart, from row `8 * lo + a`. -/
def tot (w : ℕ → ℕ → EReal) (a l lo n : ℕ) (z : EReal) : EReal :=
  Nat.rec z (fun k acc => acc + w (8 * (lo + k) + a) l) n

/-- Two runs end to end. -/
theorem run_run (w : ℕ → ℕ → EReal) (a l lo n lo' n' : ℕ) (z : EReal) (h : lo' = lo + n) :
    run w a l lo' n' (run w a l lo n z) = run w a l lo (n + n') z := by
  subst h
  induction n' with
  | zero => rfl
  | succ k ih =>
    show max (run w a l (lo + n) k (run w a l lo n z)) _ = max (run w a l lo (n + k) z) _
    rw [ih, Nat.add_assoc]
    rfl

/-- Two sums end to end. -/
theorem tot_tot (w : ℕ → ℕ → EReal) (a l lo n lo' n' : ℕ) (z : EReal) (h : lo' = lo + n) :
    tot w a l lo' n' (tot w a l lo n z) = tot w a l lo (n + n') z := by
  subst h
  induction n' with
  | zero => rfl
  | succ k ih =>
    show tot w a l (lo + n) k (tot w a l lo n z) + _ = tot w a l lo (n + k) z + _
    rw [ih, Nat.add_assoc]
    rfl

/-- A single further entry. -/
theorem run_one (w : ℕ → ℕ → EReal) (a l lo : ℕ) (z : EReal) :
    max z (w (8 * lo + a) l) = run w a l lo 1 z := rfl

/-- The greatest entry of a column among the rows with one remainder by eight. -/
def column (w : ℕ → ℕ → EReal) (a l : ℕ) : EReal := run w a l 1 63 (w a l)

/-- The sum of the entries of a column among the rows with one remainder by eight. -/
def columnSum (w : ℕ → ℕ → EReal) (a l : ℕ) : EReal := tot w a l 1 63 (w a l)

/-- A stretch of the block's row blocks. -/
theorem pay5_at (v1 : BitVec 32) (v17 : FVec Ideal S512x128 .bf16) (v19 : FVec Ideal S512x128 .bf16) (w : ℕ → ℕ → EReal)
    (hv : ∀ (r : Fin 512) (l : Fin 512), (k0_pay4 (F := Ideal) v1 v17 v19) (ix2 r l) = w r.val l.val) (a : Fin 8) (l : Fin 512) :
    (k0_pay5 (F := Ideal) v1 v17 v19 (ix2 a l) : EReal) = run w a l 1 16 (w a l) := by
  pointwise [k0_pay5]
  simp only [hv] <;> rfl

/-- A stretch of the block's row blocks. -/
theorem pay6_at (v30 : FVec Ideal S512x512 .f32) (v63 : FVec Ideal S8x512 .f32) (w : ℕ → ℕ → EReal)
    (hv : ∀ (r : Fin 512) (l : Fin 512), v30 (ix2 r l) = w r.val l.val) (a : Fin 8) (l : Fin 512) :
    (k0_pay6 (F := Ideal) v30 v63 (ix2 a l) : EReal) = run w a l 17 30 (v63 (ix2 a l)) := by
  pointwise [k0_pay6]
  simp only [hv] <;> rfl

/-- A stretch of the block's row blocks. -/
theorem pay7_at (v18 : FVec Ideal S8x512 .f32) (v30 : FVec Ideal S512x512 .f32) (v123 : FVec Ideal S8x512 .f32) (w : ℕ → ℕ → EReal)
    (hv : ∀ (r : Fin 512) (l : Fin 512), v30 (ix2 r l) = w r.val l.val) (a : Fin 8) (l : Fin 512) :
    (k0_pay7 (F := Ideal) v18 v30 v123 (ix2 a l) : EReal) = max (v18 (ix2 a l)) (run w a l 47 17 (v123 (ix2 a l))) := by
  pointwise [k0_pay7]
  simp only [hv] <;> rfl

/-- The whole maximum over key block 0's scores, folded into what the earlier blocks gave. -/
theorem greatest0 (s : FVec Ideal S8x512 .f32) (v1 : BitVec 32) (v17 : FVec Ideal S512x128 .bf16) (v19 : FVec Ideal S512x128 .bf16) (w : ℕ → ℕ → EReal)
    (hv : ∀ (r : Fin 512) (l : Fin 512), (k0_pay4 (F := Ideal) v1 v17 v19) (ix2 r l) = w r.val l.val) (a : Fin 8) (l : Fin 512) :
    ((k0_pay7 (F := Ideal) s (k0_pay4 (F := Ideal) v1 v17 v19) (k0_pay6 (F := Ideal) (k0_pay4 (F := Ideal) v1 v17 v19) (k0_pay5 (F := Ideal) v1 v17 v19))) (ix2 a l) : EReal) = max (s (ix2 a l)) (column w a l) := by
  rw [pay7_at _ _ _ w hv]
  rw [pay6_at _ _ w hv]
  rw [pay5_at _ _ _ w hv]
  rw [run_run _ _ _ _ _ _ _ _ (by norm_num), run_run _ _ _ _ _ _ _ _ (by norm_num)]
  rfl

/-- A stretch of the block's row blocks. -/
theorem pay10_at (v17 : FVec Ideal S512x128 .bf16) (v162 : FVec Ideal S512x128 .bf16) (w : ℕ → ℕ → EReal)
    (hv : ∀ (r : Fin 512) (l : Fin 512), (k0_pay9 (F := Ideal) v17 v162) (ix2 r l) = w r.val l.val) (a : Fin 8) (l : Fin 512) :
    (k0_pay10 (F := Ideal) v17 v162 (ix2 a l) : EReal) = run w a l 1 6 (w a l) := by
  pointwise [k0_pay10]
  simp only [hv] <;> rfl

/-- One row block. -/
theorem pay11_at (v17 : FVec Ideal S512x128 .bf16) (v162 : FVec Ideal S512x128 .bf16) (w : ℕ → ℕ → EReal)
    (hv : ∀ (r : Fin 512) (l : Fin 512), (k0_pay9 (F := Ideal) v17 v162) (ix2 r l) = w r.val l.val) (a : Fin 8) (l : Fin 512) :
    (k0_pay11 (F := Ideal) v17 v162 (ix2 a l) : EReal) = w (8 * 7 + a) l := by
  pointwise [k0_pay11]
  simp only [hv] <;> rfl

/-- A stretch of the block's row blocks. -/
theorem pay12_at (v163 : FVec Ideal S512x512 .f32) (v176 : FVec Ideal S8x512 .f32) (v177 : FVec Ideal S8x512 .f32) (w : ℕ → ℕ → EReal)
    (hv : ∀ (r : Fin 512) (l : Fin 512), v163 (ix2 r l) = w r.val l.val) (a : Fin 8) (l : Fin 512) :
    (k0_pay12 (F := Ideal) v163 v176 v177 (ix2 a l) : EReal) = run w a l 8 29 (max (v176 (ix2 a l)) (v177 (ix2 a l))) := by
  pointwise [k0_pay12]
  simp only [hv] <;> rfl

/-- One row block. -/
theorem pay13_at (v163 : FVec Ideal S512x512 .f32) (w : ℕ → ℕ → EReal)
    (hv : ∀ (r : Fin 512) (l : Fin 512), v163 (ix2 r l) = w r.val l.val) (a : Fin 8) (l : Fin 512) :
    (k0_pay13 (F := Ideal) v163 (ix2 a l) : EReal) = w (8 * 37 + a) l := by
  pointwise [k0_pay13]
  simp only [hv] <;> rfl

/-- A stretch of the block's row blocks. -/
theorem pay14_at (v158 : FVec Ideal S8x512 .f32) (v163 : FVec Ideal S512x512 .f32) (v236 : FVec Ideal S8x512 .f32) (v237 : FVec Ideal S8x512 .f32) (w : ℕ → ℕ → EReal)
    (hv : ∀ (r : Fin 512) (l : Fin 512), v163 (ix2 r l) = w r.val l.val) (a : Fin 8) (l : Fin 512) :
    (k0_pay14 (F := Ideal) v158 v163 v236 v237 (ix2 a l) : EReal) = max (v158 (ix2 a l)) (run w a l 38 26 (max (v236 (ix2 a l)) (v237 (ix2 a l)))) := by
  pointwise [k0_pay14]
  simp only [hv] <;> rfl

/-- The whole maximum over key block 1's scores, folded into what the earlier blocks gave. -/
theorem greatest1 (s : FVec Ideal S8x512 .f32) (v17 : FVec Ideal S512x128 .bf16) (v162 : FVec Ideal S512x128 .bf16) (w : ℕ → ℕ → EReal)
    (hv : ∀ (r : Fin 512) (l : Fin 512), (k0_pay9 (F := Ideal) v17 v162) (ix2 r l) = w r.val l.val) (a : Fin 8) (l : Fin 512) :
    ((k0_pay14 (F := Ideal) s (k0_pay9 (F := Ideal) v17 v162) (k0_pay12 (F := Ideal) (k0_pay9 (F := Ideal) v17 v162) (k0_pay10 (F := Ideal) v17 v162) (k0_pay11 (F := Ideal) v17 v162)) (k0_pay13 (F := Ideal) (k0_pay9 (F := Ideal) v17 v162))) (ix2 a l) : EReal) = max (s (ix2 a l)) (column w a l) := by
  rw [pay14_at _ _ _ _ w hv]
  rw [pay13_at _ w hv]
  rw [pay12_at _ _ _ w hv]
  rw [pay11_at _ _ w hv]
  rw [pay10_at _ _ w hv]
  simp only [run_one]
  rw [run_run _ _ _ _ _ _ _ _ (by norm_num), run_run _ _ _ _ _ _ _ _ (by norm_num), run_run _ _ _ _ _ _ _ _ (by norm_num), run_run _ _ _ _ _ _ _ _ (by norm_num)]
  rfl

/-- A stretch of the block's row blocks. -/
theorem pay17_at (v17 : FVec Ideal S512x128 .bf16) (v295 : FVec Ideal S512x128 .bf16) (w : ℕ → ℕ → EReal)
    (hv : ∀ (r : Fin 512) (l : Fin 512), (k0_pay16 (F := Ideal) v17 v295) (ix2 r l) = w r.val l.val) (a : Fin 8) (l : Fin 512) :
    (k0_pay17 (F := Ideal) v17 v295 (ix2 a l) : EReal) = run w a l 1 27 (w a l) := by
  pointwise [k0_pay17]
  simp only [hv] <;> rfl

/-- A stretch of the block's row blocks. -/
theorem pay18_at (v296 : FVec Ideal S512x512 .f32) (v351 : FVec Ideal S8x512 .f32) (w : ℕ → ℕ → EReal)
    (hv : ∀ (r : Fin 512) (l : Fin 512), v296 (ix2 r l) = w r.val l.val) (a : Fin 8) (l : Fin 512) :
    (k0_pay18 (F := Ideal) v296 v351 (ix2 a l) : EReal) = run w a l 28 30 (v351 (ix2 a l)) := by
  pointwise [k0_pay18]
  simp only [hv] <;> rfl

/-- A stretch of the block's row blocks. -/
theorem pay19_at (v291 : FVec Ideal S8x512 .f32) (v296 : FVec Ideal S512x512 .f32) (v411 : FVec Ideal S8x512 .f32) (w : ℕ → ℕ → EReal)
    (hv : ∀ (r : Fin 512) (l : Fin 512), v296 (ix2 r l) = w r.val l.val) (a : Fin 8) (l : Fin 512) :
    (k0_pay19 (F := Ideal) v291 v296 v411 (ix2 a l) : EReal) = max (v291 (ix2 a l)) (run w a l 58 6 (v411 (ix2 a l))) := by
  pointwise [k0_pay19]
  simp only [hv] <;> rfl

/-- The whole maximum over key block 2's scores, folded into what the earlier blocks gave. -/
theorem greatest2 (s : FVec Ideal S8x512 .f32) (v17 : FVec Ideal S512x128 .bf16) (v295 : FVec Ideal S512x128 .bf16) (w : ℕ → ℕ → EReal)
    (hv : ∀ (r : Fin 512) (l : Fin 512), (k0_pay16 (F := Ideal) v17 v295) (ix2 r l) = w r.val l.val) (a : Fin 8) (l : Fin 512) :
    ((k0_pay19 (F := Ideal) s (k0_pay16 (F := Ideal) v17 v295) (k0_pay18 (F := Ideal) (k0_pay16 (F := Ideal) v17 v295) (k0_pay17 (F := Ideal) v17 v295))) (ix2 a l) : EReal) = max (s (ix2 a l)) (column w a l) := by
  rw [pay19_at _ _ _ w hv]
  rw [pay18_at _ _ w hv]
  rw [pay17_at _ _ w hv]
  rw [run_run _ _ _ _ _ _ _ _ (by norm_num), run_run _ _ _ _ _ _ _ _ (by norm_num)]
  rfl

/-- A stretch of the block's row blocks. -/
theorem pay22_at (v17 : FVec Ideal S512x128 .bf16) (v428 : FVec Ideal S512x128 .bf16) (w : ℕ → ℕ → EReal)
    (hv : ∀ (r : Fin 512) (l : Fin 512), (k0_pay21 (F := Ideal) v17 v428) (ix2 r l) = w r.val l.val) (a : Fin 8) (l : Fin 512) :
    (k0_pay22 (F := Ideal) v17 v428 (ix2 a l) : EReal) = run w a l 1 17 (w a l) := by
  pointwise [k0_pay22]
  simp only [hv] <;> rfl

/-- One row block. -/
theorem pay23_at (v17 : FVec Ideal S512x128 .bf16) (v428 : FVec Ideal S512x128 .bf16) (w : ℕ → ℕ → EReal)
    (hv : ∀ (r : Fin 512) (l : Fin 512), (k0_pay21 (F := Ideal) v17 v428) (ix2 r l) = w r.val l.val) (a : Fin 8) (l : Fin 512) :
    (k0_pay23 (F := Ideal) v17 v428 (ix2 a l) : EReal) = w (8 * 18 + a) l := by
  pointwise [k0_pay23]
  simp only [hv] <;> rfl

/-- A stretch of the block's row blocks. -/
theorem pay24_at (v429 : FVec Ideal S512x512 .f32) (v464 : FVec Ideal S8x512 .f32) (v465 : FVec Ideal S8x512 .f32) (w : ℕ → ℕ → EReal)
    (hv : ∀ (r : Fin 512) (l : Fin 512), v429 (ix2 r l) = w r.val l.val) (a : Fin 8) (l : Fin 512) :
    (k0_pay24 (F := Ideal) v429 v464 v465 (ix2 a l) : EReal) = run w a l 19 29 (max (v464 (ix2 a l)) (v465 (ix2 a l))) := by
  pointwise [k0_pay24]
  simp only [hv] <;> rfl

/-- One row block. -/
theorem pay25_at (v429 : FVec Ideal S512x512 .f32) (w : ℕ → ℕ → EReal)
    (hv : ∀ (r : Fin 512) (l : Fin 512), v429 (ix2 r l) = w r.val l.val) (a : Fin 8) (l : Fin 512) :
    (k0_pay25 (F := Ideal) v429 (ix2 a l) : EReal) = w (8 * 48 + a) l := by
  pointwise [k0_pay25]
  simp only [hv] <;> rfl

/-- A stretch of the block's row blocks. -/
theorem pay26_at (v424 : FVec Ideal S8x512 .f32) (v429 : FVec Ideal S512x512 .f32) (v524 : FVec Ideal S8x512 .f32) (v525 : FVec Ideal S8x512 .f32) (w : ℕ → ℕ → EReal)
    (hv : ∀ (r : Fin 512) (l : Fin 512), v429 (ix2 r l) = w r.val l.val) (a : Fin 8) (l : Fin 512) :
    (k0_pay26 (F := Ideal) v424 v429 v524 v525 (ix2 a l) : EReal) = max (v424 (ix2 a l)) (run w a l 49 15 (max (v524 (ix2 a l)) (v525 (ix2 a l)))) := by
  pointwise [k0_pay26]
  simp only [hv] <;> rfl

/-- The whole maximum over key block 3's scores, folded into what the earlier blocks gave. -/
theorem greatest3 (s : FVec Ideal S8x512 .f32) (v17 : FVec Ideal S512x128 .bf16) (v428 : FVec Ideal S512x128 .bf16) (w : ℕ → ℕ → EReal)
    (hv : ∀ (r : Fin 512) (l : Fin 512), (k0_pay21 (F := Ideal) v17 v428) (ix2 r l) = w r.val l.val) (a : Fin 8) (l : Fin 512) :
    ((k0_pay26 (F := Ideal) s (k0_pay21 (F := Ideal) v17 v428) (k0_pay24 (F := Ideal) (k0_pay21 (F := Ideal) v17 v428) (k0_pay22 (F := Ideal) v17 v428) (k0_pay23 (F := Ideal) v17 v428)) (k0_pay25 (F := Ideal) (k0_pay21 (F := Ideal) v17 v428))) (ix2 a l) : EReal) = max (s (ix2 a l)) (column w a l) := by
  rw [pay26_at _ _ _ _ w hv]
  rw [pay25_at _ w hv]
  rw [pay24_at _ _ _ w hv]
  rw [pay23_at _ _ w hv]
  rw [pay22_at _ _ w hv]
  simp only [run_one]
  rw [run_run _ _ _ _ _ _ _ _ (by norm_num), run_run _ _ _ _ _ _ _ _ (by norm_num), run_run _ _ _ _ _ _ _ _ (by norm_num), run_run _ _ _ _ _ _ _ _ (by norm_num)]
  rfl

/-- A stretch of the block's row blocks. -/
theorem pay29_at (v17 : FVec Ideal S512x128 .bf16) (v561 : FVec Ideal S512x128 .bf16) (w : ℕ → ℕ → EReal)
    (hv : ∀ (r : Fin 512) (l : Fin 512), (k0_pay28 (F := Ideal) v17 v561) (ix2 r l) = w r.val l.val) (a : Fin 8) (l : Fin 512) :
    (k0_pay29 (F := Ideal) v17 v561 (ix2 a l) : EReal) = run w a l 1 8 (w a l) := by
  pointwise [k0_pay29]
  simp only [hv] <;> rfl

/-- A stretch of the block's row blocks. -/
theorem pay30_at (v562 : FVec Ideal S512x512 .f32) (v579 : FVec Ideal S8x512 .f32) (w : ℕ → ℕ → EReal)
    (hv : ∀ (r : Fin 512) (l : Fin 512), v562 (ix2 r l) = w r.val l.val) (a : Fin 8) (l : Fin 512) :
    (k0_pay30 (F := Ideal) v562 v579 (ix2 a l) : EReal) = run w a l 9 30 (v579 (ix2 a l)) := by
  pointwise [k0_pay30]
  simp only [hv] <;> rfl

/-- A stretch of the block's row blocks. -/
theorem pay31_at (v557 : FVec Ideal S8x512 .f32) (v562 : FVec Ideal S512x512 .f32) (v639 : FVec Ideal S8x512 .f32) (w : ℕ → ℕ → EReal)
    (hv : ∀ (r : Fin 512) (l : Fin 512), v562 (ix2 r l) = w r.val l.val) (a : Fin 8) (l : Fin 512) :
    (k0_pay31 (F := Ideal) v557 v562 v639 (ix2 a l) : EReal) = max (v557 (ix2 a l)) (run w a l 39 25 (v639 (ix2 a l))) := by
  pointwise [k0_pay31]
  simp only [hv] <;> rfl

/-- The whole maximum over key block 4's scores, folded into what the earlier blocks gave. -/
theorem greatest4 (s : FVec Ideal S8x512 .f32) (v17 : FVec Ideal S512x128 .bf16) (v561 : FVec Ideal S512x128 .bf16) (w : ℕ → ℕ → EReal)
    (hv : ∀ (r : Fin 512) (l : Fin 512), (k0_pay28 (F := Ideal) v17 v561) (ix2 r l) = w r.val l.val) (a : Fin 8) (l : Fin 512) :
    ((k0_pay31 (F := Ideal) s (k0_pay28 (F := Ideal) v17 v561) (k0_pay30 (F := Ideal) (k0_pay28 (F := Ideal) v17 v561) (k0_pay29 (F := Ideal) v17 v561))) (ix2 a l) : EReal) = max (s (ix2 a l)) (column w a l) := by
  rw [pay31_at _ _ _ w hv]
  rw [pay30_at _ _ w hv]
  rw [pay29_at _ _ w hv]
  rw [run_run _ _ _ _ _ _ _ _ (by norm_num), run_run _ _ _ _ _ _ _ _ (by norm_num)]
  rfl

/-- A stretch of the block's row blocks. -/
theorem pay34_at (v17 : FVec Ideal S512x128 .bf16) (v694 : FVec Ideal S512x128 .bf16) (w : ℕ → ℕ → EReal)
    (hv : ∀ (r : Fin 512) (l : Fin 512), (k0_pay33 (F := Ideal) v17 v694) (ix2 r l) = w r.val l.val) (a : Fin 8) (l : Fin 512) :
    (k0_pay34 (F := Ideal) v17 v694 (ix2 a l) : EReal) = run w a l 1 28 (w a l) := by
  pointwise [k0_pay34]
  simp only [hv] <;> rfl

/-- One row block. -/
theorem pay35_at (v17 : FVec Ideal S512x128 .bf16) (v694 : FVec Ideal S512x128 .bf16) (w : ℕ → ℕ → EReal)
    (hv : ∀ (r : Fin 512) (l : Fin 512), (k0_pay33 (F := Ideal) v17 v694) (ix2 r l) = w r.val l.val) (a : Fin 8) (l : Fin 512) :
    (k0_pay35 (F := Ideal) v17 v694 (ix2 a l) : EReal) = w (8 * 29 + a) l := by
  pointwise [k0_pay35]
  simp only [hv] <;> rfl

/-- A stretch of the block's row blocks. -/
theorem pay36_at (v695 : FVec Ideal S512x512 .f32) (v752 : FVec Ideal S8x512 .f32) (v753 : FVec Ideal S8x512 .f32) (w : ℕ → ℕ → EReal)
    (hv : ∀ (r : Fin 512) (l : Fin 512), v695 (ix2 r l) = w r.val l.val) (a : Fin 8) (l : Fin 512) :
    (k0_pay36 (F := Ideal) v695 v752 v753 (ix2 a l) : EReal) = run w a l 30 29 (max (v752 (ix2 a l)) (v753 (ix2 a l))) := by
  pointwise [k0_pay36]
  simp only [hv] <;> rfl

/-- One row block. -/
theorem pay37_at (v695 : FVec Ideal S512x512 .f32) (w : ℕ → ℕ → EReal)
    (hv : ∀ (r : Fin 512) (l : Fin 512), v695 (ix2 r l) = w r.val l.val) (a : Fin 8) (l : Fin 512) :
    (k0_pay37 (F := Ideal) v695 (ix2 a l) : EReal) = w (8 * 59 + a) l := by
  pointwise [k0_pay37]
  simp only [hv] <;> rfl

/-- A stretch of the block's row blocks. -/
theorem pay38_at (v690 : FVec Ideal S8x512 .f32) (v695 : FVec Ideal S512x512 .f32) (v812 : FVec Ideal S8x512 .f32) (v813 : FVec Ideal S8x512 .f32) (w : ℕ → ℕ → EReal)
    (hv : ∀ (r : Fin 512) (l : Fin 512), v695 (ix2 r l) = w r.val l.val) (a : Fin 8) (l : Fin 512) :
    (k0_pay38 (F := Ideal) v690 v695 v812 v813 (ix2 a l) : EReal) = max (v690 (ix2 a l)) (run w a l 60 4 (max (v812 (ix2 a l)) (v813 (ix2 a l)))) := by
  pointwise [k0_pay38]
  simp only [hv] <;> rfl

/-- The whole maximum over key block 5's scores, folded into what the earlier blocks gave. -/
theorem greatest5 (s : FVec Ideal S8x512 .f32) (v17 : FVec Ideal S512x128 .bf16) (v694 : FVec Ideal S512x128 .bf16) (w : ℕ → ℕ → EReal)
    (hv : ∀ (r : Fin 512) (l : Fin 512), (k0_pay33 (F := Ideal) v17 v694) (ix2 r l) = w r.val l.val) (a : Fin 8) (l : Fin 512) :
    ((k0_pay38 (F := Ideal) s (k0_pay33 (F := Ideal) v17 v694) (k0_pay36 (F := Ideal) (k0_pay33 (F := Ideal) v17 v694) (k0_pay34 (F := Ideal) v17 v694) (k0_pay35 (F := Ideal) v17 v694)) (k0_pay37 (F := Ideal) (k0_pay33 (F := Ideal) v17 v694))) (ix2 a l) : EReal) = max (s (ix2 a l)) (column w a l) := by
  rw [pay38_at _ _ _ _ w hv]
  rw [pay37_at _ w hv]
  rw [pay36_at _ _ _ w hv]
  rw [pay35_at _ _ w hv]
  rw [pay34_at _ _ w hv]
  simp only [run_one]
  rw [run_run _ _ _ _ _ _ _ _ (by norm_num), run_run _ _ _ _ _ _ _ _ (by norm_num), run_run _ _ _ _ _ _ _ _ (by norm_num), run_run _ _ _ _ _ _ _ _ (by norm_num)]
  rfl

/-- A stretch of the block's row blocks. -/
theorem pay41_at (v17 : FVec Ideal S512x128 .bf16) (v827 : FVec Ideal S512x128 .bf16) (w : ℕ → ℕ → EReal)
    (hv : ∀ (r : Fin 512) (l : Fin 512), (k0_pay40 (F := Ideal) v17 v827) (ix2 r l) = w r.val l.val) (a : Fin 8) (l : Fin 512) :
    (k0_pay41 (F := Ideal) v17 v827 (ix2 a l) : EReal) = run w a l 1 19 (w a l) := by
  pointwise [k0_pay41]
  simp only [hv] <;> rfl

/-- A stretch of the block's row blocks. -/
theorem pay42_at (v828 : FVec Ideal S512x512 .f32) (v867 : FVec Ideal S8x512 .f32) (w : ℕ → ℕ → EReal)
    (hv : ∀ (r : Fin 512) (l : Fin 512), v828 (ix2 r l) = w r.val l.val) (a : Fin 8) (l : Fin 512) :
    (k0_pay42 (F := Ideal) v828 v867 (ix2 a l) : EReal) = run w a l 20 30 (v867 (ix2 a l)) := by
  pointwise [k0_pay42]
  simp only [hv] <;> rfl

/-- A stretch of the block's row blocks. -/
theorem pay43_at (v823 : FVec Ideal S8x512 .f32) (v828 : FVec Ideal S512x512 .f32) (v927 : FVec Ideal S8x512 .f32) (w : ℕ → ℕ → EReal)
    (hv : ∀ (r : Fin 512) (l : Fin 512), v828 (ix2 r l) = w r.val l.val) (a : Fin 8) (l : Fin 512) :
    (k0_pay43 (F := Ideal) v823 v828 v927 (ix2 a l) : EReal) = max (v823 (ix2 a l)) (run w a l 50 14 (v927 (ix2 a l))) := by
  pointwise [k0_pay43]
  simp only [hv] <;> rfl

/-- The whole maximum over key block 6's scores, folded into what the earlier blocks gave. -/
theorem greatest6 (s : FVec Ideal S8x512 .f32) (v17 : FVec Ideal S512x128 .bf16) (v827 : FVec Ideal S512x128 .bf16) (w : ℕ → ℕ → EReal)
    (hv : ∀ (r : Fin 512) (l : Fin 512), (k0_pay40 (F := Ideal) v17 v827) (ix2 r l) = w r.val l.val) (a : Fin 8) (l : Fin 512) :
    ((k0_pay43 (F := Ideal) s (k0_pay40 (F := Ideal) v17 v827) (k0_pay42 (F := Ideal) (k0_pay40 (F := Ideal) v17 v827) (k0_pay41 (F := Ideal) v17 v827))) (ix2 a l) : EReal) = max (s (ix2 a l)) (column w a l) := by
  rw [pay43_at _ _ _ w hv]
  rw [pay42_at _ _ w hv]
  rw [pay41_at _ _ w hv]
  rw [run_run _ _ _ _ _ _ _ _ (by norm_num), run_run _ _ _ _ _ _ _ _ (by norm_num)]
  rfl

/-- A stretch of the block's row blocks. -/
theorem pay46_at (v17 : FVec Ideal S512x128 .bf16) (v960 : FVec Ideal S512x128 .bf16) (w : ℕ → ℕ → EReal)
    (hv : ∀ (r : Fin 512) (l : Fin 512), (k0_pay45 (F := Ideal) v17 v960) (ix2 r l) = w r.val l.val) (a : Fin 8) (l : Fin 512) :
    (k0_pay46 (F := Ideal) v17 v960 (ix2 a l) : EReal) = run w a l 1 9 (w a l) := by
  pointwise [k0_pay46]
  simp only [hv] <;> rfl

/-- One row block. -/
theorem pay47_at (v17 : FVec Ideal S512x128 .bf16) (v960 : FVec Ideal S512x128 .bf16) (w : ℕ → ℕ → EReal)
    (hv : ∀ (r : Fin 512) (l : Fin 512), (k0_pay45 (F := Ideal) v17 v960) (ix2 r l) = w r.val l.val) (a : Fin 8) (l : Fin 512) :
    (k0_pay47 (F := Ideal) v17 v960 (ix2 a l) : EReal) = w (8 * 10 + a) l := by
  pointwise [k0_pay47]
  simp only [hv] <;> rfl

/-- A stretch of the block's row blocks. -/
theorem pay48_at (v961 : FVec Ideal S512x512 .f32) (v980 : FVec Ideal S8x512 .f32) (v981 : FVec Ideal S8x512 .f32) (w : ℕ → ℕ → EReal)
    (hv : ∀ (r : Fin 512) (l : Fin 512), v961 (ix2 r l) = w r.val l.val) (a : Fin 8) (l : Fin 512) :
    (k0_pay48 (F := Ideal) v961 v980 v981 (ix2 a l) : EReal) = run w a l 11 29 (max (v980 (ix2 a l)) (v981 (ix2 a l))) := by
  pointwise [k0_pay48]
  simp only [hv] <;> rfl

/-- One row block. -/
theorem pay49_at (v961 : FVec Ideal S512x512 .f32) (w : ℕ → ℕ → EReal)
    (hv : ∀ (r : Fin 512) (l : Fin 512), v961 (ix2 r l) = w r.val l.val) (a : Fin 8) (l : Fin 512) :
    (k0_pay49 (F := Ideal) v961 (ix2 a l) : EReal) = w (8 * 40 + a) l := by
  pointwise [k0_pay49]
  simp only [hv] <;> rfl

/-- A stretch of the block's row blocks. -/
theorem pay50_at (v956 : FVec Ideal S8x512 .f32) (v961 : FVec Ideal S512x512 .f32) (v1040 : FVec Ideal S8x512 .f32) (v1041 : FVec Ideal S8x512 .f32) (w : ℕ → ℕ → EReal)
    (hv : ∀ (r : Fin 512) (l : Fin 512), v961 (ix2 r l) = w r.val l.val) (a : Fin 8) (l : Fin 512) :
    (k0_pay50 (F := Ideal) v956 v961 v1040 v1041 (ix2 a l) : EReal) = max (v956 (ix2 a l)) (run w a l 41 23 (max (v1040 (ix2 a l)) (v1041 (ix2 a l)))) := by
  pointwise [k0_pay50]
  simp only [hv] <;> rfl

/-- The whole maximum over key block 7's scores, folded into what the earlier blocks gave. -/
theorem greatest7 (s : FVec Ideal S8x512 .f32) (v17 : FVec Ideal S512x128 .bf16) (v960 : FVec Ideal S512x128 .bf16) (w : ℕ → ℕ → EReal)
    (hv : ∀ (r : Fin 512) (l : Fin 512), (k0_pay45 (F := Ideal) v17 v960) (ix2 r l) = w r.val l.val) (a : Fin 8) (l : Fin 512) :
    ((k0_pay50 (F := Ideal) s (k0_pay45 (F := Ideal) v17 v960) (k0_pay48 (F := Ideal) (k0_pay45 (F := Ideal) v17 v960) (k0_pay46 (F := Ideal) v17 v960) (k0_pay47 (F := Ideal) v17 v960)) (k0_pay49 (F := Ideal) (k0_pay45 (F := Ideal) v17 v960))) (ix2 a l) : EReal) = max (s (ix2 a l)) (column w a l) := by
  rw [pay50_at _ _ _ _ w hv]
  rw [pay49_at _ w hv]
  rw [pay48_at _ _ _ w hv]
  rw [pay47_at _ _ w hv]
  rw [pay46_at _ _ w hv]
  simp only [run_one]
  rw [run_run _ _ _ _ _ _ _ _ (by norm_num), run_run _ _ _ _ _ _ _ _ (by norm_num), run_run _ _ _ _ _ _ _ _ (by norm_num), run_run _ _ _ _ _ _ _ _ (by norm_num)]
  rfl

/-- A stretch of the block's row blocks. -/
theorem pay60_at (v1089 : FVec Ideal S8x512 .f32) (v1094 : FVec Ideal S512x512 .f32) (v1215 : FVec Ideal S8x512 .f32) (v1232 : FVec Ideal S512x512 .f32) (w : ℕ → ℕ → EReal)
    (hv : ∀ (r : Fin 512) (l : Fin 512), (k0_pay59 (F := Ideal) v1089 v1094 v1215 v1232) (ix2 r l) = w r.val l.val) (a : Fin 8) (l : Fin 512) :
    (k0_pay60 (F := Ideal) v1089 v1094 v1215 v1232 (ix2 a l) : EReal) = tot w a l 1 14 (w a l) := by
  pointwise [k0_pay60]
  simp only [hv] <;> rfl

/-- A stretch of the block's row blocks. -/
theorem pay61_at (v1237 : FVec Ideal S512x512 .f32) (v1266 : FVec Ideal S8x512 .f32) (w : ℕ → ℕ → EReal)
    (hv : ∀ (r : Fin 512) (l : Fin 512), v1237 (ix2 r l) = w r.val l.val) (a : Fin 8) (l : Fin 512) :
    (k0_pay61 (F := Ideal) v1237 v1266 (ix2 a l) : EReal) = tot w a l 15 30 (v1266 (ix2 a l)) := by
  pointwise [k0_pay61]
  simp only [hv] <;> rfl

/-- A stretch of the block's row blocks. -/
theorem pay62_at (v1231 : FVec Ideal S8x512 .f32) (v1237 : FVec Ideal S512x512 .f32) (v1326 : FVec Ideal S8x512 .f32) (w : ℕ → ℕ → EReal)
    (hv : ∀ (r : Fin 512) (l : Fin 512), v1237 (ix2 r l) = w r.val l.val) (a : Fin 8) (l : Fin 512) :
    (k0_pay62 (F := Ideal) v1231 v1237 v1326 (ix2 a l) : EReal) = v1231 (ix2 a l) + tot w a l 45 19 (v1326 (ix2 a l)) := by
  pointwise [k0_pay62]
  simp only [hv] <;> rfl

/-- The whole sum over key block 0's probabilities, folded into what the earlier blocks gave. -/
theorem total0 (s : FVec Ideal S8x512 .f32) (v1089 : FVec Ideal S8x512 .f32) (v1094 : FVec Ideal S512x512 .f32) (v1215 : FVec Ideal S8x512 .f32) (v1232 : FVec Ideal S512x512 .f32) (w : ℕ → ℕ → EReal)
    (hv : ∀ (r : Fin 512) (l : Fin 512), (k0_pay59 (F := Ideal) v1089 v1094 v1215 v1232) (ix2 r l) = w r.val l.val) (a : Fin 8) (l : Fin 512) :
    ((k0_pay62 (F := Ideal) s (k0_pay59 (F := Ideal) v1089 v1094 v1215 v1232) (k0_pay61 (F := Ideal) (k0_pay59 (F := Ideal) v1089 v1094 v1215 v1232) (k0_pay60 (F := Ideal) v1089 v1094 v1215 v1232))) (ix2 a l) : EReal) = s (ix2 a l) + columnSum w a l := by
  rw [pay62_at _ _ _ w hv]
  rw [pay61_at _ _ w hv]
  rw [pay60_at _ _ _ _ w hv]
  rw [tot_tot _ _ _ _ _ _ _ _ (by norm_num), tot_tot _ _ _ _ _ _ _ _ (by norm_num)]
  rfl

/-- A stretch of the block's row blocks. -/
theorem pay65_at (v1230 : FVec Ideal S1x512 .f32) (v1370 : FVec Ideal S512x512 .f32) (w : ℕ → ℕ → EReal)
    (hv : ∀ (r : Fin 512) (l : Fin 512), (k0_pay64 (F := Ideal) v1230 v1370) (ix2 r l) = w r.val l.val) (a : Fin 8) (l : Fin 512) :
    (k0_pay65 (F := Ideal) v1230 v1370 (ix2 a l) : EReal) = tot w a l 1 2 (w a l) := by
  pointwise [k0_pay65]
  simp only [hv] <;> rfl

/-- A stretch of the block's row blocks. -/
theorem pay66_at (v1375 : FVec Ideal S512x512 .f32) (v1380 : FVec Ideal S8x512 .f32) (w : ℕ → ℕ → EReal)
    (hv : ∀ (r : Fin 512) (l : Fin 512), v1375 (ix2 r l) = w r.val l.val) (a : Fin 8) (l : Fin 512) :
    (k0_pay66 (F := Ideal) v1375 v1380 (ix2 a l) : EReal) = tot w a l 3 30 (v1380 (ix2 a l)) := by
  pointwise [k0_pay66]
  simp only [hv] <;> rfl

/-- A stretch of the block's row blocks. -/
theorem pay67_at (v1375 : FVec Ideal S512x512 .f32) (v1440 : FVec Ideal S8x512 .f32) (w : ℕ → ℕ → EReal)
    (hv : ∀ (r : Fin 512) (l : Fin 512), v1375 (ix2 r l) = w r.val l.val) (a : Fin 8) (l : Fin 512) :
    (k0_pay67 (F := Ideal) v1375 v1440 (ix2 a l) : EReal) = tot w a l 33 30 (v1440 (ix2 a l)) := by
  pointwise [k0_pay67]
  simp only [hv] <;> rfl

/-- One row block. -/
theorem pay68_at (v1365 : FVec Ideal S8x512 .f32) (v1375 : FVec Ideal S512x512 .f32) (v1500 : FVec Ideal S8x512 .f32) (w : ℕ → ℕ → EReal)
    (hv : ∀ (r : Fin 512) (l : Fin 512), v1375 (ix2 r l) = w r.val l.val) (a : Fin 8) (l : Fin 512) :
    (k0_pay68 (F := Ideal) v1365 v1375 v1500 (ix2 a l) : EReal) = v1365 (ix2 a l) + tot w a l 63 1 (v1500 (ix2 a l)) := by
  pointwise [k0_pay68]
  simp only [hv] <;> rfl

/-- The whole sum over key block 1's probabilities, folded into what the earlier blocks gave. -/
theorem total1 (s : FVec Ideal S8x512 .f32) (v1230 : FVec Ideal S1x512 .f32) (v1370 : FVec Ideal S512x512 .f32) (w : ℕ → ℕ → EReal)
    (hv : ∀ (r : Fin 512) (l : Fin 512), (k0_pay64 (F := Ideal) v1230 v1370) (ix2 r l) = w r.val l.val) (a : Fin 8) (l : Fin 512) :
    ((k0_pay68 (F := Ideal) s (k0_pay64 (F := Ideal) v1230 v1370) (k0_pay67 (F := Ideal) (k0_pay64 (F := Ideal) v1230 v1370) (k0_pay66 (F := Ideal) (k0_pay64 (F := Ideal) v1230 v1370) (k0_pay65 (F := Ideal) v1230 v1370)))) (ix2 a l) : EReal) = s (ix2 a l) + columnSum w a l := by
  rw [pay68_at _ _ _ w hv]
  rw [pay67_at _ _ w hv]
  rw [pay66_at _ _ w hv]
  rw [pay65_at _ _ w hv]
  rw [tot_tot _ _ _ _ _ _ _ _ (by norm_num), tot_tot _ _ _ _ _ _ _ _ (by norm_num), tot_tot _ _ _ _ _ _ _ _ (by norm_num)]
  rfl

/-- A stretch of the block's row blocks. -/
theorem pay71_at (v1230 : FVec Ideal S1x512 .f32) (v1508 : FVec Ideal S512x512 .f32) (w : ℕ → ℕ → EReal)
    (hv : ∀ (r : Fin 512) (l : Fin 512), (k0_pay70 (F := Ideal) v1230 v1508) (ix2 r l) = w r.val l.val) (a : Fin 8) (l : Fin 512) :
    (k0_pay71 (F := Ideal) v1230 v1508 (ix2 a l) : EReal) = tot w a l 1 20 (w a l) := by
  pointwise [k0_pay71]
  simp only [hv] <;> rfl

/-- A stretch of the block's row blocks. -/
theorem pay72_at (v1513 : FVec Ideal S512x512 .f32) (v1554 : FVec Ideal S8x512 .f32) (w : ℕ → ℕ → EReal)
    (hv : ∀ (r : Fin 512) (l : Fin 512), v1513 (ix2 r l) = w r.val l.val) (a : Fin 8) (l : Fin 512) :
    (k0_pay72 (F := Ideal) v1513 v1554 (ix2 a l) : EReal) = tot w a l 21 30 (v1554 (ix2 a l)) := by
  pointwise [k0_pay72]
  simp only [hv] <;> rfl

/-- A stretch of the block's row blocks. -/
theorem pay73_at (v1503 : FVec Ideal S8x512 .f32) (v1513 : FVec Ideal S512x512 .f32) (v1614 : FVec Ideal S8x512 .f32) (w : ℕ → ℕ → EReal)
    (hv : ∀ (r : Fin 512) (l : Fin 512), v1513 (ix2 r l) = w r.val l.val) (a : Fin 8) (l : Fin 512) :
    (k0_pay73 (F := Ideal) v1503 v1513 v1614 (ix2 a l) : EReal) = v1503 (ix2 a l) + tot w a l 51 13 (v1614 (ix2 a l)) := by
  pointwise [k0_pay73]
  simp only [hv] <;> rfl

/-- The whole sum over key block 2's probabilities, folded into what the earlier blocks gave. -/
theorem total2 (s : FVec Ideal S8x512 .f32) (v1230 : FVec Ideal S1x512 .f32) (v1508 : FVec Ideal S512x512 .f32) (w : ℕ → ℕ → EReal)
    (hv : ∀ (r : Fin 512) (l : Fin 512), (k0_pay70 (F := Ideal) v1230 v1508) (ix2 r l) = w r.val l.val) (a : Fin 8) (l : Fin 512) :
    ((k0_pay73 (F := Ideal) s (k0_pay70 (F := Ideal) v1230 v1508) (k0_pay72 (F := Ideal) (k0_pay70 (F := Ideal) v1230 v1508) (k0_pay71 (F := Ideal) v1230 v1508))) (ix2 a l) : EReal) = s (ix2 a l) + columnSum w a l := by
  rw [pay73_at _ _ _ w hv]
  rw [pay72_at _ _ w hv]
  rw [pay71_at _ _ w hv]
  rw [tot_tot _ _ _ _ _ _ _ _ (by norm_num), tot_tot _ _ _ _ _ _ _ _ (by norm_num)]
  rfl

/-- A stretch of the block's row blocks. -/
theorem pay76_at (v1230 : FVec Ideal S1x512 .f32) (v1646 : FVec Ideal S512x512 .f32) (w : ℕ → ℕ → EReal)
    (hv : ∀ (r : Fin 512) (l : Fin 512), (k0_pay75 (F := Ideal) v1230 v1646) (ix2 r l) = w r.val l.val) (a : Fin 8) (l : Fin 512) :
    (k0_pay76 (F := Ideal) v1230 v1646 (ix2 a l) : EReal) = tot w a l 1 8 (w a l) := by
  pointwise [k0_pay76]
  simp only [hv] <;> rfl

/-- A stretch of the block's row blocks. -/
theorem pay77_at (v1651 : FVec Ideal S512x512 .f32) (v1668 : FVec Ideal S8x512 .f32) (w : ℕ → ℕ → EReal)
    (hv : ∀ (r : Fin 512) (l : Fin 512), v1651 (ix2 r l) = w r.val l.val) (a : Fin 8) (l : Fin 512) :
    (k0_pay77 (F := Ideal) v1651 v1668 (ix2 a l) : EReal) = tot w a l 9 30 (v1668 (ix2 a l)) := by
  pointwise [k0_pay77]
  simp only [hv] <;> rfl

/-- A stretch of the block's row blocks. -/
theorem pay78_at (v1641 : FVec Ideal S8x512 .f32) (v1651 : FVec Ideal S512x512 .f32) (v1728 : FVec Ideal S8x512 .f32) (w : ℕ → ℕ → EReal)
    (hv : ∀ (r : Fin 512) (l : Fin 512), v1651 (ix2 r l) = w r.val l.val) (a : Fin 8) (l : Fin 512) :
    (k0_pay78 (F := Ideal) v1641 v1651 v1728 (ix2 a l) : EReal) = v1641 (ix2 a l) + tot w a l 39 25 (v1728 (ix2 a l)) := by
  pointwise [k0_pay78]
  simp only [hv] <;> rfl

/-- The whole sum over key block 3's probabilities, folded into what the earlier blocks gave. -/
theorem total3 (s : FVec Ideal S8x512 .f32) (v1230 : FVec Ideal S1x512 .f32) (v1646 : FVec Ideal S512x512 .f32) (w : ℕ → ℕ → EReal)
    (hv : ∀ (r : Fin 512) (l : Fin 512), (k0_pay75 (F := Ideal) v1230 v1646) (ix2 r l) = w r.val l.val) (a : Fin 8) (l : Fin 512) :
    ((k0_pay78 (F := Ideal) s (k0_pay75 (F := Ideal) v1230 v1646) (k0_pay77 (F := Ideal) (k0_pay75 (F := Ideal) v1230 v1646) (k0_pay76 (F := Ideal) v1230 v1646))) (ix2 a l) : EReal) = s (ix2 a l) + columnSum w a l := by
  rw [pay78_at _ _ _ w hv]
  rw [pay77_at _ _ w hv]
  rw [pay76_at _ _ w hv]
  rw [tot_tot _ _ _ _ _ _ _ _ (by norm_num), tot_tot _ _ _ _ _ _ _ _ (by norm_num)]
  rfl

/-- A stretch of the block's row blocks. -/
theorem pay81_at (v1230 : FVec Ideal S1x512 .f32) (v1784 : FVec Ideal S512x512 .f32) (w : ℕ → ℕ → EReal)
    (hv : ∀ (r : Fin 512) (l : Fin 512), (k0_pay80 (F := Ideal) v1230 v1784) (ix2 r l) = w r.val l.val) (a : Fin 8) (l : Fin 512) :
    (k0_pay81 (F := Ideal) v1230 v1784 (ix2 a l) : EReal) = tot w a l 1 26 (w a l) := by
  pointwise [k0_pay81]
  simp only [hv] <;> rfl

/-- A stretch of the block's row blocks. -/
theorem pay82_at (v1789 : FVec Ideal S512x512 .f32) (v1842 : FVec Ideal S8x512 .f32) (w : ℕ → ℕ → EReal)
    (hv : ∀ (r : Fin 512) (l : Fin 512), v1789 (ix2 r l) = w r.val l.val) (a : Fin 8) (l : Fin 512) :
    (k0_pay82 (F := Ideal) v1789 v1842 (ix2 a l) : EReal) = tot w a l 27 30 (v1842 (ix2 a l)) := by
  pointwise [k0_pay82]
  simp only [hv] <;> rfl

/-- A stretch of the block's row blocks. -/
theorem pay83_at (v1779 : FVec Ideal S8x512 .f32) (v1789 : FVec Ideal S512x512 .f32) (v1902 : FVec Ideal S8x512 .f32) (w : ℕ → ℕ → EReal)
    (hv : ∀ (r : Fin 512) (l : Fin 512), v1789 (ix2 r l) = w r.val l.val) (a : Fin 8) (l : Fin 512) :
    (k0_pay83 (F := Ideal) v1779 v1789 v1902 (ix2 a l) : EReal) = v1779 (ix2 a l) + tot w a l 57 7 (v1902 (ix2 a l)) := by
  pointwise [k0_pay83]
  simp only [hv] <;> rfl

/-- The whole sum over key block 4's probabilities, folded into what the earlier blocks gave. -/
theorem total4 (s : FVec Ideal S8x512 .f32) (v1230 : FVec Ideal S1x512 .f32) (v1784 : FVec Ideal S512x512 .f32) (w : ℕ → ℕ → EReal)
    (hv : ∀ (r : Fin 512) (l : Fin 512), (k0_pay80 (F := Ideal) v1230 v1784) (ix2 r l) = w r.val l.val) (a : Fin 8) (l : Fin 512) :
    ((k0_pay83 (F := Ideal) s (k0_pay80 (F := Ideal) v1230 v1784) (k0_pay82 (F := Ideal) (k0_pay80 (F := Ideal) v1230 v1784) (k0_pay81 (F := Ideal) v1230 v1784))) (ix2 a l) : EReal) = s (ix2 a l) + columnSum w a l := by
  rw [pay83_at _ _ _ w hv]
  rw [pay82_at _ _ w hv]
  rw [pay81_at _ _ w hv]
  rw [tot_tot _ _ _ _ _ _ _ _ (by norm_num), tot_tot _ _ _ _ _ _ _ _ (by norm_num)]
  rfl

/-- A stretch of the block's row blocks. -/
theorem pay86_at (v1230 : FVec Ideal S1x512 .f32) (v1922 : FVec Ideal S512x512 .f32) (w : ℕ → ℕ → EReal)
    (hv : ∀ (r : Fin 512) (l : Fin 512), (k0_pay85 (F := Ideal) v1230 v1922) (ix2 r l) = w r.val l.val) (a : Fin 8) (l : Fin 512) :
    (k0_pay86 (F := Ideal) v1230 v1922 (ix2 a l) : EReal) = tot w a l 1 14 (w a l) := by
  pointwise [k0_pay86]
  simp only [hv] <;> rfl

/-- A stretch of the block's row blocks. -/
theorem pay87_at (v1927 : FVec Ideal S512x512 .f32) (v1956 : FVec Ideal S8x512 .f32) (w : ℕ → ℕ → EReal)
    (hv : ∀ (r : Fin 512) (l : Fin 512), v1927 (ix2 r l) = w r.val l.val) (a : Fin 8) (l : Fin 512) :
    (k0_pay87 (F := Ideal) v1927 v1956 (ix2 a l) : EReal) = tot w a l 15 30 (v1956 (ix2 a l)) := by
  pointwise [k0_pay87]
  simp only [hv] <;> rfl

/-- A stretch of the block's row blocks. -/
theorem pay88_at (v1917 : FVec Ideal S8x512 .f32) (v1927 : FVec Ideal S512x512 .f32) (v2016 : FVec Ideal S8x512 .f32) (w : ℕ → ℕ → EReal)
    (hv : ∀ (r : Fin 512) (l : Fin 512), v1927 (ix2 r l) = w r.val l.val) (a : Fin 8) (l : Fin 512) :
    (k0_pay88 (F := Ideal) v1917 v1927 v2016 (ix2 a l) : EReal) = v1917 (ix2 a l) + tot w a l 45 19 (v2016 (ix2 a l)) := by
  pointwise [k0_pay88]
  simp only [hv] <;> rfl

/-- The whole sum over key block 5's probabilities, folded into what the earlier blocks gave. -/
theorem total5 (s : FVec Ideal S8x512 .f32) (v1230 : FVec Ideal S1x512 .f32) (v1922 : FVec Ideal S512x512 .f32) (w : ℕ → ℕ → EReal)
    (hv : ∀ (r : Fin 512) (l : Fin 512), (k0_pay85 (F := Ideal) v1230 v1922) (ix2 r l) = w r.val l.val) (a : Fin 8) (l : Fin 512) :
    ((k0_pay88 (F := Ideal) s (k0_pay85 (F := Ideal) v1230 v1922) (k0_pay87 (F := Ideal) (k0_pay85 (F := Ideal) v1230 v1922) (k0_pay86 (F := Ideal) v1230 v1922))) (ix2 a l) : EReal) = s (ix2 a l) + columnSum w a l := by
  rw [pay88_at _ _ _ w hv]
  rw [pay87_at _ _ w hv]
  rw [pay86_at _ _ w hv]
  rw [tot_tot _ _ _ _ _ _ _ _ (by norm_num), tot_tot _ _ _ _ _ _ _ _ (by norm_num)]
  rfl

/-- A stretch of the block's row blocks. -/
theorem pay91_at (v1230 : FVec Ideal S1x512 .f32) (v2060 : FVec Ideal S512x512 .f32) (w : ℕ → ℕ → EReal)
    (hv : ∀ (r : Fin 512) (l : Fin 512), (k0_pay90 (F := Ideal) v1230 v2060) (ix2 r l) = w r.val l.val) (a : Fin 8) (l : Fin 512) :
    (k0_pay91 (F := Ideal) v1230 v2060 (ix2 a l) : EReal) = tot w a l 1 2 (w a l) := by
  pointwise [k0_pay91]
  simp only [hv] <;> rfl

/-- A stretch of the block's row blocks. -/
theorem pay92_at (v2065 : FVec Ideal S512x512 .f32) (v2070 : FVec Ideal S8x512 .f32) (w : ℕ → ℕ → EReal)
    (hv : ∀ (r : Fin 512) (l : Fin 512), v2065 (ix2 r l) = w r.val l.val) (a : Fin 8) (l : Fin 512) :
    (k0_pay92 (F := Ideal) v2065 v2070 (ix2 a l) : EReal) = tot w a l 3 30 (v2070 (ix2 a l)) := by
  pointwise [k0_pay92]
  simp only [hv] <;> rfl

/-- A stretch of the block's row blocks. -/
theorem pay93_at (v2065 : FVec Ideal S512x512 .f32) (v2130 : FVec Ideal S8x512 .f32) (w : ℕ → ℕ → EReal)
    (hv : ∀ (r : Fin 512) (l : Fin 512), v2065 (ix2 r l) = w r.val l.val) (a : Fin 8) (l : Fin 512) :
    (k0_pay93 (F := Ideal) v2065 v2130 (ix2 a l) : EReal) = tot w a l 33 30 (v2130 (ix2 a l)) := by
  pointwise [k0_pay93]
  simp only [hv] <;> rfl

/-- One row block. -/
theorem pay94_at (v2055 : FVec Ideal S8x512 .f32) (v2065 : FVec Ideal S512x512 .f32) (v2190 : FVec Ideal S8x512 .f32) (w : ℕ → ℕ → EReal)
    (hv : ∀ (r : Fin 512) (l : Fin 512), v2065 (ix2 r l) = w r.val l.val) (a : Fin 8) (l : Fin 512) :
    (k0_pay94 (F := Ideal) v2055 v2065 v2190 (ix2 a l) : EReal) = v2055 (ix2 a l) + tot w a l 63 1 (v2190 (ix2 a l)) := by
  pointwise [k0_pay94]
  simp only [hv] <;> rfl

/-- The whole sum over key block 6's probabilities, folded into what the earlier blocks gave. -/
theorem total6 (s : FVec Ideal S8x512 .f32) (v1230 : FVec Ideal S1x512 .f32) (v2060 : FVec Ideal S512x512 .f32) (w : ℕ → ℕ → EReal)
    (hv : ∀ (r : Fin 512) (l : Fin 512), (k0_pay90 (F := Ideal) v1230 v2060) (ix2 r l) = w r.val l.val) (a : Fin 8) (l : Fin 512) :
    ((k0_pay94 (F := Ideal) s (k0_pay90 (F := Ideal) v1230 v2060) (k0_pay93 (F := Ideal) (k0_pay90 (F := Ideal) v1230 v2060) (k0_pay92 (F := Ideal) (k0_pay90 (F := Ideal) v1230 v2060) (k0_pay91 (F := Ideal) v1230 v2060)))) (ix2 a l) : EReal) = s (ix2 a l) + columnSum w a l := by
  rw [pay94_at _ _ _ w hv]
  rw [pay93_at _ _ w hv]
  rw [pay92_at _ _ w hv]
  rw [pay91_at _ _ w hv]
  rw [tot_tot _ _ _ _ _ _ _ _ (by norm_num), tot_tot _ _ _ _ _ _ _ _ (by norm_num), tot_tot _ _ _ _ _ _ _ _ (by norm_num)]
  rfl

/-- A stretch of the block's row blocks. -/
theorem pay97_at (v1230 : FVec Ideal S1x512 .f32) (v2198 : FVec Ideal S512x512 .f32) (w : ℕ → ℕ → EReal)
    (hv : ∀ (r : Fin 512) (l : Fin 512), (k0_pay96 (F := Ideal) v1230 v2198) (ix2 r l) = w r.val l.val) (a : Fin 8) (l : Fin 512) :
    (k0_pay97 (F := Ideal) v1230 v2198 (ix2 a l) : EReal) = tot w a l 1 20 (w a l) := by
  pointwise [k0_pay97]
  simp only [hv] <;> rfl

/-- A stretch of the block's row blocks. -/
theorem pay98_at (v2203 : FVec Ideal S512x512 .f32) (v2244 : FVec Ideal S8x512 .f32) (w : ℕ → ℕ → EReal)
    (hv : ∀ (r : Fin 512) (l : Fin 512), v2203 (ix2 r l) = w r.val l.val) (a : Fin 8) (l : Fin 512) :
    (k0_pay98 (F := Ideal) v2203 v2244 (ix2 a l) : EReal) = tot w a l 21 30 (v2244 (ix2 a l)) := by
  pointwise [k0_pay98]
  simp only [hv] <;> rfl

/-- A stretch of the block's row blocks. -/
theorem pay99_at (v2193 : FVec Ideal S8x512 .f32) (v2203 : FVec Ideal S512x512 .f32) (v2304 : FVec Ideal S8x512 .f32) (w : ℕ → ℕ → EReal)
    (hv : ∀ (r : Fin 512) (l : Fin 512), v2203 (ix2 r l) = w r.val l.val) (a : Fin 8) (l : Fin 512) :
    (k0_pay99 (F := Ideal) v2193 v2203 v2304 (ix2 a l) : EReal) = v2193 (ix2 a l) + tot w a l 51 13 (v2304 (ix2 a l)) := by
  pointwise [k0_pay99]
  simp only [hv] <;> rfl

/-- The whole sum over key block 7's probabilities, folded into what the earlier blocks gave. -/
theorem total7 (s : FVec Ideal S8x512 .f32) (v1230 : FVec Ideal S1x512 .f32) (v2198 : FVec Ideal S512x512 .f32) (w : ℕ → ℕ → EReal)
    (hv : ∀ (r : Fin 512) (l : Fin 512), (k0_pay96 (F := Ideal) v1230 v2198) (ix2 r l) = w r.val l.val) (a : Fin 8) (l : Fin 512) :
    ((k0_pay99 (F := Ideal) s (k0_pay96 (F := Ideal) v1230 v2198) (k0_pay98 (F := Ideal) (k0_pay96 (F := Ideal) v1230 v2198) (k0_pay97 (F := Ideal) v1230 v2198))) (ix2 a l) : EReal) = s (ix2 a l) + columnSum w a l := by
  rw [pay99_at _ _ _ w hv]
  rw [pay98_at _ _ w hv]
  rw [pay97_at _ _ w hv]
  rw [tot_tot _ _ _ _ _ _ _ _ (by norm_num), tot_tot _ _ _ _ _ _ _ _ (by norm_num)]
  rfl

/-- A stretch of the block's row blocks. -/
theorem pay102_at (v1230 : FVec Ideal S1x512 .f32) (v2336 : FVec Ideal S512x512 .f32) (w : ℕ → ℕ → EReal)
    (hv : ∀ (r : Fin 512) (l : Fin 512), (k0_pay101 (F := Ideal) v1230 v2336) (ix2 r l) = w r.val l.val) (a : Fin 8) (l : Fin 512) :
    (k0_pay102 (F := Ideal) v1230 v2336 (ix2 a l) : EReal) = tot w a l 1 8 (w a l) := by
  pointwise [k0_pay102]
  simp only [hv] <;> rfl

/-- A stretch of the block's row blocks. -/
theorem pay103_at (v2341 : FVec Ideal S512x512 .f32) (v2358 : FVec Ideal S8x512 .f32) (w : ℕ → ℕ → EReal)
    (hv : ∀ (r : Fin 512) (l : Fin 512), v2341 (ix2 r l) = w r.val l.val) (a : Fin 8) (l : Fin 512) :
    (k0_pay103 (F := Ideal) v2341 v2358 (ix2 a l) : EReal) = tot w a l 9 30 (v2358 (ix2 a l)) := by
  pointwise [k0_pay103]
  simp only [hv] <;> rfl

/-- A stretch of the block's row blocks. -/
theorem pay104_at (v2331 : FVec Ideal S8x512 .f32) (v2341 : FVec Ideal S512x512 .f32) (v2418 : FVec Ideal S8x512 .f32) (w : ℕ → ℕ → EReal)
    (hv : ∀ (r : Fin 512) (l : Fin 512), v2341 (ix2 r l) = w r.val l.val) (a : Fin 8) (l : Fin 512) :
    (k0_pay104 (F := Ideal) v2331 v2341 v2418 (ix2 a l) : EReal) = v2331 (ix2 a l) + tot w a l 39 25 (v2418 (ix2 a l)) := by
  pointwise [k0_pay104]
  simp only [hv] <;> rfl

/-- The whole sum over key block 8's probabilities, folded into what the earlier blocks gave. -/
theorem total8 (s : FVec Ideal S8x512 .f32) (v1230 : FVec Ideal S1x512 .f32) (v2336 : FVec Ideal S512x512 .f32) (w : ℕ → ℕ → EReal)
    (hv : ∀ (r : Fin 512) (l : Fin 512), (k0_pay101 (F := Ideal) v1230 v2336) (ix2 r l) = w r.val l.val) (a : Fin 8) (l : Fin 512) :
    ((k0_pay104 (F := Ideal) s (k0_pay101 (F := Ideal) v1230 v2336) (k0_pay103 (F := Ideal) (k0_pay101 (F := Ideal) v1230 v2336) (k0_pay102 (F := Ideal) v1230 v2336))) (ix2 a l) : EReal) = s (ix2 a l) + columnSum w a l := by
  rw [pay104_at _ _ _ w hv]
  rw [pay103_at _ _ w hv]
  rw [pay102_at _ _ w hv]
  rw [tot_tot _ _ _ _ _ _ _ _ (by norm_num), tot_tot _ _ _ _ _ _ _ _ (by norm_num)]
  rfl

/-- One row block. -/
theorem pay53_at (v17 : FVec Ideal S512x128 .bf16) (v1093 : FVec Ideal S512x128 .bf16) (w : ℕ → ℕ → EReal)
    (hv : ∀ (r : Fin 512) (l : Fin 512), (k0_pay52 (F := Ideal) v17 v1093) (ix2 r l) = w r.val l.val) (a : Fin 8) (l : Fin 512) :
    (k0_pay53 (F := Ideal) v17 v1093 (ix2 a l) : EReal) = tot w a l 1 0 (w a l) := by
  pointwise [k0_pay53]
  simp only [hv] <;> rfl

/-- A stretch of the block's row blocks. -/
theorem pay54_at (v1094 : FVec Ideal S512x512 .f32) (v1095 : FVec Ideal S8x512 .f32) (w : ℕ → ℕ → EReal)
    (hv : ∀ (r : Fin 512) (l : Fin 512), v1094 (ix2 r l) = w r.val l.val) (a : Fin 8) (l : Fin 512) :
    (k0_pay54 (F := Ideal) v1094 v1095 (ix2 a l) : EReal) = run w a l 1 30 (v1095 (ix2 a l)) := by
  pointwise [k0_pay54]
  simp only [hv] <;> rfl

/-- A stretch of the block's row blocks. -/
theorem pay55_at (v1094 : FVec Ideal S512x512 .f32) (v1155 : FVec Ideal S8x512 .f32) (w : ℕ → ℕ → EReal)
    (hv : ∀ (r : Fin 512) (l : Fin 512), v1094 (ix2 r l) = w r.val l.val) (a : Fin 8) (l : Fin 512) :
    (k0_pay55 (F := Ideal) v1094 v1155 (ix2 a l) : EReal) = run w a l 31 30 (v1155 (ix2 a l)) := by
  pointwise [k0_pay55]
  simp only [hv] <;> rfl

end Cert.Proof.AttnFold

end
-- ==== Proof.AttnPay.lean ====
/-
  Hand-written. THE ATTENTION'S BLOCKS, ENTRY BY ENTRY: scores, row maxima, probabilities, weighted values and codes of one block of queries.
-/
module

public import proofs.«01_k».proof.Proof.Gen.KAttnIdeal.Skeleton
public import proofs.«01_k».proof.Proof.AttnMath
public import proofs.«01_k».proof.Proof.AttnFold

@[expose] public section

set_option maxRecDepth 16384

noncomputable section

namespace Cert.Proof.AttnPay

open Cert.Proof.Common
open Idealize.ShloMosaic Idealize.ShloMosaic.TcCoe Idealize.SL.Sem
open Idealize.ShloMosaic.Pipeline (Dat)
open Cert.KAttnIdeal Cert.KAttnIdeal.Gen

open Cert.Proof.AttnMath
open Cert.Proof.AttnFold

/-- The kernel's constant, read as the real number it stands for. -/
theorem named_scale : (Named.named (F := Ideal) κ "score_scale" (φ := .f32) 0x3E0293EE#32 : EReal) = scale := rfl

/-- The first key block's scores: hidden keys get minus infinity. -/
theorem pay4_at (v1 : BitVec 32) (q k : FVec Ideal S512x128 .bf16) (r l : Fin 512) :
    (k0_pay4 (F := Ideal) v1 q k (ix2 r l) : EReal)
      = if Scalar.andi (Scalar.cmpi .sge (BitVec.ofNat 32 r.val) v1) (Scalar.cmpi .slt (BitVec.ofNat 32 r.val) 512#32) = 1#1 then Ideal.ofBits .f32 0xFF800000#32
        else ∑ d : Fin 128, k (ix2 r d) * q (ix2 l d) := by
  pointwise [k0_pay4]
  rw [show IntOp.addi (0#32) (BitVec.ofNat 32 r.val) = BitVec.ofNat 32 r.val from BitVec.zero_add _]
  rfl

/-- A later key block's scores. -/
theorem pay9_at (q k : FVec Ideal S512x128 .bf16) (r l : Fin 512) :
    (k0_pay9 (F := Ideal) q k (ix2 r l) : EReal) = ∑ d : Fin 128, k (ix2 r d) * q (ix2 l d) := by
  pointwise [k0_pay9]

/-- A later key block's scores. -/
theorem pay16_at (q k : FVec Ideal S512x128 .bf16) (r l : Fin 512) :
    (k0_pay16 (F := Ideal) q k (ix2 r l) : EReal) = ∑ d : Fin 128, k (ix2 r d) * q (ix2 l d) := by
  pointwise [k0_pay16]

/-- A later key block's scores. -/
theorem pay21_at (q k : FVec Ideal S512x128 .bf16) (r l : Fin 512) :
    (k0_pay21 (F := Ideal) q k (ix2 r l) : EReal) = ∑ d : Fin 128, k (ix2 r d) * q (ix2 l d) := by
  pointwise [k0_pay21]

/-- A later key block's scores. -/
theorem pay28_at (q k : FVec Ideal S512x128 .bf16) (r l : Fin 512) :
    (k0_pay28 (F := Ideal) q k (ix2 r l) : EReal) = ∑ d : Fin 128, k (ix2 r d) * q (ix2 l d) := by
  pointwise [k0_pay28]

/-- A later key block's scores. -/
theorem pay33_at (q k : FVec Ideal S512x128 .bf16) (r l : Fin 512) :
    (k0_pay33 (F := Ideal) q k (ix2 r l) : EReal) = ∑ d : Fin 128, k (ix2 r d) * q (ix2 l d) := by
  pointwise [k0_pay33]

/-- A later key block's scores. -/
theorem pay40_at (q k : FVec Ideal S512x128 .bf16) (r l : Fin 512) :
    (k0_pay40 (F := Ideal) q k (ix2 r l) : EReal) = ∑ d : Fin 128, k (ix2 r d) * q (ix2 l d) := by
  pointwise [k0_pay40]

/-- A later key block's scores. -/
theorem pay45_at (q k : FVec Ideal S512x128 .bf16) (r l : Fin 512) :
    (k0_pay45 (F := Ideal) q k (ix2 r l) : EReal) = ∑ d : Fin 128, k (ix2 r d) * q (ix2 l d) := by
  pointwise [k0_pay45]

/-- A later key block's scores. -/
theorem pay52_at (q k : FVec Ideal S512x128 .bf16) (r l : Fin 512) :
    (k0_pay52 (F := Ideal) q k (ix2 r l) : EReal) = ∑ d : Fin 128, k (ix2 r d) * q (ix2 l d) := by
  pointwise [k0_pay52]

/-- A block of scores as it is kept. -/
theorem pay8_eq (v : FVec Ideal S512x512 .f32) : k0_pay8 (F := Ideal) v = v := by
  funext x
  pointwise [k0_pay8]

/-- A block of scores as it is kept. -/
theorem pay15_eq (v : FVec Ideal S512x512 .f32) : k0_pay15 (F := Ideal) v = v := by
  funext x
  pointwise [k0_pay15]

/-- A block of scores as it is kept. -/
theorem pay20_eq (v : FVec Ideal S512x512 .f32) : k0_pay20 (F := Ideal) v = v := by
  funext x
  pointwise [k0_pay20]

/-- A block of scores as it is kept. -/
theorem pay27_eq (v : FVec Ideal S512x512 .f32) : k0_pay27 (F := Ideal) v = v := by
  funext x
  pointwise [k0_pay27]

/-- A block of scores as it is kept. -/
theorem pay32_eq (v : FVec Ideal S512x512 .f32) : k0_pay32 (F := Ideal) v = v := by
  funext x
  pointwise [k0_pay32]

/-- A block of scores as it is kept. -/
theorem pay39_eq (v : FVec Ideal S512x512 .f32) : k0_pay39 (F := Ideal) v = v := by
  funext x
  pointwise [k0_pay39]

/-- A block of scores as it is kept. -/
theorem pay44_eq (v : FVec Ideal S512x512 .f32) : k0_pay44 (F := Ideal) v = v := by
  funext x
  pointwise [k0_pay44]

/-- A block of scores as it is kept. -/
theorem pay51_eq (v : FVec Ideal S512x512 .f32) : k0_pay51 (F := Ideal) v = v := by
  funext x
  pointwise [k0_pay51]

/-- A block of scores as it is kept. -/
theorem pay56_eq (v : FVec Ideal S512x512 .f32) : k0_pay56 (F := Ideal) v = v := by
  funext x
  pointwise [k0_pay56]

/-- The row of maxima, scaled and rounded up. -/
theorem pay57_at (s : FVec Ideal S8x512 .f32) (v : FVec Ideal S512x512 .f32) (z : FVec Ideal S8x512 .f32) (w : ℕ → ℕ → EReal)
    (hv : ∀ (r : Fin 512) (l : Fin 512), v (ix2 r l) = w r.val l.val) (l : Fin 512) :
    (k0_pay57 (F := Ideal) s v z (ix2 0 l) : EReal)
      = ceilE (Finset.univ.fold max (Ideal.ofBits .f32 0xFF800000#32) (fun a : Fin 8 => max (s (ix2 a l)) (run w a l 61 3 (z (ix2 a l)))) * scale) := by
  pointwise [k0_pay57]
  simp only [hv]
  rw [named_scale]
  rfl

/-- The first key block's probabilities. -/
theorem pay59_at (s : FVec Ideal S8x512 .f32) (v : FVec Ideal S512x512 .f32) (z : FVec Ideal S8x512 .f32) (y : FVec Ideal S512x512 .f32)
    (r l : Fin 512) :
    (k0_pay59 (F := Ideal) s v z y (ix2 r l) : EReal) = Ideal.exp2 (y (ix2 r l) * scale - k0_pay57 (F := Ideal) s v z (ix2 0 l)) := by
  pointwise [k0_pay59]
  rw [named_scale]
  rfl

/-- A later key block's probabilities. -/
theorem pay64_at (m : FVec Ideal S1x512 .f32) (y : FVec Ideal S512x512 .f32) (r l : Fin 512) :
    (k0_pay64 (F := Ideal) m y (ix2 r l) : EReal) = Ideal.exp2 (y (ix2 r l) * scale - m (ix2 0 l)) := by
  pointwise [k0_pay64]
  rw [named_scale]
  rfl

/-- A later key block's probabilities. -/
theorem pay70_at (m : FVec Ideal S1x512 .f32) (y : FVec Ideal S512x512 .f32) (r l : Fin 512) :
    (k0_pay70 (F := Ideal) m y (ix2 r l) : EReal) = Ideal.exp2 (y (ix2 r l) * scale - m (ix2 0 l)) := by
  pointwise [k0_pay70]
  rw [named_scale]
  rfl

/-- A later key block's probabilities. -/
theorem pay75_at (m : FVec Ideal S1x512 .f32) (y : FVec Ideal S512x512 .f32) (r l : Fin 512) :
    (k0_pay75 (F := Ideal) m y (ix2 r l) : EReal) = Ideal.exp2 (y (ix2 r l) * scale - m (ix2 0 l)) := by
  pointwise [k0_pay75]
  rw [named_scale]
  rfl

/-- A later key block's probabilities. -/
theorem pay80_at (m : FVec Ideal S1x512 .f32) (y : FVec Ideal S512x512 .f32) (r l : Fin 512) :
    (k0_pay80 (F := Ideal) m y (ix2 r l) : EReal) = Ideal.exp2 (y (ix2 r l) * scale - m (ix2 0 l)) := by
  pointwise [k0_pay80]
  rw [named_scale]
  rfl

/-- A later key block's probabilities. -/
theorem pay85_at (m : FVec Ideal S1x512 .f32) (y : FVec Ideal S512x512 .f32) (r l : Fin 512) :
    (k0_pay85 (F := Ideal) m y (ix2 r l) : EReal) = Ideal.exp2 (y (ix2 r l) * scale - m (ix2 0 l)) := by
  pointwise [k0_pay85]
  rw [named_scale]
  rfl

/-- A later key block's probabilities. -/
theorem pay90_at (m : FVec Ideal S1x512 .f32) (y : FVec Ideal S512x512 .f32) (r l : Fin 512) :
    (k0_pay90 (F := Ideal) m y (ix2 r l) : EReal) = Ideal.exp2 (y (ix2 r l) * scale - m (ix2 0 l)) := by
  pointwise [k0_pay90]
  rw [named_scale]
  rfl

/-- A later key block's probabilities. -/
theorem pay96_at (m : FVec Ideal S1x512 .f32) (y : FVec Ideal S512x512 .f32) (r l : Fin 512) :
    (k0_pay96 (F := Ideal) m y (ix2 r l) : EReal) = Ideal.exp2 (y (ix2 r l) * scale - m (ix2 0 l)) := by
  pointwise [k0_pay96]
  rw [named_scale]
  rfl

/-- A later key block's probabilities. -/
theorem pay101_at (m : FVec Ideal S1x512 .f32) (y : FVec Ideal S512x512 .f32) (r l : Fin 512) :
    (k0_pay101 (F := Ideal) m y (ix2 r l) : EReal) = Ideal.exp2 (y (ix2 r l) * scale - m (ix2 0 l)) := by
  pointwise [k0_pay101]
  rw [named_scale]
  rfl

/-- A block of probabilities as it is kept. -/
theorem pay63_at (v : FVec Ideal S512x512 .f32) (x : S512x512.Idx) : (k0_pay63 (F := Ideal) v x : EReal) = v x := by
  pointwise [k0_pay63]

/-- A block of probabilities as it is kept. -/
theorem pay69_at (v : FVec Ideal S512x512 .f32) (x : S512x512.Idx) : (k0_pay69 (F := Ideal) v x : EReal) = v x := by
  pointwise [k0_pay69]

/-- A block of probabilities as it is kept. -/
theorem pay74_at (v : FVec Ideal S512x512 .f32) (x : S512x512.Idx) : (k0_pay74 (F := Ideal) v x : EReal) = v x := by
  pointwise [k0_pay74]

/-- A block of probabilities as it is kept. -/
theorem pay79_at (v : FVec Ideal S512x512 .f32) (x : S512x512.Idx) : (k0_pay79 (F := Ideal) v x : EReal) = v x := by
  pointwise [k0_pay79]

/-- A block of probabilities as it is kept. -/
theorem pay84_at (v : FVec Ideal S512x512 .f32) (x : S512x512.Idx) : (k0_pay84 (F := Ideal) v x : EReal) = v x := by
  pointwise [k0_pay84]

/-- A block of probabilities as it is kept. -/
theorem pay89_at (v : FVec Ideal S512x512 .f32) (x : S512x512.Idx) : (k0_pay89 (F := Ideal) v x : EReal) = v x := by
  pointwise [k0_pay89]

/-- A block of probabilities as it is kept. -/
theorem pay95_at (v : FVec Ideal S512x512 .f32) (x : S512x512.Idx) : (k0_pay95 (F := Ideal) v x : EReal) = v x := by
  pointwise [k0_pay95]

/-- A block of probabilities as it is kept. -/
theorem pay100_at (v : FVec Ideal S512x512 .f32) (x : S512x512.Idx) : (k0_pay100 (F := Ideal) v x : EReal) = v x := by
  pointwise [k0_pay100]

/-- A block of probabilities as it is kept. -/
theorem pay105_at (v : FVec Ideal S512x512 .f32) (x : S512x512.Idx) : (k0_pay105 (F := Ideal) v x : EReal) = v x := by
  pointwise [k0_pay105]

/-- The weighted values over the sum of the weights. -/
theorem pay106_at (s : FVec Ideal S8x512 .f32) (v : FVec Ideal S1x128x4608 .bf16) (p : FVec Ideal S4608x512 .bf16) (d : Fin 128) (l : Fin 512) :
    (k0_pay106 (F := Ideal) s v p (ix2 d l) : EReal)
      = Ideal.div (∑ key : Fin 4608, v (ix3 0 d key) * p (ix2 key l)) (∑ a : Fin 8, s (ix2 a l)) := by
  pointwise [k0_pay106]

/-- The codes, the queries down the rows. -/
theorem pay109_at (sa : EReal) (v : FVec Ideal S128x512 .f32) (r : Fin 512) (d : Fin 128) :
    (k0_pay109 (F := Ideal) sa v (ix2 r d) : EReal) = quantise (v (ix2 d r)) sa := by
  pointwise [k0_pay109, quantise]

/-- The carried maximum, entry by entry. -/
theorem pay108_eq (v : FVec Ideal S8x128 .f32) : k0_pay108 (F := Ideal) v = v := by
  funext x
  pointwise [k0_pay108]

/-- The carried maximum after a block of queries: before it, the greatest absolute value of the rows with one remainder by
    eight, in four groups of columns. -/
theorem pay107_at (s : FVec Ideal S8x512 .f32) (v : FVec Ideal S1x128x4608 .bf16) (p : FVec Ideal S4608x512 .bf16) (old : FVec Ideal S8x128 .f32)
    (w : ℕ → ℕ → EReal) (hw : ∀ (d : Fin 128) (l : Fin 512), magnitude (k0_pay106 (F := Ideal) s v p (ix2 d l)) = w d.val l.val)
    (a : Fin 8) (b : Fin 128) :
    (k0_pay107 (F := Ideal) s v p old (ix2 a b) : EReal)
      = max (old (ix2 a b)) (max (max (max (run w a b 1 15 (w a b)) (run w a (128 + b) 1 15 (w a (128 + b))))
          (run w a (256 + b) 1 15 (w a (256 + b)))) (run w a (384 + b) 1 15 (w a (384 + b)))) := by
  have hw' : ∀ (d : Fin 128) (l : Fin 512), (FloatOps.absf (F := Ideal) (φ := .f32) (k0_pay106 (F := Ideal) s v p (ix2 d l)) : EReal) = w d.val l.val := hw
  pointwise [k0_pay107]
  simp only [hw'] <;> rfl

/-- The last maximum. -/
theorem pay2_at (v : FVec Ideal S8x128 .f32) (y : S1x1.Idx) :
    (k0_pay2 (F := Ideal) v y : EReal)
      = Finset.univ.fold max (Ideal.ofBits .f32 0xFF800000#32) (fun x : Fin 8 × Fin 128 => v (ix2 x.1 x.2)) := by
  pointwise [k0_pay2]

end Cert.Proof.AttnPay

end
-- ==== Proof.AttnAll.lean ====
/-
  Hand-written. THE ATTENTION'S SUMS AND MAXIMA: the folds over nine key blocks by rows with one remainder by eight range over all keys.
-/
module

public import proofs.«01_k».proof.Proof.AttnMath
public import proofs.«01_k».proof.Proof.AttnFold

@[expose] public section

set_option maxRecDepth 16384

noncomputable section

namespace Cert.Proof.AttnAll

open Idealize.ShloMosaic Idealize.ShloMosaic.TcCoe Idealize.SL.Sem
open Idealize.ShloMosaic.Pipeline (Dat)
open Cert.KAttnIdeal Cert.KAttnIdeal.Gen

open Cert.Proof.AttnMath
open Cert.Proof.AttnFold

/-- Key block `c` of a table over all keys. -/
def block (W : ℕ → ℕ → EReal) (c r l : ℕ) : EReal := W (512 * c + r) l

/-- What the maximum holds for a sublane after nine key blocks. -/
def allMax (W : ℕ → ℕ → EReal) (a l : ℕ) : EReal :=
  max (max (max (max (max (max (max (max (max (Ideal.ofBits .f32 0xFF800000#32) (column (block W 0) a l)) (column (block W 1) a l)) (column (block W 2) a l)) (column (block W 3) a l)) (column (block W 4) a l)) (column (block W 5) a l)) (column (block W 6) a l)) (column (block W 7) a l)) (column (block W 8) a l)

/-- What the sum holds for a sublane after nine key blocks. -/
def allSum (W : ℕ → ℕ → EReal) (a l : ℕ) : EReal :=
  Ideal.ofBits .f32 0x00000000#32 + columnSum (block W 0) a l + columnSum (block W 1) a l + columnSum (block W 2) a l + columnSum (block W 3) a l + columnSum (block W 4) a l + columnSum (block W 5) a l + columnSum (block W 6) a l + columnSum (block W 7) a l + columnSum (block W 8) a l

/-- The pattern of minus infinity is the least value. -/
theorem bottom : Ideal.ofBits .f32 0xFF800000#32 = (⊥ : EReal) := by
  simp [Ideal.ofBits, Ideal.ieee]

/-- The pattern of zero is zero. -/
theorem zero : Ideal.ofBits .f32 0x00000000#32 = (0 : EReal) := by
  simp [Ideal.ofBits, Ideal.ieee]

/-- A run is below a bound when its start and each of its entries are. -/
theorem run_le (w : ℕ → ℕ → EReal) (a l lo n : ℕ) (z B : EReal) :
    run w a l lo n z ≤ B ↔ z ≤ B ∧ ∀ i, lo ≤ i → i < lo + n → w (8 * i + a) l ≤ B := by
  induction n with
  | zero => exact ⟨fun h => ⟨h, fun i h1 h2 => absurd h2 (by omega)⟩, fun h => h.1⟩
  | succ n ih =>
    have e : run w a l lo (n + 1) z = max (run w a l lo n z) (w (8 * (lo + n) + a) l) := rfl
    rw [e, max_le_iff, ih]
    constructor
    · rintro ⟨⟨h1, h2⟩, h3⟩
      refine ⟨h1, fun i hi hj => ?_⟩
      rcases Nat.lt_or_ge i (lo + n) with h | h
      · exact h2 i hi h
      · have : i = lo + n := by omega
        exact this ▸ h3
    · rintro ⟨h1, h2⟩
      exact ⟨⟨h1, fun i hi hj => h2 i hi (by omega)⟩, h2 _ (by omega) (by omega)⟩

/-- A column's greatest entry is below a bound when its entries are. -/
theorem column_le (w : ℕ → ℕ → EReal) (a l : ℕ) (B : EReal) :
    column w a l ≤ B ↔ ∀ i, i < 64 → w (8 * i + a) l ≤ B := by
  unfold column
  rw [run_le]
  constructor
  · rintro ⟨h1, h2⟩ i hi
    rcases Nat.eq_zero_or_pos i with rfl | h
    · simpa using h1
    · exact h2 i h (by omega)
  · intro h
    exact ⟨by simpa using h 0 (by omega), fun i _ hi => h i (by omega)⟩

/-- The greatest over the sublanes is the greatest over the keys. -/
theorem allMax_eq (W : ℕ → ℕ → EReal) (l : ℕ) :
    Finset.univ.fold max (Ideal.ofBits .f32 0xFF800000#32) (fun a : Fin 8 => allMax W a l) = ⨆ j : Fin 4608, W j l := by
  refine eq_of_forall_ge_iff (α := EReal) fun B => ?_
  rw [bottom, Finset.fold_max_le]
  unfold allMax
  simp only [bottom, max_le_iff, bot_le, true_and, column_le, iSup_le_iff, block, Finset.mem_univ, forall_true_left]
  constructor
  · intro h j
    have hj := j.isLt
    obtain ⟨⟨⟨⟨⟨⟨⟨⟨h0, h1⟩, h2⟩, h3⟩, h4⟩, h5⟩, h6⟩, h7⟩, h8⟩ := h ⟨j.val % 8, by omega⟩
    have e : ∀ c, j.val / 512 = c → 512 * c + (8 * (j.val % 512 / 8) + j.val % 8) = j.val := fun c hc => by omega
    have hi : j.val % 512 / 8 < 64 := by omega
    obtain hc | hc | hc | hc | hc | hc | hc | hc | hc : j.val / 512 = 0 ∨ j.val / 512 = 1 ∨ j.val / 512 = 2 ∨ j.val / 512 = 3
        ∨ j.val / 512 = 4 ∨ j.val / 512 = 5 ∨ j.val / 512 = 6 ∨ j.val / 512 = 7 ∨ j.val / 512 = 8 := by omega
    · exact e _ hc ▸ h0 _ hi
    · exact e _ hc ▸ h1 _ hi
    · exact e _ hc ▸ h2 _ hi
    · exact e _ hc ▸ h3 _ hi
    · exact e _ hc ▸ h4 _ hi
    · exact e _ hc ▸ h5 _ hi
    · exact e _ hc ▸ h6 _ hi
    · exact e _ hc ▸ h7 _ hi
    · exact e _ hc ▸ h8 _ hi
  · intro h a
    have ha := a.isLt
    exact ⟨⟨⟨⟨⟨⟨⟨⟨fun i hi => h ⟨512 * 0 + (8 * i + a), by omega⟩, fun i hi => h ⟨512 * 1 + (8 * i + a), by omega⟩⟩,
      fun i hi => h ⟨512 * 2 + (8 * i + a), by omega⟩⟩, fun i hi => h ⟨512 * 3 + (8 * i + a), by omega⟩⟩,
      fun i hi => h ⟨512 * 4 + (8 * i + a), by omega⟩⟩, fun i hi => h ⟨512 * 5 + (8 * i + a), by omega⟩⟩,
      fun i hi => h ⟨512 * 6 + (8 * i + a), by omega⟩⟩, fun i hi => h ⟨512 * 7 + (8 * i + a), by omega⟩⟩,
      fun i hi => h ⟨512 * 8 + (8 * i + a), by omega⟩⟩

/-- A sum over `n` groups of `m`. -/
theorem sum_groups (f : ℕ → EReal) (n m : ℕ) :
    ∑ i ∈ Finset.range (n * m), f i = ∑ c ∈ Finset.range n, ∑ i ∈ Finset.range m, f (m * c + i) := by
  induction n with
  | zero => simp
  | succ n ih => rw [Nat.succ_mul, Finset.sum_range_add, ih, Finset.sum_range_succ, Nat.mul_comm n m]

/-- A run of additions is a sum. -/
theorem tot_eq (w : ℕ → ℕ → EReal) (a l lo n : ℕ) (z : EReal) :
    tot w a l lo n z = z + ∑ i ∈ Finset.range n, w (8 * (lo + i) + a) l := by
  induction n with
  | zero => simp [tot]
  | succ n ih =>
    rw [Finset.sum_range_succ, ← add_assoc, ← ih]
    rfl

/-- A column's sum. -/
theorem columnSum_eq (w : ℕ → ℕ → EReal) (a l : ℕ) :
    columnSum w a l = ∑ i ∈ Finset.range 64, w (8 * i + a) l := by
  unfold columnSum
  rw [tot_eq, Finset.sum_range_succ' _ 63, add_comm]
  refine congrArg₂ _ (Finset.sum_congr rfl fun i _ => ?_) ?_
  · rw [Nat.add_comm 1 i]
  · simp

/-- The sum over the sublanes is the sum over the keys. -/
theorem allSum_eq (W : ℕ → ℕ → EReal) (l : ℕ) :
    ∑ a : Fin 8, allSum W a l = ∑ j : Fin 4608, W j l := by
  have h : ∀ a, allSum W a l = ∑ c ∈ Finset.range 9, ∑ i ∈ Finset.range 64, W (512 * c + (8 * i + a)) l := by
    intro a
    unfold allSum
    simp only [columnSum_eq, block, zero, zero_add, Finset.sum_range_succ _ 8, Finset.sum_range_succ _ 7, Finset.sum_range_succ _ 6,
      Finset.sum_range_succ _ 5, Finset.sum_range_succ _ 4, Finset.sum_range_succ _ 3, Finset.sum_range_succ _ 2,
      Finset.sum_range_succ _ 1, Finset.sum_range_succ _ 0, Finset.sum_range_zero]
  rw [Finset.sum_congr rfl fun a _ => h a.val]
  rw [Fin.sum_univ_eq_sum_range (fun a => ∑ c ∈ Finset.range 9, ∑ i ∈ Finset.range 64, W (512 * c + (8 * i + a)) l) 8,
    Fin.sum_univ_eq_sum_range (fun j => W j l) 4608, show (4608 : ℕ) = 9 * 512 from rfl, sum_groups _ 9 512, Finset.sum_comm]
  refine Finset.sum_congr rfl fun c _ => ?_
  rw [show (512 : ℕ) = 64 * 8 from rfl, sum_groups _ 64 8, Finset.sum_comm]

end Cert.Proof.AttnAll

end
-- ==== Proof.KAttnIdealTrip.lean ====
module

public import proofs.«01_k».proof.Proof.Gen.KAttnIdeal.Skeleton
public import Idealize.ShloMosaic.Lib.Exec
public import Idealize.ShloMosaic.Lib.Tactic
public import Idealize.ShloMosaic.Lib.Pipeline.Kit

/-!
  One trip of the attention kernel's loop, run: the pieces it writes as functions of what it reads.

  The parts of the body that do not mention the named score scale are first shown equal to their skeletons without
  assuming that constants have names; through these the run keeps the skeletons' values as single names.
-/

@[expose] public section

set_option maxRecDepth 8192
set_option maxHeartbeats 2000000

noncomputable section

namespace Cert.KAttnIdeal

section Parts
open Idealize.ShloMosaic
variable {F : FTy → Type} [FloatOps F]

set_option maxRecDepth 65536 in
theorem k0_part1_eq_skeleton : k0_part1 (F := F) = Gen.k0_part1_skel (F := F) := rfl
set_option maxRecDepth 65536 in
theorem k0_part2_eq_skeleton : k0_part2 (F := F) = Gen.k0_part2_skel (F := F) := rfl
set_option maxRecDepth 65536 in
theorem k0_part3_eq_skeleton : k0_part3 (F := F) = Gen.k0_part3_skel (F := F) := rfl
set_option maxRecDepth 65536 in
theorem k0_part4_eq_skeleton : k0_part4 (F := F) = Gen.k0_part4_skel (F := F) := rfl
set_option maxRecDepth 65536 in
theorem k0_part5_eq_skeleton : k0_part5 (F := F) = Gen.k0_part5_skel (F := F) := rfl
set_option maxRecDepth 65536 in
theorem k0_part6_eq_skeleton : k0_part6 (F := F) = Gen.k0_part6_skel (F := F) := rfl
set_option maxRecDepth 65536 in
theorem k0_part7_eq_skeleton : k0_part7 (F := F) = Gen.k0_part7_skel (F := F) := rfl
set_option maxRecDepth 65536 in
theorem k0_part8_eq_skeleton : k0_part8 (F := F) = Gen.k0_part8_skel (F := F) := rfl
set_option maxRecDepth 65536 in
theorem k0_part9_eq_skeleton : k0_part9 (F := F) = Gen.k0_part9_skel (F := F) := rfl
set_option maxRecDepth 65536 in
theorem k0_part10_eq_skeleton : k0_part10 (F := F) = Gen.k0_part10_skel (F := F) := rfl
set_option maxRecDepth 65536 in
theorem k0_part11_eq_skeleton : k0_part11 (F := F) = Gen.k0_part11_skel (F := F) := rfl
set_option maxRecDepth 65536 in
theorem k0_part12_eq_skeleton : k0_part12 (F := F) = Gen.k0_part12_skel (F := F) := rfl
set_option maxRecDepth 65536 in
theorem k0_part13_eq_skeleton : k0_part13 (F := F) = Gen.k0_part13_skel (F := F) := rfl
set_option maxRecDepth 65536 in
theorem k0_part14_eq_skeleton : k0_part14 (F := F) = Gen.k0_part14_skel (F := F) := rfl
set_option maxRecDepth 65536 in
theorem k0_part15_eq_skeleton : k0_part15 (F := F) = Gen.k0_part15_skel (F := F) := rfl
set_option maxRecDepth 65536 in
theorem k0_part16_eq_skeleton : k0_part16 (F := F) = Gen.k0_part16_skel (F := F) := rfl
set_option maxRecDepth 65536 in
theorem k0_part17_eq_skeleton : k0_part17 (F := F) = Gen.k0_part17_skel (F := F) := rfl
set_option maxRecDepth 65536 in
theorem k0_part18_eq_skeleton : k0_part18 (F := F) = Gen.k0_part18_skel (F := F) := rfl
set_option maxRecDepth 65536 in
theorem k0_part19_eq_skeleton : k0_part19 (F := F) = Gen.k0_part19_skel (F := F) := rfl
set_option maxRecDepth 65536 in
theorem k0_part20_eq_skeleton : k0_part20 (F := F) = Gen.k0_part20_skel (F := F) := rfl
set_option maxRecDepth 65536 in
theorem k0_part21_eq_skeleton : k0_part21 (F := F) = Gen.k0_part21_skel (F := F) := rfl
set_option maxRecDepth 65536 in
theorem k0_part23_eq_skeleton : k0_part23 (F := F) = Gen.k0_part23_skel (F := F) := rfl
set_option maxRecDepth 65536 in
theorem k0_part25_eq_skeleton : k0_part25 (F := F) = Gen.k0_part25_skel (F := F) := rfl
set_option maxRecDepth 65536 in
theorem k0_part26_eq_skeleton : k0_part26 (F := F) = Gen.k0_part26_skel (F := F) := rfl
set_option maxRecDepth 65536 in
theorem k0_part28_eq_skeleton : k0_part28 (F := F) = Gen.k0_part28_skel (F := F) := rfl
set_option maxRecDepth 65536 in
theorem k0_part30_eq_skeleton : k0_part30 (F := F) = Gen.k0_part30_skel (F := F) := rfl
set_option maxRecDepth 65536 in
theorem k0_part31_eq_skeleton : k0_part31 (F := F) = Gen.k0_part31_skel (F := F) := rfl
set_option maxRecDepth 65536 in
theorem k0_part33_eq_skeleton : k0_part33 (F := F) = Gen.k0_part33_skel (F := F) := rfl
set_option maxRecDepth 65536 in
theorem k0_part35_eq_skeleton : k0_part35 (F := F) = Gen.k0_part35_skel (F := F) := rfl
set_option maxRecDepth 65536 in
theorem k0_part37_eq_skeleton : k0_part37 (F := F) = Gen.k0_part37_skel (F := F) := rfl
set_option maxRecDepth 65536 in
theorem k0_part38_eq_skeleton : k0_part38 (F := F) = Gen.k0_part38_skel (F := F) := rfl
set_option maxRecDepth 65536 in
theorem k0_part40_eq_skeleton : k0_part40 (F := F) = Gen.k0_part40_skel (F := F) := rfl
set_option maxRecDepth 65536 in
theorem k0_part42_eq_skeleton : k0_part42 (F := F) = Gen.k0_part42_skel (F := F) := rfl
set_option maxRecDepth 65536 in
theorem k0_part43_eq_skeleton : k0_part43 (F := F) = Gen.k0_part43_skel (F := F) := rfl
set_option maxRecDepth 65536 in
theorem k0_part44_eq_skeleton : k0_part44 (F := F) = Gen.k0_part44_skel (F := F) := rfl

end Parts

end Cert.KAttnIdeal

namespace Cert.KAttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra of the generated instances. -/
local notation "𝕄G" => MT nD τ sig Unit (Elt F) ℕ (UR sig nD τ) ℕ
/-! ## `cc0_attention` -/

/-- The class of invariants of the attention kernel's loop over blocks of 512 query rows. -/
abbrev LoopInvTy_k0_h1 (Ix Name U Lvl : Type) [DecidableEq Ix] [DecidableEq Name] [RA.URA U] [Preorder Lvl]
    (𝒱 : Variants) (c : Dev nD) (bd : Option 𝒱.V) (E : Set Name) (i : grid0.Coords) (arg2 : Memref sig .tc .smem S2 .i32) (harg2 : arg2.IsWhole) (arg3 : Memref sig .tc .vmem S4608x128 .bf16) (harg3 : arg3.IsWhole) (arg4 : Memref sig .tc .vmem S4608x128 .bf16) (harg4 : arg4.IsWhole) (arg5 : Memref sig .tc .vmem S1x128x4608 .bf16) (harg5 : arg5.IsWhole) (arg6 : Memref sig .tc .smem S1x1 .f32) (harg6 : arg6.IsWhole) (arg7 : Memref sig .tc .vmem S4608x128 .fp8e4m3) (harg7 : arg7.IsWhole) (arg8 : Memref sig .tc .vmem S1x1 .f32) (harg8 : arg8.IsWhole) (arg9 : Memref sig .tc .vmem S4608x512 .f32) (harg9 : arg9.IsWhole) (arg10 : Memref sig .tc .vmem S4608x512 .bf16) (harg10 : arg10.IsWhole) (arg11 : Memref sig .tc .vmem S8x128 .f32) (harg11 : arg11.IsWhole) (v1 : Elt F .i32) (v2 : Elt F .f32) :=
  Idealize.ShloMosaic.LoopInv (M := MT nD τ sig Ix (Elt F) Name U Lvl) Idealize.ShloMosaic.frame (wpE defs₀ 𝒱 (c : Thread nD τ) bd) E
    k0_t1_loop.lb k0_t1_loop.ub k0_t1_loop.st k0_t1_ok () (k0_t1_body (F := F) i arg2 harg2 arg3 harg3 arg4 harg4 arg5 harg5 arg6 harg6 arg7 harg7 arg8 harg8 arg9 harg9 arg10 harg10 arg11 harg11 v1 v2)

/-! ### The loop's invariant -/

/-- One trip's resources: what the region reads (arg3, arg4, arg5) at its contents, what it writes
   (arg7, arg9, arg10, arg11) at any. -/
abbrev Trip_k0_h1 (c : Dev nD) (arg3 : Memref sig .tc .vmem S4608x128 .bf16) (arg4 : Memref sig .tc .vmem S4608x128 .bf16) (arg5 : Memref sig .tc .vmem S1x128x4608 .bf16) (arg7 : Memref sig .tc .vmem S4608x128 .fp8e4m3) (arg9 : Memref sig .tc .vmem S4608x512 .f32) (arg10 : Memref sig .tc .vmem S4608x512 .bf16) (arg11 : Memref sig .tc .vmem S8x128 .f32) (X_arg3 : BufTy.Contents (Elt F) arg3.view.ty) (X_arg4 : BufTy.Contents (Elt F) arg4.view.ty) (X_arg5 : BufTy.Contents (Elt F) arg5.view.ty) (f_arg7 : BufTy.Contents (Elt F) arg7.view.ty) (f_arg9 : BufTy.Contents (Elt F) arg9.view.ty) (f_arg10 : BufTy.Contents (Elt F) arg10.view.ty) (f_arg11 : BufTy.Contents (Elt F) arg11.view.ty) : sProp 𝕄G :=
  iprop((arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg7.view.loc (c : Thread nD τ) ↦[arg7.view.set]{fullShare} f_arg7) ∗ (arg9.view.loc (c : Thread nD τ) ↦[arg9.view.set]{fullShare} f_arg9) ∗ (arg10.view.loc (c : Thread nD τ) ↦[arg10.view.set]{fullShare} f_arg10) ∗ (arg11.view.loc (c : Thread nD τ) ↦[arg11.view.set]{fullShare} f_arg11))

/-- ONE TRIP of `k0_t1_loop` at a symbolic `k`: the pieces it writes into arg7, arg9, arg10, arg11, as functions of the
   contents the trip finds in the memrefs it writes (some are loaded back). Cited, never unfolded. -/
@[irreducible] def trip_k0_h1 (𝒱 : Variants) (c : Dev nD) (bd : Option 𝒱.V) (i : grid0.Coords) (arg2 : Memref sig .tc .smem S2 .i32) (harg2 : arg2.IsWhole) (arg3 : Memref sig .tc .vmem S4608x128 .bf16) (harg3 : arg3.IsWhole) (arg4 : Memref sig .tc .vmem S4608x128 .bf16) (harg4 : arg4.IsWhole) (arg5 : Memref sig .tc .vmem S1x128x4608 .bf16) (harg5 : arg5.IsWhole) (arg6 : Memref sig .tc .smem S1x1 .f32) (harg6 : arg6.IsWhole) (arg7 : Memref sig .tc .vmem S4608x128 .fp8e4m3) (harg7 : arg7.IsWhole) (arg8 : Memref sig .tc .vmem S1x1 .f32) (harg8 : arg8.IsWhole) (arg9 : Memref sig .tc .vmem S4608x512 .f32) (harg9 : arg9.IsWhole) (arg10 : Memref sig .tc .vmem S4608x512 .bf16) (harg10 : arg10.IsWhole) (arg11 : Memref sig .tc .vmem S8x128 .f32) (harg11 : arg11.IsWhole) (v1 : Elt F .i32) (v2 : Elt F .f32) (X_arg3 : BufTy.Contents (Elt F) arg3.view.ty) (X_arg4 : BufTy.Contents (Elt F) arg4.view.ty) (X_arg5 : BufTy.Contents (Elt F) arg5.view.ty) (k : Fin k0_t1_loop.trips) :
    Σ' (L_arg7 : (BufTy.Contents (Elt F) arg7.view.ty → BufTy.Contents (Elt F) arg9.view.ty → BufTy.Contents (Elt F) arg10.view.ty → BufTy.Contents (Elt F) arg11.view.ty → List (View.Piece (Elt F) S4608x128 .fp8e4m3))) (L_arg9 : (BufTy.Contents (Elt F) arg7.view.ty → BufTy.Contents (Elt F) arg9.view.ty → BufTy.Contents (Elt F) arg10.view.ty → BufTy.Contents (Elt F) arg11.view.ty → List (View.Piece (Elt F) S4608x512 .f32))) (L_arg10 : (BufTy.Contents (Elt F) arg7.view.ty → BufTy.Contents (Elt F) arg9.view.ty → BufTy.Contents (Elt F) arg10.view.ty → BufTy.Contents (Elt F) arg11.view.ty → List (View.Piece (Elt F) S4608x512 .bf16))) , { L_arg11 : (BufTy.Contents (Elt F) arg7.view.ty → BufTy.Contents (Elt F) arg9.view.ty → BufTy.Contents (Elt F) arg10.view.ty → BufTy.Contents (Elt F) arg11.view.ty → List (View.Piece (Elt F) S8x128 .f32)) // ∀ (E : Set ℕ) (f_arg7 : BufTy.Contents (Elt F) arg7.view.ty) (f_arg9 : BufTy.Contents (Elt F) arg9.view.ty) (f_arg10 : BufTy.Contents (Elt F) arg10.view.ty) (f_arg11 : BufTy.Contents (Elt F) arg11.view.ty),
      Trip_k0_h1 (F := F) c arg3 arg4 arg5 arg7 arg9 arg10 arg11 X_arg3 X_arg4 X_arg5 f_arg7 f_arg9 f_arg10 f_arg11
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 v1 v2 k PUnit.unit)
          (fun _ => Trip_k0_h1 (F := F) c arg3 arg4 arg5 arg7 arg9 arg10 arg11 X_arg3 X_arg4 X_arg5 (arg7.view.writes (Elt F) f_arg7 (L_arg7 f_arg7 f_arg9 f_arg10 f_arg11)) (arg9.view.writes (Elt F) f_arg9 (L_arg9 f_arg7 f_arg9 f_arg10 f_arg11)) (arg10.view.writes (Elt F) f_arg10 (L_arg10 f_arg7 f_arg9 f_arg10 f_arg11)) (arg11.view.writes (Elt F) f_arg11 (L_arg11 f_arg7 f_arg9 f_arg10 f_arg11))) } := by
  have hk : k.val < 9 := Nat.lt_of_lt_of_le k.isLt k0_t1_abs.2.1
  refine ⟨?_, ?_, ?_, ?_, fun E f_arg7 f_arg9 f_arg10 f_arg11 => ?run⟩
  case run =>
    unfold k0_t1_body
    iintro ⟨HR_arg3, HR_arg4, HR_arg5, HW_arg7, HW_arg9, HW_arg10, HW_arg11⟩
    sl_exec
    sl_step
    sl_close

/-- The trip's piece lists (plain projections of `trip_k0_h1`, for the recursion below to cite without
   its proof), at the contents the trip finds in the written memrefs. -/
abbrev tripL_k0_h1 (𝒱 : Variants) (c : Dev nD) (bd : Option 𝒱.V) (i : grid0.Coords) (arg2 : Memref sig .tc .smem S2 .i32) (harg2 : arg2.IsWhole) (arg3 : Memref sig .tc .vmem S4608x128 .bf16) (harg3 : arg3.IsWhole) (arg4 : Memref sig .tc .vmem S4608x128 .bf16) (harg4 : arg4.IsWhole) (arg5 : Memref sig .tc .vmem S1x128x4608 .bf16) (harg5 : arg5.IsWhole) (arg6 : Memref sig .tc .smem S1x1 .f32) (harg6 : arg6.IsWhole) (arg7 : Memref sig .tc .vmem S4608x128 .fp8e4m3) (harg7 : arg7.IsWhole) (arg8 : Memref sig .tc .vmem S1x1 .f32) (harg8 : arg8.IsWhole) (arg9 : Memref sig .tc .vmem S4608x512 .f32) (harg9 : arg9.IsWhole) (arg10 : Memref sig .tc .vmem S4608x512 .bf16) (harg10 : arg10.IsWhole) (arg11 : Memref sig .tc .vmem S8x128 .f32) (harg11 : arg11.IsWhole) (v1 : Elt F .i32) (v2 : Elt F .f32) (X_arg3 : BufTy.Contents (Elt F) arg3.view.ty) (X_arg4 : BufTy.Contents (Elt F) arg4.view.ty) (X_arg5 : BufTy.Contents (Elt F) arg5.view.ty) (k : Fin k0_t1_loop.trips) (f_arg7 : BufTy.Contents (Elt F) arg7.view.ty) (f_arg9 : BufTy.Contents (Elt F) arg9.view.ty) (f_arg10 : BufTy.Contents (Elt F) arg10.view.ty) (f_arg11 : BufTy.Contents (Elt F) arg11.view.ty) : List (View.Piece (Elt F) S4608x128 .fp8e4m3) × List (View.Piece (Elt F) S4608x512 .f32) × List (View.Piece (Elt F) S4608x512 .bf16) × List (View.Piece (Elt F) S8x128 .f32) :=
  ((trip_k0_h1 (F := F) 𝒱 c bd i arg2 harg2 arg3 harg3 arg4 harg4 arg5 harg5 arg6 harg6 arg7 harg7 arg8 harg8 arg9 harg9 arg10 harg10 arg11 harg11 v1 v2 X_arg3 X_arg4 X_arg5 k).1 f_arg7 f_arg9 f_arg10 f_arg11, (trip_k0_h1 (F := F) 𝒱 c bd i arg2 harg2 arg3 harg3 arg4 harg4 arg5 harg5 arg6 harg6 arg7 harg7 arg8 harg8 arg9 harg9 arg10 harg10 arg11 harg11 v1 v2 X_arg3 X_arg4 X_arg5 k).2.1 f_arg7 f_arg9 f_arg10 f_arg11, (trip_k0_h1 (F := F) 𝒱 c bd i arg2 harg2 arg3 harg3 arg4 harg4 arg5 harg5 arg6 harg6 arg7 harg7 arg8 harg8 arg9 harg9 arg10 harg10 arg11 harg11 v1 v2 X_arg3 X_arg4 X_arg5 k).2.2.1 f_arg7 f_arg9 f_arg10 f_arg11, (trip_k0_h1 (F := F) 𝒱 c bd i arg2 harg2 arg3 harg3 arg4 harg4 arg5 harg5 arg6 harg6 arg7 harg7 arg8 harg8 arg9 harg9 arg10 harg10 arg11 harg11 v1 v2 X_arg3 X_arg4 X_arg5 k).2.2.2.1 f_arg7 f_arg9 f_arg10 f_arg11)

/-- Trip `k`'s contribution to the state the recursion `pb_k0_h1` below carries (`prev`): its pieces
   in front, per written memref; past the last trip, `prev` itself. -/
@[irreducible] def pb_k0_h1Step (𝒱 : Variants) (c : Dev nD) (bd : Option 𝒱.V) (i : grid0.Coords) (arg2 : Memref sig .tc .smem S2 .i32) (harg2 : arg2.IsWhole) (arg3 : Memref sig .tc .vmem S4608x128 .bf16) (harg3 : arg3.IsWhole) (arg4 : Memref sig .tc .vmem S4608x128 .bf16) (harg4 : arg4.IsWhole) (arg5 : Memref sig .tc .vmem S1x128x4608 .bf16) (harg5 : arg5.IsWhole) (arg6 : Memref sig .tc .smem S1x1 .f32) (harg6 : arg6.IsWhole) (arg7 : Memref sig .tc .vmem S4608x128 .fp8e4m3) (harg7 : arg7.IsWhole) (arg8 : Memref sig .tc .vmem S1x1 .f32) (harg8 : arg8.IsWhole) (arg9 : Memref sig .tc .vmem S4608x512 .f32) (harg9 : arg9.IsWhole) (arg10 : Memref sig .tc .vmem S4608x512 .bf16) (harg10 : arg10.IsWhole) (arg11 : Memref sig .tc .vmem S8x128 .f32) (harg11 : arg11.IsWhole) (v1 : Elt F .i32) (v2 : Elt F .f32) (X_arg3 : BufTy.Contents (Elt F) arg3.view.ty) (X_arg4 : BufTy.Contents (Elt F) arg4.view.ty) (X_arg5 : BufTy.Contents (Elt F) arg5.view.ty) (G_arg7 : BufTy.Contents (Elt F) arg7.view.ty) (G_arg9 : BufTy.Contents (Elt F) arg9.view.ty) (G_arg10 : BufTy.Contents (Elt F) arg10.view.ty) (G_arg11 : BufTy.Contents (Elt F) arg11.view.ty) (k : ℕ) (prev : List (View.Piece (Elt F) S4608x128 .fp8e4m3) × List (View.Piece (Elt F) S4608x512 .f32) × List (View.Piece (Elt F) S4608x512 .bf16) × List (View.Piece (Elt F) S8x128 .f32)) : List (View.Piece (Elt F) S4608x128 .fp8e4m3) × List (View.Piece (Elt F) S4608x512 .f32) × List (View.Piece (Elt F) S4608x512 .bf16) × List (View.Piece (Elt F) S8x128 .f32) :=
  if h : k < k0_t1_loop.trips then
    ((tripL_k0_h1 (F := F) 𝒱 c bd i arg2 harg2 arg3 harg3 arg4 harg4 arg5 harg5 arg6 harg6 arg7 harg7 arg8 harg8 arg9 harg9 arg10 harg10 arg11 harg11 v1 v2 X_arg3 X_arg4 X_arg5 ⟨k, h⟩ (arg7.view.writes (Elt F) G_arg7 prev.1) (arg9.view.writes (Elt F) G_arg9 prev.2.1) (arg10.view.writes (Elt F) G_arg10 prev.2.2.1) (arg11.view.writes (Elt F) G_arg11 prev.2.2.2)).1 ++ prev.1, (tripL_k0_h1 (F := F) 𝒱 c bd i arg2 harg2 arg3 harg3 arg4 harg4 arg5 harg5 arg6 harg6 arg7 harg7 arg8 harg8 arg9 harg9 arg10 harg10 arg11 harg11 v1 v2 X_arg3 X_arg4 X_arg5 ⟨k, h⟩ (arg7.view.writes (Elt F) G_arg7 prev.1) (arg9.view.writes (Elt F) G_arg9 prev.2.1) (arg10.view.writes (Elt F) G_arg10 prev.2.2.1) (arg11.view.writes (Elt F) G_arg11 prev.2.2.2)).2.1 ++ prev.2.1, (tripL_k0_h1 (F := F) 𝒱 c bd i arg2 harg2 arg3 harg3 arg4 harg4 arg5 harg5 arg6 harg6 arg7 harg7 arg8 harg8 arg9 harg9 arg10 harg10 arg11 harg11 v1 v2 X_arg3 X_arg4 X_arg5 ⟨k, h⟩ (arg7.view.writes (Elt F) G_arg7 prev.1) (arg9.view.writes (Elt F) G_arg9 prev.2.1) (arg10.view.writes (Elt F) G_arg10 prev.2.2.1) (arg11.view.writes (Elt F) G_arg11 prev.2.2.2)).2.2.1 ++ prev.2.2.1, (tripL_k0_h1 (F := F) 𝒱 c bd i arg2 harg2 arg3 harg3 arg4 harg4 arg5 harg5 arg6 harg6 arg7 harg7 arg8 harg8 arg9 harg9 arg10 harg10 arg11 harg11 v1 v2 X_arg3 X_arg4 X_arg5 ⟨k, h⟩ (arg7.view.writes (Elt F) G_arg7 prev.1) (arg9.view.writes (Elt F) G_arg9 prev.2.1) (arg10.view.writes (Elt F) G_arg10 prev.2.2.1) (arg11.view.writes (Elt F) G_arg11 prev.2.2.2)).2.2.2 ++ prev.2.2.2)
  else prev

/-- The pieces of the trips before `k` (last first), per written memref, starting from the contents
   `G_·` at loop entry; each trip's pieces taken at the contents the earlier trips left. -/
def pb_k0_h1 (𝒱 : Variants) (c : Dev nD) (bd : Option 𝒱.V) (i : grid0.Coords) (arg2 : Memref sig .tc .smem S2 .i32) (harg2 : arg2.IsWhole) (arg3 : Memref sig .tc .vmem S4608x128 .bf16) (harg3 : arg3.IsWhole) (arg4 : Memref sig .tc .vmem S4608x128 .bf16) (harg4 : arg4.IsWhole) (arg5 : Memref sig .tc .vmem S1x128x4608 .bf16) (harg5 : arg5.IsWhole) (arg6 : Memref sig .tc .smem S1x1 .f32) (harg6 : arg6.IsWhole) (arg7 : Memref sig .tc .vmem S4608x128 .fp8e4m3) (harg7 : arg7.IsWhole) (arg8 : Memref sig .tc .vmem S1x1 .f32) (harg8 : arg8.IsWhole) (arg9 : Memref sig .tc .vmem S4608x512 .f32) (harg9 : arg9.IsWhole) (arg10 : Memref sig .tc .vmem S4608x512 .bf16) (harg10 : arg10.IsWhole) (arg11 : Memref sig .tc .vmem S8x128 .f32) (harg11 : arg11.IsWhole) (v1 : Elt F .i32) (v2 : Elt F .f32) (X_arg3 : BufTy.Contents (Elt F) arg3.view.ty) (X_arg4 : BufTy.Contents (Elt F) arg4.view.ty) (X_arg5 : BufTy.Contents (Elt F) arg5.view.ty) (G_arg7 : BufTy.Contents (Elt F) arg7.view.ty) (G_arg9 : BufTy.Contents (Elt F) arg9.view.ty) (G_arg10 : BufTy.Contents (Elt F) arg10.view.ty) (G_arg11 : BufTy.Contents (Elt F) arg11.view.ty) : ℕ → List (View.Piece (Elt F) S4608x128 .fp8e4m3) × List (View.Piece (Elt F) S4608x512 .f32) × List (View.Piece (Elt F) S4608x512 .bf16) × List (View.Piece (Elt F) S8x128 .f32)
  | 0 => ([], [], [], [])
  | k + 1 => pb_k0_h1Step 𝒱 c bd i arg2 harg2 arg3 harg3 arg4 harg4 arg5 harg5 arg6 harg6 arg7 harg7 arg8 harg8 arg9 harg9 arg10 harg10 arg11 harg11 v1 v2 X_arg3 X_arg4 X_arg5 G_arg7 G_arg9 G_arg10 G_arg11 k (pb_k0_h1 𝒱 c bd i arg2 harg2 arg3 harg3 arg4 harg4 arg5 harg5 arg6 harg6 arg7 harg7 arg8 harg8 arg9 harg9 arg10 harg10 arg11 harg11 v1 v2 X_arg3 X_arg4 X_arg5 G_arg7 G_arg9 G_arg10 G_arg11 k)

theorem pb_k0_h1_succ (𝒱 : Variants) (c : Dev nD) (bd : Option 𝒱.V) (i : grid0.Coords) (arg2 : Memref sig .tc .smem S2 .i32) (harg2 : arg2.IsWhole) (arg3 : Memref sig .tc .vmem S4608x128 .bf16) (harg3 : arg3.IsWhole) (arg4 : Memref sig .tc .vmem S4608x128 .bf16) (harg4 : arg4.IsWhole) (arg5 : Memref sig .tc .vmem S1x128x4608 .bf16) (harg5 : arg5.IsWhole) (arg6 : Memref sig .tc .smem S1x1 .f32) (harg6 : arg6.IsWhole) (arg7 : Memref sig .tc .vmem S4608x128 .fp8e4m3) (harg7 : arg7.IsWhole) (arg8 : Memref sig .tc .vmem S1x1 .f32) (harg8 : arg8.IsWhole) (arg9 : Memref sig .tc .vmem S4608x512 .f32) (harg9 : arg9.IsWhole) (arg10 : Memref sig .tc .vmem S4608x512 .bf16) (harg10 : arg10.IsWhole) (arg11 : Memref sig .tc .vmem S8x128 .f32) (harg11 : arg11.IsWhole) (v1 : Elt F .i32) (v2 : Elt F .f32) (X_arg3 : BufTy.Contents (Elt F) arg3.view.ty) (X_arg4 : BufTy.Contents (Elt F) arg4.view.ty) (X_arg5 : BufTy.Contents (Elt F) arg5.view.ty) (G_arg7 : BufTy.Contents (Elt F) arg7.view.ty) (G_arg9 : BufTy.Contents (Elt F) arg9.view.ty) (G_arg10 : BufTy.Contents (Elt F) arg10.view.ty) (G_arg11 : BufTy.Contents (Elt F) arg11.view.ty) (k : Fin k0_t1_loop.trips) :
    pb_k0_h1 (F := F) 𝒱 c bd i arg2 harg2 arg3 harg3 arg4 harg4 arg5 harg5 arg6 harg6 arg7 harg7 arg8 harg8 arg9 harg9 arg10 harg10 arg11 harg11 v1 v2 X_arg3 X_arg4 X_arg5 G_arg7 G_arg9 G_arg10 G_arg11 (k.val + 1)
      = ((tripL_k0_h1 (F := F) 𝒱 c bd i arg2 harg2 arg3 harg3 arg4 harg4 arg5 harg5 arg6 harg6 arg7 harg7 arg8 harg8 arg9 harg9 arg10 harg10 arg11 harg11 v1 v2 X_arg3 X_arg4 X_arg5 k (arg7.view.writes (Elt F) G_arg7 (pb_k0_h1 (F := F) 𝒱 c bd i arg2 harg2 arg3 harg3 arg4 harg4 arg5 harg5 arg6 harg6 arg7 harg7 arg8 harg8 arg9 harg9 arg10 harg10 arg11 harg11 v1 v2 X_arg3 X_arg4 X_arg5 G_arg7 G_arg9 G_arg10 G_arg11 k.val).1) (arg9.view.writes (Elt F) G_arg9 (pb_k0_h1 (F := F) 𝒱 c bd i arg2 harg2 arg3 harg3 arg4 harg4 arg5 harg5 arg6 harg6 arg7 harg7 arg8 harg8 arg9 harg9 arg10 harg10 arg11 harg11 v1 v2 X_arg3 X_arg4 X_arg5 G_arg7 G_arg9 G_arg10 G_arg11 k.val).2.1) (arg10.view.writes (Elt F) G_arg10 (pb_k0_h1 (F := F) 𝒱 c bd i arg2 harg2 arg3 harg3 arg4 harg4 arg5 harg5 arg6 harg6 arg7 harg7 arg8 harg8 arg9 harg9 arg10 harg10 arg11 harg11 v1 v2 X_arg3 X_arg4 X_arg5 G_arg7 G_arg9 G_arg10 G_arg11 k.val).2.2.1) (arg11.view.writes (Elt F) G_arg11 (pb_k0_h1 (F := F) 𝒱 c bd i arg2 harg2 arg3 harg3 arg4 harg4 arg5 harg5 arg6 harg6 arg7 harg7 arg8 harg8 arg9 harg9 arg10 harg10 arg11 harg11 v1 v2 X_arg3 X_arg4 X_arg5 G_arg7 G_arg9 G_arg10 G_arg11 k.val).2.2.2)).1 ++ (pb_k0_h1 (F := F) 𝒱 c bd i arg2 harg2 arg3 harg3 arg4 harg4 arg5 harg5 arg6 harg6 arg7 harg7 arg8 harg8 arg9 harg9 arg10 harg10 arg11 harg11 v1 v2 X_arg3 X_arg4 X_arg5 G_arg7 G_arg9 G_arg10 G_arg11 k.val).1, (tripL_k0_h1 (F := F) 𝒱 c bd i arg2 harg2 arg3 harg3 arg4 harg4 arg5 harg5 arg6 harg6 arg7 harg7 arg8 harg8 arg9 harg9 arg10 harg10 arg11 harg11 v1 v2 X_arg3 X_arg4 X_arg5 k (arg7.view.writes (Elt F) G_arg7 (pb_k0_h1 (F := F) 𝒱 c bd i arg2 harg2 arg3 harg3 arg4 harg4 arg5 harg5 arg6 harg6 arg7 harg7 arg8 harg8 arg9 harg9 arg10 harg10 arg11 harg11 v1 v2 X_arg3 X_arg4 X_arg5 G_arg7 G_arg9 G_arg10 G_arg11 k.val).1) (arg9.view.writes (Elt F) G_arg9 (pb_k0_h1 (F := F) 𝒱 c bd i arg2 harg2 arg3 harg3 arg4 harg4 arg5 harg5 arg6 harg6 arg7 harg7 arg8 harg8 arg9 harg9 arg10 harg10 arg11 harg11 v1 v2 X_arg3 X_arg4 X_arg5 G_arg7 G_arg9 G_arg10 G_arg11 k.val).2.1) (arg10.view.writes (Elt F) G_arg10 (pb_k0_h1 (F := F) 𝒱 c bd i arg2 harg2 arg3 harg3 arg4 harg4 arg5 harg5 arg6 harg6 arg7 harg7 arg8 harg8 arg9 harg9 arg10 harg10 arg11 harg11 v1 v2 X_arg3 X_arg4 X_arg5 G_arg7 G_arg9 G_arg10 G_arg11 k.val).2.2.1) (arg11.view.writes (Elt F) G_arg11 (pb_k0_h1 (F := F) 𝒱 c bd i arg2 harg2 arg3 harg3 arg4 harg4 arg5 harg5 arg6 harg6 arg7 harg7 arg8 harg8 arg9 harg9 arg10 harg10 arg11 harg11 v1 v2 X_arg3 X_arg4 X_arg5 G_arg7 G_arg9 G_arg10 G_arg11 k.val).2.2.2)).2.1 ++ (pb_k0_h1 (F := F) 𝒱 c bd i arg2 harg2 arg3 harg3 arg4 harg4 arg5 harg5 arg6 harg6 arg7 harg7 arg8 harg8 arg9 harg9 arg10 harg10 arg11 harg11 v1 v2 X_arg3 X_arg4 X_arg5 G_arg7 G_arg9 G_arg10 G_arg11 k.val).2.1, (tripL_k0_h1 (F := F) 𝒱 c bd i arg2 harg2 arg3 harg3 arg4 harg4 arg5 harg5 arg6 harg6 arg7 harg7 arg8 harg8 arg9 harg9 arg10 harg10 arg11 harg11 v1 v2 X_arg3 X_arg4 X_arg5 k (arg7.view.writes (Elt F) G_arg7 (pb_k0_h1 (F := F) 𝒱 c bd i arg2 harg2 arg3 harg3 arg4 harg4 arg5 harg5 arg6 harg6 arg7 harg7 arg8 harg8 arg9 harg9 arg10 harg10 arg11 harg11 v1 v2 X_arg3 X_arg4 X_arg5 G_arg7 G_arg9 G_arg10 G_arg11 k.val).1) (arg9.view.writes (Elt F) G_arg9 (pb_k0_h1 (F := F) 𝒱 c bd i arg2 harg2 arg3 harg3 arg4 harg4 arg5 harg5 arg6 harg6 arg7 harg7 arg8 harg8 arg9 harg9 arg10 harg10 arg11 harg11 v1 v2 X_arg3 X_arg4 X_arg5 G_arg7 G_arg9 G_arg10 G_arg11 k.val).2.1) (arg10.view.writes (Elt F) G_arg10 (pb_k0_h1 (F := F) 𝒱 c bd i arg2 harg2 arg3 harg3 arg4 harg4 arg5 harg5 arg6 harg6 arg7 harg7 arg8 harg8 arg9 harg9 arg10 harg10 arg11 harg11 v1 v2 X_arg3 X_arg4 X_arg5 G_arg7 G_arg9 G_arg10 G_arg11 k.val).2.2.1) (arg11.view.writes (Elt F) G_arg11 (pb_k0_h1 (F := F) 𝒱 c bd i arg2 harg2 arg3 harg3 arg4 harg4 arg5 harg5 arg6 harg6 arg7 harg7 arg8 harg8 arg9 harg9 arg10 harg10 arg11 harg11 v1 v2 X_arg3 X_arg4 X_arg5 G_arg7 G_arg9 G_arg10 G_arg11 k.val).2.2.2)).2.2.1 ++ (pb_k0_h1 (F := F) 𝒱 c bd i arg2 harg2 arg3 harg3 arg4 harg4 arg5 harg5 arg6 harg6 arg7 harg7 arg8 harg8 arg9 harg9 arg10 harg10 arg11 harg11 v1 v2 X_arg3 X_arg4 X_arg5 G_arg7 G_arg9 G_arg10 G_arg11 k.val).2.2.1, (tripL_k0_h1 (F := F) 𝒱 c bd i arg2 harg2 arg3 harg3 arg4 harg4 arg5 harg5 arg6 harg6 arg7 harg7 arg8 harg8 arg9 harg9 arg10 harg10 arg11 harg11 v1 v2 X_arg3 X_arg4 X_arg5 k (arg7.view.writes (Elt F) G_arg7 (pb_k0_h1 (F := F) 𝒱 c bd i arg2 harg2 arg3 harg3 arg4 harg4 arg5 harg5 arg6 harg6 arg7 harg7 arg8 harg8 arg9 harg9 arg10 harg10 arg11 harg11 v1 v2 X_arg3 X_arg4 X_arg5 G_arg7 G_arg9 G_arg10 G_arg11 k.val).1) (arg9.view.writes (Elt F) G_arg9 (pb_k0_h1 (F := F) 𝒱 c bd i arg2 harg2 arg3 harg3 arg4 harg4 arg5 harg5 arg6 harg6 arg7 harg7 arg8 harg8 arg9 harg9 arg10 harg10 arg11 harg11 v1 v2 X_arg3 X_arg4 X_arg5 G_arg7 G_arg9 G_arg10 G_arg11 k.val).2.1) (arg10.view.writes (Elt F) G_arg10 (pb_k0_h1 (F := F) 𝒱 c bd i arg2 harg2 arg3 harg3 arg4 harg4 arg5 harg5 arg6 harg6 arg7 harg7 arg8 harg8 arg9 harg9 arg10 harg10 arg11 harg11 v1 v2 X_arg3 X_arg4 X_arg5 G_arg7 G_arg9 G_arg10 G_arg11 k.val).2.2.1) (arg11.view.writes (Elt F) G_arg11 (pb_k0_h1 (F := F) 𝒱 c bd i arg2 harg2 arg3 harg3 arg4 harg4 arg5 harg5 arg6 harg6 arg7 harg7 arg8 harg8 arg9 harg9 arg10 harg10 arg11 harg11 v1 v2 X_arg3 X_arg4 X_arg5 G_arg7 G_arg9 G_arg10 G_arg11 k.val).2.2.2)).2.2.2 ++ (pb_k0_h1 (F := F) 𝒱 c bd i arg2 harg2 arg3 harg3 arg4 harg4 arg5 harg5 arg6 harg6 arg7 harg7 arg8 harg8 arg9 harg9 arg10 harg10 arg11 harg11 v1 v2 X_arg3 X_arg4 X_arg5 G_arg7 G_arg9 G_arg10 G_arg11 k.val).2.2.2) := by
  rw [pb_k0_h1.eq_2]; unfold pb_k0_h1Step; exact dif_pos k.isLt

/-- THE INVARIANT before trip `k`: arg3, arg4, arg5 read at `X_·`; arg7, arg9, arg10, arg11 holding
   the pieces of the trips before `k` written over the contents at loop entry `G_·` (stated `∃ f, …
   ∗ ⌜f = …⌝`, so that a hypothesis of any contents matches and the equation is what is proved). -/
abbrev inv_k0_h1 (𝒱 : Variants) (c : Dev nD) (bd : Option 𝒱.V) (i : grid0.Coords) (arg2 : Memref sig .tc .smem S2 .i32) (harg2 : arg2.IsWhole) (arg3 : Memref sig .tc .vmem S4608x128 .bf16) (harg3 : arg3.IsWhole) (arg4 : Memref sig .tc .vmem S4608x128 .bf16) (harg4 : arg4.IsWhole) (arg5 : Memref sig .tc .vmem S1x128x4608 .bf16) (harg5 : arg5.IsWhole) (arg6 : Memref sig .tc .smem S1x1 .f32) (harg6 : arg6.IsWhole) (arg7 : Memref sig .tc .vmem S4608x128 .fp8e4m3) (harg7 : arg7.IsWhole) (arg8 : Memref sig .tc .vmem S1x1 .f32) (harg8 : arg8.IsWhole) (arg9 : Memref sig .tc .vmem S4608x512 .f32) (harg9 : arg9.IsWhole) (arg10 : Memref sig .tc .vmem S4608x512 .bf16) (harg10 : arg10.IsWhole) (arg11 : Memref sig .tc .vmem S8x128 .f32) (harg11 : arg11.IsWhole) (v1 : Elt F .i32) (v2 : Elt F .f32) (X_arg3 : BufTy.Contents (Elt F) arg3.view.ty) (X_arg4 : BufTy.Contents (Elt F) arg4.view.ty) (X_arg5 : BufTy.Contents (Elt F) arg5.view.ty) (G_arg7 : BufTy.Contents (Elt F) arg7.view.ty) (G_arg9 : BufTy.Contents (Elt F) arg9.view.ty) (G_arg10 : BufTy.Contents (Elt F) arg10.view.ty) (G_arg11 : BufTy.Contents (Elt F) arg11.view.ty) (k : ℕ) (_u : PUnit) : sProp 𝕄G :=
  iprop((arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (∃ f, (arg7.view.loc (c : Thread nD τ) ↦[arg7.view.set]{fullShare} f) ∗ ⌜f = arg7.view.writes (Elt F) G_arg7 (pb_k0_h1 (F := F) 𝒱 c bd i arg2 harg2 arg3 harg3 arg4 harg4 arg5 harg5 arg6 harg6 arg7 harg7 arg8 harg8 arg9 harg9 arg10 harg10 arg11 harg11 v1 v2 X_arg3 X_arg4 X_arg5 G_arg7 G_arg9 G_arg10 G_arg11 k).1⌝) ∗ (∃ f, (arg9.view.loc (c : Thread nD τ) ↦[arg9.view.set]{fullShare} f) ∗ ⌜f = arg9.view.writes (Elt F) G_arg9 (pb_k0_h1 (F := F) 𝒱 c bd i arg2 harg2 arg3 harg3 arg4 harg4 arg5 harg5 arg6 harg6 arg7 harg7 arg8 harg8 arg9 harg9 arg10 harg10 arg11 harg11 v1 v2 X_arg3 X_arg4 X_arg5 G_arg7 G_arg9 G_arg10 G_arg11 k).2.1⌝) ∗ (∃ f, (arg10.view.loc (c : Thread nD τ) ↦[arg10.view.set]{fullShare} f) ∗ ⌜f = arg10.view.writes (Elt F) G_arg10 (pb_k0_h1 (F := F) 𝒱 c bd i arg2 harg2 arg3 harg3 arg4 harg4 arg5 harg5 arg6 harg6 arg7 harg7 arg8 harg8 arg9 harg9 arg10 harg10 arg11 harg11 v1 v2 X_arg3 X_arg4 X_arg5 G_arg7 G_arg9 G_arg10 G_arg11 k).2.2.1⌝) ∗ (∃ f, (arg11.view.loc (c : Thread nD τ) ↦[arg11.view.set]{fullShare} f) ∗ ⌜f = arg11.view.writes (Elt F) G_arg11 (pb_k0_h1 (F := F) 𝒱 c bd i arg2 harg2 arg3 harg3 arg4 harg4 arg5 harg5 arg6 harg6 arg7 harg7 arg8 harg8 arg9 harg9 arg10 harg10 arg11 harg11 v1 v2 X_arg3 X_arg4 X_arg5 G_arg7 G_arg9 G_arg10 G_arg11 k).2.2.2⌝))

set_option warn.classDefReducibility false in
/-- THE LOOP BY ITS INVARIANT: after the loop each written memref holds the pieces of all its trips written over the contents
   at entry (`writes G (pb … trips)`). -/
@[sl_loop] def loopInv_k0_h1 (𝒱 : Variants) (c : Dev nD) (bd : Option 𝒱.V) (E : Set ℕ) (i : grid0.Coords) (arg2 : Memref sig .tc .smem S2 .i32) (harg2 : arg2.IsWhole) (arg3 : Memref sig .tc .vmem S4608x128 .bf16) (harg3 : arg3.IsWhole) (arg4 : Memref sig .tc .vmem S4608x128 .bf16) (harg4 : arg4.IsWhole) (arg5 : Memref sig .tc .vmem S1x128x4608 .bf16) (harg5 : arg5.IsWhole) (arg6 : Memref sig .tc .smem S1x1 .f32) (harg6 : arg6.IsWhole) (arg7 : Memref sig .tc .vmem S4608x128 .fp8e4m3) (harg7 : arg7.IsWhole) (arg8 : Memref sig .tc .vmem S1x1 .f32) (harg8 : arg8.IsWhole) (arg9 : Memref sig .tc .vmem S4608x512 .f32) (harg9 : arg9.IsWhole) (arg10 : Memref sig .tc .vmem S4608x512 .bf16) (harg10 : arg10.IsWhole) (arg11 : Memref sig .tc .vmem S8x128 .f32) (harg11 : arg11.IsWhole) (v1 : Elt F .i32) (v2 : Elt F .f32) (X_arg3 : BufTy.Contents (Elt F) arg3.view.ty) (X_arg4 : BufTy.Contents (Elt F) arg4.view.ty) (X_arg5 : BufTy.Contents (Elt F) arg5.view.ty) (G_arg7 : BufTy.Contents (Elt F) arg7.view.ty) (G_arg9 : BufTy.Contents (Elt F) arg9.view.ty) (G_arg10 : BufTy.Contents (Elt F) arg10.view.ty) (G_arg11 : BufTy.Contents (Elt F) arg11.view.ty) :
    LoopInvTy_k0_h1 (F := F) Unit ℕ (UR sig nD τ) ℕ 𝒱 c bd E i arg2 harg2 arg3 harg3 arg4 harg4 arg5 harg5 arg6 harg6 arg7 harg7 arg8 harg8 arg9 harg9 arg10 harg10 arg11 harg11 v1 v2 where
  inv := inv_k0_h1 (F := F) 𝒱 c bd i arg2 harg2 arg3 harg3 arg4 harg4 arg5 harg5 arg6 harg6 arg7 harg7 arg8 harg8 arg9 harg9 arg10 harg10 arg11 harg11 v1 v2 X_arg3 X_arg4 X_arg5 G_arg7 G_arg9 G_arg10 G_arg11
  step k acc := by
    iintro ⟨HR_arg3, HR_arg4, HR_arg5, ⟨%f_arg7, HW_arg7, %h_arg7⟩, ⟨%f_arg9, HW_arg9, %h_arg9⟩, ⟨%f_arg10, HW_arg10, %h_arg10⟩, ⟨%f_arg11, HW_arg11, %h_arg11⟩⟩
    iapply (wp_wand_r Idealize.ShloMosaic.frame (wpE (defs₀ (F := F)) 𝒱 (c : Thread nD τ) bd) E)
    isplitl [HR_arg3 HR_arg4 HR_arg5 HW_arg7 HW_arg9 HW_arg10 HW_arg11]
    · iapply ((trip_k0_h1 (F := F) 𝒱 c bd i arg2 harg2 arg3 harg3 arg4 harg4 arg5 harg5 arg6 harg6 arg7 harg7 arg8 harg8 arg9 harg9 arg10 harg10 arg11 harg11 v1 v2 X_arg3 X_arg4 X_arg5 k).2.2.2.2 E f_arg7 f_arg9 f_arg10 f_arg11)
      isplitl [HR_arg3]; · iexact HR_arg3
      isplitl [HR_arg4]; · iexact HR_arg4
      isplitl [HR_arg5]; · iexact HR_arg5
      isplitl [HW_arg7]; · iexact HW_arg7
      isplitl [HW_arg9]; · iexact HW_arg9
      isplitl [HW_arg10]; · iexact HW_arg10
      iexact HW_arg11
    · iintro %_ ⟨HR_arg3, HR_arg4, HR_arg5, HW_arg7, HW_arg9, HW_arg10, HW_arg11⟩
      isplitl [HR_arg3]; · iexact HR_arg3
      isplitl [HR_arg4]; · iexact HR_arg4
      isplitl [HR_arg5]; · iexact HR_arg5
      rw [pb_k0_h1_succ]
      isplitl [HW_arg7]
      · iexists _; isplitl [HW_arg7]; · iexact HW_arg7
        ipureintro; rw [h_arg7, h_arg9, h_arg10, h_arg11, ← View.writes_append]
      isplitl [HW_arg9]
      · iexists _; isplitl [HW_arg9]; · iexact HW_arg9
        ipureintro; rw [h_arg7, h_arg9, h_arg10, h_arg11, ← View.writes_append]
      isplitl [HW_arg10]
      · iexists _; isplitl [HW_arg10]; · iexact HW_arg10
        ipureintro; rw [h_arg7, h_arg9, h_arg10, h_arg11, ← View.writes_append]
      iexists _; isplitl [HW_arg11]; · iexact HW_arg11
      ipureintro; rw [h_arg7, h_arg9, h_arg10, h_arg11, ← View.writes_append]

end Cert.KAttnIdeal.Gen

end
-- ==== Proof.KAttnIdealRun.lean ====
module

public import Idealize.ShloMosaic.Lib.WritesUnit
public import Idealize.ShloMosaic.Lib.VecWindow
public import Idealize.ShloMosaic.Lib.WholeRead
public import proofs.«01_k».proof.Proof.KAttnIdealTrip
public import proofs.«01_k».proof.Proof.Gen.KAttnIdeal.Frame

/-!
  The attention kernel's body, run at one grid point.

  The kernel's two large scratch buffers (the scores and the probabilities of one block of queries) are written and read
  back within one trip of its loop, so what they held before does not matter. Here that is proved, and the body's three
  cases (first point, middle points, last point) are run to explicit results: the codes of the 4608 query rows, the
  running maximum the third scratch carries from point to point, and at the last point the maximum of it all.
-/

@[expose] public section
set_option maxRecDepth 16384

noncomputable section

namespace Cert.KAttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## What one trip of the loop computes -/

/-- The codes trip `k` stores: those of query rows `512k … 512k + 511`. -/
def codeAt (arg3 : Memref sig .tc .vmem S4608x128 .bf16) (arg4 : Memref sig .tc .vmem S4608x128 .bf16) (arg5 : Memref sig .tc .vmem S1x128x4608 .bf16) (arg9 : Memref sig .tc .vmem S4608x512 .f32) (arg10 : Memref sig .tc .vmem S4608x512 .bf16) (v1 : Elt F .i32) (v2 : Elt F .f32) (X3 : BufTy.Contents (Elt F) arg3.view.ty) (X4 : BufTy.Contents (Elt F) arg4.view.ty) (X5 : BufTy.Contents (Elt F) arg5.view.ty) (k : Fin k0_t1_loop.trips) : FVec F S512x128 .fp8e4m3 :=
  trip_k0_h1.sl.r_87 arg3 arg4 arg5 arg9 arg10 v1 v2 X3 X4 X5 k

/-- The running maximum after trip `k`, from the one before it. -/
def partAt (arg3 : Memref sig .tc .vmem S4608x128 .bf16) (arg4 : Memref sig .tc .vmem S4608x128 .bf16) (arg5 : Memref sig .tc .vmem S1x128x4608 .bf16) (arg9 : Memref sig .tc .vmem S4608x512 .f32) (arg10 : Memref sig .tc .vmem S4608x512 .bf16) (v1 : Elt F .i32) (X3 : BufTy.Contents (Elt F) arg3.view.ty) (X4 : BufTy.Contents (Elt F) arg4.view.ty) (X5 : BufTy.Contents (Elt F) arg5.view.ty) (k : Fin k0_t1_loop.trips) (old : Vec F S8x128 .f32) : Vec F S8x128 .f32 :=
  k0_pay108 (k0_pay107 (trip_k0_h1.sl.r_84 arg3 arg4 arg9 v1 X3 X4 k)
    (View.readAt (Elt F) arg5.view (Rect.unit ![0, 0, 0] S1x128x4608.size inb_S1x128x4608_S1x128x4608_0_0_0).toLoadRect X5)
    (trip_k0_h1.sl.v2476 arg3 arg4 arg9 arg10 v1 X3 X4 k) old)

/-- The running maximum after the first `n` trips, from `init`. -/
def accTo (arg3 : Memref sig .tc .vmem S4608x128 .bf16) (arg4 : Memref sig .tc .vmem S4608x128 .bf16) (arg5 : Memref sig .tc .vmem S1x128x4608 .bf16) (arg9 : Memref sig .tc .vmem S4608x512 .f32) (arg10 : Memref sig .tc .vmem S4608x512 .bf16) (v1 : Elt F .i32) (X3 : BufTy.Contents (Elt F) arg3.view.ty) (X4 : BufTy.Contents (Elt F) arg4.view.ty) (X5 : BufTy.Contents (Elt F) arg5.view.ty) (init : Vec F S8x128 .f32) : ℕ → Vec F S8x128 .f32
  | 0 => init
  | n + 1 => if h : n < k0_t1_loop.trips then partAt arg3 arg4 arg5 arg9 arg10 v1 X3 X4 X5 ⟨n, h⟩ (accTo arg3 arg4 arg5 arg9 arg10 v1 X3 X4 X5 init n) else accTo arg3 arg4 arg5 arg9 arg10 v1 X3 X4 X5 init n

theorem trips_eq : k0_t1_loop.trips = 9 := by decide +kernel

/-- Where row `r` lies in its block: row `r % 512`. -/
def rowIdx (x : S4608x128.Idx) : S512x128.Idx :=
  Fin.cons ⟨(x (0 : Fin 2)).val % 512, Nat.mod_lt _ (by decide)⟩ (Fin.cons ⟨(x (1 : Fin 2)).val, (x (1 : Fin 2)).isLt⟩ (fun a => a.elim0))

/-- The codes of all rows: row `r` is row `r % 512` of trip `r / 512`. -/
def codesVec (arg3 : Memref sig .tc .vmem S4608x128 .bf16) (arg4 : Memref sig .tc .vmem S4608x128 .bf16) (arg5 : Memref sig .tc .vmem S1x128x4608 .bf16) (arg9 : Memref sig .tc .vmem S4608x512 .f32) (arg10 : Memref sig .tc .vmem S4608x512 .bf16) (v1 : Elt F .i32) (v2 : Elt F .f32) (X3 : BufTy.Contents (Elt F) arg3.view.ty) (X4 : BufTy.Contents (Elt F) arg4.view.ty) (X5 : BufTy.Contents (Elt F) arg5.view.ty) : Vec F S4608x128 .fp8e4m3 := fun x =>
  codeAt arg3 arg4 arg5 arg9 arg10 v1 v2 X3 X4 X5 ⟨(x (0 : Fin 2)).val / 512, by rw [trips_eq]; have : (x (0 : Fin 2)).val < 4608 := (x (0 : Fin 2)).isLt; omega⟩ (rowIdx x)

section Loop
variable (𝒱 : Variants) (c : Dev nD) (bd : Option 𝒱.V) (i : grid0.Coords) (arg2 : Memref sig .tc .smem S2 .i32) (harg2 : arg2.IsWhole) (arg3 : Memref sig .tc .vmem S4608x128 .bf16) (harg3 : arg3.IsWhole) (arg4 : Memref sig .tc .vmem S4608x128 .bf16) (harg4 : arg4.IsWhole) (arg5 : Memref sig .tc .vmem S1x128x4608 .bf16) (harg5 : arg5.IsWhole) (arg6 : Memref sig .tc .smem S1x1 .f32) (harg6 : arg6.IsWhole) (arg7 : Memref sig .tc .vmem S4608x128 .fp8e4m3) (harg7 : arg7.IsWhole) (arg8 : Memref sig .tc .vmem S1x1 .f32) (harg8 : arg8.IsWhole) (arg9 : Memref sig .tc .vmem S4608x512 .f32) (harg9 : arg9.IsWhole) (arg10 : Memref sig .tc .vmem S4608x512 .bf16) (harg10 : arg10.IsWhole) (arg11 : Memref sig .tc .vmem S8x128 .f32) (harg11 : arg11.IsWhole) (v1 : Elt F .i32) (v2 : Elt F .f32) (X3 : BufTy.Contents (Elt F) arg3.view.ty) (X4 : BufTy.Contents (Elt F) arg4.view.ty) (X5 : BufTy.Contents (Elt F) arg5.view.ty) (G7 : BufTy.Contents (Elt F) arg7.view.ty) (G9 : BufTy.Contents (Elt F) arg9.view.ty) (G10 : BufTy.Contents (Elt F) arg10.view.ty) (G11 : BufTy.Contents (Elt F) arg11.view.ty)

theorem trip_codes (k : Fin k0_t1_loop.trips) :
    (trip_k0_h1 (F := F) 𝒱 c bd i arg2 harg2 arg3 harg3 arg4 harg4 arg5 harg5 arg6 harg6 arg7 harg7 arg8 harg8 arg9 harg9 arg10 harg10 arg11 harg11 v1 v2 X3 X4 X5 k).1 G7 G9 G10 G11
      = [⟨Rect.unit (s := S4608x128) (k0_off2 k) S512x128.size (k0_off2_inb k), codeAt arg3 arg4 arg5 arg9 arg10 v1 v2 X3 X4 X5 k⟩] := by
  unfold trip_k0_h1 codeAt; rfl

theorem trip_part (k : Fin k0_t1_loop.trips) :
    (trip_k0_h1 (F := F) 𝒱 c bd i arg2 harg2 arg3 harg3 arg4 harg4 arg5 harg5 arg6 harg6 arg7 harg7 arg8 harg8 arg9 harg9 arg10 harg10 arg11 harg11 v1 v2 X3 X4 X5 k).2.2.2.1 G7 G9 G10 G11
      = [⟨Rect.unit (s := S8x128) ![0, 0] S8x128.size inb_S8x128_S8x128_0_0, partAt arg3 arg4 arg5 arg9 arg10 v1 X3 X4 X5 k (arg11.view.read (Elt F) G11)⟩] := by
  unfold trip_k0_h1 partAt; dsimp only; unfold trip_k0_h1.sl.r_86; rw [View.readAt_full arg11.view]

/-- After `n` trips the rows of the first `n` blocks hold their codes. -/
theorem pb_codes (n : ℕ) (hn : n ≤ 9) (x : S4608x128.Idx) (hx : (x (0 : Fin 2)).val < 512 * n) :
    arg7.view.read (Elt F) (arg7.view.writes (Elt F) G7 (pb_k0_h1 (F := F) 𝒱 c bd i arg2 harg2 arg3 harg3 arg4 harg4 arg5 harg5 arg6 harg6 arg7 harg7 arg8 harg8 arg9 harg9 arg10 harg10 arg11 harg11 v1 v2 X3 X4 X5 G7 G9 G10 G11 n).1) x
      = codesVec arg3 arg4 arg5 arg9 arg10 v1 v2 X3 X4 X5 x := by
  induction n with
  | zero => omega
  | succ n ih =>
    have hk : n < k0_t1_loop.trips := by rw [trips_eq]; omega
    have e := pb_k0_h1_succ (F := F) 𝒱 c bd i arg2 harg2 arg3 harg3 arg4 harg4 arg5 harg5 arg6 harg6 arg7 harg7 arg8 harg8 arg9 harg9 arg10 harg10 arg11 harg11 v1 v2 X3 X4 X5 G7 G9 G10 G11 ⟨n, hk⟩
    rw [show (⟨n, hk⟩ : Fin k0_t1_loop.trips).val = n from rfl] at e
    rw [e]
    dsimp only
    rw [trip_codes]
    by_cases h : (x (0 : Fin 2)).val < 512 * n
    · refine Eq.trans ?_ (ih (by omega) h)
      exact View.read_writes_cons_rows_of_not_mem _ _ _ _ _ x (k0_off2_eq ⟨n, hk⟩) rfl (Or.inl h)
    · unfold codesVec
      have hq : (x (0 : Fin 2)).val / 512 = n := by omega
      refine (View.read_writes_cons_rows_of_mem _ _ _ _ _ x
        (rowIdx x)
        (k0_off2_eq ⟨n, hk⟩) ?_ rfl).trans ?_
      · show (x (0 : Fin 2)).val = 512 * n + (x (0 : Fin 2)).val % 512
        omega
      · exact congrArg (fun k => codeAt arg3 arg4 arg5 arg9 arg10 v1 v2 X3 X4 X5 k (rowIdx x)) (Fin.ext hq.symm)

/-- After `n` trips the carried scratch holds the running maximum. -/
theorem pb_part (n : ℕ) (hn : n ≤ 9) :
    arg11.view.read (Elt F) (arg11.view.writes (Elt F) G11 (pb_k0_h1 (F := F) 𝒱 c bd i arg2 harg2 arg3 harg3 arg4 harg4 arg5 harg5 arg6 harg6 arg7 harg7 arg8 harg8 arg9 harg9 arg10 harg10 arg11 harg11 v1 v2 X3 X4 X5 G7 G9 G10 G11 n).2.2.2)
      = accTo arg3 arg4 arg5 arg9 arg10 v1 X3 X4 X5 (arg11.view.read (Elt F) G11) n := by
  induction n with
  | zero => rfl
  | succ n ih =>
    have hk : n < k0_t1_loop.trips := by rw [trips_eq]; omega
    have e := pb_k0_h1_succ (F := F) 𝒱 c bd i arg2 harg2 arg3 harg3 arg4 harg4 arg5 harg5 arg6 harg6 arg7 harg7 arg8 harg8 arg9 harg9 arg10 harg10 arg11 harg11 v1 v2 X3 X4 X5 G7 G9 G10 G11 ⟨n, hk⟩
    rw [show (⟨n, hk⟩ : Fin k0_t1_loop.trips).val = n from rfl] at e
    rw [e]
    dsimp only
    rw [trip_part]
    unfold accTo
    rw [dif_pos hk, ← ih (by omega)]
    exact View.read_writes_full _ _ _ _ _

end Loop

/-! ## The body at one grid point -/

/-- The first point of the grid. -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- The last point of the grid. -/
abbrev cond0_1 (i : grid0.Coords) : Prop := k0_cond2 i = 1#1

/-- The text length of the point's batch entry. -/
def lenOf (i : grid0.Coords) (x0 : Vec F S2 .i32) : Elt F .i32 :=
  x0 ((Rect.unit (s := S2) (k0_off1 i) S1.size (k0_off1_inb i)).toLoadRect.idx (Shape.Idx.first (show 0 < S1.numel by decide)))
/-- The scale of the codes. -/
def saOf (x4 : Vec F S1x1 .f32) : Elt F .f32 :=
  x4 ((Rect.unit (s := S1x1) ![0, 0] S1x1.size inb_S1x1_S1x1_0_0).toLoadRect.idx (Shape.Idx.first (by decide)))

section Outs
variable (i : grid0.Coords) (arg3 : Memref sig .tc .vmem S4608x128 .bf16) (harg3 : arg3.IsWhole) (arg4 : Memref sig .tc .vmem S4608x128 .bf16) (harg4 : arg4.IsWhole) (arg5 : Memref sig .tc .vmem S1x128x4608 .bf16) (harg5 : arg5.IsWhole) (arg9 : Memref sig .tc .vmem S4608x512 .f32) (arg10 : Memref sig .tc .vmem S4608x512 .bf16) (x0 : Vec F S2 .i32) (x1 : Vec F S4608x128 .bf16) (x2 : Vec F S4608x128 .bf16) (x3 : Vec F S1x128x4608 .bf16) (x4 : Vec F S1x1 .f32)

/-- The codes the body leaves at a point with these inputs. -/
def codesOut : Vec F S4608x128 .fp8e4m3 :=
  codesVec arg3 arg4 arg5 arg9 arg10 (lenOf i x0) (saOf x4) (harg3.unread x1) (harg4.unread x2) (harg5.unread x3)
/-- The running maximum the body leaves, from the one it finds. -/
def accOut (init : Vec F S8x128 .f32) : Vec F S8x128 .f32 :=
  accTo arg3 arg4 arg5 arg9 arg10 (lenOf i x0) (harg3.unread x1) (harg4.unread x2) (harg5.unread x3) init 9

end Outs

set_option maxHeartbeats 2000000 in
/-- The body at the first point: from the inputs' contents to the codes and the new running maximum. -/
theorem run_A (c : Dev nD) (i : grid0.Coords) (arg2 : Memref sig .tc .smem S2 .i32) (harg2 : arg2.IsWhole) (arg3 : Memref sig .tc .vmem S4608x128 .bf16) (harg3 : arg3.IsWhole) (arg4 : Memref sig .tc .vmem S4608x128 .bf16) (harg4 : arg4.IsWhole) (arg5 : Memref sig .tc .vmem S1x128x4608 .bf16) (harg5 : arg5.IsWhole) (arg6 : Memref sig .tc .smem S1x1 .f32) (harg6 : arg6.IsWhole) (arg7 : Memref sig .tc .vmem S4608x128 .fp8e4m3) (harg7 : arg7.IsWhole) (arg8 : Memref sig .tc .vmem S1x1 .f32) (harg8 : arg8.IsWhole) (arg9 : Memref sig .tc .vmem S4608x512 .f32) (harg9 : arg9.IsWhole) (arg10 : Memref sig .tc .vmem S4608x512 .bf16) (harg10 : arg10.IsWhole) (arg11 : Memref sig .tc .vmem S8x128 .f32) (harg11 : arg11.IsWhole) (hc0 : cond0_0 i) (hc1 : ¬cond0_1 i)
    (x0 : Vec F S2 .i32) (x1 : Vec F S4608x128 .bf16) (x2 : Vec F S4608x128 .bf16) (x3 : Vec F S1x128x4608 .bf16) (x4 : Vec F S1x1 .f32) (xi6 : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xi6 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (codesOut i arg3 harg3 arg4 harg4 arg5 harg5 arg9 arg10 x0 x1 x2 x3 x4) ∗ owns (c : Thread nD τ) arg8 fullShare xi6 ∗ (∃ d, owns (c : Thread nD τ) arg9 fullShare d) ∗ (∃ d, owns (c : Thread nD τ) arg10 fullShare d) ∗ owns (c : Thread nD τ) arg11 fullShare (accOut i arg3 harg3 arg4 harg4 arg5 harg5 arg9 arg10 x0 x1 x2 x3 (k0_pay1 (F := F)))) -∗ K ⟨⟩))
      ⊢ wp frame (wpE (defs₀ (F := F)) Variants.none c none) E (cc0_attention i arg2 harg2 arg3 harg3 arg4 harg4 arg5 harg5 arg6 harg6 arg7 harg7 arg8 harg8 arg9 harg9 arg10 harg10 arg11 harg11) K := by
  simp only [cc0_attention_eq_skeleton]; unfold cc0_attention_skel
  simp only [k0_part45_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%d9, %f9, -, H9⟩, ⟨%d10, %f10, -, H10⟩, ⟨%d11, %f11, -, H11⟩, Hk⟩
  obtain rfl := harg2.eq_unread hf0; obtain rfl := harg3.eq_unread hf1; obtain rfl := harg4.eq_unread hf2; obtain rfl := harg5.eq_unread hf3; obtain rfl := harg6.eq_unread hf4; obtain rfl := harg8.eq_unread hf6
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro; funext x
    exact (pb_codes Variants.none c none i arg2 harg2 arg3 harg3 arg4 harg4 arg5 harg5 arg6 harg6 arg7 harg7 arg8 harg8 arg9 harg9 arg10 harg10 arg11 harg11 _ _ _ _ _ _ _ _ _ 9 le_rfl x (x (0 : Fin 2)).isLt).trans (by
      unfold codesOut run_A.sl.r run_A.sl.r_1 saOf lenOf; simp only [harg2.readAt_unread, harg6.readAt_unread])
  isplitl [H6]
  · iexists _; isplitr; · ipureintro; exact harg8.read_unread _
    iexact H6
  isplitl [H9]
  · iexists _; iexists _; isplitr
    swap; · iexact H9
    ipureintro; rfl
  isplitl [H10]
  · iexists _; iexists _; isplitr
    swap; · iexact H10
    ipureintro; rfl
  iexists _; isplitr
  swap; · iexact H11
  ipureintro
  rw [View.writes_append]
  refine (pb_part Variants.none c none i arg2 harg2 arg3 harg3 arg4 harg4 arg5 harg5 arg6 harg6 arg7 harg7 arg8 harg8 arg9 harg9 arg10 harg10 arg11 harg11 _ _ _ _ _ _ _ _ _ 9 le_rfl).trans ?_
  unfold accOut run_A.sl.r run_A.sl.H11_1 lenOf; rw [View.read_writes_full]; simp only [harg2.readAt_unread]

set_option maxHeartbeats 2000000 in
/-- The body at a middle point: from the inputs' contents to the codes and the new running maximum. -/
theorem run_B (c : Dev nD) (i : grid0.Coords) (arg2 : Memref sig .tc .smem S2 .i32) (harg2 : arg2.IsWhole) (arg3 : Memref sig .tc .vmem S4608x128 .bf16) (harg3 : arg3.IsWhole) (arg4 : Memref sig .tc .vmem S4608x128 .bf16) (harg4 : arg4.IsWhole) (arg5 : Memref sig .tc .vmem S1x128x4608 .bf16) (harg5 : arg5.IsWhole) (arg6 : Memref sig .tc .smem S1x1 .f32) (harg6 : arg6.IsWhole) (arg7 : Memref sig .tc .vmem S4608x128 .fp8e4m3) (harg7 : arg7.IsWhole) (arg8 : Memref sig .tc .vmem S1x1 .f32) (harg8 : arg8.IsWhole) (arg9 : Memref sig .tc .vmem S4608x512 .f32) (harg9 : arg9.IsWhole) (arg10 : Memref sig .tc .vmem S4608x512 .bf16) (harg10 : arg10.IsWhole) (arg11 : Memref sig .tc .vmem S8x128 .f32) (harg11 : arg11.IsWhole) (hc0 : ¬cond0_0 i) (hc1 : ¬cond0_1 i)
    (x0 : Vec F S2 .i32) (x1 : Vec F S4608x128 .bf16) (x2 : Vec F S4608x128 .bf16) (x3 : Vec F S1x128x4608 .bf16) (x4 : Vec F S1x1 .f32) (xs : Vec F S8x128 .f32) (xi6 : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xi6 ∗ (∃ d, owns (c : Thread nD τ) arg9 fullShare d) ∗ (∃ d, owns (c : Thread nD τ) arg10 fullShare d) ∗ owns (c : Thread nD τ) arg11 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (codesOut i arg3 harg3 arg4 harg4 arg5 harg5 arg9 arg10 x0 x1 x2 x3 x4) ∗ owns (c : Thread nD τ) arg8 fullShare xi6 ∗ (∃ d, owns (c : Thread nD τ) arg9 fullShare d) ∗ (∃ d, owns (c : Thread nD τ) arg10 fullShare d) ∗ owns (c : Thread nD τ) arg11 fullShare (accOut i arg3 harg3 arg4 harg4 arg5 harg5 arg9 arg10 x0 x1 x2 x3 xs)) -∗ K ⟨⟩))
      ⊢ wp frame (wpE (defs₀ (F := F)) Variants.none c none) E (cc0_attention i arg2 harg2 arg3 harg3 arg4 harg4 arg5 harg5 arg6 harg6 arg7 harg7 arg8 harg8 arg9 harg9 arg10 harg10 arg11 harg11) K := by
  simp only [cc0_attention_eq_skeleton]; unfold cc0_attention_skel
  simp only [k0_part45_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%d9, %f9, -, H9⟩, ⟨%d10, %f10, -, H10⟩, ⟨%f11, %hf11, H11⟩, Hk⟩
  obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg11.eq_unread hf11
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro; funext x
    exact (pb_codes Variants.none c none i arg2 harg2 arg3 harg3 arg4 harg4 arg5 harg5 arg6 harg6 arg7 harg7 arg8 harg8 arg9 harg9 arg10 harg10 arg11 harg11 _ _ _ _ _ _ _ _ _ 9 le_rfl x (x (0 : Fin 2)).isLt).trans (by
      unfold codesOut run_B.sl.r run_B.sl.r_1 saOf lenOf; simp only [harg2.readAt_unread, harg6.readAt_unread])
  isplitl [H6]
  · iexists _; isplitr; · ipureintro; exact harg8.read_unread _
    iexact H6
  isplitl [H9]
  · iexists _; iexists _; isplitr
    swap; · iexact H9
    ipureintro; rfl
  isplitl [H10]
  · iexists _; iexists _; isplitr
    swap; · iexact H10
    ipureintro; rfl
  iexists _; isplitr
  swap; · iexact H11
  ipureintro
  refine (pb_part Variants.none c none i arg2 harg2 arg3 harg3 arg4 harg4 arg5 harg5 arg6 harg6 arg7 harg7 arg8 harg8 arg9 harg9 arg10 harg10 arg11 harg11 _ _ _ _ _ _ _ _ _ 9 le_rfl).trans ?_
  unfold accOut run_B.sl.r lenOf; simp only [harg2.readAt_unread, harg11.read_unread]

set_option maxHeartbeats 2000000 in
/-- The body at the last point: from the inputs' contents to the codes, the overall maximum and the new running maximum. -/
theorem run_C (c : Dev nD) (i : grid0.Coords) (arg2 : Memref sig .tc .smem S2 .i32) (harg2 : arg2.IsWhole) (arg3 : Memref sig .tc .vmem S4608x128 .bf16) (harg3 : arg3.IsWhole) (arg4 : Memref sig .tc .vmem S4608x128 .bf16) (harg4 : arg4.IsWhole) (arg5 : Memref sig .tc .vmem S1x128x4608 .bf16) (harg5 : arg5.IsWhole) (arg6 : Memref sig .tc .smem S1x1 .f32) (harg6 : arg6.IsWhole) (arg7 : Memref sig .tc .vmem S4608x128 .fp8e4m3) (harg7 : arg7.IsWhole) (arg8 : Memref sig .tc .vmem S1x1 .f32) (harg8 : arg8.IsWhole) (arg9 : Memref sig .tc .vmem S4608x512 .f32) (harg9 : arg9.IsWhole) (arg10 : Memref sig .tc .vmem S4608x512 .bf16) (harg10 : arg10.IsWhole) (arg11 : Memref sig .tc .vmem S8x128 .f32) (harg11 : arg11.IsWhole) (hc0 : ¬cond0_0 i) (hc1 : cond0_1 i)
    (x0 : Vec F S2 .i32) (x1 : Vec F S4608x128 .bf16) (x2 : Vec F S4608x128 .bf16) (x3 : Vec F S1x128x4608 .bf16) (x4 : Vec F S1x1 .f32) (xs : Vec F S8x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (codesOut i arg3 harg3 arg4 harg4 arg5 harg5 arg9 arg10 x0 x1 x2 x3 x4) ∗ owns (c : Thread nD τ) arg8 fullShare (k0_pay2 (accOut i arg3 harg3 arg4 harg4 arg5 harg5 arg9 arg10 x0 x1 x2 x3 xs)) ∗ (∃ d, owns (c : Thread nD τ) arg9 fullShare d) ∗ (∃ d, owns (c : Thread nD τ) arg10 fullShare d) ∗ owns (c : Thread nD τ) arg11 fullShare (accOut i arg3 harg3 arg4 harg4 arg5 harg5 arg9 arg10 x0 x1 x2 x3 xs)) -∗ K ⟨⟩))
      ⊢ wp frame (wpE (defs₀ (F := F)) Variants.none c none) E (cc0_attention i arg2 harg2 arg3 harg3 arg4 harg4 arg5 harg5 arg6 harg6 arg7 harg7 arg8 harg8 arg9 harg9 arg10 harg10 arg11 harg11) K := by
  simp only [cc0_attention_eq_skeleton]; unfold cc0_attention_skel
  simp only [k0_part45_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d9, %f9, -, H9⟩, ⟨%d10, %f10, -, H10⟩, ⟨%f11, %hf11, H11⟩, Hk⟩
  obtain rfl := harg2.eq_unread hf0; obtain rfl := harg3.eq_unread hf1; obtain rfl := harg4.eq_unread hf2; obtain rfl := harg5.eq_unread hf3; obtain rfl := harg6.eq_unread hf4; obtain rfl := harg11.eq_unread hf11
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro; funext x
    exact (pb_codes Variants.none c none i arg2 harg2 arg3 harg3 arg4 harg4 arg5 harg5 arg6 harg6 arg7 harg7 arg8 harg8 arg9 harg9 arg10 harg10 arg11 harg11 _ _ _ _ _ _ _ _ _ 9 le_rfl x (x (0 : Fin 2)).isLt).trans (by
      unfold codesOut run_C.sl.r run_C.sl.r_1 saOf lenOf; simp only [harg2.readAt_unread, harg6.readAt_unread])
  isplitl [H6]
  · iexists _; isplitr
    swap; · iexact H6
    ipureintro
    rw [View.read_writes_full]
    refine congrArg k0_pay2 ?_
    unfold run_C.sl.v14 run_C.sl.r
    refine (View.readAt_full arg11.view _ _).trans ?_
    refine (pb_part Variants.none c none i arg2 harg2 arg3 harg3 arg4 harg4 arg5 harg5 arg6 harg6 arg7 harg7 arg8 harg8 arg9 harg9 arg10 harg10 arg11 harg11 _ _ _ _ _ _ _ _ _ 9 le_rfl).trans ?_
    unfold accOut lenOf; simp only [harg2.readAt_unread, harg11.read_unread]
  isplitl [H9]
  · iexists _; iexists _; isplitr
    swap; · iexact H9
    ipureintro; rfl
  isplitl [H10]
  · iexists _; iexists _; isplitr
    swap; · iexact H10
    ipureintro; rfl
  iexists _; isplitr
  swap; · iexact H11
  ipureintro
  refine (pb_part Variants.none c none i arg2 harg2 arg3 harg3 arg4 harg4 arg5 harg5 arg6 harg6 arg7 harg7 arg8 harg8 arg9 harg9 arg10 harg10 arg11 harg11 _ _ _ _ _ _ _ _ _ 9 le_rfl).trans ?_
  unfold accOut run_C.sl.r lenOf; simp only [harg2.readAt_unread, harg11.read_unread]

end Cert.KAttnIdeal.Gen
-- ==== Proof.AttnTrip.lean ====
/-
  Hand-written. THE ATTENTION'S TRIP: what one trip of the kernel's loop makes of its block of queries.
-/
module

public import proofs.«01_k».proof.Proof.AttnPay
public import proofs.«01_k».proof.Proof.AttnAll
public import proofs.«01_k».proof.Proof.KAttnIdealRun
public import Idealize.ShloMosaic.Lib.Pipeline.ReadBack

@[expose] public section

set_option maxRecDepth 16384

noncomputable section

namespace Cert.Proof.AttnTrip

open Cert.Proof.Common
open Idealize.ShloMosaic Idealize.ShloMosaic.TcCoe Idealize.SL.Sem
open Idealize.ShloMosaic.Pipeline (Dat)
open Cert.KAttnIdeal Cert.KAttnIdeal.Gen

open Cert.Proof.AttnMath
open Cert.Proof.AttnFold
open Cert.Proof.AttnPay
open Cert.Proof.AttnAll

section
variable (arg3 : Memref sig .tc .vmem S4608x128 .bf16) (harg3 : arg3.IsWhole) (arg4 : Memref sig .tc .vmem S4608x128 .bf16) (harg4 : arg4.IsWhole)
  (arg5 : Memref sig .tc .vmem S1x128x4608 .bf16) (harg5 : arg5.IsWhole) (arg9 : Memref sig .tc .vmem S4608x512 .f32) (arg10 : Memref sig .tc .vmem S4608x512 .bf16)
  (len : BitVec 32) (sa : EReal) (q k : FVec Ideal S4608x128 .bf16) (vt : FVec Ideal S1x128x4608 .bf16) (n : Fin k0_t1_loop.trips)

/-- The unscaled scores of the trip's block of queries. -/
def raw (j l : ℕ) : EReal :=
  if h : j < 4608 ∧ 512 * n.val + l < 4608 then
    (if masked len j = 1#1 then ⊥ else ∑ d : Fin 128, k (ix2 (⟨j, h.1⟩ : Fin 4608) d) * q (ix2 (⟨512 * n.val + l, h.2⟩ : Fin 4608) d))
  else ⊥

/-- An index of a block is the pair of its coordinates. -/
theorem square_eta (x : S512x512.Idx) : x = ix2 (x 0) (x 1) := by
  funext a
  match a with
  | ⟨0, _⟩ => rfl
  | ⟨1, _⟩ => rfl

/-- The trip's number is below nine. -/
theorem trip_lt : n.val < 9 := lt_of_lt_of_eq n.isLt trips_eq

/-- The trip's queries. -/
theorem query_at (l : Fin 512) (d : Fin 128) :
    (trip_k0_h1.sl.r (F := Ideal) arg3 (harg3.unread q) n (ix2 l d) : EReal)
      = q (ix2 (⟨512 * n.val + l.val, by have := trip_lt n; omega⟩ : Fin 4608) d) := by
  unfold trip_k0_h1.sl.r
  rw [View.readAt_eq_ld, harg3.read_unread]
  refine congrArg q (funext fun a => Fin.ext ?_)
  match a with
  | ⟨0, _⟩ =>
    show (k0_off2 n : Fin 2 → ℕ) 0 + 1 * l.val = _
    rw [k0_off2_eq n]
    simp
  | ⟨1, _⟩ =>
    show (k0_off2 n : Fin 2 → ℕ) 1 + 1 * d.val = _
    rw [k0_off2_eq n]
    simp

/-- Past the text no key is masked. -/
theorem unmasked (j : ℕ) (h : 512 ≤ j) (h' : j < 4608) : ¬ masked len j = 1#1 := by
  have e : Scalar.cmpi .slt (BitVec.ofNat 32 j) 512#32 = 0#1 := by
    have : ∀ i : Fin 4608, 512 ≤ i.val → Scalar.cmpi .slt (BitVec.ofNat 32 i.val) 512#32 = 0#1 := by decide +kernel
    exact this ⟨j, h'⟩ h
  unfold masked
  rw [e]
  intro g
  have : ∀ b : BitVec 1, Scalar.andi b 0#1 = 0#1 := by decide
  rw [this] at g
  exact absurd g (by decide)

/-- Key block 0. -/
theorem key0_at (r : Fin 512) (d : Fin 128) : ((View.readAt (Elt Ideal) arg4.view (Rect.unit (s := S4608x128) ![0, 0] S512x128.size inb_S4608x128_S512x128_0_0).toLoadRect (harg4.unread k) : FVec Ideal S512x128 .bf16) (ix2 r d) : EReal) = k (ix2 (⟨512 * 0 + r.val, by omega⟩ : Fin 4608) d) := by
  rw [View.readAt_eq_ld, harg4.read_unread]
  refine congrArg k (funext fun a => Fin.ext ?_)
  match a with
  | ⟨0, _⟩ => show 0 + 1 * r.val = 512 * 0 + r.val; omega
  | ⟨1, _⟩ => show 0 + 1 * d.val = d.val; omega

/-- Key block 0's scores. -/
theorem score0_at (r l : Fin 512) : ((trip_k0_h1.sl.r_1 (F := Ideal) arg3 arg4 len (harg3.unread q) (harg4.unread k) n) (ix2 r l) : EReal) = block (raw len q k n) 0 r.val l.val := by
  have hn := trip_lt n
  refine (pay4_at _ (trip_k0_h1.sl.r (F := Ideal) arg3 (harg3.unread q) n) (View.readAt (Elt Ideal) arg4.view (Rect.unit (s := S4608x128) ![0, 0] S512x128.size inb_S4608x128_S512x128_0_0).toLoadRect (harg4.unread k) : FVec Ideal S512x128 .bf16) r l).trans ?_
  unfold block raw
  rw [dif_pos ⟨by omega, by omega⟩]
  simp only [query_at arg3 harg3 q n, key0_at arg4 harg4 k]
  rw [bottom, show masked len (512 * 0 + r.val) = masked len r.val from by rw [show 512 * 0 + r.val = r.val from by omega]]
  rfl

/-- Key block 1. -/
theorem key1_at (r : Fin 512) (d : Fin 128) : ((View.readAt (Elt Ideal) arg4.view (Rect.unit (s := S4608x128) ![512, 0] S512x128.size inb_S4608x128_S512x128_512_0).toLoadRect (harg4.unread k) : FVec Ideal S512x128 .bf16) (ix2 r d) : EReal) = k (ix2 (⟨512 * 1 + r.val, by omega⟩ : Fin 4608) d) := by
  rw [View.readAt_eq_ld, harg4.read_unread]
  refine congrArg k (funext fun a => Fin.ext ?_)
  match a with
  | ⟨0, _⟩ => show 512 + 1 * r.val = 512 * 1 + r.val; omega
  | ⟨1, _⟩ => show 0 + 1 * d.val = d.val; omega

/-- Key block 1's scores. -/
theorem score1_at (r l : Fin 512) : ((trip_k0_h1.sl.r_5 (F := Ideal) arg3 arg4 (harg3.unread q) (harg4.unread k) n) (ix2 r l) : EReal) = block (raw len q k n) 1 r.val l.val := by
  have hn := trip_lt n
  refine (pay9_at (trip_k0_h1.sl.r (F := Ideal) arg3 (harg3.unread q) n) (View.readAt (Elt Ideal) arg4.view (Rect.unit (s := S4608x128) ![512, 0] S512x128.size inb_S4608x128_S512x128_512_0).toLoadRect (harg4.unread k) : FVec Ideal S512x128 .bf16) r l).trans ?_
  unfold block raw
  rw [dif_pos ⟨by omega, by omega⟩]
  simp only [query_at arg3 harg3 q n, key1_at arg4 harg4 k]
  rw [if_neg (unmasked len (512 * 1 + r.val) (by omega) (by omega))]

/-- Key block 2. -/
theorem key2_at (r : Fin 512) (d : Fin 128) : ((View.readAt (Elt Ideal) arg4.view (Rect.unit (s := S4608x128) ![1024, 0] S512x128.size inb_S4608x128_S512x128_1024_0).toLoadRect (harg4.unread k) : FVec Ideal S512x128 .bf16) (ix2 r d) : EReal) = k (ix2 (⟨512 * 2 + r.val, by omega⟩ : Fin 4608) d) := by
  rw [View.readAt_eq_ld, harg4.read_unread]
  refine congrArg k (funext fun a => Fin.ext ?_)
  match a with
  | ⟨0, _⟩ => show 1024 + 1 * r.val = 512 * 2 + r.val; omega
  | ⟨1, _⟩ => show 0 + 1 * d.val = d.val; omega

/-- Key block 2's scores. -/
theorem score2_at (r l : Fin 512) : ((trip_k0_h1.sl.r_11 (F := Ideal) arg3 arg4 (harg3.unread q) (harg4.unread k) n) (ix2 r l) : EReal) = block (raw len q k n) 2 r.val l.val := by
  have hn := trip_lt n
  refine (pay16_at (trip_k0_h1.sl.r (F := Ideal) arg3 (harg3.unread q) n) (View.readAt (Elt Ideal) arg4.view (Rect.unit (s := S4608x128) ![1024, 0] S512x128.size inb_S4608x128_S512x128_1024_0).toLoadRect (harg4.unread k) : FVec Ideal S512x128 .bf16) r l).trans ?_
  unfold block raw
  rw [dif_pos ⟨by omega, by omega⟩]
  simp only [query_at arg3 harg3 q n, key2_at arg4 harg4 k]
  rw [if_neg (unmasked len (512 * 2 + r.val) (by omega) (by omega))]

/-- Key block 3. -/
theorem key3_at (r : Fin 512) (d : Fin 128) : ((View.readAt (Elt Ideal) arg4.view (Rect.unit (s := S4608x128) ![1536, 0] S512x128.size inb_S4608x128_S512x128_1536_0).toLoadRect (harg4.unread k) : FVec Ideal S512x128 .bf16) (ix2 r d) : EReal) = k (ix2 (⟨512 * 3 + r.val, by omega⟩ : Fin 4608) d) := by
  rw [View.readAt_eq_ld, harg4.read_unread]
  refine congrArg k (funext fun a => Fin.ext ?_)
  match a with
  | ⟨0, _⟩ => show 1536 + 1 * r.val = 512 * 3 + r.val; omega
  | ⟨1, _⟩ => show 0 + 1 * d.val = d.val; omega

/-- Key block 3's scores. -/
theorem score3_at (r l : Fin 512) : ((trip_k0_h1.sl.r_15 (F := Ideal) arg3 arg4 (harg3.unread q) (harg4.unread k) n) (ix2 r l) : EReal) = block (raw len q k n) 3 r.val l.val := by
  have hn := trip_lt n
  refine (pay21_at (trip_k0_h1.sl.r (F := Ideal) arg3 (harg3.unread q) n) (View.readAt (Elt Ideal) arg4.view (Rect.unit (s := S4608x128) ![1536, 0] S512x128.size inb_S4608x128_S512x128_1536_0).toLoadRect (harg4.unread k) : FVec Ideal S512x128 .bf16) r l).trans ?_
  unfold block raw
  rw [dif_pos ⟨by omega, by omega⟩]
  simp only [query_at arg3 harg3 q n, key3_at arg4 harg4 k]
  rw [if_neg (unmasked len (512 * 3 + r.val) (by omega) (by omega))]

/-- Key block 4. -/
theorem key4_at (r : Fin 512) (d : Fin 128) : ((View.readAt (Elt Ideal) arg4.view (Rect.unit (s := S4608x128) ![2048, 0] S512x128.size inb_S4608x128_S512x128_2048_0).toLoadRect (harg4.unread k) : FVec Ideal S512x128 .bf16) (ix2 r d) : EReal) = k (ix2 (⟨512 * 4 + r.val, by omega⟩ : Fin 4608) d) := by
  rw [View.readAt_eq_ld, harg4.read_unread]
  refine congrArg k (funext fun a => Fin.ext ?_)
  match a with
  | ⟨0, _⟩ => show 2048 + 1 * r.val = 512 * 4 + r.val; omega
  | ⟨1, _⟩ => show 0 + 1 * d.val = d.val; omega

/-- Key block 4's scores. -/
theorem score4_at (r l : Fin 512) : ((trip_k0_h1.sl.r_21 (F := Ideal) arg3 arg4 (harg3.unread q) (harg4.unread k) n) (ix2 r l) : EReal) = block (raw len q k n) 4 r.val l.val := by
  have hn := trip_lt n
  refine (pay28_at (trip_k0_h1.sl.r (F := Ideal) arg3 (harg3.unread q) n) (View.readAt (Elt Ideal) arg4.view (Rect.unit (s := S4608x128) ![2048, 0] S512x128.size inb_S4608x128_S512x128_2048_0).toLoadRect (harg4.unread k) : FVec Ideal S512x128 .bf16) r l).trans ?_
  unfold block raw
  rw [dif_pos ⟨by omega, by omega⟩]
  simp only [query_at arg3 harg3 q n, key4_at arg4 harg4 k]
  rw [if_neg (unmasked len (512 * 4 + r.val) (by omega) (by omega))]

/-- Key block 5. -/
theorem key5_at (r : Fin 512) (d : Fin 128) : ((View.readAt (Elt Ideal) arg4.view (Rect.unit (s := S4608x128) ![2560, 0] S512x128.size inb_S4608x128_S512x128_2560_0).toLoadRect (harg4.unread k) : FVec Ideal S512x128 .bf16) (ix2 r d) : EReal) = k (ix2 (⟨512 * 5 + r.val, by omega⟩ : Fin 4608) d) := by
  rw [View.readAt_eq_ld, harg4.read_unread]
  refine congrArg k (funext fun a => Fin.ext ?_)
  match a with
  | ⟨0, _⟩ => show 2560 + 1 * r.val = 512 * 5 + r.val; omega
  | ⟨1, _⟩ => show 0 + 1 * d.val = d.val; omega

/-- Key block 5's scores. -/
theorem score5_at (r l : Fin 512) : ((trip_k0_h1.sl.r_26 (F := Ideal) arg3 arg4 (harg3.unread q) (harg4.unread k) n) (ix2 r l) : EReal) = block (raw len q k n) 5 r.val l.val := by
  have hn := trip_lt n
  refine (pay33_at (trip_k0_h1.sl.r (F := Ideal) arg3 (harg3.unread q) n) (View.readAt (Elt Ideal) arg4.view (Rect.unit (s := S4608x128) ![2560, 0] S512x128.size inb_S4608x128_S512x128_2560_0).toLoadRect (harg4.unread k) : FVec Ideal S512x128 .bf16) r l).trans ?_
  unfold block raw
  rw [dif_pos ⟨by omega, by omega⟩]
  simp only [query_at arg3 harg3 q n, key5_at arg4 harg4 k]
  rw [if_neg (unmasked len (512 * 5 + r.val) (by omega) (by omega))]

/-- Key block 6. -/
theorem key6_at (r : Fin 512) (d : Fin 128) : ((View.readAt (Elt Ideal) arg4.view (Rect.unit (s := S4608x128) ![3072, 0] S512x128.size inb_S4608x128_S512x128_3072_0).toLoadRect (harg4.unread k) : FVec Ideal S512x128 .bf16) (ix2 r d) : EReal) = k (ix2 (⟨512 * 6 + r.val, by omega⟩ : Fin 4608) d) := by
  rw [View.readAt_eq_ld, harg4.read_unread]
  refine congrArg k (funext fun a => Fin.ext ?_)
  match a with
  | ⟨0, _⟩ => show 3072 + 1 * r.val = 512 * 6 + r.val; omega
  | ⟨1, _⟩ => show 0 + 1 * d.val = d.val; omega

/-- Key block 6's scores. -/
theorem score6_at (r l : Fin 512) : ((trip_k0_h1.sl.r_32 (F := Ideal) arg3 arg4 (harg3.unread q) (harg4.unread k) n) (ix2 r l) : EReal) = block (raw len q k n) 6 r.val l.val := by
  have hn := trip_lt n
  refine (pay40_at (trip_k0_h1.sl.r (F := Ideal) arg3 (harg3.unread q) n) (View.readAt (Elt Ideal) arg4.view (Rect.unit (s := S4608x128) ![3072, 0] S512x128.size inb_S4608x128_S512x128_3072_0).toLoadRect (harg4.unread k) : FVec Ideal S512x128 .bf16) r l).trans ?_
  unfold block raw
  rw [dif_pos ⟨by omega, by omega⟩]
  simp only [query_at arg3 harg3 q n, key6_at arg4 harg4 k]
  rw [if_neg (unmasked len (512 * 6 + r.val) (by omega) (by omega))]

/-- Key block 7. -/
theorem key7_at (r : Fin 512) (d : Fin 128) : ((View.readAt (Elt Ideal) arg4.view (Rect.unit (s := S4608x128) ![3584, 0] S512x128.size inb_S4608x128_S512x128_3584_0).toLoadRect (harg4.unread k) : FVec Ideal S512x128 .bf16) (ix2 r d) : EReal) = k (ix2 (⟨512 * 7 + r.val, by omega⟩ : Fin 4608) d) := by
  rw [View.readAt_eq_ld, harg4.read_unread]
  refine congrArg k (funext fun a => Fin.ext ?_)
  match a with
  | ⟨0, _⟩ => show 3584 + 1 * r.val = 512 * 7 + r.val; omega
  | ⟨1, _⟩ => show 0 + 1 * d.val = d.val; omega

/-- Key block 7's scores. -/
theorem score7_at (r l : Fin 512) : ((trip_k0_h1.sl.r_36 (F := Ideal) arg3 arg4 (harg3.unread q) (harg4.unread k) n) (ix2 r l) : EReal) = block (raw len q k n) 7 r.val l.val := by
  have hn := trip_lt n
  refine (pay45_at (trip_k0_h1.sl.r (F := Ideal) arg3 (harg3.unread q) n) (View.readAt (Elt Ideal) arg4.view (Rect.unit (s := S4608x128) ![3584, 0] S512x128.size inb_S4608x128_S512x128_3584_0).toLoadRect (harg4.unread k) : FVec Ideal S512x128 .bf16) r l).trans ?_
  unfold block raw
  rw [dif_pos ⟨by omega, by omega⟩]
  simp only [query_at arg3 harg3 q n, key7_at arg4 harg4 k]
  rw [if_neg (unmasked len (512 * 7 + r.val) (by omega) (by omega))]

/-- Key block 8. -/
theorem key8_at (r : Fin 512) (d : Fin 128) : ((View.readAt (Elt Ideal) arg4.view (Rect.unit (s := S4608x128) ![4096, 0] S512x128.size inb_S4608x128_S512x128_4096_0).toLoadRect (harg4.unread k) : FVec Ideal S512x128 .bf16) (ix2 r d) : EReal) = k (ix2 (⟨512 * 8 + r.val, by omega⟩ : Fin 4608) d) := by
  rw [View.readAt_eq_ld, harg4.read_unread]
  refine congrArg k (funext fun a => Fin.ext ?_)
  match a with
  | ⟨0, _⟩ => show 4096 + 1 * r.val = 512 * 8 + r.val; omega
  | ⟨1, _⟩ => show 0 + 1 * d.val = d.val; omega

/-- Key block 8's scores. -/
theorem score8_at (r l : Fin 512) : ((trip_k0_h1.sl.r_42 (F := Ideal) arg3 arg4 (harg3.unread q) (harg4.unread k) n) (ix2 r l) : EReal) = block (raw len q k n) 8 r.val l.val := by
  have hn := trip_lt n
  refine (pay52_at (trip_k0_h1.sl.r (F := Ideal) arg3 (harg3.unread q) n) (View.readAt (Elt Ideal) arg4.view (Rect.unit (s := S4608x128) ![4096, 0] S512x128.size inb_S4608x128_S512x128_4096_0).toLoadRect (harg4.unread k) : FVec Ideal S512x128 .bf16) r l).trans ?_
  unfold block raw
  rw [dif_pos ⟨by omega, by omega⟩]
  simp only [query_at arg3 harg3 q n, key8_at arg4 harg4 k]
  rw [if_neg (unmasked len (512 * 8 + r.val) (by omega) (by omega))]

/-- The maximum after key block 0. -/
theorem max0_at (a : Fin 8) (l : Fin 512) : ((trip_k0_h1.sl.r_4 (F := Ideal) arg3 arg4 len (harg3.unread q) (harg4.unread k) n) (ix2 a l) : EReal)
    = max (Ideal.ofBits .f32 0xFF800000#32) (column (block (raw len q k n) 0) a.val l.val) := by
  refine (greatest0 (k0_pay3 (F := Ideal)) len (trip_k0_h1.sl.r (F := Ideal) arg3 (harg3.unread q) n) (View.readAt (Elt Ideal) arg4.view (Rect.unit (s := S4608x128) ![0, 0] S512x128.size inb_S4608x128_S512x128_0_0).toLoadRect (harg4.unread k) : FVec Ideal S512x128 .bf16) _ (score0_at arg3 harg3 arg4 harg4 len q k n) a l).trans ?_
  rfl

/-- The maximum after key block 1. -/
theorem max1_at (a : Fin 8) (l : Fin 512) : ((trip_k0_h1.sl.r_10 (F := Ideal) arg3 arg4 len (harg3.unread q) (harg4.unread k) n) (ix2 a l) : EReal)
    = max (max (Ideal.ofBits .f32 0xFF800000#32) (column (block (raw len q k n) 0) a.val l.val)) (column (block (raw len q k n) 1) a.val l.val) := by
  refine (greatest1 (trip_k0_h1.sl.r_4 (F := Ideal) arg3 arg4 len (harg3.unread q) (harg4.unread k) n) (trip_k0_h1.sl.r (F := Ideal) arg3 (harg3.unread q) n) (View.readAt (Elt Ideal) arg4.view (Rect.unit (s := S4608x128) ![512, 0] S512x128.size inb_S4608x128_S512x128_512_0).toLoadRect (harg4.unread k) : FVec Ideal S512x128 .bf16) _ (score1_at arg3 harg3 arg4 harg4 len q k n) a l).trans ?_
  rw [max0_at arg3 harg3 arg4 harg4 len q k n]

/-- The maximum after key block 2. -/
theorem max2_at (a : Fin 8) (l : Fin 512) : ((trip_k0_h1.sl.r_14 (F := Ideal) arg3 arg4 len (harg3.unread q) (harg4.unread k) n) (ix2 a l) : EReal)
    = max (max (max (Ideal.ofBits .f32 0xFF800000#32) (column (block (raw len q k n) 0) a.val l.val)) (column (block (raw len q k n) 1) a.val l.val)) (column (block (raw len q k n) 2) a.val l.val) := by
  refine (greatest2 (trip_k0_h1.sl.r_10 (F := Ideal) arg3 arg4 len (harg3.unread q) (harg4.unread k) n) (trip_k0_h1.sl.r (F := Ideal) arg3 (harg3.unread q) n) (View.readAt (Elt Ideal) arg4.view (Rect.unit (s := S4608x128) ![1024, 0] S512x128.size inb_S4608x128_S512x128_1024_0).toLoadRect (harg4.unread k) : FVec Ideal S512x128 .bf16) _ (score2_at arg3 harg3 arg4 harg4 len q k n) a l).trans ?_
  rw [max1_at arg3 harg3 arg4 harg4 len q k n]

/-- The maximum after key block 3. -/
theorem max3_at (a : Fin 8) (l : Fin 512) : ((trip_k0_h1.sl.r_20 (F := Ideal) arg3 arg4 len (harg3.unread q) (harg4.unread k) n) (ix2 a l) : EReal)
    = max (max (max (max (Ideal.ofBits .f32 0xFF800000#32) (column (block (raw len q k n) 0) a.val l.val)) (column (block (raw len q k n) 1) a.val l.val)) (column (block (raw len q k n) 2) a.val l.val)) (column (block (raw len q k n) 3) a.val l.val) := by
  refine (greatest3 (trip_k0_h1.sl.r_14 (F := Ideal) arg3 arg4 len (harg3.unread q) (harg4.unread k) n) (trip_k0_h1.sl.r (F := Ideal) arg3 (harg3.unread q) n) (View.readAt (Elt Ideal) arg4.view (Rect.unit (s := S4608x128) ![1536, 0] S512x128.size inb_S4608x128_S512x128_1536_0).toLoadRect (harg4.unread k) : FVec Ideal S512x128 .bf16) _ (score3_at arg3 harg3 arg4 harg4 len q k n) a l).trans ?_
  rw [max2_at arg3 harg3 arg4 harg4 len q k n]

/-- The maximum after key block 4. -/
theorem max4_at (a : Fin 8) (l : Fin 512) : ((trip_k0_h1.sl.r_24 (F := Ideal) arg3 arg4 len (harg3.unread q) (harg4.unread k) n) (ix2 a l) : EReal)
    = max (max (max (max (max (Ideal.ofBits .f32 0xFF800000#32) (column (block (raw len q k n) 0) a.val l.val)) (column (block (raw len q k n) 1) a.val l.val)) (column (block (raw len q k n) 2) a.val l.val)) (column (block (raw len q k n) 3) a.val l.val)) (column (block (raw len q k n) 4) a.val l.val) := by
  refine (greatest4 (trip_k0_h1.sl.r_20 (F := Ideal) arg3 arg4 len (harg3.unread q) (harg4.unread k) n) (trip_k0_h1.sl.r (F := Ideal) arg3 (harg3.unread q) n) (View.readAt (Elt Ideal) arg4.view (Rect.unit (s := S4608x128) ![2048, 0] S512x128.size inb_S4608x128_S512x128_2048_0).toLoadRect (harg4.unread k) : FVec Ideal S512x128 .bf16) _ (score4_at arg3 harg3 arg4 harg4 len q k n) a l).trans ?_
  rw [max3_at arg3 harg3 arg4 harg4 len q k n]

/-- The maximum after key block 5. -/
theorem max5_at (a : Fin 8) (l : Fin 512) : ((trip_k0_h1.sl.r_31 (F := Ideal) arg3 arg4 len (harg3.unread q) (harg4.unread k) n) (ix2 a l) : EReal)
    = max (max (max (max (max (max (Ideal.ofBits .f32 0xFF800000#32) (column (block (raw len q k n) 0) a.val l.val)) (column (block (raw len q k n) 1) a.val l.val)) (column (block (raw len q k n) 2) a.val l.val)) (column (block (raw len q k n) 3) a.val l.val)) (column (block (raw len q k n) 4) a.val l.val)) (column (block (raw len q k n) 5) a.val l.val) := by
  refine (greatest5 (trip_k0_h1.sl.r_24 (F := Ideal) arg3 arg4 len (harg3.unread q) (harg4.unread k) n) (trip_k0_h1.sl.r (F := Ideal) arg3 (harg3.unread q) n) (View.readAt (Elt Ideal) arg4.view (Rect.unit (s := S4608x128) ![2560, 0] S512x128.size inb_S4608x128_S512x128_2560_0).toLoadRect (harg4.unread k) : FVec Ideal S512x128 .bf16) _ (score5_at arg3 harg3 arg4 harg4 len q k n) a l).trans ?_
  rw [max4_at arg3 harg3 arg4 harg4 len q k n]

/-- The maximum after key block 6. -/
theorem max6_at (a : Fin 8) (l : Fin 512) : ((trip_k0_h1.sl.r_35 (F := Ideal) arg3 arg4 len (harg3.unread q) (harg4.unread k) n) (ix2 a l) : EReal)
    = max (max (max (max (max (max (max (Ideal.ofBits .f32 0xFF800000#32) (column (block (raw len q k n) 0) a.val l.val)) (column (block (raw len q k n) 1) a.val l.val)) (column (block (raw len q k n) 2) a.val l.val)) (column (block (raw len q k n) 3) a.val l.val)) (column (block (raw len q k n) 4) a.val l.val)) (column (block (raw len q k n) 5) a.val l.val)) (column (block (raw len q k n) 6) a.val l.val) := by
  refine (greatest6 (trip_k0_h1.sl.r_31 (F := Ideal) arg3 arg4 len (harg3.unread q) (harg4.unread k) n) (trip_k0_h1.sl.r (F := Ideal) arg3 (harg3.unread q) n) (View.readAt (Elt Ideal) arg4.view (Rect.unit (s := S4608x128) ![3072, 0] S512x128.size inb_S4608x128_S512x128_3072_0).toLoadRect (harg4.unread k) : FVec Ideal S512x128 .bf16) _ (score6_at arg3 harg3 arg4 harg4 len q k n) a l).trans ?_
  rw [max5_at arg3 harg3 arg4 harg4 len q k n]

/-- The maximum after key block 7. -/
theorem max7_at (a : Fin 8) (l : Fin 512) : ((trip_k0_h1.sl.r_41 (F := Ideal) arg3 arg4 len (harg3.unread q) (harg4.unread k) n) (ix2 a l) : EReal)
    = max (max (max (max (max (max (max (max (Ideal.ofBits .f32 0xFF800000#32) (column (block (raw len q k n) 0) a.val l.val)) (column (block (raw len q k n) 1) a.val l.val)) (column (block (raw len q k n) 2) a.val l.val)) (column (block (raw len q k n) 3) a.val l.val)) (column (block (raw len q k n) 4) a.val l.val)) (column (block (raw len q k n) 5) a.val l.val)) (column (block (raw len q k n) 6) a.val l.val)) (column (block (raw len q k n) 7) a.val l.val) := by
  refine (greatest7 (trip_k0_h1.sl.r_35 (F := Ideal) arg3 arg4 len (harg3.unread q) (harg4.unread k) n) (trip_k0_h1.sl.r (F := Ideal) arg3 (harg3.unread q) n) (View.readAt (Elt Ideal) arg4.view (Rect.unit (s := S4608x128) ![3584, 0] S512x128.size inb_S4608x128_S512x128_3584_0).toLoadRect (harg4.unread k) : FVec Ideal S512x128 .bf16) _ (score7_at arg3 harg3 arg4 harg4 len q k n) a l).trans ?_
  rw [max6_at arg3 harg3 arg4 harg4 len q k n]

/-- The row of maxima: each query's greatest score, scaled and rounded up. -/
theorem row_at (l : Fin 512) : ((trip_k0_h1.sl.r_46 (F := Ideal) arg3 arg4 len (harg3.unread q) (harg4.unread k) n) (ix2 0 l) : EReal) = ceilE ((⨆ j : Fin 4608, raw len q k n j l) * scale) := by
  refine (pay57_at (trip_k0_h1.sl.r_41 (F := Ideal) arg3 arg4 len (harg3.unread q) (harg4.unread k) n) (trip_k0_h1.sl.r_42 (F := Ideal) arg3 arg4 (harg3.unread q) (harg4.unread k) n) (trip_k0_h1.sl.r_45 (F := Ideal) arg3 arg4 (harg3.unread q) (harg4.unread k) n) _ (score8_at arg3 harg3 arg4 harg4 len q k n) l).trans ?_
  rw [← allMax_eq]
  refine congrArg ceilE (congrArg (· * scale) (congrArg (fun f => Finset.univ.fold max (Ideal.ofBits .f32 0xFF800000#32) f) (funext fun a => ?_)))
  have e : ((trip_k0_h1.sl.r_45 (F := Ideal) arg3 arg4 (harg3.unread q) (harg4.unread k) n) (ix2 a l) : EReal) = run (block (raw len q k n) 8) a.val l.val 1 60 (block (raw len q k n) 8 a.val l.val) := by
    refine (pay55_at (trip_k0_h1.sl.r_42 (F := Ideal) arg3 arg4 (harg3.unread q) (harg4.unread k) n) (trip_k0_h1.sl.r_44 (F := Ideal) arg3 arg4 (harg3.unread q) (harg4.unread k) n) _ (score8_at arg3 harg3 arg4 harg4 len q k n) a l).trans ?_
    refine (congrArg (run _ _ _ _ _) ((pay54_at (trip_k0_h1.sl.r_42 (F := Ideal) arg3 arg4 (harg3.unread q) (harg4.unread k) n) (trip_k0_h1.sl.r_43 (F := Ideal) arg3 arg4 (harg3.unread q) (harg4.unread k) n) _ (score8_at arg3 harg3 arg4 harg4 len q k n) a l).trans ?_)).trans
      (run_run _ _ _ 1 30 31 30 _ (by norm_num))
    refine (congrArg (run _ _ _ _ _) ((pay53_at (trip_k0_h1.sl.r (F := Ideal) arg3 (harg3.unread q) n) (View.readAt (Elt Ideal) arg4.view (Rect.unit (s := S4608x128) ![4096, 0] S512x128.size inb_S4608x128_S512x128_4096_0).toLoadRect (harg4.unread k) : FVec Ideal S512x128 .bf16) _ (score8_at arg3 harg3 arg4 harg4 len q k n) a l).trans ?_))
    rfl
  rw [e, run_run _ _ _ 1 60 61 3 _ (by norm_num), max7_at arg3 harg3 arg4 harg4 len q k n]
  rfl

/-- The probabilities of the trip's block of queries. -/
def prob (j l : ℕ) : EReal := Ideal.exp2 (raw len q k n j l * scale - ceilE ((⨆ i : Fin 4608, raw len q k n i l) * scale))

/-- Key block 0's scores, read back. -/
theorem back0_at (r l : Fin 512) : ((trip_k0_h1.sl.v1232 (F := Ideal) arg3 arg4 arg9 len (harg3.unread q) (harg4.unread k) n) (ix2 r l) : EReal) = block (raw len q k n) 0 r.val l.val := by
  rw [← score0_at arg3 harg3 arg4 harg4 len q k n r l]
  unfold trip_k0_h1.sl.v1232 trip_k0_h1.sl.HW_arg9_9
  rw [View.readCov_skip _ _ _ _ _ (by decide +kernel)]
  rw [View.readCov_skip _ _ _ _ _ (by decide +kernel)]
  rw [View.readCov_skip _ _ _ _ _ (by decide +kernel)]
  rw [View.readCov_skip _ _ _ _ _ (by decide +kernel)]
  rw [View.readCov_skip _ _ _ _ _ (by decide +kernel)]
  rw [View.readCov_skip _ _ _ _ _ (by decide +kernel)]
  rw [View.readCov_skip _ _ _ _ _ (by decide +kernel)]
  rw [View.readCov_skip _ _ _ _ _ (by decide +kernel)]
  rw [View.readCov_cons_toLoadRect, pay8_eq]

/-- Key block 1's scores, read back. -/
theorem back1_at (r l : Fin 512) : ((trip_k0_h1.sl.v1370 (F := Ideal) arg3 arg4 arg9 len (harg3.unread q) (harg4.unread k) n) (ix2 r l) : EReal) = block (raw len q k n) 1 r.val l.val := by
  rw [← score1_at arg3 harg3 arg4 harg4 len q k n r l]
  unfold trip_k0_h1.sl.v1370 trip_k0_h1.sl.HW_arg9_9
  rw [View.readCov_skip _ _ _ _ _ (by decide +kernel)]
  rw [View.readCov_skip _ _ _ _ _ (by decide +kernel)]
  rw [View.readCov_skip _ _ _ _ _ (by decide +kernel)]
  rw [View.readCov_skip _ _ _ _ _ (by decide +kernel)]
  rw [View.readCov_skip _ _ _ _ _ (by decide +kernel)]
  rw [View.readCov_skip _ _ _ _ _ (by decide +kernel)]
  rw [View.readCov_skip _ _ _ _ _ (by decide +kernel)]
  rw [View.readCov_cons_toLoadRect, pay15_eq]

/-- Key block 2's scores, read back. -/
theorem back2_at (r l : Fin 512) : ((trip_k0_h1.sl.v1508 (F := Ideal) arg3 arg4 arg9 len (harg3.unread q) (harg4.unread k) n) (ix2 r l) : EReal) = block (raw len q k n) 2 r.val l.val := by
  rw [← score2_at arg3 harg3 arg4 harg4 len q k n r l]
  unfold trip_k0_h1.sl.v1508 trip_k0_h1.sl.HW_arg9_9
  rw [View.readCov_skip _ _ _ _ _ (by decide +kernel)]
  rw [View.readCov_skip _ _ _ _ _ (by decide +kernel)]
  rw [View.readCov_skip _ _ _ _ _ (by decide +kernel)]
  rw [View.readCov_skip _ _ _ _ _ (by decide +kernel)]
  rw [View.readCov_skip _ _ _ _ _ (by decide +kernel)]
  rw [View.readCov_skip _ _ _ _ _ (by decide +kernel)]
  rw [View.readCov_cons_toLoadRect, pay20_eq]

/-- Key block 3's scores, read back. -/
theorem back3_at (r l : Fin 512) : ((trip_k0_h1.sl.v1646 (F := Ideal) arg3 arg4 arg9 len (harg3.unread q) (harg4.unread k) n) (ix2 r l) : EReal) = block (raw len q k n) 3 r.val l.val := by
  rw [← score3_at arg3 harg3 arg4 harg4 len q k n r l]
  unfold trip_k0_h1.sl.v1646 trip_k0_h1.sl.HW_arg9_9
  rw [View.readCov_skip _ _ _ _ _ (by decide +kernel)]
  rw [View.readCov_skip _ _ _ _ _ (by decide +kernel)]
  rw [View.readCov_skip _ _ _ _ _ (by decide +kernel)]
  rw [View.readCov_skip _ _ _ _ _ (by decide +kernel)]
  rw [View.readCov_skip _ _ _ _ _ (by decide +kernel)]
  rw [View.readCov_cons_toLoadRect, pay27_eq]

/-- Key block 4's scores, read back. -/
theorem back4_at (r l : Fin 512) : ((trip_k0_h1.sl.v1784 (F := Ideal) arg3 arg4 arg9 len (harg3.unread q) (harg4.unread k) n) (ix2 r l) : EReal) = block (raw len q k n) 4 r.val l.val := by
  rw [← score4_at arg3 harg3 arg4 harg4 len q k n r l]
  unfold trip_k0_h1.sl.v1784 trip_k0_h1.sl.HW_arg9_9
  rw [View.readCov_skip _ _ _ _ _ (by decide +kernel)]
  rw [View.readCov_skip _ _ _ _ _ (by decide +kernel)]
  rw [View.readCov_skip _ _ _ _ _ (by decide +kernel)]
  rw [View.readCov_skip _ _ _ _ _ (by decide +kernel)]
  rw [View.readCov_cons_toLoadRect, pay32_eq]

/-- Key block 5's scores, read back. -/
theorem back5_at (r l : Fin 512) : ((trip_k0_h1.sl.v1922 (F := Ideal) arg3 arg4 arg9 len (harg3.unread q) (harg4.unread k) n) (ix2 r l) : EReal) = block (raw len q k n) 5 r.val l.val := by
  rw [← score5_at arg3 harg3 arg4 harg4 len q k n r l]
  unfold trip_k0_h1.sl.v1922 trip_k0_h1.sl.HW_arg9_9
  rw [View.readCov_skip _ _ _ _ _ (by decide +kernel)]
  rw [View.readCov_skip _ _ _ _ _ (by decide +kernel)]
  rw [View.readCov_skip _ _ _ _ _ (by decide +kernel)]
  rw [View.readCov_cons_toLoadRect, pay39_eq]

/-- Key block 6's scores, read back. -/
theorem back6_at (r l : Fin 512) : ((trip_k0_h1.sl.v2060 (F := Ideal) arg3 arg4 arg9 len (harg3.unread q) (harg4.unread k) n) (ix2 r l) : EReal) = block (raw len q k n) 6 r.val l.val := by
  rw [← score6_at arg3 harg3 arg4 harg4 len q k n r l]
  unfold trip_k0_h1.sl.v2060 trip_k0_h1.sl.HW_arg9_9
  rw [View.readCov_skip _ _ _ _ _ (by decide +kernel)]
  rw [View.readCov_skip _ _ _ _ _ (by decide +kernel)]
  rw [View.readCov_cons_toLoadRect, pay44_eq]

/-- Key block 7's scores, read back. -/
theorem back7_at (r l : Fin 512) : ((trip_k0_h1.sl.v2198 (F := Ideal) arg3 arg4 arg9 len (harg3.unread q) (harg4.unread k) n) (ix2 r l) : EReal) = block (raw len q k n) 7 r.val l.val := by
  rw [← score7_at arg3 harg3 arg4 harg4 len q k n r l]
  unfold trip_k0_h1.sl.v2198 trip_k0_h1.sl.HW_arg9_9
  rw [View.readCov_skip _ _ _ _ _ (by decide +kernel)]
  rw [View.readCov_cons_toLoadRect, pay51_eq]

/-- Key block 8's scores, read back. -/
theorem back8_at (r l : Fin 512) : ((trip_k0_h1.sl.v2336 (F := Ideal) arg3 arg4 arg9 len (harg3.unread q) (harg4.unread k) n) (ix2 r l) : EReal) = block (raw len q k n) 8 r.val l.val := by
  rw [← score8_at arg3 harg3 arg4 harg4 len q k n r l]
  unfold trip_k0_h1.sl.v2336 trip_k0_h1.sl.HW_arg9_9
  rw [View.readCov_cons_toLoadRect, pay56_eq]

/-- Key block 0's probabilities. -/
theorem prob0_at (r l : Fin 512) : ((trip_k0_h1.sl.r_47 (F := Ideal) arg3 arg4 arg9 len (harg3.unread q) (harg4.unread k) n) (ix2 r l) : EReal) = block (prob len q k n) 0 r.val l.val := by
  refine (pay59_at (trip_k0_h1.sl.r_41 (F := Ideal) arg3 arg4 len (harg3.unread q) (harg4.unread k) n) (trip_k0_h1.sl.r_42 (F := Ideal) arg3 arg4 (harg3.unread q) (harg4.unread k) n) (trip_k0_h1.sl.r_45 (F := Ideal) arg3 arg4 (harg3.unread q) (harg4.unread k) n) (trip_k0_h1.sl.v1232 (F := Ideal) arg3 arg4 arg9 len (harg3.unread q) (harg4.unread k) n) r l).trans ?_
  rw [back0_at arg3 harg3 arg4 harg4 arg9 len q k n r l]
  exact congrArg (fun m => Ideal.exp2 (_ - m)) (row_at arg3 harg3 arg4 harg4 len q k n l)

/-- The sum after key block 0. -/
theorem sum0_at (a : Fin 8) (l : Fin 512) : ((trip_k0_h1.sl.r_50 (F := Ideal) arg3 arg4 arg9 len (harg3.unread q) (harg4.unread k) n) (ix2 a l) : EReal)
    = Ideal.ofBits .f32 0x00000000#32 + columnSum (block (prob len q k n) 0) a.val l.val := by
  refine (total0 (k0_pay58 (F := Ideal)) (trip_k0_h1.sl.r_41 (F := Ideal) arg3 arg4 len (harg3.unread q) (harg4.unread k) n) (trip_k0_h1.sl.r_42 (F := Ideal) arg3 arg4 (harg3.unread q) (harg4.unread k) n) (trip_k0_h1.sl.r_45 (F := Ideal) arg3 arg4 (harg3.unread q) (harg4.unread k) n) (trip_k0_h1.sl.v1232 (F := Ideal) arg3 arg4 arg9 len (harg3.unread q) (harg4.unread k) n) _ (prob0_at arg3 harg3 arg4 harg4 arg9 len q k n) a l).trans ?_
  rfl

/-- Key block 1's probabilities. -/
theorem prob1_at (r l : Fin 512) : ((trip_k0_h1.sl.r_51 (F := Ideal) arg3 arg4 arg9 len (harg3.unread q) (harg4.unread k) n) (ix2 r l) : EReal) = block (prob len q k n) 1 r.val l.val := by
  refine (pay64_at (trip_k0_h1.sl.r_46 (F := Ideal) arg3 arg4 len (harg3.unread q) (harg4.unread k) n) (trip_k0_h1.sl.v1370 (F := Ideal) arg3 arg4 arg9 len (harg3.unread q) (harg4.unread k) n) r l).trans ?_
  rw [back1_at arg3 harg3 arg4 harg4 arg9 len q k n r l]
  exact congrArg (fun m => Ideal.exp2 (_ - m)) (row_at arg3 harg3 arg4 harg4 len q k n l)

/-- The sum after key block 1. -/
theorem sum1_at (a : Fin 8) (l : Fin 512) : ((trip_k0_h1.sl.r_55 (F := Ideal) arg3 arg4 arg9 len (harg3.unread q) (harg4.unread k) n) (ix2 a l) : EReal)
    = Ideal.ofBits .f32 0x00000000#32 + columnSum (block (prob len q k n) 0) a.val l.val + columnSum (block (prob len q k n) 1) a.val l.val := by
  refine (total1 (trip_k0_h1.sl.r_50 (F := Ideal) arg3 arg4 arg9 len (harg3.unread q) (harg4.unread k) n) (trip_k0_h1.sl.r_46 (F := Ideal) arg3 arg4 len (harg3.unread q) (harg4.unread k) n) (trip_k0_h1.sl.v1370 (F := Ideal) arg3 arg4 arg9 len (harg3.unread q) (harg4.unread k) n) _ (prob1_at arg3 harg3 arg4 harg4 arg9 len q k n) a l).trans ?_
  rw [sum0_at arg3 harg3 arg4 harg4 arg9 len q k n]

/-- Key block 2's probabilities. -/
theorem prob2_at (r l : Fin 512) : ((trip_k0_h1.sl.r_56 (F := Ideal) arg3 arg4 arg9 len (harg3.unread q) (harg4.unread k) n) (ix2 r l) : EReal) = block (prob len q k n) 2 r.val l.val := by
  refine (pay70_at (trip_k0_h1.sl.r_46 (F := Ideal) arg3 arg4 len (harg3.unread q) (harg4.unread k) n) (trip_k0_h1.sl.v1508 (F := Ideal) arg3 arg4 arg9 len (harg3.unread q) (harg4.unread k) n) r l).trans ?_
  rw [back2_at arg3 harg3 arg4 harg4 arg9 len q k n r l]
  exact congrArg (fun m => Ideal.exp2 (_ - m)) (row_at arg3 harg3 arg4 harg4 len q k n l)

/-- The sum after key block 2. -/
theorem sum2_at (a : Fin 8) (l : Fin 512) : ((trip_k0_h1.sl.r_59 (F := Ideal) arg3 arg4 arg9 len (harg3.unread q) (harg4.unread k) n) (ix2 a l) : EReal)
    = Ideal.ofBits .f32 0x00000000#32 + columnSum (block (prob len q k n) 0) a.val l.val + columnSum (block (prob len q k n) 1) a.val l.val + columnSum (block (prob len q k n) 2) a.val l.val := by
  refine (total2 (trip_k0_h1.sl.r_55 (F := Ideal) arg3 arg4 arg9 len (harg3.unread q) (harg4.unread k) n) (trip_k0_h1.sl.r_46 (F := Ideal) arg3 arg4 len (harg3.unread q) (harg4.unread k) n) (trip_k0_h1.sl.v1508 (F := Ideal) arg3 arg4 arg9 len (harg3.unread q) (harg4.unread k) n) _ (prob2_at arg3 harg3 arg4 harg4 arg9 len q k n) a l).trans ?_
  rw [sum1_at arg3 harg3 arg4 harg4 arg9 len q k n]

/-- Key block 3's probabilities. -/
theorem prob3_at (r l : Fin 512) : ((trip_k0_h1.sl.r_60 (F := Ideal) arg3 arg4 arg9 len (harg3.unread q) (harg4.unread k) n) (ix2 r l) : EReal) = block (prob len q k n) 3 r.val l.val := by
  refine (pay75_at (trip_k0_h1.sl.r_46 (F := Ideal) arg3 arg4 len (harg3.unread q) (harg4.unread k) n) (trip_k0_h1.sl.v1646 (F := Ideal) arg3 arg4 arg9 len (harg3.unread q) (harg4.unread k) n) r l).trans ?_
  rw [back3_at arg3 harg3 arg4 harg4 arg9 len q k n r l]
  exact congrArg (fun m => Ideal.exp2 (_ - m)) (row_at arg3 harg3 arg4 harg4 len q k n l)

/-- The sum after key block 3. -/
theorem sum3_at (a : Fin 8) (l : Fin 512) : ((trip_k0_h1.sl.r_63 (F := Ideal) arg3 arg4 arg9 len (harg3.unread q) (harg4.unread k) n) (ix2 a l) : EReal)
    = Ideal.ofBits .f32 0x00000000#32 + columnSum (block (prob len q k n) 0) a.val l.val + columnSum (block (prob len q k n) 1) a.val l.val + columnSum (block (prob len q k n) 2) a.val l.val + columnSum (block (prob len q k n) 3) a.val l.val := by
  refine (total3 (trip_k0_h1.sl.r_59 (F := Ideal) arg3 arg4 arg9 len (harg3.unread q) (harg4.unread k) n) (trip_k0_h1.sl.r_46 (F := Ideal) arg3 arg4 len (harg3.unread q) (harg4.unread k) n) (trip_k0_h1.sl.v1646 (F := Ideal) arg3 arg4 arg9 len (harg3.unread q) (harg4.unread k) n) _ (prob3_at arg3 harg3 arg4 harg4 arg9 len q k n) a l).trans ?_
  rw [sum2_at arg3 harg3 arg4 harg4 arg9 len q k n]

/-- Key block 4's probabilities. -/
theorem prob4_at (r l : Fin 512) : ((trip_k0_h1.sl.r_64 (F := Ideal) arg3 arg4 arg9 len (harg3.unread q) (harg4.unread k) n) (ix2 r l) : EReal) = block (prob len q k n) 4 r.val l.val := by
  refine (pay80_at (trip_k0_h1.sl.r_46 (F := Ideal) arg3 arg4 len (harg3.unread q) (harg4.unread k) n) (trip_k0_h1.sl.v1784 (F := Ideal) arg3 arg4 arg9 len (harg3.unread q) (harg4.unread k) n) r l).trans ?_
  rw [back4_at arg3 harg3 arg4 harg4 arg9 len q k n r l]
  exact congrArg (fun m => Ideal.exp2 (_ - m)) (row_at arg3 harg3 arg4 harg4 len q k n l)

/-- The sum after key block 4. -/
theorem sum4_at (a : Fin 8) (l : Fin 512) : ((trip_k0_h1.sl.r_67 (F := Ideal) arg3 arg4 arg9 len (harg3.unread q) (harg4.unread k) n) (ix2 a l) : EReal)
    = Ideal.ofBits .f32 0x00000000#32 + columnSum (block (prob len q k n) 0) a.val l.val + columnSum (block (prob len q k n) 1) a.val l.val + columnSum (block (prob len q k n) 2) a.val l.val + columnSum (block (prob len q k n) 3) a.val l.val + columnSum (block (prob len q k n) 4) a.val l.val := by
  refine (total4 (trip_k0_h1.sl.r_63 (F := Ideal) arg3 arg4 arg9 len (harg3.unread q) (harg4.unread k) n) (trip_k0_h1.sl.r_46 (F := Ideal) arg3 arg4 len (harg3.unread q) (harg4.unread k) n) (trip_k0_h1.sl.v1784 (F := Ideal) arg3 arg4 arg9 len (harg3.unread q) (harg4.unread k) n) _ (prob4_at arg3 harg3 arg4 harg4 arg9 len q k n) a l).trans ?_
  rw [sum3_at arg3 harg3 arg4 harg4 arg9 len q k n]

/-- Key block 5's probabilities. -/
theorem prob5_at (r l : Fin 512) : ((trip_k0_h1.sl.r_68 (F := Ideal) arg3 arg4 arg9 len (harg3.unread q) (harg4.unread k) n) (ix2 r l) : EReal) = block (prob len q k n) 5 r.val l.val := by
  refine (pay85_at (trip_k0_h1.sl.r_46 (F := Ideal) arg3 arg4 len (harg3.unread q) (harg4.unread k) n) (trip_k0_h1.sl.v1922 (F := Ideal) arg3 arg4 arg9 len (harg3.unread q) (harg4.unread k) n) r l).trans ?_
  rw [back5_at arg3 harg3 arg4 harg4 arg9 len q k n r l]
  exact congrArg (fun m => Ideal.exp2 (_ - m)) (row_at arg3 harg3 arg4 harg4 len q k n l)

/-- The sum after key block 5. -/
theorem sum5_at (a : Fin 8) (l : Fin 512) : ((trip_k0_h1.sl.r_71 (F := Ideal) arg3 arg4 arg9 len (harg3.unread q) (harg4.unread k) n) (ix2 a l) : EReal)
    = Ideal.ofBits .f32 0x00000000#32 + columnSum (block (prob len q k n) 0) a.val l.val + columnSum (block (prob len q k n) 1) a.val l.val + columnSum (block (prob len q k n) 2) a.val l.val + columnSum (block (prob len q k n) 3) a.val l.val + columnSum (block (prob len q k n) 4) a.val l.val + columnSum (block (prob len q k n) 5) a.val l.val := by
  refine (total5 (trip_k0_h1.sl.r_67 (F := Ideal) arg3 arg4 arg9 len (harg3.unread q) (harg4.unread k) n) (trip_k0_h1.sl.r_46 (F := Ideal) arg3 arg4 len (harg3.unread q) (harg4.unread k) n) (trip_k0_h1.sl.v1922 (F := Ideal) arg3 arg4 arg9 len (harg3.unread q) (harg4.unread k) n) _ (prob5_at arg3 harg3 arg4 harg4 arg9 len q k n) a l).trans ?_
  rw [sum4_at arg3 harg3 arg4 harg4 arg9 len q k n]

/-- Key block 6's probabilities. -/
theorem prob6_at (r l : Fin 512) : ((trip_k0_h1.sl.r_72 (F := Ideal) arg3 arg4 arg9 len (harg3.unread q) (harg4.unread k) n) (ix2 r l) : EReal) = block (prob len q k n) 6 r.val l.val := by
  refine (pay90_at (trip_k0_h1.sl.r_46 (F := Ideal) arg3 arg4 len (harg3.unread q) (harg4.unread k) n) (trip_k0_h1.sl.v2060 (F := Ideal) arg3 arg4 arg9 len (harg3.unread q) (harg4.unread k) n) r l).trans ?_
  rw [back6_at arg3 harg3 arg4 harg4 arg9 len q k n r l]
  exact congrArg (fun m => Ideal.exp2 (_ - m)) (row_at arg3 harg3 arg4 harg4 len q k n l)

/-- The sum after key block 6. -/
theorem sum6_at (a : Fin 8) (l : Fin 512) : ((trip_k0_h1.sl.r_76 (F := Ideal) arg3 arg4 arg9 len (harg3.unread q) (harg4.unread k) n) (ix2 a l) : EReal)
    = Ideal.ofBits .f32 0x00000000#32 + columnSum (block (prob len q k n) 0) a.val l.val + columnSum (block (prob len q k n) 1) a.val l.val + columnSum (block (prob len q k n) 2) a.val l.val + columnSum (block (prob len q k n) 3) a.val l.val + columnSum (block (prob len q k n) 4) a.val l.val + columnSum (block (prob len q k n) 5) a.val l.val + columnSum (block (prob len q k n) 6) a.val l.val := by
  refine (total6 (trip_k0_h1.sl.r_71 (F := Ideal) arg3 arg4 arg9 len (harg3.unread q) (harg4.unread k) n) (trip_k0_h1.sl.r_46 (F := Ideal) arg3 arg4 len (harg3.unread q) (harg4.unread k) n) (trip_k0_h1.sl.v2060 (F := Ideal) arg3 arg4 arg9 len (harg3.unread q) (harg4.unread k) n) _ (prob6_at arg3 harg3 arg4 harg4 arg9 len q k n) a l).trans ?_
  rw [sum5_at arg3 harg3 arg4 harg4 arg9 len q k n]

/-- Key block 7's probabilities. -/
theorem prob7_at (r l : Fin 512) : ((trip_k0_h1.sl.r_77 (F := Ideal) arg3 arg4 arg9 len (harg3.unread q) (harg4.unread k) n) (ix2 r l) : EReal) = block (prob len q k n) 7 r.val l.val := by
  refine (pay96_at (trip_k0_h1.sl.r_46 (F := Ideal) arg3 arg4 len (harg3.unread q) (harg4.unread k) n) (trip_k0_h1.sl.v2198 (F := Ideal) arg3 arg4 arg9 len (harg3.unread q) (harg4.unread k) n) r l).trans ?_
  rw [back7_at arg3 harg3 arg4 harg4 arg9 len q k n r l]
  exact congrArg (fun m => Ideal.exp2 (_ - m)) (row_at arg3 harg3 arg4 harg4 len q k n l)

/-- The sum after key block 7. -/
theorem sum7_at (a : Fin 8) (l : Fin 512) : ((trip_k0_h1.sl.r_80 (F := Ideal) arg3 arg4 arg9 len (harg3.unread q) (harg4.unread k) n) (ix2 a l) : EReal)
    = Ideal.ofBits .f32 0x00000000#32 + columnSum (block (prob len q k n) 0) a.val l.val + columnSum (block (prob len q k n) 1) a.val l.val + columnSum (block (prob len q k n) 2) a.val l.val + columnSum (block (prob len q k n) 3) a.val l.val + columnSum (block (prob len q k n) 4) a.val l.val + columnSum (block (prob len q k n) 5) a.val l.val + columnSum (block (prob len q k n) 6) a.val l.val + columnSum (block (prob len q k n) 7) a.val l.val := by
  refine (total7 (trip_k0_h1.sl.r_76 (F := Ideal) arg3 arg4 arg9 len (harg3.unread q) (harg4.unread k) n) (trip_k0_h1.sl.r_46 (F := Ideal) arg3 arg4 len (harg3.unread q) (harg4.unread k) n) (trip_k0_h1.sl.v2198 (F := Ideal) arg3 arg4 arg9 len (harg3.unread q) (harg4.unread k) n) _ (prob7_at arg3 harg3 arg4 harg4 arg9 len q k n) a l).trans ?_
  rw [sum6_at arg3 harg3 arg4 harg4 arg9 len q k n]

/-- Key block 8's probabilities. -/
theorem prob8_at (r l : Fin 512) : ((trip_k0_h1.sl.r_81 (F := Ideal) arg3 arg4 arg9 len (harg3.unread q) (harg4.unread k) n) (ix2 r l) : EReal) = block (prob len q k n) 8 r.val l.val := by
  refine (pay101_at (trip_k0_h1.sl.r_46 (F := Ideal) arg3 arg4 len (harg3.unread q) (harg4.unread k) n) (trip_k0_h1.sl.v2336 (F := Ideal) arg3 arg4 arg9 len (harg3.unread q) (harg4.unread k) n) r l).trans ?_
  rw [back8_at arg3 harg3 arg4 harg4 arg9 len q k n r l]
  exact congrArg (fun m => Ideal.exp2 (_ - m)) (row_at arg3 harg3 arg4 harg4 len q k n l)

/-- The sum after key block 8. -/
theorem sum8_at (a : Fin 8) (l : Fin 512) : ((trip_k0_h1.sl.r_84 (F := Ideal) arg3 arg4 arg9 len (harg3.unread q) (harg4.unread k) n) (ix2 a l) : EReal)
    = Ideal.ofBits .f32 0x00000000#32 + columnSum (block (prob len q k n) 0) a.val l.val + columnSum (block (prob len q k n) 1) a.val l.val + columnSum (block (prob len q k n) 2) a.val l.val + columnSum (block (prob len q k n) 3) a.val l.val + columnSum (block (prob len q k n) 4) a.val l.val + columnSum (block (prob len q k n) 5) a.val l.val + columnSum (block (prob len q k n) 6) a.val l.val + columnSum (block (prob len q k n) 7) a.val l.val + columnSum (block (prob len q k n) 8) a.val l.val := by
  refine (total8 (trip_k0_h1.sl.r_80 (F := Ideal) arg3 arg4 arg9 len (harg3.unread q) (harg4.unread k) n) (trip_k0_h1.sl.r_46 (F := Ideal) arg3 arg4 len (harg3.unread q) (harg4.unread k) n) (trip_k0_h1.sl.v2336 (F := Ideal) arg3 arg4 arg9 len (harg3.unread q) (harg4.unread k) n) _ (prob8_at arg3 harg3 arg4 harg4 arg9 len q k n) a l).trans ?_
  rw [sum7_at arg3 harg3 arg4 harg4 arg9 len q k n]

/-- The probabilities, read back. -/
theorem probs_at (j : Fin 4608) (l : Fin 512) : ((trip_k0_h1.sl.v2476 (F := Ideal) arg3 arg4 arg9 arg10 len (harg3.unread q) (harg4.unread k) n) (ix2 j l) : EReal) = prob len q k n j.val l.val := by
  unfold trip_k0_h1.sl.v2476
  rw [View.readCov_eq_canon' arg10.view]
  show View.canon _ _ = _
  generalize hy : ((Rect.unit (s := S4608x512) ![0, 0] S4608x512.size inb_S4608x512_S4608x512_0_0).toLoadRect.idx (ix2 j l)) = y
  have hy0 : (y (0 : Fin 2)).val = j.val := by rw [← hy]; show 0 + 1 * j.val = _; omega
  have hy1 : (y (1 : Fin 2)).val = l.val := by rw [← hy]; show 0 + 1 * l.val = _; omega
  clear hy
  unfold trip_k0_h1.sl.HW_arg10_9
  canon_tiles x h
  · have e0 : 512 * 8 + (x 0).val = j.val := by omega
    have e1 : (x 1).val = l.val := by omega
    refine (pay105_at _ x).trans ((congrArg _ (square_eta x)).trans ((prob8_at arg3 harg3 arg4 harg4 arg9 len q k n (x 0) (x 1)).trans ?_))
    unfold block
    rw [e0, e1]
  · have e0 : 512 * 7 + (x 0).val = j.val := by omega
    have e1 : (x 1).val = l.val := by omega
    refine (pay100_at _ x).trans ((congrArg _ (square_eta x)).trans ((prob7_at arg3 harg3 arg4 harg4 arg9 len q k n (x 0) (x 1)).trans ?_))
    unfold block
    rw [e0, e1]
  · have e0 : 512 * 6 + (x 0).val = j.val := by omega
    have e1 : (x 1).val = l.val := by omega
    refine (pay95_at _ x).trans ((congrArg _ (square_eta x)).trans ((prob6_at arg3 harg3 arg4 harg4 arg9 len q k n (x 0) (x 1)).trans ?_))
    unfold block
    rw [e0, e1]
  · have e0 : 512 * 5 + (x 0).val = j.val := by omega
    have e1 : (x 1).val = l.val := by omega
    refine (pay89_at _ x).trans ((congrArg _ (square_eta x)).trans ((prob5_at arg3 harg3 arg4 harg4 arg9 len q k n (x 0) (x 1)).trans ?_))
    unfold block
    rw [e0, e1]
  · have e0 : 512 * 4 + (x 0).val = j.val := by omega
    have e1 : (x 1).val = l.val := by omega
    refine (pay84_at _ x).trans ((congrArg _ (square_eta x)).trans ((prob4_at arg3 harg3 arg4 harg4 arg9 len q k n (x 0) (x 1)).trans ?_))
    unfold block
    rw [e0, e1]
  · have e0 : 512 * 3 + (x 0).val = j.val := by omega
    have e1 : (x 1).val = l.val := by omega
    refine (pay79_at _ x).trans ((congrArg _ (square_eta x)).trans ((prob3_at arg3 harg3 arg4 harg4 arg9 len q k n (x 0) (x 1)).trans ?_))
    unfold block
    rw [e0, e1]
  · have e0 : 512 * 2 + (x 0).val = j.val := by omega
    have e1 : (x 1).val = l.val := by omega
    refine (pay74_at _ x).trans ((congrArg _ (square_eta x)).trans ((prob2_at arg3 harg3 arg4 harg4 arg9 len q k n (x 0) (x 1)).trans ?_))
    unfold block
    rw [e0, e1]
  · have e0 : 512 * 1 + (x 0).val = j.val := by omega
    have e1 : (x 1).val = l.val := by omega
    refine (pay69_at _ x).trans ((congrArg _ (square_eta x)).trans ((prob1_at arg3 harg3 arg4 harg4 arg9 len q k n (x 0) (x 1)).trans ?_))
    unfold block
    rw [e0, e1]
  · have e0 : 512 * 0 + (x 0).val = j.val := by omega
    have e1 : (x 1).val = l.val := by omega
    refine (pay63_at _ x).trans ((congrArg _ (square_eta x)).trans ((prob0_at arg3 harg3 arg4 harg4 arg9 len q k n (x 0) (x 1)).trans ?_))
    unfold block
    rw [e0, e1]

/-- The trip's values: the weighted values over the sum of the weights. -/
def out (d l : ℕ) : EReal :=
  if h : d < 128 then Ideal.div (∑ j : Fin 4608, vt (ix3 0 (⟨d, h⟩ : Fin 128) j) * prob len q k n j l) (∑ j : Fin 4608, prob len q k n j l) else 0

/-- The values of the trip. -/
theorem out_at (d : Fin 128) (l : Fin 512) :
    (k0_pay106 (F := Ideal) (trip_k0_h1.sl.r_84 (F := Ideal) arg3 arg4 arg9 len (harg3.unread q) (harg4.unread k) n) (View.readAt (Elt Ideal) arg5.view (Rect.unit (s := S1x128x4608) ![0, 0, 0] S1x128x4608.size inb_S1x128x4608_S1x128x4608_0_0_0).toLoadRect (harg5.unread vt)) (trip_k0_h1.sl.v2476 (F := Ideal) arg3 arg4 arg9 arg10 len (harg3.unread q) (harg4.unread k) n) (ix2 d l) : EReal)
      = out len q k vt n d.val l.val := by
  have e : View.readAt (Elt Ideal) arg5.view (Rect.unit (s := S1x128x4608) ![0, 0, 0] S1x128x4608.size inb_S1x128x4608_S1x128x4608_0_0_0).toLoadRect (harg5.unread vt) = vt := by
    rw [View.readAt_full arg5.view]
    exact harg5.read_unread (Val := Elt Ideal) vt
  rw [e, pay106_at]
  unfold out
  rw [dif_pos d.isLt]
  refine congrArg₂ Ideal.div ?_ ?_
  · refine Finset.sum_congr rfl fun j _ => ?_
    rw [probs_at arg3 harg3 arg4 harg4 arg9 arg10 len q k n]
  · rw [← allSum_eq]
    refine Finset.sum_congr rfl fun a _ => ?_
    rw [sum8_at arg3 harg3 arg4 harg4 arg9 len q k n]
    rfl

/-- The trip's codes. -/
theorem code_at (r : Fin 512) (d : Fin 128) :
    (codeAt (F := Ideal) arg3 arg4 arg5 arg9 arg10 len sa (harg3.unread q) (harg4.unread k) (harg5.unread vt) n (ix2 r d) : EReal)
      = quantise (out len q k vt n d.val r.val) sa := by
  unfold codeAt
  refine (pay109_at sa _ r d).trans ?_
  exact congrArg (fun x => quantise x sa) (out_at arg3 harg3 arg4 harg4 arg5 harg5 arg9 arg10 len q k vt n d r)

/-- The carried maximum is below a bound when it was before the trip and each of the trip's values is in absolute value. -/
theorem part_le (old : FVec Ideal S8x128 .f32) (B : EReal) :
    (∀ (a : Fin 8) (b : Fin 128), (partAt (F := Ideal) arg3 arg4 arg5 arg9 arg10 len (harg3.unread q) (harg4.unread k) (harg5.unread vt) n old (ix2 a b) : EReal) ≤ B)
      ↔ (∀ (a : Fin 8) (b : Fin 128), (old (ix2 a b) : EReal) ≤ B) ∧ ∀ (d : Fin 128) (l : Fin 512), magnitude (out len q k vt n d.val l.val) ≤ B := by
  have e : ∀ (a : Fin 8) (b : Fin 128), (partAt (F := Ideal) arg3 arg4 arg5 arg9 arg10 len (harg3.unread q) (harg4.unread k) (harg5.unread vt) n old (ix2 a b) : EReal)
      = max (old (ix2 a b)) (max (max (max (run (fun d l => magnitude (out len q k vt n d l)) a.val b.val 1 15 (magnitude (out len q k vt n a.val b.val)))
          (run (fun d l => magnitude (out len q k vt n d l)) a.val (128 + b.val) 1 15 (magnitude (out len q k vt n a.val (128 + b.val)))))
          (run (fun d l => magnitude (out len q k vt n d l)) a.val (256 + b.val) 1 15 (magnitude (out len q k vt n a.val (256 + b.val)))))
          (run (fun d l => magnitude (out len q k vt n d l)) a.val (384 + b.val) 1 15 (magnitude (out len q k vt n a.val (384 + b.val))))) := fun a b => by
    unfold partAt
    rw [pay108_eq]
    exact pay107_at _ _ _ old (fun d l => magnitude (out len q k vt n d l))
      (fun d l => congrArg magnitude (out_at arg3 harg3 arg4 harg4 arg5 harg5 arg9 arg10 len q k vt n d l)) a b
  simp only [e, max_le_iff, run_le]
  constructor
  · intro h
    refine ⟨fun a b => (h a b).1, fun d l => ?_⟩
    have hd := d.isLt
    have hl := l.isLt
    obtain ⟨_, ⟨⟨⟨h00, h01⟩, h10, h11⟩, h20, h21⟩, h30, h31⟩ := h ⟨d.val % 8, by omega⟩ ⟨l.val % 128, by omega⟩
    have key : ∀ c, l.val / 128 = c → magnitude (out len q k vt n (d.val % 8) (128 * c + l.val % 128)) ≤ B
        → (∀ i, 1 ≤ i → i < 1 + 15 → magnitude (out len q k vt n (8 * i + d.val % 8) (128 * c + l.val % 128)) ≤ B)
        → magnitude (out len q k vt n d.val l.val) ≤ B := by
      intro c hc h0 h1
      have el : 128 * c + l.val % 128 = l.val := by omega
      rw [el] at h0 h1
      rcases Nat.eq_zero_or_pos (d.val / 8) with g | g
      · have ed : d.val % 8 = d.val := by omega
        rwa [ed] at h0
      · have := h1 (d.val / 8) g (by omega)
        have ed : 8 * (d.val / 8) + d.val % 8 = d.val := by omega
        rwa [ed] at this
    obtain hc | hc | hc | hc : l.val / 128 = 0 ∨ l.val / 128 = 1 ∨ l.val / 128 = 2 ∨ l.val / 128 = 3 := by omega
    · exact key 0 hc (by simpa using h00) (by simpa using h01)
    · exact key 1 hc h10 h11
    · exact key 2 hc h20 h21
    · exact key 3 hc h30 h31
  · rintro ⟨h0, h1⟩ a b
    have ha := a.isLt
    have hb := b.isLt
    refine ⟨h0 a b, ⟨⟨⟨?_, ?_⟩, ?_, ?_⟩, ?_, ?_⟩, ?_, ?_⟩
    · exact h1 ⟨a.val, by omega⟩ ⟨b.val, by omega⟩
    · exact fun i _ hi => h1 ⟨8 * i + a.val, by omega⟩ ⟨b.val, by omega⟩
    · exact h1 ⟨a.val, by omega⟩ ⟨128 + b.val, by omega⟩
    · exact fun i _ hi => h1 ⟨8 * i + a.val, by omega⟩ ⟨128 + b.val, by omega⟩
    · exact h1 ⟨a.val, by omega⟩ ⟨256 + b.val, by omega⟩
    · exact fun i _ hi => h1 ⟨8 * i + a.val, by omega⟩ ⟨256 + b.val, by omega⟩
    · exact h1 ⟨a.val, by omega⟩ ⟨384 + b.val, by omega⟩
    · exact fun i _ hi => h1 ⟨8 * i + a.val, by omega⟩ ⟨384 + b.val, by omega⟩

/-- The kernel's one constant is positive. -/
theorem scale_pos : 0 < (Real.sqrt 128)⁻¹ * (Real.log 2)⁻¹ :=
  mul_pos (inv_pos.mpr (Real.sqrt_pos.mpr (by norm_num))) (inv_pos.mpr (Real.log_pos (by norm_num)))

/-- Scaling by the one constant is scaling by the two in turn; minus infinity stays. -/
theorem raw_scaled (j : Fin 4608) (l : ℕ) (h : 512 * n.val + l < 4608) :
    raw len q k n j l * scale
      = score len (fun d => q (ix2 (⟨512 * n.val + l, h⟩ : Fin 4608) d)) (fun j d => k (ix2 j d)) j := by
  unfold raw score
  rw [dif_pos ⟨j.isLt, h⟩]
  split_ifs with g
  · exact EReal.bot_mul_coe_of_pos scale_pos
  · unfold scale invSqrtD log2E
    rw [EReal.coe_mul, mul_assoc]
    refine congrArg (· * _) (Finset.sum_congr rfl fun d _ => mul_comm _ _)

/-- Scaling the greatest is the greatest scaled. -/
theorem sup_scaled (f : Fin 4608 → EReal) : (⨆ j, f j) * scale = ⨆ j, f j * scale := by
  refine eq_of_forall_ge_iff (α := EReal) fun B => ?_
  have hp : (0 : EReal) < scale := EReal.coe_pos.mpr scale_pos
  have ht : scale ≠ ⊤ := EReal.coe_ne_top _
  simp only [iSup_le_iff, ← EReal.le_div_iff_mul_le hp ht]

/-- The trip's values are the attention of its queries. -/
theorem out_eq (d : Fin 128) (l : ℕ) (h : 512 * n.val + l < 4608) :
    out len q k vt n d.val l
      = attend (score len (fun d => q (ix2 (⟨512 * n.val + l, h⟩ : Fin 4608) d)) (fun j d => k (ix2 j d)))
          (fun j => vt (ix3 0 d j)) := by
  have e : ∀ j : Fin 4608, prob len q k n j.val l
      = weight (score len (fun d => q (ix2 (⟨512 * n.val + l, h⟩ : Fin 4608) d)) (fun j d => k (ix2 j d))) j := by
    intro j
    unfold prob weight
    rw [sup_scaled]
    simp only [raw_scaled len q k n _ l h]
  unfold out attend
  rw [dif_pos d.isLt]
  refine congrArg₂ Ideal.div (Finset.sum_congr rfl fun j _ => ?_) (Finset.sum_congr rfl fun j _ => e j)
  rw [e j]
  exact mul_comm _ _

end

end Cert.Proof.AttnTrip

end
-- ==== Proof.KAttnIdealFrame.lean ====
module

public import Idealize.ShloMosaic.Lib.Claim
public import proofs.«01_k».proof.Proof.KAttnIdealRun

/-!
  The frame of the attention kernel: its pipeline's proof data, from the body's runs, and the launch.

  After point `t` the codes' staging buffer holds `codesT t`, the carried scratch `accS (t + 1)`; the two other scratch
  buffers hold anything. The maximum's buffer is stored at the last point alone.
-/

@[expose] public section
set_option maxRecDepth 16384

noncomputable section

namespace Cert.KAttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The points and the windows -/

theorem hcond0_0 : ∀ t : Fin cfg0.N, cond0_0 (grid0.coords t) ↔ t.val % 48 = 0 :=
  (fun t => by
    have ht : t.val < 48 := Nat.lt_of_lt_of_eq t.isLt N_0
    have e0 : (grid0.coords t 0).val = t.val / 24 % 2 := Pipeline.Grid.coords_val t 0 (by decide) rfl
    have e1 : (grid0.coords t 1).val = t.val / 1 % 24 := Pipeline.Grid.coords_val t 1 (by decide) rfl
    simp only [cond0_0, e0, e1]
    word_cmp
   : ∀ t : Fin grid0.N, cond0_0 (grid0.coords t) ↔ t.val % 48 = 0)

theorem hcond0_1 : ∀ t : Fin cfg0.N, cond0_1 (grid0.coords t) ↔ t.val % 48 = 47 :=
  (fun t => by
    have ht : t.val < 48 := Nat.lt_of_lt_of_eq t.isLt N_0
    have e0 : (grid0.coords t 0).val = t.val / 24 % 2 := Pipeline.Grid.coords_val t 0 (by decide) rfl
    have e1 : (grid0.coords t 1).val = t.val / 1 % 24 := Pipeline.Grid.coords_val t 1 (by decide) rfl
    simp only [cond0_1, k0_cond2, e0, e1]
    word_cmp
   : ∀ t : Fin grid0.N, cond0_1 (grid0.coords t) ↔ t.val % 48 = 47)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6 : ∀ t : Fin cfg0.N, cond0_1 (grid0.coords t) → cfg0.idle 6 (grid0.coords t) = false := by decide +kernel

abbrev ms0_0 (t : Fin cfg0.N) : Memref sig .tc .smem S2 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4608x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4608x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x4608 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .smem S1x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4608x128 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1 .f32 := win0_6.stage (cfg0.slots t 6)
abbrev hs0_6 (t : Fin cfg0.N) : (ms0_6 t).IsWhole := hstage0_6 ((cfg0.slots t 6).cast nbuf0_6)
abbrev scM0_0 : Memref sig .tc .vmem S4608x512 .f32 := Memref.whole cc0_scratch0
abbrev scM0_1 : Memref sig .tc .vmem S4608x512 .bf16 := Memref.whole cc0_scratch1
abbrev scM0_2 : Memref sig .tc .vmem S8x128 .f32 := Memref.whole cc0_scratch2

/-- The frame kit's invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-! ## What the body leaves -/

/-- The codes after point `t`. -/
def codesT (c : Dev nD) (t : Fin cfg0.N) : Vec F S4608x128 .fp8e4m3 := codesOut (grid0.coords t) (ms0_1 t) (hs0_1 t) (ms0_2 t) (hs0_2 t) (ms0_3 t) (hs0_3 t) scM0_0 scM0_1 (iblk m c 0 t) (iblk m c 1 t) (iblk m c 2 t) (iblk m c 3 t) (iblk m c 4 t)

/-- The running maximum after point `t`, from the one before. -/
def accT (c : Dev nD) (t : Fin cfg0.N) (init : Vec F S8x128 .f32) : Vec F S8x128 .f32 := accOut (grid0.coords t) (ms0_1 t) (hs0_1 t) (ms0_2 t) (hs0_2 t) (ms0_3 t) (hs0_3 t) scM0_0 scM0_1 (iblk m c 0 t) (iblk m c 1 t) (iblk m c 2 t) (iblk m c 3 t) init

/-- The running maximum before point `n`: what the first point stores, then point by point. -/
def accS (c : Dev nD) : ℕ → Vec F S8x128 .f32
  | 0 => k0_pay1 (F := F)
  | n + 1 => if h : n < cfg0.N then accT m c ⟨n, h⟩ (accS c n) else accS c n

theorem accS_succ (c : Dev nD) (t : Fin cfg0.N) : accS m c (t.val + 1) = accT m c t (accS m c t.val) := dif_pos t.isLt

/-- The region invariant before point `n`: before the first every scratch at anything; afterwards the carried scratch at
    the running maximum, the others at anything. -/
def PhiS (c : Dev nD) : ℕ → sProp 𝕄
  | 0 => Pipeline.ΦA spec0 c
  | n + 1 => iprop(iprop((∃ d, owns (c : Thread nD τ) scM0_0 fullShare d) ∗ (∃ d, owns (c : Thread nD τ) scM0_1 fullShare d) ∗ owns (c : Thread nD τ) scM0_2 fullShare (accS m c (n + 1))) ∗ (∃ r, prngReg c r))

theorem PhiS_zero (c : Dev nD) (n : ℕ) (hz : n = 0) : PhiS m c n = Pipeline.ΦA spec0 c := by
  subst hz; rfl

theorem PhiS_pos (c : Dev nD) (n : ℕ) (hz : n ≠ 0) :
    PhiS m c n = iprop(iprop((∃ d, owns (c : Thread nD τ) scM0_0 fullShare d) ∗ (∃ d, owns (c : Thread nD τ) scM0_1 fullShare d) ∗ owns (c : Thread nD τ) scM0_2 fullShare (accS m c n)) ∗ (∃ r, prngReg c r)) := by
  cases n with
  | zero => exact absurd rfl hz
  | succ n => rfl

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => codesT m c t
    | ⟨6, _⟩ => k0_pay2 (accS m c (t.val + 1))
  Φ t := PhiS m c t.val
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val := by
  dsimp only [dats]; rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = codesT m c t := by dsimp only [dats]
theorem after0_6 (c : Dev nD) (t : Fin cfg0.N) : (dats m 0 c).after 6 t = k0_pay2 (accS m c (t.val + 1)) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))
/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 2000000 in
/-- The body at any point, case by case. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) from rfl, PhiS_pos m c (t.val + 1) (Nat.succ_ne_zero _), PhiS_castSucc m c t]
  have hN : t.val < 48 := lt_of_lt_of_eq t.isLt (show cfg0.N = 48 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  by_cases h0 : t.val % 48 = 0
  · have h1 : ¬ t.val % 48 = 47 := by omega
    rw [Dat.leavesExact_idle (dats m 0 c) 6 t (idleAt0_6 t (fun h => h1 ((hcond0_1 t).mp h))) (noFlush0_6 t (fun h => h1 ((hcond0_1 t).mp h)))]
    have hz : t.val = 0 := by omega
    rw [PhiS_zero m c _ hz, PhiA0_eq, accS_succ, show accS m c t.val = k0_pay1 (F := F) from by rw [hz]; rfl]
    unfold codesT accT
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
    iapply (run_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [HS0]; · iexact HS0
    isplitl [HS1]; · iexact HS1
    isplitl [HS2]; · iexact HS2
    iintro ⟨H0, H1, H2, H3, H4, H5, H6, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · by_cases h1 : t.val % 48 = 47
    · skip
      rw [show (dats m 0 c).leavesExact 6 t = owns (c : Thread nD τ) (ms0_6 t) fullShare ((dats m 0 c).after 6 t) from by
        unfold Dat.leavesExact; rw [liveAt0_6 t ((hcond0_1 t).mpr h1)], after0_6]
      have hz : t.val ≠ 0 := by omega
      rw [PhiS_pos m c _ hz, accS_succ]
      unfold codesT accT
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply (run_C c (grid0.coords t) _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      isplitl [HS2]; · iexact HS2
      iintro ⟨H0, H1, H2, H3, H4, H5, H6, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · skip
      rw [Dat.leavesExact_idle (dats m 0 c) 6 t (idleAt0_6 t (fun h => h1 ((hcond0_1 t).mp h))) (noFlush0_6 t (fun h => h1 ((hcond0_1 t).mp h)))]
      have hz : t.val ≠ 0 := by omega
      rw [PhiS_pos m c _ hz, accS_succ]
      unfold codesT accT
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply (run_B c (grid0.coords t) _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexact HS0
      isplitl [HS1]; · iexact HS1
      isplitl [HS2]; · iexact HS2
      iintro ⟨H0, H1, H2, H3, H4, H5, H6, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 from rfl, PhiS_zero m c 0 rfl]
  try exact Idealize.SL.BI.Entails.refl _

/-- After the last point the invariant gives the scratch buffers back, at some contents. -/
theorem hout (c : Dev nD) : (dats m 0 c).Φ (Fin.last cfg0.N) ⊢ Pipeline.ΦA spec0 c := by
  rw [show (dats m 0 c).Φ (Fin.last cfg0.N) = PhiS m c cfg0.N from rfl,
    PhiS_pos m c _ (by have : cfg0.N = 48 := N_0; omega), PhiA0_eq]
  iintro ⟨⟨HS0, HS1, HS2⟩, Hg⟩
  isplitl [HS0 HS1 HS2]
  · isplitl [HS0]; · iexact HS0
    isplitl [HS1]; · iexact HS1
    iexists _; iexact HS2
  iexact Hg

/-! ## The run and the frame -/

set_option backward.isDefEq.respectTransparency.types false in
/-- The launch: every execution ends with the pipeline's arrays as the proof data say, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: the arguments end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KAttnIdeal.Gen
-- ==== Proof.AttnKer.lean ====
/-
  Hand-written. THE ATTENTION, KERNEL SIDE: the codes and the greatest absolute value are those of the reference.
-/
module

public import proofs.«01_k».proof.Proof.AttnTrip
public import proofs.«01_k».proof.Proof.KAttnIdealFrame

@[expose] public section

set_option maxRecDepth 16384

noncomputable section

namespace Cert.Proof.AttnKer

open Cert.Proof.Common
open Idealize.ShloMosaic Idealize.ShloMosaic.TcCoe Idealize.SL.Sem
open Idealize.ShloMosaic.Pipeline (Dat)
open Cert.KAttnIdeal Cert.KAttnIdeal.Gen

open Cert.Proof.AttnMath
open Cert.Proof.AttnTrip
open Cert.Proof.AttnPay Cert.Proof.AttnAll

variable (m : (ℓ : Loc nD τ sig) → Buf (Elt Ideal) ℓ)

/-- The block each window stages at a grid point: two batch entries, twenty-four heads, the keys' columns starting at block 24. -/
theorem idx : ∀ t : Fin cfg0.N, win0_0.index t = ![0] ∧ win0_1.index t = ![t.val / 24, t.val % 24]
    ∧ win0_2.index t = ![t.val / 24, t.val % 24 + 24] ∧ win0_3.index t = ![t.val / 24, t.val % 24, 0]
    ∧ win0_4.index t = ![0, 0] ∧ win0_5.index t = ![t.val / 24, t.val % 24] ∧ win0_6.index t = ![0, 0] ∧ t.val < 48 :=
  (by decide +kernel : ∀ t : Fin grid0.N, _)

/-- The point's batch entry. -/
theorem off_at : ∀ t : Fin cfg0.N, k0_off1 (grid0.coords t) (0 : Fin 1) = t.val / 24 :=
  (by decide +kernel : ∀ t : Fin grid0.N, _)

/-- The point's text length. -/
theorem len_at (c : Dev nD) (t : Fin cfg0.N) : lenOf (F := Ideal) (grid0.coords t) (iblk m c 0 t)
    = m ((c : Thread nD τ).loc main_arg2) (ix1 (⟨t.val / 24, by have := (idx t).2.2.2.2.2.2.2; omega⟩ : Fin 2)) := by
  have h := (idx t).2.2.2.2.2.2.2
  unfold lenOf
  have e : (Rect.unit (s := S2) (k0_off1 (grid0.coords t)) S1.size (k0_off1_inb (grid0.coords t))).toLoadRect.idx (Shape.Idx.first (show 0 < S1.numel by decide))
      = ix1 (⟨t.val / 24, by omega⟩ : Fin 2) := by
    funext a
    match a with
    | ⟨0, _⟩ =>
      refine Fin.ext ?_
      show k0_off1 (grid0.coords t) (0 : Fin 1) + 1 * 0 = t.val / 24
      rw [off_at t]
      omega
  rw [e]
  blk_point [iblk, V, idx t]

/-- The point's scale. -/
theorem scale_at (c : Dev nD) (t : Fin cfg0.N) : (saOf (F := Ideal) (iblk m c 4 t) : EReal)
    = m ((c : Thread nD τ).loc main_arg3) pt := by
  unfold saOf
  have e : (Rect.unit (s := S1x1) ![0, 0] S1x1.size inb_S1x1_S1x1_0_0).toLoadRect.idx (Shape.Idx.first (show 0 < S1x1.numel by decide)) = ix2 0 0 := by
    funext a
    match a with
    | ⟨0, _⟩ => rfl
    | ⟨1, _⟩ => rfl
  rw [e]
  have hq : V m c main_v0 = fun _ => m ((c : Thread nD τ).loc main_arg3) pt := by
    funext i
    entry_read
    pointwise []
    exact congrArg (m ((c : Thread nD τ).loc main_arg3)) (funext fun a => a.elim0)
  blk_point [iblk, V, idx t, hq]

/-- The values of a point's trip are the attention of the point's head at the trip's queries. -/
theorem point_at (c : Dev nD) (t : Fin cfg0.N) (n : Fin k0_t1_loop.trips) (l : Fin 512) (d : Fin 128) :
    out (lenOf (F := Ideal) (grid0.coords t) (iblk m c 0 t)) (iblk m c 1 t) (iblk m c 2 t) (iblk m c 3 t) n d.val l.val
      = attention (m ((c : Thread nD τ).loc main_arg0)) (m ((c : Thread nD τ).loc main_arg1)) (m ((c : Thread nD τ).loc main_arg2))
          ⟨t.val / 24, by have := (idx t).2.2.2.2.2.2.2; omega⟩ ⟨t.val % 24, by omega⟩
          ⟨512 * n.val + l.val, by have := trip_lt n; omega⟩ d := by
  have h := (idx t).2.2.2.2.2.2.2
  have hn := trip_lt n
  rw [out_eq (lenOf (F := Ideal) (grid0.coords t) (iblk m c 0 t)) (iblk m c 1 t) (iblk m c 2 t) (iblk m c 3 t) n d l.val (by omega), len_at]
  unfold attention
  refine congrArg₂ attend (congrArg₂ (score _) (funext fun d => ?_) (funext fun j => funext fun d => ?_)) (funext fun j => ?_)
  · blk_point [iblk, V, idx t]
  · blk_point [iblk, V, idx t]
  · blk_point [iblk, V, idx t]

/-- The codes of a point. -/
theorem codesT_at (c : Dev nD) (t : Fin cfg0.N) (y : S4608x128.Idx) :
    (codesT (F := Ideal) m c t y : EReal)
      = quantise (attention (m ((c : Thread nD τ).loc main_arg0)) (m ((c : Thread nD τ).loc main_arg1)) (m ((c : Thread nD τ).loc main_arg2))
          ⟨t.val / 24, by have := (idx t).2.2.2.2.2.2.2; omega⟩ ⟨t.val % 24, by omega⟩ (y 0) (y 1))
          (m ((c : Thread nD τ).loc main_arg3) pt) := by
  have h := (idx t).2.2.2.2.2.2.2
  have hy : (y (0 : Fin 2)).val < 4608 := (y (0 : Fin 2)).isLt
  unfold codesT codesOut codesVec
  have e : rowIdx y = ix2 (⟨(y (0 : Fin 2)).val % 512, by omega⟩ : Fin 512) (y 1) := by
    funext a
    match a with
    | ⟨0, _⟩ => rfl
    | ⟨1, _⟩ => rfl
  rw [e]
  refine (code_at (ms0_1 t) (hs0_1 t) (ms0_2 t) (hs0_2 t) (ms0_3 t) (hs0_3 t) scM0_0 scM0_1 _ _ _ _ _ _ _ _).trans ?_
  rw [scale_at]
  refine congrArg (fun x => quantise x _) ?_
  refine (point_at m c t _ _ _).trans ?_
  refine congrArg (fun i => attention _ _ _ _ _ i _) (Fin.ext ?_)
  show 512 * ((y (0 : Fin 2)).val / 512) + (y (0 : Fin 2)).val % 512 = (y (0 : Fin 2)).val
  omega

set_option maxHeartbeats 1600000 in
/-- The kernel's array of codes. -/
theorem final_codes (c : Dev nD) : (dats (F := Ideal) m 0 c).arrAt 5 (cfgs 0).N
    = CODES (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t hf y => ?_
  rw [after0_5]
  have h := (idx t).2.2.2.2.2.2.2
  have e0 : ((((View.whole main_v1_0).slice (win0_5.rect t)).emb y) 0).val = t.val / 24 * 4608 + (y 0).val := by blk_simp [idx t]
  have e1 : ((((View.whole main_v1_0).slice (win0_5.rect t)).emb y) 1).val = t.val % 24 * 128 + (y 1).val := by blk_simp [idx t]
  blk_simp
  refine (codesT_at m c t y).trans ?_
  generalize ((View.whole main_v1_0).slice (win0_5.rect t)).emb y = j at e0 e1 ⊢
  have y0 : (y 0).val < 4608 := (y 0).isLt
  have y1 : (y 1).val < 128 := (y 1).isLt
  unfold CODES
  dsimp only
  refine congrArg (fun x => quantise x _) ?_
  have f0 : t.val / 24 = (j (0 : Fin 2)).val / 4608 := by omega
  have f1 : t.val % 24 = (j (1 : Fin 2)).val / 128 := by omega
  have f2 : (y 0).val = (j (0 : Fin 2)).val % 4608 := by omega
  have f3 : (y 1).val = (j (1 : Fin 2)).val % 128 := by omega
  simp only [← f0, ← f1, ← f2, ← f3]
  rfl

/-- The values of a point's first trips are below a bound. -/
def below (c : Dev nD) (t : Fin cfg0.N) (n : ℕ) (B : EReal) : Prop :=
  ∀ (i : Fin 4608) (d : Fin 128), i.val < 512 * n →
    magnitude (attention (m ((c : Thread nD τ).loc main_arg0)) (m ((c : Thread nD τ).loc main_arg1)) (m ((c : Thread nD τ).loc main_arg2))
      ⟨t.val / 24, by have := (idx t).2.2.2.2.2.2.2; omega⟩ ⟨t.val % 24, by omega⟩ i d) ≤ B

/-- After some trips of a point the running maximum is below a bound when what came in and the values so far are. -/
theorem trips_le (c : Dev nD) (t : Fin cfg0.N) (init : FVec Ideal S8x128 .f32) (B : EReal) : ∀ n : ℕ, n ≤ 9 →
    ((∀ (a : Fin 8) (b : Fin 128), (accTo (F := Ideal) (ms0_1 t) (ms0_2 t) (ms0_3 t) scM0_0 scM0_1 (lenOf (grid0.coords t) (iblk m c 0 t))
        ((hs0_1 t).unread (iblk m c 1 t)) ((hs0_2 t).unread (iblk m c 2 t)) ((hs0_3 t).unread (iblk m c 3 t)) init n (ix2 a b) : EReal) ≤ B)
      ↔ (∀ (a : Fin 8) (b : Fin 128), (init (ix2 a b) : EReal) ≤ B) ∧ below m c t n B)
  | 0, _ => by
    unfold accTo below
    exact ⟨fun h => ⟨h, fun i d hi => absurd hi (by omega)⟩, fun h => h.1⟩
  | n + 1, hn => by
    have ht : n < k0_t1_loop.trips := by rw [trips_eq]; omega
    have ih := trips_le c t init B n (by omega)
    rw [accTo, dif_pos ht]
    refine (part_le (ms0_1 t) (hs0_1 t) (ms0_2 t) (hs0_2 t) (ms0_3 t) (hs0_3 t) scM0_0 scM0_1 _ _ _ _ ⟨n, ht⟩ _ B).trans ?_
    rw [ih]
    simp only [point_at]
    constructor
    · rintro ⟨⟨h0, h1⟩, h2⟩
      refine ⟨h0, fun i d hi => ?_⟩
      rcases Nat.lt_or_ge i.val (512 * n) with g | g
      · exact h1 i d g
      · have e : i = (⟨512 * n + (i.val - 512 * n), by omega⟩ : Fin 4608) := Fin.ext (by show i.val = 512 * n + (i.val - 512 * n); omega)
        rw [e]
        exact h2 d ⟨i.val - 512 * n, by omega⟩
    · rintro ⟨h0, h1⟩
      refine ⟨⟨h0, fun i d hi => h1 i d (by omega)⟩, fun d l => h1 _ d ?_⟩
      show 512 * n + l.val < 512 * (n + 1)
      omega

/-- After a point the running maximum is below a bound when what came in and the point's values are. -/
theorem point_le (c : Dev nD) (t : Fin cfg0.N) (init : FVec Ideal S8x128 .f32) (B : EReal) :
    (∀ (a : Fin 8) (b : Fin 128), (accT (F := Ideal) m c t init (ix2 a b) : EReal) ≤ B)
      ↔ (∀ (a : Fin 8) (b : Fin 128), (init (ix2 a b) : EReal) ≤ B) ∧ below m c t 9 B := by
  unfold accT accOut
  exact trips_le m c t init B 9 le_rfl

/-- After some points the running maximum is below a bound when zero and the values of the points so far are. -/
theorem points_le (c : Dev nD) (B : EReal) : ∀ n : ℕ, n ≤ 48 →
    ((∀ (a : Fin 8) (b : Fin 128), (accS (F := Ideal) m c n (ix2 a b) : EReal) ≤ B)
      ↔ 0 ≤ B ∧ ∀ t : Fin cfg0.N, t.val < n → below m c t 9 B)
  | 0, _ => by
    have e : ∀ (a : Fin 8) (b : Fin 128), (accS (F := Ideal) m c 0 (ix2 a b) : EReal) = 0 := fun a b => zero
    simp only [e]
    exact ⟨fun h => ⟨h 0 0, fun t ht => absurd ht (by omega)⟩, fun h _ _ => h.1⟩
  | n + 1, hn => by
    have hN : n < cfg0.N := by show n < 48; omega
    have ih := points_le c B n (by omega)
    have e := accS_succ (F := Ideal) m c ⟨n, hN⟩
    dsimp only at e
    rw [e]
    refine (point_le m c ⟨n, hN⟩ _ B).trans ?_
    rw [ih]
    constructor
    · rintro ⟨⟨h0, h1⟩, h2⟩
      refine ⟨h0, fun t ht => ?_⟩
      rcases Nat.lt_or_ge t.val n with g | g
      · exact h1 t g
      · have : t = ⟨n, hN⟩ := Fin.ext (by show t.val = n; omega)
        exact this ▸ h2
    · rintro ⟨h0, h1⟩
      exact ⟨⟨h0, fun t ht => h1 t (by omega)⟩, h1 ⟨n, hN⟩ (by show n < n + 1; omega)⟩

/-- An absolute value is not negative. -/
theorem magnitude_nonneg (x : EReal) : 0 ≤ magnitude x := by
  unfold magnitude
  rcases le_total 0 x with h | h
  · exact h.trans (le_max_left _ _)
  · exact (EReal.neg_nonneg.mpr h).trans (le_max_right _ _)

/-- Every head's values are some point's. -/
theorem all_below (c : Dev nD) (B : EReal) :
    (0 ≤ B ∧ ∀ t : Fin cfg0.N, t.val < 48 → below m c t 9 B)
      ↔ ∀ (b : Fin 2) (h : Fin 24) (i : Fin 4608) (d : Fin 128), magnitude (attention (m ((c : Thread nD τ).loc main_arg0))
          (m ((c : Thread nD τ).loc main_arg1)) (m ((c : Thread nD τ).loc main_arg2)) b h i d) ≤ B := by
  constructor
  · rintro ⟨-, g⟩ b h i d
    have hN : cfg0.N = 48 := by decide +kernel
    have hb : b.val * 24 + h.val < 48 := by omega
    have g := g ⟨b.val * 24 + h.val, hN.symm ▸ hb⟩ hb i d (by omega)
    have f0 : (b.val * 24 + h.val) / 24 = b.val := by omega
    have f1 : (b.val * 24 + h.val) % 24 = h.val := by omega
    simp only [f0, f1] at g
    exact g
  · intro h
    exact ⟨(magnitude_nonneg _).trans (h ⟨0, by omega⟩ ⟨0, by omega⟩ ⟨0, by omega⟩ ⟨0, by omega⟩), fun t _ i d _ => h _ _ i d⟩

/-- The last output is below a bound when every entry of the running maximum is. -/
theorem last_le (v : FVec Ideal S8x128 .f32) (y : S1x1.Idx) (B : EReal) :
    (k0_pay2 (F := Ideal) v y : EReal) ≤ B ↔ ∀ (a : Fin 8) (b : Fin 128), (v (ix2 a b) : EReal) ≤ B := by
  rw [pay2_at, Finset.fold_max_le, bottom]
  exact ⟨fun h a b => h.2 (a, b) (Finset.mem_univ _), fun h => ⟨bot_le, fun x _ => h x.1 x.2⟩⟩

/-- The window of the greatest absolute value is written out at the last point only. -/
theorem flush_last : ∀ t : Fin cfg0.N, win0_6.flush t = true → t.val = 47 :=
  (by decide +kernel : ∀ t : Fin grid0.N, _)

/-- The kernel's greatest absolute value. -/
theorem final_amax (c : Dev nD) : (dats (F := Ideal) m 0 c).arrAt 6 (cfgs 0).N
    = AMAX (m ((c : Thread nD τ).loc main_arg0)) (m ((c : Thread nD τ).loc main_arg1)) (m ((c : Thread nD τ).loc main_arg2)) := by
  refine (dats m 0 c).arrAt_eq_of_covers 6 _ (by decide +kernel) fun t hf y => ?_
  have h1 : t.val = 47 := flush_last t hf
  rw [after0_6]
  blk_simp
  refine eq_of_forall_ge_iff (α := EReal) fun B => ?_
  refine (last_le _ y B).trans ((points_le m c B (t.val + 1) (by omega)).trans ?_)
  rw [h1]
  refine (all_below m c B).trans ?_
  unfold AMAX
  simp only [iSup_le_iff]

end Cert.Proof.AttnKer

end
-- ==== Proof.AttnRefPay.lean ====
/-
  Hand-written. THE ATTENTION, REFERENCE SIDE, ENTRY BY ENTRY: scores, weights, sums and maxima of the whole-array reference.
-/
module

public import proofs.«01_k».proof.Proof.AttnMath
public import proofs.«01_k».proof.Proof.Common
public import proofs.«01_k».proof.Proof.Gen.RAttnIdeal.Frame

@[expose] public section

set_option maxRecDepth 16384

noncomputable section

namespace Cert.Proof.AttnRefPay

open Cert.Proof.Common
open Idealize.ShloMosaic Idealize.ShloMosaic.TcCoe Idealize.SL.Sem
open Idealize.ShloMosaic.Pipeline (Dat)
open Cert.RAttnIdeal Cert.RAttnIdeal.Gen

open Cert.Proof.AttnMath

/-- The named constant of the scaling by the head's width. -/
theorem named_inv : (Named.named (F := Ideal) κ "inv_sqrt_d" (φ := .f32) 0x3DB504F3#32 : EReal) = invSqrtD :=
  IdealRules.named_const.ideal_named_scalar _ _ _ _ rfl

/-- The named constant of the change to powers of two. -/
theorem named_log : (Named.named (F := Ideal) κ "log2_e" (φ := .f32) 0x3FB8AA3B#32 : EReal) = log2E :=
  IdealRules.named_const.ideal_named_scalar _ _ _ _ rfl

/-- A row's columns by head. -/
def apart (v : FVec Ideal S9216x3072 .bf16) : FVec Ideal S2x4608x24x128 .bf16 :=
  shapeCast S2x4608x24x128 v shapeCasts_S9216x3072_S2x4608x24x128

/-- A row's columns by head, entry by entry. -/
theorem apart_at (v : FVec Ideal S9216x3072 .bf16) (b : Fin 2) (i : Fin 4608) (h : Fin 24) (d : Fin 128) :
    (apart v (ix4 b i h d) : EReal)
      = v (ix2 (⟨b.val * 4608 + i.val, by omega⟩ : Fin 9216) (⟨h.val * 128 + d.val, by omega⟩ : Fin 3072)) := by
  pointwise [apart]

/-- The masked-out keys. -/
def hidden (v14 : S2x1.Idx → BitVec 32) : IVec S2x1x1x4608 1 :=
  shapeCast S2x1x1x4608 (shapeCast S2x1x1x4608 (andi
    (cmpi .sge (iota .tc S2x4608 32 [1] iota_S2x4608_d1_w32) (broadcastTo S2x4608 (shapeCast S2x1 v14 shapeCasts_S2x1_S2x1) broadcasts_S2x1_S2x4608))
    (cmpi .slt (iota .tc S2x4608 32 [1] iota_S2x4608_d1_w32) (broadcast S2x4608 512#32))) shapeCasts_S2x4608_S2x1x1x4608)
    shapeCasts_S2x1x1x4608_S2x1x1x4608

/-- The masked-out keys, entry by entry. -/
theorem hidden_at (v14 : S2x1.Idx → BitVec 32) (b : Fin 2) (j : Fin 4608) :
    hidden v14 (ix4 b 0 0 j) = masked (v14 (ix2 b 0)) j.val := by
  pointwise [hidden]
  rfl

/-- The products of queries and keys. -/
def products (q k : FVec Ideal S2x4608x24x128 .bf16) : FVec Ideal S2x24x4608x4608 .f32 :=
  matmul dot_S2x4608x24x128_S2x4608x24x128_S2x24x4608x4608_3_3_1_1_02_02 none q k (constant S2x24x4608x4608 .f32 0x00000000#32)

/-- The products, entry by entry. -/
theorem products_at (q k : FVec Ideal S2x4608x24x128 .bf16) (b : Fin 2) (h : Fin 24) (i j : Fin 4608) :
    (products q k (ix4 b h i j) : EReal) = ∑ d : Fin 128, q (ix4 b i h d) * k (ix4 b j h d) := by
  pointwise [products]

/-- The scores: scaled, the masked-out keys at the least value. -/
def scored (g : IVec S2x1x1x4608 1) (p : FVec Ideal S2x24x4608x4608 .f32) : FVec Ideal S2x24x4608x4608 .f32 :=
  select (broadcastTo S2x24x4608x4608 g broadcasts_S2x1x1x4608_S2x24x4608x4608)
    (broadcast S2x24x4608x4608 (Scalar.ofBits (F := Ideal) .f32 0xFF800000#32))
    (mulf (mulf p (broadcast S2x24x4608x4608 (Named.named κ "inv_sqrt_d" 0x3DB504F3#32))) (broadcast S2x24x4608x4608 (Named.named κ "log2_e" 0x3FB8AA3B#32)))

/-- The scores, entry by entry. -/
theorem scored_at (g : IVec S2x1x1x4608 1) (p : FVec Ideal S2x24x4608x4608 .f32) (b : Fin 2) (h : Fin 24) (i j : Fin 4608) :
    (scored g p (ix4 b h i j) : EReal)
      = Scalar.select (g (ix4 b 0 0 j)) (Ideal.ofBits .f32 0xFF800000#32) (p (ix4 b h i j) * invSqrtD * log2E) := by
  pointwise [scored]
  rw [named_inv, named_log]

/-- The greatest score of each query. -/
def greatest (s : FVec Ideal S2x24x4608x4608 .f32) : FVec Ideal S2x24x4608 .f32 :=
  multiReduction .maximumf [3] S2x24x4608 s 0xFF800000#32 reduces_S2x24x4608x4608_S2x24x4608 (.inl rfl) rfl

/-- The greatest score, entry by entry. -/
theorem greatest_at (s : FVec Ideal S2x24x4608x4608 .f32) (b : Fin 2) (h : Fin 24) (i : Fin 4608) : (greatest s (ix3 b h i) : EReal)
    = Finset.univ.fold max (Ideal.ofBits .f32 0xFF800000#32) fun l : Fin 4608 => s (ix4 b h i l) := by
  pointwise [greatest]

/-- The least whole number above, beside every key. -/
def level (g : FVec Ideal S2x24x4608 .f32) : FVec Ideal S2x24x4608x4608 .f32 :=
  broadcastTo S2x24x4608x4608 (ceil (shapeCast S2x24x4608x1 g shapeCasts_S2x24x4608_S2x24x4608x1)) broadcasts_S2x24x4608x1_S2x24x4608x4608

/-- The least whole number above, entry by entry. -/
theorem level_at (g : FVec Ideal S2x24x4608 .f32) (b : Fin 2) (h : Fin 24) (i j : Fin 4608) :
    (level g (ix4 b h i j) : EReal) = Ideal.liftRound Int.ceil (g (ix3 b h i)) := by
  pointwise [level]

/-- The weights from the scores. -/
def weights (s : FVec Ideal S2x24x4608x4608 .f32) : FVec Ideal S2x24x4608x4608 .f32 := exp2 (subf s (level (greatest s)))

/-- The weights, entry by entry. -/
theorem weights_at (s : FVec Ideal S2x24x4608x4608 .f32) (b : Fin 2) (h : Fin 24) (i j : Fin 4608) :
    (weights s (ix4 b h i j) : EReal) = Ideal.exp2 (s (ix4 b h i j) - Ideal.liftRound Int.ceil
      (Finset.univ.fold max (Ideal.ofBits .f32 0xFF800000#32) fun l : Fin 4608 => s (ix4 b h i l))) :=
  congrArg (fun x => Ideal.exp2 (s (ix4 b h i j) - x)) ((level_at _ b h i j).trans (congrArg _ (greatest_at s b h i)))

/-- The sum of each query's weights. -/
def summed (p : FVec Ideal S2x24x4608x4608 .f32) : FVec Ideal S2x24x4608 .f32 :=
  multiReduction .add [3] S2x24x4608 p 0x00000000#32 reduces_S2x24x4608x4608_S2x24x4608 (.inl rfl) rfl

/-- The sum of each query's weights, entry by entry. -/
theorem summed_at (p : FVec Ideal S2x24x4608x4608 .f32) (b : Fin 2) (h : Fin 24) (i : Fin 4608) :
    (summed p (ix3 b h i) : EReal) = ∑ j : Fin 4608, p (ix4 b h i j) := by
  pointwise [summed]

/-- The sums beside every channel. -/
def beside (g : FVec Ideal S2x24x4608 .f32) : FVec Ideal S2x4608x24x128 .f32 :=
  broadcastTo S2x4608x24x128 (shapeCast S2x4608x24x1 (transpose S2x4608x24 [0, 2, 1] g transposes_S2x24x4608_p0_2_1_S2x4608x24)
    shapeCasts_S2x4608x24_S2x4608x24x1) broadcasts_S2x4608x24x1_S2x4608x24x128

/-- The sums beside every channel, entry by entry. -/
theorem beside_at (g : FVec Ideal S2x24x4608 .f32) (b : Fin 2) (i : Fin 4608) (h : Fin 24) (d : Fin 128) :
    (beside g (ix4 b i h d) : EReal) = g (ix3 b h i) := by
  pointwise [beside]

/-- The values by head, the channels last. -/
def turned (v : FVec Ideal S2x3072x4608 .bf16) : FVec Ideal S2x4608x24x128 .bf16 :=
  shapeCast S2x4608x24x128 (transpose S2x4608x3072 [0, 2, 1] v transposes_S2x3072x4608_p0_2_1_S2x4608x3072) shapeCasts_S2x4608x3072_S2x4608x24x128

/-- The values by head, entry by entry. -/
theorem turned_at (v : FVec Ideal S2x3072x4608 .bf16) (b : Fin 2) (j : Fin 4608) (h : Fin 24) (d : Fin 128) :
    (turned v (ix4 b j h d) : EReal) = v (ix3 b (⟨h.val * 128 + d.val, by omega⟩ : Fin 3072) j) := by
  pointwise [turned]

/-- Weights times values. -/
def combined (p : FVec Ideal S2x24x4608x4608 .f32) (v : FVec Ideal S2x4608x24x128 .bf16) : FVec Ideal S2x24x128x4608 .f32 :=
  matmul dot_S2x4608x24x128_S2x24x4608x4608_S2x24x128x4608_1_3_3_2_02_01 none v (truncf .bf16 p bitsLt_bf16_f32) (constant S2x24x128x4608 .f32 0x00000000#32)

/-- Weights times values, entry by entry. -/
theorem combined_at (p : FVec Ideal S2x24x4608x4608 .f32) (v : FVec Ideal S2x4608x24x128 .bf16) (b : Fin 2) (h : Fin 24) (d : Fin 128) (i : Fin 4608) :
    (combined p v (ix4 b h d i) : EReal) = ∑ j : Fin 4608, p (ix4 b h i j) * v (ix4 b j h d) := by
  pointwise [combined]
  refine Finset.sum_congr rfl fun j _ => mul_comm (G := EReal) _ _

/-- The queries before the heads. -/
def reordered (o : FVec Ideal S2x24x128x4608 .f32) : FVec Ideal S2x4608x24x128 .f32 :=
  transpose S2x4608x24x128 [0, 3, 1, 2] o transposes_S2x24x128x4608_p0_3_1_2_S2x4608x24x128

/-- The queries before the heads, entry by entry. -/
theorem reordered_at (o : FVec Ideal S2x24x128x4608 .f32) (b : Fin 2) (i : Fin 4608) (h : Fin 24) (d : Fin 128) :
    (reordered o (ix4 b i h d) : EReal) = o (ix4 b h d i) := by
  pointwise [reordered]

/-- The pattern of minus infinity is the least value. -/
theorem bottom : Ideal.ofBits .f32 0xFF800000#32 = (⊥ : EReal) := by
  simp [Ideal.ofBits, Ideal.ieee]

/-- A maximum folded from the least value is the least upper bound. -/
theorem fold_sup {α : Type} [Fintype α] (f : α → EReal) : Finset.univ.fold max (Ideal.ofBits .f32 0xFF800000#32) f = ⨆ x, f x := by
  refine eq_of_forall_ge_iff (α := EReal) fun B => ?_
  rw [bottom, Finset.fold_max_le, iSup_le_iff]
  exact ⟨fun h x => h.2 x (Finset.mem_univ _), fun h => ⟨bot_le, fun x _ => h x⟩⟩

/-- The scores of the queries in `v0` against the keys in `v2`, for one batch entry and head. -/
def scores (v0 v2 : FVec Ideal S9216x3072 .bf16) (v8 : S2x1.Idx → BitVec 32) (b : Fin 2) (h : Fin 24) (i : Fin 4608) : Fin 4608 → EReal :=
  score (v8 (ix2 b 0))
    (fun d => v0 (ix2 (⟨b.val * 4608 + i.val, by omega⟩ : Fin 9216) (⟨h.val * 128 + d.val, by omega⟩ : Fin 3072)))
    (fun j d => v2 (ix2 (⟨b.val * 4608 + j.val, by omega⟩ : Fin 9216) (⟨h.val * 128 + d.val, by omega⟩ : Fin 3072)))

/-- The scores, by stages. -/
theorem scores_at (v0 v2 : FVec Ideal S9216x3072 .bf16) (v8 : S2x1.Idx → BitVec 32) (b : Fin 2) (h : Fin 24) (i j : Fin 4608) :
    (scored (hidden v8) (products (apart v0) (apart v2)) (ix4 b h i j) : EReal) = scores v0 v2 v8 b h i j := by
  rw [scored_at, hidden_at, products_at, bottom]
  simp only [apart_at]
  rfl

/-- The weights, by stages. -/
theorem weight_at (v0 v2 : FVec Ideal S9216x3072 .bf16) (v8 : S2x1.Idx → BitVec 32) (b : Fin 2) (h : Fin 24) (i j : Fin 4608) :
    (weights (scored (hidden v8) (products (apart v0) (apart v2))) (ix4 b h i j) : EReal) = weight (scores v0 v2 v8 b h i) j := by
  rw [weights_at, fold_sup]
  simp only [scores_at]
  rfl

/-- The attention, entry by entry. -/
theorem pay3_at (v0 v2 : FVec Ideal S9216x3072 .bf16) (v4 : FVec Ideal S2x3072x4608 .bf16) (v8 : S2x1.Idx → BitVec 32) (b : Fin 2)
    (i : Fin 4608) (h : Fin 24) (d : Fin 128) : (k0_pay3 (F := Ideal) v0 v2 v4 v8 (ix4 b i h d) : EReal)
      = attend (scores v0 v2 v8 b h i) (fun j => v4 (ix3 b (⟨h.val * 128 + d.val, by omega⟩ : Fin 3072) j)) := by
  have e : k0_pay3 (F := Ideal) v0 v2 v4 v8 = divf (reordered (combined (weights (scored (hidden v8) (products (apart v0) (apart v2)))) (turned v4)))
      (beside (summed (weights (scored (hidden v8) (products (apart v0) (apart v2)))))) := rfl
  rw [e]
  refine congrArg₂ Ideal.div ?_ ?_
  · rw [reordered_at, combined_at]
    exact Finset.sum_congr rfl fun j _ => congrArg₂ (· * ·) (weight_at v0 v2 v8 b h i j) (turned_at v4 b j h d)
  · rw [beside_at, summed_at]
    exact Finset.sum_congr rfl fun j _ => weight_at v0 v2 v8 b h i j

/-- The absolute values' maximum. -/
def overall (x : FVec Ideal S2x4608x24x128 .f32) : FVec Ideal S1 .f32 :=
  multiReduction .maximumf [1, 2, 3, 4] S1 (shapeCast S1x2x4608x24x128 (absf x) shapeCasts_S2x4608x24x128_S1x2x4608x24x128) 0xFF800000#32
    reduces_S1x2x4608x24x128_S1 (.inl rfl) rfl

/-- The place of an entry with a leading axis of one. -/
def place (b : Fin 2) (i : Fin 4608) (h : Fin 24) (d : Fin 128) : S1x2x4608x24x128.Idx :=
  Fin.cons (⟨0, by decide⟩ : Fin 1) (Fin.cons b (Fin.cons i (Fin.cons h (Fin.cons d fun a => a.elim0))))

/-- The absolute values' maximum, as a maximum over the places. -/
theorem overall_at (x : FVec Ideal S2x4608x24x128 .f32) : (overall x (ix1 0) : EReal)
    = Finset.fold max (Ideal.ofBits .f32 0xFF800000#32) (fun y : S1x2x4608x24x128.Idx => magnitude (x (ix4 (y 1) (y 2) (y 3) (y 4))))
        {i | reduces_S1x2x4608x24x128_S1.drop i = ix1 0} := by
  pointwise [overall]
  rfl

/-- The absolute values' maximum is below a bound when every entry's is. -/
theorem overall_le (x : FVec Ideal S2x4608x24x128 .f32) (B : EReal) : (overall x (ix1 0) : EReal) ≤ B
    ↔ ∀ (b : Fin 2) (i : Fin 4608) (h : Fin 24) (d : Fin 128), magnitude (x (ix4 b i h d)) ≤ B := by
  rw [overall_at, bottom, Finset.fold_max_le]
  constructor
  · rintro ⟨-, k⟩ b i h d
    refine k (place b i h d) (Finset.mem_filter.mpr ⟨Finset.mem_univ _, funext fun a => ?_⟩)
    match a with
    | ⟨0, _⟩ => exact Subsingleton.elim (α := Fin 1) _ _
  · exact fun k => ⟨bot_le, fun y _ => k (y 1) (y 2) (y 3) (y 4)⟩

/-- The maximum stored. -/
theorem pay1_at (v : FVec Ideal S1 .f32) (y : S1x1.Idx) : (k0_pay1 (F := Ideal) v y : EReal) = v (ix1 0) := by
  pointwise [k0_pay1]

/-- The greatest absolute value is below a bound when every entry's is. -/
theorem pay4_le (v0 v2 : FVec Ideal S9216x3072 .bf16) (v4 : FVec Ideal S2x3072x4608 .bf16) (v8 : S2x1.Idx → BitVec 32) (y : S1x1.Idx) (B : EReal) :
    (k0_pay1 (F := Ideal) (k0_pay4 v0 v2 v4 v8) y : EReal) ≤ B
      ↔ ∀ (b : Fin 2) (i : Fin 4608) (h : Fin 24) (d : Fin 128), magnitude (k0_pay3 (F := Ideal) v0 v2 v4 v8 (ix4 b i h d)) ≤ B := by
  have e : k0_pay4 (F := Ideal) v0 v2 v4 v8 = overall (k0_pay3 v0 v2 v4 v8) := rfl
  rw [pay1_at, e]
  exact overall_le _ B

/-- Heads side by side again. -/
def joined (x : FVec Ideal S2x4608x24x128 .f32) : FVec Ideal S9216x3072 .f32 := shapeCast S9216x3072 x shapeCasts_S2x4608x24x128_S9216x3072

/-- Heads side by side again, entry by entry. -/
theorem joined_at (x : FVec Ideal S2x4608x24x128 .f32) (r : Fin 9216) (l : Fin 3072) : (joined x (ix2 r l) : EReal)
    = x (ix4 (⟨r.val / 4608, by omega⟩ : Fin 2) (⟨r.val % 4608, by omega⟩ : Fin 4608) (⟨l.val / 128, by omega⟩ : Fin 24) (⟨l.val % 128, by omega⟩ : Fin 128)) := by
  pointwise [joined]

/-- The codes. -/
def coded (x : FVec Ideal S9216x3072 .f32) (s : EReal) : FVec Ideal S9216x3072 .fp8e4m3 :=
  truncf .fp8e4m3 (minimumf (broadcast S9216x3072 (Scalar.ofBits (F := Ideal) .f32 0x43E00000#32)) (maximumf
    (broadcast S9216x3072 (Scalar.ofBits (F := Ideal) .f32 0xC3E00000#32)) (divf x (broadcast S9216x3072 (s : Ideal .f32))))) bitsLt_fp8e4m3_f32

/-- The codes, entry by entry. -/
theorem coded_at (x : FVec Ideal S9216x3072 .f32) (s : EReal) (j : S9216x3072.Idx) : (coded x s j : EReal) = quantise (x j) s := by
  pointwise [coded, quantise]

/-- The codes from the quotients. -/
theorem pay2_at (x : FVec Ideal S2x4608x24x128 .f32) (s : EReal) (r : Fin 9216) (l : Fin 3072) :
    (k0_pay2 (F := Ideal) x s (ix2 r l) : EReal) = quantise (x (ix4 (⟨r.val / 4608, by omega⟩ : Fin 2) (⟨r.val % 4608, by omega⟩ : Fin 4608)
      (⟨l.val / 128, by omega⟩ : Fin 24) (⟨l.val % 128, by omega⟩ : Fin 128))) s := by
  have e : k0_pay2 (F := Ideal) x s = coded (joined x) s := rfl
  rw [e, coded_at, joined_at]

end Cert.Proof.AttnRefPay

end
-- ==== Proof.AttnRef.lean ====
/-
  Hand-written. THE ATTENTION, REFERENCE SIDE: the codes and the greatest absolute value as functions of the argument arrays.
-/
module

public import proofs.«01_k».proof.Proof.AttnRefPay

@[expose] public section

set_option maxRecDepth 16384

noncomputable section

namespace Cert.Proof.AttnRef

open Cert.Proof.Common
open Idealize.ShloMosaic Idealize.ShloMosaic.TcCoe Idealize.SL.Sem
open Idealize.ShloMosaic.Pipeline (Dat)
open Cert.RAttnIdeal Cert.RAttnIdeal.Gen

open Cert.Proof.AttnMath
open Cert.Proof.AttnRefPay

variable (m : (ℓ : Loc nD τ sig) → Buf (Elt Ideal) ℓ)

/-- Every window's one block starts at the origin. -/
theorem idx : ∀ t : Fin cfg0.N, win0_0.index t = ![0, 0] ∧ win0_1.index t = ![0, 0, 0] ∧ win0_2.index t = ![0, 0]
    ∧ win0_3.index t = ![0, 0] ∧ win0_4.index t = ![0, 0] ∧ win0_5.index t = ![0, 0] :=
  (by decide +kernel : ∀ t : Fin grid0.N, _)

/-- An index of a two-axis array is the pair of its coordinates. -/
theorem pair (y : S9216x3072.Idx) : y = ix2 (y 0) (y 1) := by
  funext a
  match a with
  | ⟨0, _⟩ => rfl
  | ⟨1, _⟩ => rfl

/-- The text lengths, one above the other. -/
theorem lengths (c : Dev nD) (t : Fin cfg0.N) (b : Fin 2) : iblk m c 2 t (ix2 b 0) = m ((c : Thread nD τ).loc main_arg2) (ix1 b) := by
  have hq : ∀ b : Fin 2, V m c main_v0 (ix2 b 0) = m ((c : Thread nD τ).loc main_arg2) (ix1 b) := fun b => by
    entry_read
    pointwise []
  blk_point [iblk, V, idx t, hq]

/-- The scale. -/
theorem scale_at (c : Dev nD) (t : Fin cfg0.N) : (iblk m c 3 t (ix2 0 0) : EReal) = m ((c : Thread nD τ).loc main_arg3) pt := by
  have hq : V m c main_v1 = fun _ => m ((c : Thread nD τ).loc main_arg3) pt := by
    funext i
    entry_read
    pointwise []
    exact congrArg (m ((c : Thread nD τ).loc main_arg3)) (funext fun a => a.elim0)
  blk_point [iblk, V, idx t, hq]

/-- The attention of the argument arrays. -/
theorem attention_at (c : Dev nD) (t : Fin cfg0.N) (v0 v2 : FVec Ideal S9216x3072 .bf16) (v4 : FVec Ideal S2x3072x4608 .bf16) (v8 : S2x1.Idx → BitVec 32)
    (h0 : ∀ (r : Fin 9216) (l : Fin 3072), (v0 (ix2 r l) : EReal) = iblk m c 0 t (ix2 r (⟨l.val, by omega⟩ : Fin 6144)))
    (h2 : ∀ (r : Fin 9216) (l : Fin 3072), (v2 (ix2 r l) : EReal) = iblk m c 0 t (ix2 r (⟨3072 + l.val, by omega⟩ : Fin 6144)))
    (h4 : ∀ (b : Fin 2) (l : Fin 3072) (j : Fin 4608), (v4 (ix3 b l j) : EReal) = iblk m c 1 t (ix3 b l j))
    (h8 : ∀ b : Fin 2, v8 (ix2 b 0) = iblk m c 2 t (ix2 b 0))
    (b : Fin 2) (i : Fin 4608) (h : Fin 24) (d : Fin 128) :
    (k0_pay3 (F := Ideal) v0 v2 v4 v8 (ix4 b i h d) : EReal) = attention (m ((c : Thread nD τ).loc main_arg0)) (m ((c : Thread nD τ).loc main_arg1)) (m ((c : Thread nD τ).loc main_arg2)) b h i d := by
  rw [pay3_at]
  unfold scores attention
  simp only [h0, h2, h4, h8, lengths]
  refine congrArg₂ attend (congrArg₂ (score _) (funext fun d => ?_) (funext fun j => funext fun d => ?_)) (funext fun j => ?_)
  · blk_point [iblk, V, idx t]
  · blk_point [iblk, V, idx t]
  · blk_point [iblk, V, idx t]

set_option maxHeartbeats 1600000 in
/-- The reference's array of codes. -/
theorem final_codes (c : Dev nD) : (dats (F := Ideal) m 0 c).arrAt 4 (cfgs 0).N
    = CODES (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  rw [after0_4]
  have e0 : ((((View.whole main_v2_0).slice (win0_4.rect t)).emb y) 0).val = (y 0).val := by blk_simp [idx t]
  have e1 : ((((View.whole main_v2_0).slice (win0_4.rect t)).emb y) 1).val = (y 1).val := by blk_simp [idx t]
  unfold outsAt0
  generalize hs0_0 t = h0; revert h0; generalize ms0_0 t = a0; intro h0
  generalize hs0_1 t = h1; revert h1; generalize ms0_1 t = a1; intro h1
  generalize hs0_2 t = h2; revert h2; generalize ms0_2 t = a2; intro h2
  generalize hs0_3 t = h3; revert h3; generalize ms0_3 t = a3; intro h3
  generalize hs0_4 t = h4; revert h4; generalize ms0_4 t = a4; intro h4
  generalize hs0_5 t = h5; revert h5; generalize ms0_5 t = a5; intro h5
  blk_simp
  generalize ((View.whole main_v2_0).slice (win0_4.rect t)).emb y = j at e0 e1 ⊢
  frame_out
  have y0 : (y 0).val < 9216 := (y 0).isLt
  have y1 : (y 1).val < 3072 := (y 1).isLt
  refine (congrArg _ (pair y)).trans ((pay2_at _ _ (y 0) (y 1)).trans ?_)
  refine (congrArg (fun h => quantise h _) (attention_at m c t _ _ _ _ (fun r l => by pointwise []) (fun r l => by pointwise [])
    (fun b l j => by pointwise []) (fun b => by pointwise []) _ _ _ _)).trans ?_
  unfold CODES
  dsimp only
  simp only [e0, e1]
  refine congrArg (quantise _) ?_
  pointwise []
  exact scale_at m c t

set_option maxHeartbeats 1600000 in
/-- The reference's greatest absolute value. -/
theorem final_amax (c : Dev nD) : (dats (F := Ideal) m 0 c).arrAt 5 (cfgs 0).N = AMAX (m ((c : Thread nD τ).loc main_arg0)) (m ((c : Thread nD τ).loc main_arg1)) (m ((c : Thread nD τ).loc main_arg2)) := by
  refine (dats m 0 c).arrAt_eq_of_covers 5 _ (by decide +kernel) fun t hf y => ?_
  rw [after0_5]
  unfold outsAt0
  generalize hs0_0 t = h0; revert h0; generalize ms0_0 t = a0; intro h0
  generalize hs0_1 t = h1; revert h1; generalize ms0_1 t = a1; intro h1
  generalize hs0_2 t = h2; revert h2; generalize ms0_2 t = a2; intro h2
  generalize hs0_3 t = h3; revert h3; generalize ms0_3 t = a3; intro h3
  generalize hs0_4 t = h4; revert h4; generalize ms0_4 t = a4; intro h4
  generalize hs0_5 t = h5; revert h5; generalize ms0_5 t = a5; intro h5
  blk_simp
  frame_out
  refine eq_of_forall_ge_iff (α := EReal) fun B => ?_
  unfold AMAX
  refine (pay4_le _ _ _ _ y B).trans ?_
  simp only [iSup_le_iff]
  have e := attention_at m c t
    (View.ld (iblk m c 0 t) (Rect.unit (s := S9216x6144) ![0, 0] S9216x3072.size inb_S9216x6144_S9216x3072_0_0))
    (View.ld (iblk m c 0 t) (Rect.unit (s := S9216x6144) ![0, 3072] S9216x3072.size inb_S9216x6144_S9216x3072_0_3072))
    (iblk m c 1 t) (iblk m c 2 t) (fun r l => by pointwise []) (fun r l => by pointwise []) (fun b l j => rfl) (fun b => rfl)
  exact ⟨fun k b h i d => (congrArg magnitude (e b i h d)).symm.trans_le (k b i h d),
    fun k b i h d => (congrArg magnitude (e b i h d)).trans_le (k b h i d)⟩

end Cert.Proof.AttnRef

end
-- ==== Proof.AttnClaim.lean ====
/-
  Hand-written. THE ATTENTION: the claim that kernel and reference agree.
-/
module

public import proofs.«01_k».proof.Defs
public import proofs.«01_k».proof.Proof.AttnKer
public import proofs.«01_k».proof.Proof.AttnRef
public import Idealize.ShloMosaic.Lib.Claim

@[expose] public section

set_option maxRecDepth 16384

noncomputable section

namespace Cert.Proof

open Idealize.ShloMosaic Idealize.SL.Sem

/-- The scale of the scores is the kernel's constant at its real value. -/
theorem preserves_attn : Cert.preserves_KAttn_KAttnIdeal :=
  IdealRules.named_const.statement _ _ _ _ _ rfl

/-- The attention: the tiled kernel and the whole-array reference end with equal codes and equal greatest absolute values. -/
theorem algebraic_attn : Cert.algebraic_KAttnIdeal_RAttnIdeal := by
  pair_intro
  · run_from Cert.KAttnIdeal.Gen.run_main m g
  · run_from Cert.RAttnIdeal.Gen.run_main m' g'
    · obtain ⟨h0, h1, h2, h3⟩ := hagree c
      refine (AttnRef.final_codes m' c).trans ?_
      rw [h0, h1, h2, h3]
      exact (AttnKer.final_codes m c).symm
    · obtain ⟨h0, h1, h2, h3⟩ := hagree c
      refine (AttnRef.final_amax m' c).trans ?_
      rw [h0, h1, h2]
      exact (AttnKer.final_amax m c).symm

end Cert.Proof

end
-- ==== Proof.OutRef.lean ====
/-
  Hand-written. THE OUTPUT PROJECTION'S REFERENCE, READ: the result array of `ref_out` (one whole-array kernel with no
  grid) is one function `REF` of its argument arrays.
-/
module

public import proofs.«01_k».proof.Proof.Gen.ROutIdeal.Value
public import proofs.«01_k».proof.Proof.Common

@[expose] public section

set_option maxRecDepth 16384

noncomputable section

namespace Cert.Proof.OutRef

open Cert.Proof.Common
open Idealize.ShloMosaic Idealize.ShloMosaic.TcCoe Idealize.SL.Sem
open Idealize.ShloMosaic.Pipeline (Dat)
open Cert.ROutIdeal Cert.ROutIdeal.Gen

variable (m : (ℓ : Loc nD τ sig) → Buf (Elt Ideal) ℓ)

/-- The block index of every window at the one grid point is zero. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0, 0] ∧ win0_6.index t = ![0, 0]
    ∧ win0_7.index t = ![0, 0] ∧ win0_8.index t = ![0, 0] ∧ win0_9.index t = ![0, 0] :=
  (by decide +kernel : ∀ t : Fin grid0.N, _)

/-- Row `r`, column `k` of the output projection: the residual, plus the gate times the scaled sum of the two
    projections with its per-column scale and bias. -/
def REF (a : FVec Ideal S9216x3072 .fp8e4m3) (h : FVec Ideal S9216x12288 .fp8e4m3) (w : FVec Ideal S15360x3072 .fp8e4m3)
    (sc : FVec Ideal ⟨1, ![3072]⟩ .f32) (b : FVec Ideal ⟨1, ![3072]⟩ .f32) (x : FVec Ideal S2x4608x3072 .bf16)
    (g : FVec Ideal S2x3072 .f32) (sa : FVec Ideal ⟨0, ![]⟩ .f32) (sm : FVec Ideal ⟨0, ![]⟩ .f32)
    (j : S9216x3072.Idx) : EReal :=
  x (ix3 ⟨(j 0).val / 4608, by have : (j 0).val < 9216 := (j 0).isLt; omega⟩ ⟨(j 0).val % 4608, by omega⟩ (j 1))
    + g (ix2 ⟨(j 0).val / 4608, by have : (j 0).val < 9216 := (j 0).isLt; omega⟩ (j 1))
      * ((sa pt * (∑ k : Fin 3072, a (ix2 (j 0) k) * w (ix2 ⟨k.val, by omega⟩ (j 1)))
          + sm pt * (∑ k : Fin 12288, h (ix2 (j 0) k) * w (ix2 ⟨3072 + k.val, by omega⟩ (j 1))))
        * sc (ix1 (j 1)) + b (ix1 (j 1)))

theorem final (c : Dev nD) : (dats m 0 c).arrAt 9 (cfgs 0).N
    = REF (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) (m ((c : Thread nD τ).loc main_arg7))
        (m ((c : Thread nD τ).loc main_arg8)) := by
  refine (dats m 0 c).arrAt_eq_of_covers 9 _ (by decide +kernel) fun t hf y => ?_
  rw [after0_9]
  unfold outsAt0
  generalize hs0_0 t = h0; revert h0; generalize ms0_0 t = a0; intro h0
  generalize hs0_1 t = h1; revert h1; generalize ms0_1 t = a1; intro h1
  generalize hs0_2 t = h2; revert h2; generalize ms0_2 t = a2; intro h2
  generalize hs0_3 t = h3; revert h3; generalize ms0_3 t = a3; intro h3
  generalize hs0_4 t = h4; revert h4; generalize ms0_4 t = a4; intro h4
  generalize hs0_5 t = h5; revert h5; generalize ms0_5 t = a5; intro h5
  generalize hs0_6 t = h6; revert h6; generalize ms0_6 t = a6; intro h6
  generalize hs0_7 t = h7; revert h7; generalize ms0_7 t = a7; intro h7
  generalize hs0_8 t = h8; revert h8; generalize ms0_8 t = a8; intro h8
  generalize hs0_9 t = h9; revert h9; generalize ms0_9 t = a9; intro h9
  blk_simp
  frame_out
  pointwise [k0_pay1, REF]
  blk_point [iblk, V, idx t]

end Cert.Proof.OutRef

end
-- ==== Proof.OutKer.lean ====
/-
  Hand-written. THE OUTPUT PROJECTION, KERNEL SIDE: every grid point's block of the result array is the same function of
  the argument arrays that the reference computes (`OutRef.REF`), and the blocks cover the array.
-/
module

public import proofs.«01_k».proof.Proof.Gen.KOutIdeal.Value
public import proofs.«01_k».proof.Proof.OutRef

@[expose] public section

set_option maxRecDepth 16384

noncomputable section

namespace Cert.Proof.OutKer

open Cert.Proof.Common
open Idealize.ShloMosaic Idealize.ShloMosaic.TcCoe Idealize.SL.Sem
open Idealize.ShloMosaic.Pipeline (Dat)
open Cert.KOutIdeal Cert.KOutIdeal.Gen

variable (m : (ℓ : Loc nD τ sig) → Buf (Elt Ideal) ℓ)

/-- The block index of every window at a grid point, the column tile inside the row tile. -/
theorem idx : ∀ t : Fin cfg0.N, win0_0.index t = ![t.val / 6, 0] ∧ win0_1.index t = ![t.val / 6, 0]
    ∧ win0_2.index t = ![0, t.val % 6] ∧ win0_3.index t = ![0, t.val % 6] ∧ win0_4.index t = ![0, t.val % 6]
    ∧ win0_5.index t = ![t.val / 6, t.val % 6] ∧ win0_6.index t = ![t.val / 54, 0, t.val % 6]
    ∧ win0_7.index t = ![0, 0] ∧ win0_8.index t = ![0, 0] ∧ win0_9.index t = ![t.val / 6, t.val % 6]
    ∧ t.val < 108 :=
  (by decide +kernel : ∀ t : Fin grid0.N, _)

/-- The left half-block of the stored output, read at a row `r` and a column `l`. -/
theorem pay2_at (v0 v1 : EReal) (v2 : FVec Ideal S512x3072 .fp8e4m3) (v3 : FVec Ideal S3072x256 .fp8e4m3)
    (v5 : FVec Ideal S512x12288 .fp8e4m3) (v6 : FVec Ideal S12288x256 .fp8e4m3)
    (v13 v17 : FVec Ideal S1x256 .f32) (v21 : FVec Ideal S512x256 .bf16) (v24 : FVec Ideal S1x1x256 .f32)
    (x : S512x256.Idx) :
    k0_pay2 (F := Ideal) v0 v1 v2 v3 v5 v6 v13 v17 v21 v24 x
      = v21 x + v24 (ix3 0 0 (x 1))
          * ((v0 * (∑ k : Fin 3072, v2 (ix2 (x 0) k) * v3 (ix2 k (x 1)))
              + v1 * (∑ k : Fin 12288, v5 (ix2 (x 0) k) * v6 (ix2 k (x 1)))) * v13 (ix2 0 (x 1))
            + v17 (ix2 0 (x 1))) := by
  pointwise [k0_pay2]

/-- The right half-block of the stored output, read at a row `r` and a column `l`. -/
theorem pay1_at (v0 v1 : EReal) (v2 : FVec Ideal S512x3072 .fp8e4m3) (v3 : FVec Ideal S3072x256 .fp8e4m3)
    (v5 : FVec Ideal S512x12288 .fp8e4m3) (v6 : FVec Ideal S12288x256 .fp8e4m3)
    (v13 v17 : FVec Ideal S1x256 .f32) (v21 : FVec Ideal S512x256 .bf16) (v24 : FVec Ideal S1x1x256 .f32)
    (x : S512x256.Idx) :
    k0_pay1 (F := Ideal) v0 v1 v2 v3 v5 v6 v13 v17 v21 v24 x
      = v21 x + v24 (ix3 0 0 (x 1))
          * ((v0 * (∑ k : Fin 3072, v2 (ix2 (x 0) k) * v3 (ix2 k (x 1)))
              + v1 * (∑ k : Fin 12288, v5 (ix2 (x 0) k) * v6 (ix2 k (x 1)))) * v13 (ix2 0 (x 1))
            + v17 (ix2 0 (x 1))) := by
  pointwise [k0_pay1]

set_option maxHeartbeats 1600000 in
theorem final (c : Dev nD) : (dats m 0 c).arrAt 9 (cfgs 0).N
    = OutRef.REF (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) (m ((c : Thread nD τ).loc main_arg7))
        (m ((c : Thread nD τ).loc main_arg8)) := by
  refine (dats m 0 c).arrAt_eq_of_covers 9 _ (by decide +kernel) fun t hf y => ?_
  rw [after0_9]
  unfold outsAt0
  generalize hs0_0 t = h0; revert h0; generalize ms0_0 t = a0; intro h0
  generalize hs0_1 t = h1; revert h1; generalize ms0_1 t = a1; intro h1
  generalize hs0_2 t = h2; revert h2; generalize ms0_2 t = a2; intro h2
  generalize hs0_3 t = h3; revert h3; generalize ms0_3 t = a3; intro h3
  generalize hs0_4 t = h4; revert h4; generalize ms0_4 t = a4; intro h4
  generalize hs0_5 t = h5; revert h5; generalize ms0_5 t = a5; intro h5
  generalize hs0_6 t = h6; revert h6; generalize ms0_6 t = a6; intro h6
  generalize hs0_7 t = h7; revert h7; generalize ms0_7 t = a7; intro h7
  generalize hs0_8 t = h8; revert h8; generalize ms0_8 t = a8; intro h8
  generalize hs0_9 t = h9; revert h9; generalize ms0_9 t = a9; intro h9
  blk_simp
  frame_out
  canon_tiles x h
  all_goals
    first | rw [pay1_at] | rw [pay2_at]
    unfold OutRef.REF
    blk_simp [idx t]
    pointwise [h0, h1]
    blk_point [iblk, V, idx t]

end Cert.Proof.OutKer

end
-- ==== Proof.OutClaim.lean ====
module

public import proofs.«01_k».proof.Defs
public import proofs.«01_k».proof.Proof.OutKer
public import Idealize.ShloMosaic.Lib.Claim

@[expose] public section

set_option maxRecDepth 16384

noncomputable section

namespace Cert.Proof

open Idealize.ShloMosaic Idealize.SL.Sem

/-- The output projection: the tiled kernel and the whole-array reference end with equal results. -/
theorem algebraic_out : Cert.algebraic_KOutIdeal_ROutIdeal := by
  pair_intro
  · run_from Cert.KOutIdeal.Gen.run_main m g
  · run_from Cert.ROutIdeal.Gen.run_main m' g'
    obtain ⟨h0, h1, h2, h3, h4, h5, h6, h7, h8⟩ := hagree c
    refine (OutRef.final m' c).trans ?_
    rw [h0, h1, h2, h3, h4, h5, h6, h7, h8]
    exact (OutKer.final m c).symm

end Cert.Proof

end
-- ==== Proof.MlpRef.lean ====
/-
  Hand-written. THE MLP PROJECTION, REFERENCE SIDE: the codes and the greatest absolute value as functions of the argument arrays.
-/
module

public import proofs.«01_k».proof.Proof.Gen.RMlpIdeal.Value
public import proofs.«01_k».proof.Proof.Common

@[expose] public section

set_option maxRecDepth 16384

noncomputable section

namespace Cert.Proof.MlpRef

open Cert.Proof.Common
open Idealize.ShloMosaic Idealize.ShloMosaic.TcCoe Idealize.SL.Sem
open Idealize.ShloMosaic.Pipeline (Dat)
open Cert.RMlpIdeal Cert.RMlpIdeal.Gen

variable (m : (ℓ : Loc nD τ sig) → Buf (Elt Ideal) ℓ)

/-- Every window's one block starts at the origin. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] :=
  (by decide +kernel : ∀ t : Fin grid0.N, _)

/-- The activation in its hyperbolic tangent form. -/
def gelu (h : EReal) : EReal :=
  Ideal.ofBits .f32 0x3F000000#32 * h
    * (1 + Ideal.tanh (Ideal.ofBits .f32 0x3F4C422A#32 * (h + Ideal.ofBits .f32 0x3D372713#32 * (h * h * h))))

/-- The quantiser: divide by the scale, clamp to the largest code. -/
def quantise (h s : EReal) : EReal :=
  min (Ideal.ofBits .f32 0x43E00000#32) (max (Ideal.ofBits .f32 0xC3E00000#32) (Ideal.div h s))

/-- The absolute value. -/
def magnitude (x : EReal) : EReal := max x (-x)

/-- The hidden value of a token at a channel: the row of codes against the column of the weights, scaled, plus the bias;
    the hidden columns start at 9216. -/
def hidden (a : FVec Ideal S9216x3072 .fp8e4m3) (w : FVec Ideal S3072x21504 .fp8e4m3) (ws b : FVec Ideal ⟨1, ![21504]⟩ .f32)
    (sx : FVec Ideal ⟨0, ![]⟩ .f32) (r : Fin 9216) (n : Fin 12288) : EReal :=
  (∑ k : Fin 3072, a (ix2 r k) * w (ix2 k ⟨9216 + n.val, by omega⟩)) * sx pt * ws (ix1 ⟨9216 + n.val, by omega⟩)
    + b (ix1 ⟨9216 + n.val, by omega⟩)

/-- The codes of the activated hidden values. -/
def CODES (a : FVec Ideal S9216x3072 .fp8e4m3) (w : FVec Ideal S3072x21504 .fp8e4m3) (ws b : FVec Ideal ⟨1, ![21504]⟩ .f32)
    (sx : FVec Ideal ⟨0, ![]⟩ .f32) (sm : FVec Ideal ⟨0, ![]⟩ .f32) (j : S9216x12288.Idx) : EReal :=
  quantise (gelu (hidden a w ws b sx (j 0) (j 1))) (sm pt)

/-- The greatest absolute value of the activated hidden values. -/
def AMAX (a : FVec Ideal S9216x3072 .fp8e4m3) (w : FVec Ideal S3072x21504 .fp8e4m3) (ws b : FVec Ideal ⟨1, ![21504]⟩ .f32)
    (sx : FVec Ideal ⟨0, ![]⟩ .f32) (j : S1x1.Idx) : EReal :=
  ⨆ (r : Fin 9216) (n : Fin 12288), magnitude (gelu (hidden a w ws b sx r n))

set_option maxHeartbeats 1600000 in
/-- The activated hidden values, entry by entry. -/
theorem pay2_at (v0 : FVec Ideal S9216x3072 .fp8e4m3) (v1 : FVec Ideal S3072x12288 .fp8e4m3) (v3 : EReal)
    (v6 v10 : FVec Ideal S1x12288 .f32) (r : Fin 9216) (n : Fin 12288) :
    k0_pay2 (F := Ideal) v0 v1 v3 v6 v10 (ix2 r n)
      = gelu ((∑ k : Fin 3072, v0 (ix2 r k) * v1 (ix2 k n)) * v3 * v6 (ix2 0 n) + v10 (ix2 0 n)) := by
  pointwise [k0_pay2, gelu]

/-- The pattern of minus infinity is the least value. -/
theorem bottom : Ideal.ofBits .f32 0xFF800000#32 = (⊥ : EReal) := by
  simp [Ideal.ofBits, Ideal.ieee]

/-- A maximum over a two-axis array is below a bound when every entry is. -/
theorem fold_le {α β : Type} [Fintype α] [Fintype β] (f : α → β → EReal) (B : EReal) :
    Finset.univ.fold max (⊥ : EReal) (fun x : α × β => f x.1 x.2) ≤ B ↔ ∀ r n, f r n ≤ B := by
  rw [Finset.fold_max_le]
  exact ⟨fun g r n => g.2 (r, n) (Finset.mem_univ _), fun g => ⟨bot_le, fun x _ => g x.1 x.2⟩⟩

/-- The greatest absolute value is below a bound when every entry's is. -/
theorem pay3_le (v0 : FVec Ideal S9216x3072 .fp8e4m3) (v1 : FVec Ideal S3072x12288 .fp8e4m3) (v3 : EReal)
    (v6 v10 : FVec Ideal S1x12288 .f32) (y : S1x1.Idx) (B : EReal) :
    (k0_pay3 (F := Ideal) v0 v1 v3 v6 v10 y : EReal) ≤ B
      ↔ ∀ (r : Fin 9216) (n : Fin 12288), magnitude (k0_pay2 (F := Ideal) v0 v1 v3 v6 v10 (ix2 r n)) ≤ B := by
  have h : (k0_pay3 (F := Ideal) v0 v1 v3 v6 v10 y : EReal) = Finset.univ.fold max (⊥ : EReal)
      fun x : Fin 9216 × Fin 12288 => magnitude (k0_pay2 (F := Ideal) v0 v1 v3 v6 v10 (ix2 x.1 x.2)) := by
    rw [← bottom]
    pointwise [k0_pay3]
    rfl
  rw [h]
  exact fold_le (fun r n => magnitude (k0_pay2 (F := Ideal) v0 v1 v3 v6 v10 (ix2 r n))) B

/-- A quantised entry. -/
theorem codes_at (v0 : FVec Ideal S9216x3072 .fp8e4m3) (v1 : FVec Ideal S3072x12288 .fp8e4m3) (v3 : EReal)
    (v6 v10 : FVec Ideal S1x12288 .f32) (v34 : EReal) (y : S9216x12288.Idx) :
    k0_pay1 (F := Ideal) (k0_pay4 v0 v1 v3 v6 v10 v34) (FloatOps.ofBits FTy.f32 0xC3E00000#32)
        (FloatOps.ofBits FTy.f32 0x43E00000#32) y
      = quantise (k0_pay2 (F := Ideal) v0 v1 v3 v6 v10 (ix2 (y 0) (y 1))) v34 := by
  pointwise [k0_pay1, k0_pay4, quantise]

set_option maxHeartbeats 1600000 in
/-- The hidden value from the staged arrays. -/
theorem hidden_at (c : Dev nD) (t : Fin cfg0.N) (v1 : FVec Ideal S3072x12288 .fp8e4m3) (v3 : EReal)
    (v6 v10 : FVec Ideal S1x12288 .f32)
    (h1 : ∀ (k : Fin 3072) (n : Fin 12288), v1 (ix2 k n) = iblk m c 1 t (ix2 k (⟨9216 + n.val, by omega⟩ : Fin 21504)))
    (h3 : v3 = iblk m c 4 t (ix2 0 0))
    (h6 : ∀ n : Fin 12288, v6 (ix2 0 n) = iblk m c 2 t (ix2 0 (⟨9216 + n.val, by omega⟩ : Fin 21504)))
    (h10 : ∀ n : Fin 12288, v10 (ix2 0 n) = iblk m c 3 t (ix2 0 (⟨9216 + n.val, by omega⟩ : Fin 21504)))
    (r : Fin 9216) (n : Fin 12288) :
    k0_pay2 (F := Ideal) (iblk m c 0 t) v1 v3 v6 v10 (ix2 r n) = gelu (hidden (m ((c : Thread nD τ).loc main_arg0))
        (m ((c : Thread nD τ).loc main_arg1))
        (m ((c : Thread nD τ).loc main_arg2))
        (m ((c : Thread nD τ).loc main_arg3))
        (m ((c : Thread nD τ).loc main_arg4)) r n) := by
  rw [pay2_at]
  simp only [h1, h3, h6, h10]
  unfold hidden
  blk_point [iblk, V, idx t]

set_option maxHeartbeats 1600000 in
/-- The reference's array of codes. -/
theorem final_codes (c : Dev nD) : (dats m 0 c).arrAt 6 (cfgs 0).N
    = CODES (m ((c : Thread nD τ).loc main_arg0))
        (m ((c : Thread nD τ).loc main_arg1))
        (m ((c : Thread nD τ).loc main_arg2))
        (m ((c : Thread nD τ).loc main_arg3))
        (m ((c : Thread nD τ).loc main_arg4))
        (m ((c : Thread nD τ).loc main_arg5)) := by
  refine (dats m 0 c).arrAt_eq_of_covers 6 _ (by decide +kernel) fun t hf y => ?_
  rw [after0_6]
  unfold outsAt0
  generalize hs0_0 t = h0; revert h0; generalize ms0_0 t = a0; intro h0
  generalize hs0_1 t = h1; revert h1; generalize ms0_1 t = a1; intro h1
  generalize hs0_2 t = h2; revert h2; generalize ms0_2 t = a2; intro h2
  generalize hs0_3 t = h3; revert h3; generalize ms0_3 t = a3; intro h3
  generalize hs0_4 t = h4; revert h4; generalize ms0_4 t = a4; intro h4
  generalize hs0_5 t = h5; revert h5; generalize ms0_5 t = a5; intro h5
  generalize hs0_6 t = h6; revert h6; generalize ms0_6 t = a6; intro h6
  generalize hs0_7 t = h7; revert h7; generalize ms0_7 t = a7; intro h7
  blk_simp
  frame_out
  refine (codes_at _ _ _ _ _ _ y).trans ?_
  refine (congrArg (fun h => quantise h _) (hidden_at m c t _ _ _ _ (fun k n => by pointwise []) (by pointwise [])
    (fun n => by pointwise []) (fun n => by pointwise []) (y 0) (y 1))).trans ?_
  unfold CODES
  refine congrArg₂ quantise (congrArg gelu (congrArg₂ _ ?_ ?_)) ?_
  · exact Fin.ext (by blk_simp [idx t])
  · exact Fin.ext (by blk_simp [idx t])
  · pointwise []
    blk_point [iblk, V, idx t]

set_option maxHeartbeats 1600000 in
/-- The reference's greatest absolute value. -/
theorem final_amax (c : Dev nD) : (dats m 0 c).arrAt 7 (cfgs 0).N
    = AMAX (m ((c : Thread nD τ).loc main_arg0))
        (m ((c : Thread nD τ).loc main_arg1))
        (m ((c : Thread nD τ).loc main_arg2))
        (m ((c : Thread nD τ).loc main_arg3))
        (m ((c : Thread nD τ).loc main_arg4)) := by
  refine (dats m 0 c).arrAt_eq_of_covers 7 _ (by decide +kernel) fun t hf y => ?_
  rw [after0_7]
  unfold outsAt0
  generalize hs0_0 t = h0; revert h0; generalize ms0_0 t = a0; intro h0
  generalize hs0_1 t = h1; revert h1; generalize ms0_1 t = a1; intro h1
  generalize hs0_2 t = h2; revert h2; generalize ms0_2 t = a2; intro h2
  generalize hs0_3 t = h3; revert h3; generalize ms0_3 t = a3; intro h3
  generalize hs0_4 t = h4; revert h4; generalize ms0_4 t = a4; intro h4
  generalize hs0_5 t = h5; revert h5; generalize ms0_5 t = a5; intro h5
  generalize hs0_6 t = h6; revert h6; generalize ms0_6 t = a6; intro h6
  generalize hs0_7 t = h7; revert h7; generalize ms0_7 t = a7; intro h7
  blk_simp
  frame_out
  refine eq_of_forall_ge_iff (α := EReal) fun B => ?_
  unfold AMAX
  refine (pay3_le _ _ _ _ _ y B).trans ?_
  simp only [iSup_le_iff]
  refine forall_congr' fun r => forall_congr' fun n => ?_
  rw [hidden_at m c t _ _ _ _ (fun k n => by pointwise []) (by pointwise []) (fun n => by pointwise [])
    (fun n => by pointwise [])]

end Cert.Proof.MlpRef

end
-- ==== Proof.MlpFold.lean ====
/-
  Hand-written. THE MLP PROJECTION'S RUNNING MAXIMUM: what each stretch of the kernel's fold over a stripe's row blocks holds.
-/
module

public import proofs.«01_k».proof.Proof.Gen.KMlpIdeal.Value
public import proofs.«01_k».proof.Proof.Common

@[expose] public section

set_option maxRecDepth 16384

noncomputable section

namespace Cert.Proof.MlpFold

open Cert.Proof.Common
open Idealize.ShloMosaic Idealize.ShloMosaic.TcCoe Idealize.SL.Sem
open Idealize.ShloMosaic.Pipeline (Dat)
open Cert.KMlpIdeal Cert.KMlpIdeal.Gen

/-- The greatest of `z` and `n` entries of column `l` of `w`, eight rows apart, from row `8 * lo + a`. -/
def run (w : ℕ → ℕ → EReal) (a l lo n : ℕ) (z : EReal) : EReal :=
  Nat.rec z (fun k acc => max acc (w (8 * (lo + k) + a) l)) n

/-- A run is below a bound when its start and each of its entries are. -/
theorem run_le (w : ℕ → ℕ → EReal) (a l lo n : ℕ) (z B : EReal) :
    run w a l lo n z ≤ B ↔ z ≤ B ∧ ∀ i, lo ≤ i → i < lo + n → w (8 * i + a) l ≤ B := by
  induction n with
  | zero => exact ⟨fun h => ⟨h, fun i h1 h2 => absurd h2 (by omega)⟩, fun h => h.1⟩
  | succ n ih =>
    have e : run w a l lo (n + 1) z = max (run w a l lo n z) (w (8 * (lo + n) + a) l) := rfl
    rw [e, max_le_iff, ih]
    constructor
    · rintro ⟨⟨h1, h2⟩, h3⟩
      refine ⟨h1, fun i hi hj => ?_⟩
      rcases Nat.lt_or_ge i (lo + n) with h | h
      · exact h2 i hi h
      · have : i = lo + n := by omega
        exact this ▸ h3
    · rintro ⟨h1, h2⟩
      exact ⟨⟨h1, fun i hi hj => h2 i hi (by omega)⟩, h2 _ (by omega) (by omega)⟩

/-- The eight sublanes and the two halves of the lanes together range over the whole stripe. -/
theorem all_le (w : ℕ → ℕ → EReal) (B : EReal)
    (h : ∀ (a : Fin 8) (b : Fin 128), (∀ i, i < 128 → w (8 * i + a) b ≤ B) ∧ ∀ i, i < 128 → w (8 * i + a) (128 + b) ≤ B)
    (r : Fin 1024) (l : Fin 256) : w r l ≤ B := by
  have hr : 8 * (r.val / 8) + r.val % 8 = r.val := by omega
  rcases Nat.lt_or_ge l.val 128 with g | g
  · have := (h ⟨r.val % 8, by omega⟩ ⟨l.val, g⟩).1 (r.val / 8) (by omega)
    simpa only [hr] using this
  · have := (h ⟨r.val % 8, by omega⟩ ⟨l.val - 128, by omega⟩).2 (r.val / 8) (by omega)
    have e : 128 + (l.val - 128) = l.val := by omega
    simpa only [hr, e] using this

/-- The first row blocks of the stripe. -/
theorem pay5_at (v0 : EReal) (v7 : FVec Ideal S1024x3072 .fp8e4m3) (v8 : FVec Ideal S3072x256 .fp8e4m3) (v12 v16 : FVec Ideal S1x256 .f32)
    (w : ℕ → ℕ → EReal) (hv : ∀ (r : Fin 1024) (l : Fin 256), (k0_pay4 (F := Ideal) v0 v7 v8 v12 v16) (ix2 r l) = w r.val l.val)
    (a : Fin 8) (l : Fin 256) : (k0_pay5 (F := Ideal) v0 v7 v8 v12 v16 (ix2 a l) : EReal) = run w a l 1 1 (w a l) := by
  pointwise [k0_pay5]
  simp only [hv] <;> rfl

/-- A stretch of the stripe's row blocks. -/
theorem pay6_at (v : FVec Ideal S1024x256 .f32) (z : FVec Ideal S8x256 .f32) (w : ℕ → ℕ → EReal) (hv : ∀ (r : Fin 1024) (l : Fin 256), v (ix2 r l) = w r.val l.val)
    (a : Fin 8) (l : Fin 256) : (k0_pay6 (F := Ideal) v z (ix2 a l) : EReal) = run w a l 2 30 (z (ix2 a l)) := by
  pointwise [k0_pay6]
  simp only [hv] <;> rfl

/-- A stretch of the stripe's row blocks. -/
theorem pay7_at (v : FVec Ideal S1024x256 .f32) (z : FVec Ideal S8x256 .f32) (w : ℕ → ℕ → EReal) (hv : ∀ (r : Fin 1024) (l : Fin 256), v (ix2 r l) = w r.val l.val)
    (a : Fin 8) (l : Fin 256) : (k0_pay7 (F := Ideal) v z (ix2 a l) : EReal) = run w a l 32 30 (z (ix2 a l)) := by
  pointwise [k0_pay7]
  simp only [hv] <;> rfl

/-- A stretch of the stripe's row blocks. -/
theorem pay8_at (v : FVec Ideal S1024x256 .f32) (z : FVec Ideal S8x256 .f32) (w : ℕ → ℕ → EReal) (hv : ∀ (r : Fin 1024) (l : Fin 256), v (ix2 r l) = w r.val l.val)
    (a : Fin 8) (l : Fin 256) : (k0_pay8 (F := Ideal) v z (ix2 a l) : EReal) = run w a l 62 30 (z (ix2 a l)) := by
  pointwise [k0_pay8]
  simp only [hv] <;> rfl

/-- A stretch of the stripe's row blocks. -/
theorem pay9_at (v : FVec Ideal S1024x256 .f32) (z : FVec Ideal S8x256 .f32) (w : ℕ → ℕ → EReal) (hv : ∀ (r : Fin 1024) (l : Fin 256), v (ix2 r l) = w r.val l.val)
    (a : Fin 8) (l : Fin 256) : (k0_pay9 (F := Ideal) v z (ix2 a l) : EReal) = run w a l 92 30 (z (ix2 a l)) := by
  pointwise [k0_pay9]
  simp only [hv] <;> rfl

/-- The last row blocks, the two halves of the lanes, and what was carried. -/
theorem pay10_at (v : FVec Ideal S1024x256 .f32) (z : FVec Ideal S8x256 .f32) (s : FVec Ideal S8x128 .f32) (w : ℕ → ℕ → EReal) (hv : ∀ (r : Fin 1024) (l : Fin 256), v (ix2 r l) = w r.val l.val)
    (a : Fin 8) (b : Fin 128) : (k0_pay10 (F := Ideal) v z s (ix2 a b) : EReal) = max (s (ix2 a b)) (max (run w a b 122 6 (z (ix2 a (⟨b.val, by omega⟩ : Fin 256)))) (run w a (128 + b) 122 6 (z (ix2 a (⟨128 + b.val, by omega⟩ : Fin 256))))) := by
  pointwise [k0_pay10]
  simp only [hv] <;> rfl

/-- The first row blocks of the stripe. -/
theorem pay15_at (v : FVec Ideal S1024x256 .f32) (w : ℕ → ℕ → EReal) (hv : ∀ (r : Fin 1024) (l : Fin 256), (k0_pay14 (F := Ideal) v) (ix2 r l) = w r.val l.val)
    (a : Fin 8) (l : Fin 256) : (k0_pay15 (F := Ideal) v (ix2 a l) : EReal) = run w a l 1 20 (w a l) := by
  pointwise [k0_pay15]
  simp only [hv] <;> rfl

/-- One row block of the stripe. -/
theorem pay16_at (v : FVec Ideal S1024x256 .f32) (w : ℕ → ℕ → EReal) (hv : ∀ (r : Fin 1024) (l : Fin 256), (k0_pay14 (F := Ideal) v) (ix2 r l) = w r.val l.val)
    (a : Fin 8) (l : Fin 256) : (k0_pay16 (F := Ideal) v (ix2 a l) : EReal) = w (8 * 21 + a) l := by
  pointwise [k0_pay16]
  simp only [hv] <;> rfl

/-- A stretch of the stripe's row blocks. -/
theorem pay17_at (v : FVec Ideal S1024x256 .f32) (z : FVec Ideal S8x256 .f32) (y : FVec Ideal S8x256 .f32) (w : ℕ → ℕ → EReal) (hv : ∀ (r : Fin 1024) (l : Fin 256), v (ix2 r l) = w r.val l.val)
    (a : Fin 8) (l : Fin 256) : (k0_pay17 (F := Ideal) v z y (ix2 a l) : EReal) = run w a l 22 29 (max (z (ix2 a l)) (y (ix2 a l))) := by
  pointwise [k0_pay17]
  simp only [hv] <;> rfl

/-- One row block of the stripe. -/
theorem pay18_at (v : FVec Ideal S1024x256 .f32) (w : ℕ → ℕ → EReal) (hv : ∀ (r : Fin 1024) (l : Fin 256), v (ix2 r l) = w r.val l.val)
    (a : Fin 8) (l : Fin 256) : (k0_pay18 (F := Ideal) v (ix2 a l) : EReal) = w (8 * 51 + a) l := by
  pointwise [k0_pay18]
  simp only [hv] <;> rfl

/-- A stretch of the stripe's row blocks. -/
theorem pay19_at (v : FVec Ideal S1024x256 .f32) (z : FVec Ideal S8x256 .f32) (y : FVec Ideal S8x256 .f32) (w : ℕ → ℕ → EReal) (hv : ∀ (r : Fin 1024) (l : Fin 256), v (ix2 r l) = w r.val l.val)
    (a : Fin 8) (l : Fin 256) : (k0_pay19 (F := Ideal) v z y (ix2 a l) : EReal) = run w a l 52 29 (max (z (ix2 a l)) (y (ix2 a l))) := by
  pointwise [k0_pay19]
  simp only [hv] <;> rfl

/-- One row block of the stripe. -/
theorem pay20_at (v : FVec Ideal S1024x256 .f32) (w : ℕ → ℕ → EReal) (hv : ∀ (r : Fin 1024) (l : Fin 256), v (ix2 r l) = w r.val l.val)
    (a : Fin 8) (l : Fin 256) : (k0_pay20 (F := Ideal) v (ix2 a l) : EReal) = w (8 * 81 + a) l := by
  pointwise [k0_pay20]
  simp only [hv] <;> rfl

/-- A stretch of the stripe's row blocks. -/
theorem pay21_at (v : FVec Ideal S1024x256 .f32) (z : FVec Ideal S8x256 .f32) (y : FVec Ideal S8x256 .f32) (w : ℕ → ℕ → EReal) (hv : ∀ (r : Fin 1024) (l : Fin 256), v (ix2 r l) = w r.val l.val)
    (a : Fin 8) (l : Fin 256) : (k0_pay21 (F := Ideal) v z y (ix2 a l) : EReal) = run w a l 82 29 (max (z (ix2 a l)) (y (ix2 a l))) := by
  pointwise [k0_pay21]
  simp only [hv] <;> rfl

/-- One row block of the stripe. -/
theorem pay22_at (v : FVec Ideal S1024x256 .f32) (w : ℕ → ℕ → EReal) (hv : ∀ (r : Fin 1024) (l : Fin 256), v (ix2 r l) = w r.val l.val)
    (a : Fin 8) (l : Fin 256) : (k0_pay22 (F := Ideal) v (ix2 a l) : EReal) = w (8 * 111 + a) l := by
  pointwise [k0_pay22]
  simp only [hv] <;> rfl

/-- The last row blocks, the two halves of the lanes, and what was carried. -/
theorem pay23_at (v : FVec Ideal S1024x256 .f32) (z : FVec Ideal S8x256 .f32) (y : FVec Ideal S8x256 .f32) (s : FVec Ideal S8x128 .f32) (w : ℕ → ℕ → EReal) (hv : ∀ (r : Fin 1024) (l : Fin 256), v (ix2 r l) = w r.val l.val)
    (a : Fin 8) (b : Fin 128) : (k0_pay23 (F := Ideal) v z y s (ix2 a b) : EReal) = max (s (ix2 a b)) (max (run w a b 112 16 (max (z (ix2 a (⟨b.val, by omega⟩ : Fin 256))) (y (ix2 a (⟨b.val, by omega⟩ : Fin 256))))) (run w a (128 + b) 112 16 (max (z (ix2 a (⟨128 + b.val, by omega⟩ : Fin 256))) (y (ix2 a (⟨128 + b.val, by omega⟩ : Fin 256)))))) := by
  pointwise [k0_pay23]
  simp only [hv] <;> rfl

/-- The first row blocks of the stripe. -/
theorem pay27_at (v0 : EReal) (v7 : FVec Ideal S1024x3072 .fp8e4m3) (v8 : FVec Ideal S3072x256 .fp8e4m3) (v12 v16 : FVec Ideal S1x256 .f32)
    (w : ℕ → ℕ → EReal) (hv : ∀ (r : Fin 1024) (l : Fin 256), (k0_pay26 (F := Ideal) v0 v7 v8 v12 v16) (ix2 r l) = w r.val l.val)
    (a : Fin 8) (l : Fin 256) : (k0_pay27 (F := Ideal) v0 v7 v8 v12 v16 (ix2 a l) : EReal) = run w a l 1 10 (w a l) := by
  pointwise [k0_pay27]
  simp only [hv] <;> rfl

/-- A stretch of the stripe's row blocks. -/
theorem pay28_at (v : FVec Ideal S1024x256 .f32) (z : FVec Ideal S8x256 .f32) (w : ℕ → ℕ → EReal) (hv : ∀ (r : Fin 1024) (l : Fin 256), v (ix2 r l) = w r.val l.val)
    (a : Fin 8) (l : Fin 256) : (k0_pay28 (F := Ideal) v z (ix2 a l) : EReal) = run w a l 11 30 (z (ix2 a l)) := by
  pointwise [k0_pay28]
  simp only [hv] <;> rfl

/-- A stretch of the stripe's row blocks. -/
theorem pay29_at (v : FVec Ideal S1024x256 .f32) (z : FVec Ideal S8x256 .f32) (w : ℕ → ℕ → EReal) (hv : ∀ (r : Fin 1024) (l : Fin 256), v (ix2 r l) = w r.val l.val)
    (a : Fin 8) (l : Fin 256) : (k0_pay29 (F := Ideal) v z (ix2 a l) : EReal) = run w a l 41 30 (z (ix2 a l)) := by
  pointwise [k0_pay29]
  simp only [hv] <;> rfl

/-- A stretch of the stripe's row blocks. -/
theorem pay30_at (v : FVec Ideal S1024x256 .f32) (z : FVec Ideal S8x256 .f32) (w : ℕ → ℕ → EReal) (hv : ∀ (r : Fin 1024) (l : Fin 256), v (ix2 r l) = w r.val l.val)
    (a : Fin 8) (l : Fin 256) : (k0_pay30 (F := Ideal) v z (ix2 a l) : EReal) = run w a l 71 30 (z (ix2 a l)) := by
  pointwise [k0_pay30]
  simp only [hv] <;> rfl

/-- The last row blocks and the two halves of the lanes. -/
theorem pay31_at (v : FVec Ideal S1024x256 .f32) (z : FVec Ideal S8x256 .f32) (w : ℕ → ℕ → EReal) (hv : ∀ (r : Fin 1024) (l : Fin 256), v (ix2 r l) = w r.val l.val)
    (a : Fin 8) (b : Fin 128) : (k0_pay31 (F := Ideal) v z (ix2 a b) : EReal) = max (run w a b 101 27 (z (ix2 a (⟨b.val, by omega⟩ : Fin 256)))) (run w a (128 + b) 101 27 (z (ix2 a (⟨128 + b.val, by omega⟩ : Fin 256)))) := by
  pointwise [k0_pay31]
  simp only [hv] <;> rfl

/-- The stripe's maximum and what was carried. -/
theorem pay32_at (z s : FVec Ideal S8x128 .f32) (a : Fin 8) (b : Fin 128) :
    (k0_pay32 (F := Ideal) z s (ix2 a b) : EReal) = max (s (ix2 a b)) (z (ix2 a b)) := by
  pointwise [k0_pay32]

/-- The first row blocks of the stripe. -/
theorem pay36_at (v : FVec Ideal S1024x256 .f32) (w : ℕ → ℕ → EReal) (hv : ∀ (r : Fin 1024) (l : Fin 256), v (ix2 r l) = w r.val l.val)
    (a : Fin 8) (l : Fin 256) : (k0_pay36 (F := Ideal) v (ix2 a l) : EReal) = run w a l 1 29 (w a l) := by
  pointwise [k0_pay36]
  simp only [hv] <;> rfl

/-- One row block of the stripe. -/
theorem pay37_at (v : FVec Ideal S1024x256 .f32) (w : ℕ → ℕ → EReal) (hv : ∀ (r : Fin 1024) (l : Fin 256), v (ix2 r l) = w r.val l.val)
    (a : Fin 8) (l : Fin 256) : (k0_pay37 (F := Ideal) v (ix2 a l) : EReal) = w (8 * 30 + a) l := by
  pointwise [k0_pay37]
  simp only [hv] <;> rfl

/-- A stretch of the stripe's row blocks. -/
theorem pay38_at (v : FVec Ideal S1024x256 .f32) (z : FVec Ideal S8x256 .f32) (y : FVec Ideal S8x256 .f32) (w : ℕ → ℕ → EReal) (hv : ∀ (r : Fin 1024) (l : Fin 256), v (ix2 r l) = w r.val l.val)
    (a : Fin 8) (l : Fin 256) : (k0_pay38 (F := Ideal) v z y (ix2 a l) : EReal) = run w a l 31 29 (max (z (ix2 a l)) (y (ix2 a l))) := by
  pointwise [k0_pay38]
  simp only [hv] <;> rfl

/-- One row block of the stripe. -/
theorem pay39_at (v : FVec Ideal S1024x256 .f32) (w : ℕ → ℕ → EReal) (hv : ∀ (r : Fin 1024) (l : Fin 256), v (ix2 r l) = w r.val l.val)
    (a : Fin 8) (l : Fin 256) : (k0_pay39 (F := Ideal) v (ix2 a l) : EReal) = w (8 * 60 + a) l := by
  pointwise [k0_pay39]
  simp only [hv] <;> rfl

/-- A stretch of the stripe's row blocks. -/
theorem pay40_at (v : FVec Ideal S1024x256 .f32) (z : FVec Ideal S8x256 .f32) (y : FVec Ideal S8x256 .f32) (w : ℕ → ℕ → EReal) (hv : ∀ (r : Fin 1024) (l : Fin 256), v (ix2 r l) = w r.val l.val)
    (a : Fin 8) (l : Fin 256) : (k0_pay40 (F := Ideal) v z y (ix2 a l) : EReal) = run w a l 61 29 (max (z (ix2 a l)) (y (ix2 a l))) := by
  pointwise [k0_pay40]
  simp only [hv] <;> rfl

/-- One row block of the stripe. -/
theorem pay41_at (v : FVec Ideal S1024x256 .f32) (w : ℕ → ℕ → EReal) (hv : ∀ (r : Fin 1024) (l : Fin 256), v (ix2 r l) = w r.val l.val)
    (a : Fin 8) (l : Fin 256) : (k0_pay41 (F := Ideal) v (ix2 a l) : EReal) = w (8 * 90 + a) l := by
  pointwise [k0_pay41]
  simp only [hv] <;> rfl

/-- A stretch of the stripe's row blocks. -/
theorem pay42_at (v : FVec Ideal S1024x256 .f32) (z : FVec Ideal S8x256 .f32) (y : FVec Ideal S8x256 .f32) (w : ℕ → ℕ → EReal) (hv : ∀ (r : Fin 1024) (l : Fin 256), v (ix2 r l) = w r.val l.val)
    (a : Fin 8) (l : Fin 256) : (k0_pay42 (F := Ideal) v z y (ix2 a l) : EReal) = run w a l 91 29 (max (z (ix2 a l)) (y (ix2 a l))) := by
  pointwise [k0_pay42]
  simp only [hv] <;> rfl

/-- One row block of the stripe. -/
theorem pay43_at (v : FVec Ideal S1024x256 .f32) (w : ℕ → ℕ → EReal) (hv : ∀ (r : Fin 1024) (l : Fin 256), v (ix2 r l) = w r.val l.val)
    (a : Fin 8) (l : Fin 256) : (k0_pay43 (F := Ideal) v (ix2 a l) : EReal) = w (8 * 120 + a) l := by
  pointwise [k0_pay43]
  simp only [hv] <;> rfl

/-- The last row blocks, the two halves of the lanes, and what was carried. -/
theorem pay44_at (v : FVec Ideal S1024x256 .f32) (z : FVec Ideal S8x256 .f32) (y : FVec Ideal S8x256 .f32) (s : FVec Ideal S8x128 .f32) (w : ℕ → ℕ → EReal) (hv : ∀ (r : Fin 1024) (l : Fin 256), v (ix2 r l) = w r.val l.val)
    (a : Fin 8) (b : Fin 128) : (k0_pay44 (F := Ideal) v z y s (ix2 a b) : EReal) = max (s (ix2 a b)) (max (run w a b 121 7 (max (z (ix2 a (⟨b.val, by omega⟩ : Fin 256))) (y (ix2 a (⟨b.val, by omega⟩ : Fin 256))))) (run w a (128 + b) 121 7 (max (z (ix2 a (⟨128 + b.val, by omega⟩ : Fin 256))) (y (ix2 a (⟨128 + b.val, by omega⟩ : Fin 256)))))) := by
  pointwise [k0_pay44]
  simp only [hv] <;> rfl

end Cert.Proof.MlpFold

end
-- ==== Proof.MlpKer.lean ====
/-
  Hand-written. THE MLP PROJECTION, KERNEL SIDE: the codes and the greatest absolute value are those of the reference.
-/
module

public import proofs.«01_k».proof.Proof.Gen.KMlpIdeal.Value
public import proofs.«01_k».proof.Proof.MlpRef
public import proofs.«01_k».proof.Proof.MlpFold

@[expose] public section

set_option maxRecDepth 16384

noncomputable section

namespace Cert.Proof.MlpKer

open Cert.Proof.Common
open Idealize.ShloMosaic Idealize.ShloMosaic.TcCoe Idealize.SL.Sem
open Idealize.ShloMosaic.Pipeline (Dat)
open Cert.KMlpIdeal Cert.KMlpIdeal.Gen
open Cert.Proof.MlpRef (gelu quantise magnitude CODES AMAX)

variable (m : (ℓ : Loc nD τ sig) → Buf (Elt Ideal) ℓ)

/-- The block each window stages at a grid point: nine row blocks, twelve column blocks, the columns starting at block 9. -/
theorem idx : ∀ t : Fin cfg0.N, win0_0.index t = ![t.val / 12, 0] ∧ win0_1.index t = ![0, t.val % 12 + 9]
    ∧ win0_2.index t = ![0, t.val % 12 + 9] ∧ win0_3.index t = ![0, t.val % 12 + 9] ∧ win0_4.index t = ![0, 0]
    ∧ win0_5.index t = ![0, 0] ∧ win0_6.index t = ![t.val / 12, t.val % 12] ∧ win0_7.index t = ![0, 0] ∧ t.val < 108 :=
  (by decide +kernel : ∀ t : Fin grid0.N, _)

/-- A stripe's hidden value. -/
def pre (v0 : EReal) (v7 : FVec Ideal S1024x3072 .fp8e4m3) (v8 : FVec Ideal S3072x256 .fp8e4m3) (v12 v16 : FVec Ideal S1x256 .f32)
    (r : Fin 1024) (l : Fin 256) : EReal :=
  (∑ k : Fin 3072, v7 (ix2 r k) * v8 (ix2 k l)) * v0 * v12 (ix2 0 l) + v16 (ix2 0 l)

/-- A stripe's activated hidden values. -/
theorem pay3_at (v0 : EReal) (v7 : FVec Ideal S1024x3072 .fp8e4m3) (v8 : FVec Ideal S3072x256 .fp8e4m3) (v12 v16 : FVec Ideal S1x256 .f32)
    (r : Fin 1024) (l : Fin 256) :
    k0_pay3 (F := Ideal) v0 v7 v8 v12 v16 (ix2 r l) = gelu (pre v0 v7 v8 v12 v16 r l) := by
  pointwise [k0_pay3, gelu, pre]

/-- Their absolute values. -/
theorem pay4_at (v0 : EReal) (v7 : FVec Ideal S1024x3072 .fp8e4m3) (v8 : FVec Ideal S3072x256 .fp8e4m3) (v12 v16 : FVec Ideal S1x256 .f32)
    (r : Fin 1024) (l : Fin 256) :
    k0_pay4 (F := Ideal) v0 v7 v8 v12 v16 (ix2 r l) = magnitude (gelu (pre v0 v7 v8 v12 v16 r l)) := by
  rw [← pay3_at]
  pointwise [k0_pay4]
  rfl

/-- A stripe's activated hidden values. -/
theorem pay25_at (v0 : EReal) (v7 : FVec Ideal S1024x3072 .fp8e4m3) (v8 : FVec Ideal S3072x256 .fp8e4m3) (v12 v16 : FVec Ideal S1x256 .f32)
    (r : Fin 1024) (l : Fin 256) :
    k0_pay25 (F := Ideal) v0 v7 v8 v12 v16 (ix2 r l) = gelu (pre v0 v7 v8 v12 v16 r l) := by
  pointwise [k0_pay25, gelu, pre]

/-- Their absolute values. -/
theorem pay26_at (v0 : EReal) (v7 : FVec Ideal S1024x3072 .fp8e4m3) (v8 : FVec Ideal S3072x256 .fp8e4m3) (v12 v16 : FVec Ideal S1x256 .f32)
    (r : Fin 1024) (l : Fin 256) :
    k0_pay26 (F := Ideal) v0 v7 v8 v12 v16 (ix2 r l) = magnitude (gelu (pre v0 v7 v8 v12 v16 r l)) := by
  rw [← pay25_at]
  pointwise [k0_pay26]
  rfl

/-- A stripe's activated hidden values. -/
theorem pay34_at (v0 : EReal) (v7 : FVec Ideal S1024x3072 .fp8e4m3) (v8 : FVec Ideal S3072x256 .fp8e4m3) (v12 v16 : FVec Ideal S1x256 .f32)
    (r : Fin 1024) (l : Fin 256) :
    k0_pay34 (F := Ideal) v0 v7 v8 v12 v16 (ix2 r l) = gelu (pre v0 v7 v8 v12 v16 r l) := by
  pointwise [k0_pay34, gelu, pre]

/-- Their absolute values. -/
theorem pay35_at (v0 : EReal) (v7 : FVec Ideal S1024x3072 .fp8e4m3) (v8 : FVec Ideal S3072x256 .fp8e4m3) (v12 v16 : FVec Ideal S1x256 .f32)
    (r : Fin 1024) (l : Fin 256) :
    k0_pay35 (F := Ideal) v0 v7 v8 v12 v16 (ix2 r l) = magnitude (gelu (pre v0 v7 v8 v12 v16 r l)) := by
  rw [← pay34_at]
  pointwise [k0_pay35]
  rfl

/-- A stripe's activated hidden values. -/
theorem pay13_at (v0 : EReal) (v7 : FVec Ideal S1024x3072 .fp8e4m3) (v8 : FVec Ideal S3072x256 .fp8e4m3) (v12 v16 : FVec Ideal S1x256 .f32)
    (r : Fin 1024) (l : Fin 256) :
    k0_pay13 (F := Ideal) (k0_pay12 v0 v7 v8 v12 v16) (ix2 r l) = gelu (pre v0 v7 v8 v12 v16 r l) := by
  pointwise [k0_pay13, k0_pay12, gelu, pre]

/-- Their absolute values. -/
theorem pay14_at (v0 : EReal) (v7 : FVec Ideal S1024x3072 .fp8e4m3) (v8 : FVec Ideal S3072x256 .fp8e4m3) (v12 v16 : FVec Ideal S1x256 .f32)
    (r : Fin 1024) (l : Fin 256) :
    k0_pay14 (F := Ideal) (k0_pay12 v0 v7 v8 v12 v16) (ix2 r l) = magnitude (gelu (pre v0 v7 v8 v12 v16 r l)) := by
  rw [← pay13_at]
  pointwise [k0_pay14]
  rfl

/-- A stripe's codes. -/
theorem pay11_at (s : EReal) (v : FVec Ideal S1024x256 .f32) (x : S1024x256.Idx) :
    k0_pay11 (F := Ideal) s v x = quantise (v (ix2 (x 0) (x 1))) s := by
  pointwise [k0_pay11, quantise]

/-- A stripe's codes. -/
theorem pay24_at (s : EReal) (v : FVec Ideal S1024x256 .f32) (x : S1024x256.Idx) :
    k0_pay24 (F := Ideal) s v x = quantise (v (ix2 (x 0) (x 1))) s := by
  pointwise [k0_pay24, quantise]

/-- A stripe's codes. -/
theorem pay33_at (s : EReal) (v : FVec Ideal S1024x256 .f32) (x : S1024x256.Idx) :
    k0_pay33 (F := Ideal) s v x = quantise (v (ix2 (x 0) (x 1))) s := by
  pointwise [k0_pay33, quantise]

/-- A stripe's codes. -/
theorem pay45_at (s : EReal) (v : FVec Ideal S1024x256 .f32) (x : S1024x256.Idx) :
    k0_pay45 (F := Ideal) s v x = quantise (v (ix2 (x 0) (x 1))) s := by
  pointwise [k0_pay45, quantise]

/-- The staged block of codes. -/
theorem block0 (c : Dev nD) (t : Fin cfg0.N) (r : Fin 1024) (k : Fin 3072) (q : Fin 9216)
    (hq : q.val = t.val / 12 * 1024 + r.val) :
    iblk m c 0 t (ix2 r k) = m ((c : Thread nD τ).loc main_arg0) (ix2 q k) := by
  blk_point [iblk, V, idx t, hq]

/-- The staged block of weights. -/
theorem block1 (c : Dev nD) (t : Fin cfg0.N) (k : Fin 3072) (l : Fin 1024) (q : Fin 21504)
    (hq : q.val = 9216 + t.val % 12 * 1024 + l.val) :
    iblk m c 1 t (ix2 k l) = m ((c : Thread nD τ).loc main_arg1) (ix2 k q) := by
  blk_point [iblk, V, idx t, hq]

/-- The staged weight scales. -/
theorem block2 (c : Dev nD) (t : Fin cfg0.N) (l : Fin 1024) (q : Fin 21504)
    (hq : q.val = 9216 + t.val % 12 * 1024 + l.val) :
    iblk m c 2 t (ix2 0 l) = m ((c : Thread nD τ).loc main_arg2) (ix1 q) := by
  blk_point [iblk, V, idx t, hq]

/-- The staged biases. -/
theorem block3 (c : Dev nD) (t : Fin cfg0.N) (l : Fin 1024) (q : Fin 21504)
    (hq : q.val = 9216 + t.val % 12 * 1024 + l.val) :
    iblk m c 3 t (ix2 0 l) = m ((c : Thread nD τ).loc main_arg3) (ix1 q) := by
  blk_point [iblk, V, idx t, hq]

/-- The hidden value of a stripe at column offset `o` of a grid point's block. -/
theorem stripe (c : Dev nD) (t : Fin cfg0.N) (o : ℕ) (ho : o ≤ 768) (v0 : EReal) (v7 : FVec Ideal S1024x3072 .fp8e4m3) (v8 : FVec Ideal S3072x256 .fp8e4m3) (v12 v16 : FVec Ideal S1x256 .f32)
    (h0 : v0 = iblk m c 4 t (ix2 0 0)) (h7 : v7 = iblk m c 0 t)
    (h8 : ∀ (k : Fin 3072) (l : Fin 256), v8 (ix2 k l) = iblk m c 1 t (ix2 k (⟨o + l.val, by omega⟩ : Fin 1024)))
    (h12 : ∀ l : Fin 256, v12 (ix2 0 l) = iblk m c 2 t (ix2 0 (⟨o + l.val, by omega⟩ : Fin 1024)))
    (h16 : ∀ l : Fin 256, v16 (ix2 0 l) = iblk m c 3 t (ix2 0 (⟨o + l.val, by omega⟩ : Fin 1024)))
    (r : Fin 1024) (l : Fin 256) (q : Fin 9216) (n : Fin 12288) (hq : q.val = t.val / 12 * 1024 + r.val)
    (hn : n.val = t.val % 12 * 1024 + (o + l.val)) :
    pre v0 v7 v8 v12 v16 r l = MlpRef.hidden (m ((c : Thread nD τ).loc main_arg0)) (m ((c : Thread nD τ).loc main_arg1)) (m ((c : Thread nD τ).loc main_arg2)) (m ((c : Thread nD τ).loc main_arg3)) (m ((c : Thread nD τ).loc main_arg4)) q n := by
  have hx : (⟨9216 + n.val, by omega⟩ : Fin 21504).val = 9216 + t.val % 12 * 1024 + (⟨o + l.val, by omega⟩ : Fin 1024).val := by
    show 9216 + n.val = 9216 + t.val % 12 * 1024 + (o + l.val)
    omega
  unfold pre MlpRef.hidden
  rw [h0, h7, h12, h16, block2 m c t _ _ hx, block3 m c t _ _ hx]
  simp only [h8]
  refine congrArg₂ (· + ·) (congrArg₂ (· * ·) (congrArg₂ (· * ·) (Finset.sum_congr rfl fun k _ => ?_) ?_) rfl) rfl
  · exact congrArg₂ (· * ·) (block0 m c t r k q hq) (block1 m c t k _ _ hx)
  · blk_point [iblk, V, idx t]

set_option maxHeartbeats 1600000 in
/-- The kernel's array of codes. -/
theorem final_codes (c : Dev nD) : (dats m 0 c).arrAt 6 (cfgs 0).N
    = CODES (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  rw [after0_6]
  by_cases h0 : t.val % 108 = 0
  · rw [outsAt0_A m c t h0 (by omega)]
    generalize hs0_0 t = h0; revert h0; generalize ms0_0 t = a0; intro h0
    generalize hs0_1 t = h1; revert h1; generalize ms0_1 t = a1; intro h1
    generalize hs0_2 t = h2; revert h2; generalize ms0_2 t = a2; intro h2
    generalize hs0_3 t = h3; revert h3; generalize ms0_3 t = a3; intro h3
    generalize hs0_4 t = h4; revert h4; generalize ms0_4 t = a4; intro h4
    generalize hs0_5 t = h5; revert h5; generalize ms0_5 t = a5; intro h5
    generalize hs0_6 t = h6; revert h6; generalize ms0_6 t = a6; intro h6
    generalize hs0_7 t = h7; revert h7; generalize ms0_7 t = a7; intro h7
    blk_simp
    frame_out
    canon_tiles x h
    · refine (pay45_at _ _ x).trans ?_
      refine congrArg₂ quantise ((pay34_at _ _ _ _ _ _ _).trans (congrArg gelu (stripe m c t 768 (by omega) _ _ _ _ _
        (by pointwise []) rfl (fun k l => by pointwise []) (fun l => by pointwise []) (fun l => by pointwise []) (x 0) (x 1) _ _ ?_ ?_))) ?_
      · blk_simp [idx t, h0]
      · blk_simp [idx t, h1]
      · pointwise []
        blk_point [iblk, V, idx t]
    · refine (pay33_at _ _ x).trans ?_
      refine congrArg₂ quantise ((pay25_at _ _ _ _ _ _ _).trans (congrArg gelu (stripe m c t 512 (by omega) _ _ _ _ _
        (by pointwise []) rfl (fun k l => by pointwise []) (fun l => by pointwise []) (fun l => by pointwise []) (x 0) (x 1) _ _ ?_ ?_))) ?_
      · blk_simp [idx t, h0]
      · blk_simp [idx t, h1]
      · pointwise []
        blk_point [iblk, V, idx t]
    · refine (pay24_at _ _ x).trans ?_
      refine congrArg₂ quantise ((pay13_at _ _ _ _ _ _ _).trans (congrArg gelu (stripe m c t 256 (by omega) _ _ _ _ _
        (by pointwise []) rfl (fun k l => by pointwise []) (fun l => by pointwise []) (fun l => by pointwise []) (x 0) (x 1) _ _ ?_ ?_))) ?_
      · blk_simp [idx t, h0]
      · blk_simp [idx t, h1]
      · pointwise []
        blk_point [iblk, V, idx t]
    · refine (pay11_at _ _ x).trans ?_
      refine congrArg₂ quantise ((pay3_at _ _ _ _ _ _ _).trans (congrArg gelu (stripe m c t 0 (by omega) _ _ _ _ _
        (by pointwise []) rfl (fun k l => by pointwise [Nat.zero_add]) (fun l => by pointwise [Nat.zero_add]) (fun l => by pointwise [Nat.zero_add]) (x 0) (x 1) _ _ ?_ ?_))) ?_
      · blk_simp [idx t, h0]
      · blk_simp [idx t, h1]
      · pointwise []
        blk_point [iblk, V, idx t]
  by_cases h1 : t.val % 108 = 107
  · rw [outsAt0_C m c t h0 h1]
    generalize hs0_0 t = h0; revert h0; generalize ms0_0 t = a0; intro h0
    generalize hs0_1 t = h1; revert h1; generalize ms0_1 t = a1; intro h1
    generalize hs0_2 t = h2; revert h2; generalize ms0_2 t = a2; intro h2
    generalize hs0_3 t = h3; revert h3; generalize ms0_3 t = a3; intro h3
    generalize hs0_4 t = h4; revert h4; generalize ms0_4 t = a4; intro h4
    generalize hs0_5 t = h5; revert h5; generalize ms0_5 t = a5; intro h5
    generalize hs0_6 t = h6; revert h6; generalize ms0_6 t = a6; intro h6
    generalize hs0_7 t = h7; revert h7; generalize ms0_7 t = a7; intro h7
    blk_simp
    frame_out
    canon_tiles x h
    · refine (pay45_at _ _ x).trans ?_
      refine congrArg₂ quantise ((pay34_at _ _ _ _ _ _ _).trans (congrArg gelu (stripe m c t 768 (by omega) _ _ _ _ _
        (by pointwise []) rfl (fun k l => by pointwise []) (fun l => by pointwise []) (fun l => by pointwise []) (x 0) (x 1) _ _ ?_ ?_))) ?_
      · blk_simp [idx t, h0]
      · blk_simp [idx t, h1]
      · pointwise []
        blk_point [iblk, V, idx t]
    · refine (pay33_at _ _ x).trans ?_
      refine congrArg₂ quantise ((pay25_at _ _ _ _ _ _ _).trans (congrArg gelu (stripe m c t 512 (by omega) _ _ _ _ _
        (by pointwise []) rfl (fun k l => by pointwise []) (fun l => by pointwise []) (fun l => by pointwise []) (x 0) (x 1) _ _ ?_ ?_))) ?_
      · blk_simp [idx t, h0]
      · blk_simp [idx t, h1]
      · pointwise []
        blk_point [iblk, V, idx t]
    · refine (pay24_at _ _ x).trans ?_
      refine congrArg₂ quantise ((pay13_at _ _ _ _ _ _ _).trans (congrArg gelu (stripe m c t 256 (by omega) _ _ _ _ _
        (by pointwise []) rfl (fun k l => by pointwise []) (fun l => by pointwise []) (fun l => by pointwise []) (x 0) (x 1) _ _ ?_ ?_))) ?_
      · blk_simp [idx t, h0]
      · blk_simp [idx t, h1]
      · pointwise []
        blk_point [iblk, V, idx t]
    · refine (pay11_at _ _ x).trans ?_
      refine congrArg₂ quantise ((pay3_at _ _ _ _ _ _ _).trans (congrArg gelu (stripe m c t 0 (by omega) _ _ _ _ _
        (by pointwise []) rfl (fun k l => by pointwise [Nat.zero_add]) (fun l => by pointwise [Nat.zero_add]) (fun l => by pointwise [Nat.zero_add]) (x 0) (x 1) _ _ ?_ ?_))) ?_
      · blk_simp [idx t, h0]
      · blk_simp [idx t, h1]
      · pointwise []
        blk_point [iblk, V, idx t]
  · rw [outsAt0_B m c t h0 h1]
    generalize hs0_0 t = h0; revert h0; generalize ms0_0 t = a0; intro h0
    generalize hs0_1 t = h1; revert h1; generalize ms0_1 t = a1; intro h1
    generalize hs0_2 t = h2; revert h2; generalize ms0_2 t = a2; intro h2
    generalize hs0_3 t = h3; revert h3; generalize ms0_3 t = a3; intro h3
    generalize hs0_4 t = h4; revert h4; generalize ms0_4 t = a4; intro h4
    generalize hs0_5 t = h5; revert h5; generalize ms0_5 t = a5; intro h5
    generalize hs0_6 t = h6; revert h6; generalize ms0_6 t = a6; intro h6
    generalize hs0_7 t = h7; revert h7; generalize ms0_7 t = a7; intro h7
    blk_simp
    frame_out
    canon_tiles x h
    · refine (pay45_at _ _ x).trans ?_
      refine congrArg₂ quantise ((pay34_at _ _ _ _ _ _ _).trans (congrArg gelu (stripe m c t 768 (by omega) _ _ _ _ _
        (by pointwise []) rfl (fun k l => by pointwise []) (fun l => by pointwise []) (fun l => by pointwise []) (x 0) (x 1) _ _ ?_ ?_))) ?_
      · blk_simp [idx t, h0]
      · blk_simp [idx t, h1]
      · pointwise []
        blk_point [iblk, V, idx t]
    · refine (pay33_at _ _ x).trans ?_
      refine congrArg₂ quantise ((pay25_at _ _ _ _ _ _ _).trans (congrArg gelu (stripe m c t 512 (by omega) _ _ _ _ _
        (by pointwise []) rfl (fun k l => by pointwise []) (fun l => by pointwise []) (fun l => by pointwise []) (x 0) (x 1) _ _ ?_ ?_))) ?_
      · blk_simp [idx t, h0]
      · blk_simp [idx t, h1]
      · pointwise []
        blk_point [iblk, V, idx t]
    · refine (pay24_at _ _ x).trans ?_
      refine congrArg₂ quantise ((pay13_at _ _ _ _ _ _ _).trans (congrArg gelu (stripe m c t 256 (by omega) _ _ _ _ _
        (by pointwise []) rfl (fun k l => by pointwise []) (fun l => by pointwise []) (fun l => by pointwise []) (x 0) (x 1) _ _ ?_ ?_))) ?_
      · blk_simp [idx t, h0]
      · blk_simp [idx t, h1]
      · pointwise []
        blk_point [iblk, V, idx t]
    · refine (pay11_at _ _ x).trans ?_
      refine congrArg₂ quantise ((pay3_at _ _ _ _ _ _ _).trans (congrArg gelu (stripe m c t 0 (by omega) _ _ _ _ _
        (by pointwise []) rfl (fun k l => by pointwise [Nat.zero_add]) (fun l => by pointwise [Nat.zero_add]) (fun l => by pointwise [Nat.zero_add]) (x 0) (x 1) _ _ ?_ ?_))) ?_
      · blk_simp [idx t, h0]
      · blk_simp [idx t, h1]
      · pointwise []
        blk_point [iblk, V, idx t]

end Cert.Proof.MlpKer

end
-- ==== Proof.MlpMax.lean ====
/-
  Hand-written. THE MLP PROJECTION'S RUNNING MAXIMUM, POINT BY POINT: what the scratch holds is below a bound exactly when every entry
  met so far is.
-/
module

public import proofs.«01_k».proof.Proof.Gen.KMlpIdeal.Value
public import proofs.«01_k».proof.Proof.MlpRef
public import proofs.«01_k».proof.Proof.MlpFold
public import proofs.«01_k».proof.Proof.MlpKer

@[expose] public section

set_option maxRecDepth 16384

noncomputable section

namespace Cert.Proof.MlpMax

open Cert.Proof.Common
open Idealize.ShloMosaic Idealize.ShloMosaic.TcCoe Idealize.SL.Sem
open Idealize.ShloMosaic.Pipeline (Dat)
open Cert.KMlpIdeal Cert.KMlpIdeal.Gen
open Cert.Proof.MlpRef (gelu quantise magnitude CODES AMAX)
open Cert.Proof.MlpFold
open Cert.Proof.MlpKer (pre stripe pay4_at pay14_at pay26_at pay35_at idx)

variable (m : (ℓ : Loc nD τ sig) → Buf (Elt Ideal) ℓ)

/-- A stripe's entries over all pairs of naturals, the least value outside. -/
def spread (v : FVec Ideal S1024x256 .f32) (r l : ℕ) : EReal :=
  if h : r < 1024 ∧ l < 256 then v (ix2 (⟨r, h.1⟩ : Fin 1024) (⟨l, h.2⟩ : Fin 256)) else ⊥

/-- Inside, the stripe's entries. -/
theorem spread_at (v : FVec Ideal S1024x256 .f32) (r : Fin 1024) (l : Fin 256) :
    v (ix2 r l) = spread v r.val l.val := by
  unfold spread
  rw [dif_pos ⟨r.isLt, l.isLt⟩]

/-- The greatest entry of a column among the rows with one remainder by eight. -/
def column (w : ℕ → ℕ → EReal) (a l : ℕ) : EReal := run w a l 1 127 (w a l)

/-- A column's greatest entry is below a bound when its entries are. -/
theorem column_le (w : ℕ → ℕ → EReal) (a l : ℕ) (B : EReal) :
    column w a l ≤ B ↔ ∀ i, i < 128 → w (8 * i + a) l ≤ B := by
  unfold column
  rw [run_le]
  constructor
  · rintro ⟨h1, h2⟩ i hi
    rcases Nat.eq_zero_or_pos i with rfl | h
    · simpa using h1
    · exact h2 i h (by omega)
  · intro h
    exact ⟨by simpa using h 0 (by omega), fun i _ hi => h i (by omega)⟩

/-- The maximum over a stripe is below a bound when what was carried and every entry are. -/
theorem stripe_le (v : FVec Ideal S1024x256 .f32) (s : FVec Ideal S8x128 .f32) (f : Fin 8 → Fin 128 → EReal) (B : EReal)
    (hf : ∀ (a : Fin 8) (b : Fin 128), f a b = max (s (ix2 a b)) (max (column (spread v) a b) (column (spread v) a (128 + b)))) :
    (∀ a b, f a b ≤ B) ↔ (∀ (a : Fin 8) (b : Fin 128), s (ix2 a b) ≤ B) ∧ ∀ (r : Fin 1024) (l : Fin 256), v (ix2 r l) ≤ B := by
  simp only [hf, max_le_iff, column_le]
  constructor
  · intro h
    refine ⟨fun a b => (h a b).1, fun r l => ?_⟩
    exact (spread_at v r l).trans_le (all_le (spread v) B (fun a b => (h a b).2) r l)
  · rintro ⟨h1, h2⟩ a b
    refine ⟨h1 a b, fun i hi => ?_, fun i hi => ?_⟩
    · have := h2 (⟨8 * i + a.val, by omega⟩ : Fin 1024) (⟨b.val, by omega⟩ : Fin 256)
      exact (spread_at v _ _).ge.trans this
    · have := h2 (⟨8 * i + a.val, by omega⟩ : Fin 1024) (⟨128 + b.val, by omega⟩ : Fin 256)
      exact (spread_at v _ _).ge.trans this

/-- After the first stripe. -/
theorem fold0_le (v0 : EReal) (v7 : FVec Ideal S1024x3072 .fp8e4m3) (v8 : FVec Ideal S3072x256 .fp8e4m3) (v12 v16 : FVec Ideal S1x256 .f32)
    (s : FVec Ideal S8x128 .f32) (B : EReal) :
    (∀ (a : Fin 8) (b : Fin 128), (k0_pay10 (F := Ideal) (k0_pay4 v0 v7 v8 v12 v16) (k0_pay9 (k0_pay4 v0 v7 v8 v12 v16) (k0_pay8 (k0_pay4 v0 v7 v8 v12 v16) (k0_pay7 (k0_pay4 v0 v7 v8 v12 v16)
      (k0_pay6 (k0_pay4 v0 v7 v8 v12 v16) (k0_pay5 v0 v7 v8 v12 v16))))) s (ix2 a b) : EReal) ≤ B)
      ↔ (∀ (a : Fin 8) (b : Fin 128), (s (ix2 a b) : EReal) ≤ B)
        ∧ ∀ (r : Fin 1024) (l : Fin 256), magnitude (gelu (pre v0 v7 v8 v12 v16 r l)) ≤ B := by
  have hv := spread_at (k0_pay4 (F := Ideal) v0 v7 v8 v12 v16)
  have hm : ∀ (r : Fin 1024) (l : Fin 256), (k0_pay4 (F := Ideal) v0 v7 v8 v12 v16 (ix2 r l) : EReal) = magnitude (gelu (pre v0 v7 v8 v12 v16 r l)) :=
    pay4_at v0 v7 v8 v12 v16
  simp only [← hm]
  refine stripe_le (k0_pay4 (F := Ideal) v0 v7 v8 v12 v16) s _ B fun a b => ?_
  simp only [pay10_at _ _ _ _ hv, pay9_at _ _ _ hv, pay8_at _ _ _ hv, pay7_at _ _ _ hv, pay6_at _ _ _ hv, pay5_at _ _ _ _ _ _ hv]
  rfl

/-- After the second stripe. -/
theorem fold1_le (v0 : EReal) (v7 : FVec Ideal S1024x3072 .fp8e4m3) (v8 : FVec Ideal S3072x256 .fp8e4m3) (v12 v16 : FVec Ideal S1x256 .f32)
    (s : FVec Ideal S8x128 .f32) (B : EReal) :
    (∀ (a : Fin 8) (b : Fin 128), (k0_pay23 (F := Ideal) (k0_pay14 (k0_pay12 v0 v7 v8 v12 v16)) (k0_pay21 (k0_pay14 (k0_pay12 v0 v7 v8 v12 v16)) (k0_pay19 (k0_pay14 (k0_pay12 v0 v7 v8 v12 v16))
      (k0_pay17 (k0_pay14 (k0_pay12 v0 v7 v8 v12 v16)) (k0_pay15 (k0_pay12 v0 v7 v8 v12 v16)) (k0_pay16 (k0_pay12 v0 v7 v8 v12 v16)))
      (k0_pay18 (k0_pay14 (k0_pay12 v0 v7 v8 v12 v16)))) (k0_pay20 (k0_pay14 (k0_pay12 v0 v7 v8 v12 v16)))) (k0_pay22 (k0_pay14 (k0_pay12 v0 v7 v8 v12 v16))) s (ix2 a b) : EReal) ≤ B)
      ↔ (∀ (a : Fin 8) (b : Fin 128), (s (ix2 a b) : EReal) ≤ B)
        ∧ ∀ (r : Fin 1024) (l : Fin 256), magnitude (gelu (pre v0 v7 v8 v12 v16 r l)) ≤ B := by
  have hv := spread_at (k0_pay14 (F := Ideal) (k0_pay12 v0 v7 v8 v12 v16))
  have hm : ∀ (r : Fin 1024) (l : Fin 256), (k0_pay14 (F := Ideal) (k0_pay12 v0 v7 v8 v12 v16) (ix2 r l) : EReal) = magnitude (gelu (pre v0 v7 v8 v12 v16 r l)) :=
    pay14_at v0 v7 v8 v12 v16
  simp only [← hm]
  refine stripe_le (k0_pay14 (F := Ideal) (k0_pay12 v0 v7 v8 v12 v16)) s _ B fun a b => ?_
  simp only [pay23_at _ _ _ _ _ hv, pay21_at _ _ _ _ hv, pay19_at _ _ _ _ hv, pay17_at _ _ _ _ hv, pay15_at _ _ hv, pay16_at _ _ hv, pay18_at _ _ hv, pay20_at _ _ hv, pay22_at _ _ hv]
  rfl

/-- After the third stripe. -/
theorem fold2_le (v0 : EReal) (v7 : FVec Ideal S1024x3072 .fp8e4m3) (v8 : FVec Ideal S3072x256 .fp8e4m3) (v12 v16 : FVec Ideal S1x256 .f32)
    (s : FVec Ideal S8x128 .f32) (B : EReal) :
    (∀ (a : Fin 8) (b : Fin 128), (k0_pay32 (F := Ideal) (k0_pay31 (k0_pay26 v0 v7 v8 v12 v16) (k0_pay30 (k0_pay26 v0 v7 v8 v12 v16) (k0_pay29 (k0_pay26 v0 v7 v8 v12 v16)
      (k0_pay28 (k0_pay26 v0 v7 v8 v12 v16) (k0_pay27 v0 v7 v8 v12 v16))))) s (ix2 a b) : EReal) ≤ B)
      ↔ (∀ (a : Fin 8) (b : Fin 128), (s (ix2 a b) : EReal) ≤ B)
        ∧ ∀ (r : Fin 1024) (l : Fin 256), magnitude (gelu (pre v0 v7 v8 v12 v16 r l)) ≤ B := by
  have hv := spread_at (k0_pay26 (F := Ideal) v0 v7 v8 v12 v16)
  have hm : ∀ (r : Fin 1024) (l : Fin 256), (k0_pay26 (F := Ideal) v0 v7 v8 v12 v16 (ix2 r l) : EReal) = magnitude (gelu (pre v0 v7 v8 v12 v16 r l)) :=
    pay26_at v0 v7 v8 v12 v16
  simp only [← hm]
  refine stripe_le (k0_pay26 (F := Ideal) v0 v7 v8 v12 v16) s _ B fun a b => ?_
  simp only [pay32_at, pay31_at _ _ _ hv, pay30_at _ _ _ hv, pay29_at _ _ _ hv, pay28_at _ _ _ hv, pay27_at _ _ _ _ _ _ hv]
  rfl

/-- After the last stripe. -/
theorem fold3_le (v0 : EReal) (v7 : FVec Ideal S1024x3072 .fp8e4m3) (v8 : FVec Ideal S3072x256 .fp8e4m3) (v12 v16 : FVec Ideal S1x256 .f32)
    (s : FVec Ideal S8x128 .f32) (B : EReal) :
    (∀ (a : Fin 8) (b : Fin 128), (k0_pay44 (F := Ideal) (k0_pay35 v0 v7 v8 v12 v16) (k0_pay42 (k0_pay35 v0 v7 v8 v12 v16) (k0_pay40 (k0_pay35 v0 v7 v8 v12 v16)
      (k0_pay38 (k0_pay35 v0 v7 v8 v12 v16) (k0_pay36 (k0_pay35 v0 v7 v8 v12 v16)) (k0_pay37 (k0_pay35 v0 v7 v8 v12 v16))) (k0_pay39 (k0_pay35 v0 v7 v8 v12 v16))) (k0_pay41 (k0_pay35 v0 v7 v8 v12 v16))) (k0_pay43 (k0_pay35 v0 v7 v8 v12 v16)) s (ix2 a b) : EReal) ≤ B)
      ↔ (∀ (a : Fin 8) (b : Fin 128), (s (ix2 a b) : EReal) ≤ B)
        ∧ ∀ (r : Fin 1024) (l : Fin 256), magnitude (gelu (pre v0 v7 v8 v12 v16 r l)) ≤ B := by
  have hv := spread_at (k0_pay35 (F := Ideal) v0 v7 v8 v12 v16)
  have hm : ∀ (r : Fin 1024) (l : Fin 256), (k0_pay35 (F := Ideal) v0 v7 v8 v12 v16 (ix2 r l) : EReal) = magnitude (gelu (pre v0 v7 v8 v12 v16 r l)) :=
    pay35_at v0 v7 v8 v12 v16
  simp only [← hm]
  refine stripe_le (k0_pay35 (F := Ideal) v0 v7 v8 v12 v16) s _ B fun a b => ?_
  simp only [pay44_at _ _ _ _ _ hv, pay42_at _ _ _ _ hv, pay40_at _ _ _ _ hv, pay38_at _ _ _ _ hv, pay36_at _ _ hv, pay37_at _ _ hv, pay39_at _ _ hv, pay41_at _ _ hv, pay43_at _ _ hv]
  rfl

/-- The final maximum over what is carried. -/
theorem last_le (s : FVec Ideal S8x128 .f32) (y : S1x1.Idx) (B : EReal) :
    (k0_pay1 (F := Ideal) s y : EReal) ≤ B ↔ ∀ (a : Fin 8) (b : Fin 128), (s (ix2 a b) : EReal) ≤ B := by
  have h : (k0_pay1 (F := Ideal) s y : EReal) = Finset.univ.fold max (⊥ : EReal)
      fun x : Fin 8 × Fin 128 => s (ix2 x.1 x.2) := by
    rw [← MlpRef.bottom]
    pointwise [k0_pay1]
  rw [h]
  exact MlpRef.fold_le (fun r n => s (ix2 r n)) B

/-- Every entry of a grid point's block is below a bound. -/
def below (c : Dev nD) (t : ℕ) (B : EReal) : Prop :=
  ∀ (q : Fin 9216) (n : Fin 12288), q.val / 1024 = t / 12 → n.val / 1024 = t % 12 →
    magnitude (gelu (MlpRef.hidden (m ((c : Thread nD τ).loc main_arg0)) (m ((c : Thread nD τ).loc main_arg1)) (m ((c : Thread nD τ).loc main_arg2)) (m ((c : Thread nD τ).loc main_arg3)) (m ((c : Thread nD τ).loc main_arg4)) q n)) ≤ B

/-- The four stripes of a grid point make up its block. -/
theorem below_iff (c : Dev nD) (t : Fin cfg0.N) (B : EReal) (P0 P1 P2 P3 : Fin 1024 → Fin 256 → EReal)
    (h0 : ∀ (r : Fin 1024) (l : Fin 256) (q : Fin 9216) (n : Fin 12288), q.val = t.val / 12 * 1024 + r.val →
      n.val = t.val % 12 * 1024 + (0 + l.val) → P0 r l = MlpRef.hidden (m ((c : Thread nD τ).loc main_arg0)) (m ((c : Thread nD τ).loc main_arg1)) (m ((c : Thread nD τ).loc main_arg2)) (m ((c : Thread nD τ).loc main_arg3)) (m ((c : Thread nD τ).loc main_arg4)) q n)
    (h1 : ∀ (r : Fin 1024) (l : Fin 256) (q : Fin 9216) (n : Fin 12288), q.val = t.val / 12 * 1024 + r.val →
      n.val = t.val % 12 * 1024 + (256 + l.val) → P1 r l = MlpRef.hidden (m ((c : Thread nD τ).loc main_arg0)) (m ((c : Thread nD τ).loc main_arg1)) (m ((c : Thread nD τ).loc main_arg2)) (m ((c : Thread nD τ).loc main_arg3)) (m ((c : Thread nD τ).loc main_arg4)) q n)
    (h2 : ∀ (r : Fin 1024) (l : Fin 256) (q : Fin 9216) (n : Fin 12288), q.val = t.val / 12 * 1024 + r.val →
      n.val = t.val % 12 * 1024 + (512 + l.val) → P2 r l = MlpRef.hidden (m ((c : Thread nD τ).loc main_arg0)) (m ((c : Thread nD τ).loc main_arg1)) (m ((c : Thread nD τ).loc main_arg2)) (m ((c : Thread nD τ).loc main_arg3)) (m ((c : Thread nD τ).loc main_arg4)) q n)
    (h3 : ∀ (r : Fin 1024) (l : Fin 256) (q : Fin 9216) (n : Fin 12288), q.val = t.val / 12 * 1024 + r.val →
      n.val = t.val % 12 * 1024 + (768 + l.val) → P3 r l = MlpRef.hidden (m ((c : Thread nD τ).loc main_arg0)) (m ((c : Thread nD τ).loc main_arg1)) (m ((c : Thread nD τ).loc main_arg2)) (m ((c : Thread nD τ).loc main_arg3)) (m ((c : Thread nD τ).loc main_arg4)) q n) :
    ((((∀ r l, magnitude (gelu (P0 r l)) ≤ B) ∧ ∀ r l, magnitude (gelu (P1 r l)) ≤ B)
      ∧ ∀ r l, magnitude (gelu (P2 r l)) ≤ B) ∧ ∀ r l, magnitude (gelu (P3 r l)) ≤ B) ↔ below m c t.val B := by
  have ht := (idx t).2.2.2.2.2.2.2.2
  constructor
  · rintro ⟨⟨⟨g0, g1⟩, g2⟩, g3⟩ q n hq hn
    have hr : q.val = t.val / 12 * 1024 + (⟨q.val % 1024, by omega⟩ : Fin 1024).val := by
      show q.val = t.val / 12 * 1024 + q.val % 1024
      omega
    have d : n.val = t.val % 12 * 1024 + (0 + n.val % 256) ∨ n.val = t.val % 12 * 1024 + (256 + n.val % 256)
        ∨ n.val = t.val % 12 * 1024 + (512 + n.val % 256) ∨ n.val = t.val % 12 * 1024 + (768 + n.val % 256) := by omega
    rcases d with d | d | d | d
    · rw [← h0 _ (⟨n.val % 256, by omega⟩ : Fin 256) q n hr d]; exact g0 _ _
    · rw [← h1 _ (⟨n.val % 256, by omega⟩ : Fin 256) q n hr d]; exact g1 _ _
    · rw [← h2 _ (⟨n.val % 256, by omega⟩ : Fin 256) q n hr d]; exact g2 _ _
    · rw [← h3 _ (⟨n.val % 256, by omega⟩ : Fin 256) q n hr d]; exact g3 _ _
  · intro h
    have e : ∀ o, o ≤ 768 → ∀ (P : Fin 1024 → Fin 256 → EReal), (∀ (r : Fin 1024) (l : Fin 256) (q : Fin 9216) (n : Fin 12288),
        q.val = t.val / 12 * 1024 + r.val → n.val = t.val % 12 * 1024 + (o + l.val) → P r l = MlpRef.hidden (m ((c : Thread nD τ).loc main_arg0)) (m ((c : Thread nD τ).loc main_arg1)) (m ((c : Thread nD τ).loc main_arg2)) (m ((c : Thread nD τ).loc main_arg3)) (m ((c : Thread nD τ).loc main_arg4)) q n) →
        ∀ (r : Fin 1024) (l : Fin 256), magnitude (gelu (P r l)) ≤ B := fun o ho P hP r l => by
      rw [hP r l ⟨t.val / 12 * 1024 + r.val, by omega⟩ ⟨t.val % 12 * 1024 + (o + l.val), by omega⟩ rfl rfl]
      exact h _ _ (by show (t.val / 12 * 1024 + r.val) / 1024 = _; omega)
        (by show (t.val % 12 * 1024 + (o + l.val)) / 1024 = _; omega)
    exact ⟨⟨⟨e 0 (by omega) P0 h0, e 256 (by omega) P1 h1⟩, e 512 (by omega) P2 h2⟩, e 768 (by omega) P3 h3⟩

/-- Conjunctions regrouped. -/
theorem regroup {Z A B C D : Prop} : ((((Z ∧ A) ∧ B) ∧ C) ∧ D) ↔ Z ∧ (((A ∧ B) ∧ C) ∧ D) := by
  simp only [and_assoc]

/-- The zero fill. -/
theorem zero_at (j : S8x128.Idx) : k0_pay2 (F := Ideal) j = 0 := by
  pointwise [k0_pay2]

set_option maxHeartbeats 800000 in
/-- A middle point: what was carried, and the point's own block. -/
theorem step_B (c : Dev nD) (t : Fin cfg0.N) (h0 : ¬ t.val % 108 = 0) (h1 : ¬ t.val % 108 = 107) (B : EReal) :
    (∀ (a : Fin 8) (b : Fin 128), ((outsAt0 m c t.val t.isLt).2.2 (ix2 a b) : EReal) ≤ B)
      ↔ (∀ (a : Fin 8) (b : Fin 128), ((outsAt0 m c (t.val - 1) (by omega)).2.2 (ix2 a b) : EReal) ≤ B) ∧ below m c t.val B := by
  rw [outsAt0_B m c t h0 h1]
  generalize (outsAt0 m c (t.val - 1) _).2.2 = z
  generalize hs0_0 t = h0; revert h0; generalize ms0_0 t = a0; intro h0
  generalize hs0_1 t = h1; revert h1; generalize ms0_1 t = a1; intro h1
  generalize hs0_2 t = h2; revert h2; generalize ms0_2 t = a2; intro h2
  generalize hs0_3 t = h3; revert h3; generalize ms0_3 t = a3; intro h3
  generalize hs0_4 t = h4; revert h4; generalize ms0_4 t = a4; intro h4
  generalize hs0_5 t = h5; revert h5; generalize ms0_5 t = a5; intro h5
  generalize hs0_6 t = h6; revert h6; generalize ms0_6 t = a6; intro h6
  generalize hs0_7 t = h7; revert h7; generalize ms0_7 t = a7; intro h7
  dsimp only
  frame_out
  refine (fold3_le _ _ _ _ _ _ B).trans ?_
  refine (and_congr ((fold2_le _ _ _ _ _ _ B).trans (and_congr ((fold1_le _ _ _ _ _ _ B).trans
    (and_congr (fold0_le _ _ _ _ _ _ B) Iff.rfl)) Iff.rfl)) Iff.rfl).trans ?_
  refine regroup.trans (and_congr ?_ (below_iff m c t B _ _ _ _ ?_ ?_ ?_ ?_))
  rotate_left
  · exact fun r l q n hq hn => stripe m c t 0 (by omega) _ _ _ _ _ (by pointwise []) rfl (fun k l => by pointwise [Nat.zero_add])
      (fun l => by pointwise [Nat.zero_add]) (fun l => by pointwise [Nat.zero_add]) r l q n hq hn
  · exact fun r l q n hq hn => stripe m c t 256 (by omega) _ _ _ _ _ (by pointwise []) rfl (fun k l => by pointwise [])
      (fun l => by pointwise []) (fun l => by pointwise []) r l q n hq hn
  · exact fun r l q n hq hn => stripe m c t 512 (by omega) _ _ _ _ _ (by pointwise []) rfl (fun k l => by pointwise [])
      (fun l => by pointwise []) (fun l => by pointwise []) r l q n hq hn
  · exact fun r l q n hq hn => stripe m c t 768 (by omega) _ _ _ _ _ (by pointwise []) rfl (fun k l => by pointwise [])
      (fun l => by pointwise []) (fun l => by pointwise []) r l q n hq hn
  exact iff_of_eq (congrArg (fun f : S8x128.Idx → EReal => ∀ (a : Fin 8) (b : Fin 128), f (ix2 a b) ≤ B)
    (Memref.IsWhole.read_unread _ z))

set_option maxHeartbeats 800000 in
/-- A last point: what was carried, and the point's own block. -/
theorem step_C (c : Dev nD) (t : Fin cfg0.N) (h0 : ¬ t.val % 108 = 0) (h1 : t.val % 108 = 107) (B : EReal) :
    (∀ (a : Fin 8) (b : Fin 128), ((outsAt0 m c t.val t.isLt).2.2 (ix2 a b) : EReal) ≤ B)
      ↔ (∀ (a : Fin 8) (b : Fin 128), ((outsAt0 m c (t.val - 1) (by omega)).2.2 (ix2 a b) : EReal) ≤ B) ∧ below m c t.val B := by
  rw [outsAt0_C m c t h0 h1]
  generalize (outsAt0 m c (t.val - 1) _).2.2 = z
  generalize hs0_0 t = h0; revert h0; generalize ms0_0 t = a0; intro h0
  generalize hs0_1 t = h1; revert h1; generalize ms0_1 t = a1; intro h1
  generalize hs0_2 t = h2; revert h2; generalize ms0_2 t = a2; intro h2
  generalize hs0_3 t = h3; revert h3; generalize ms0_3 t = a3; intro h3
  generalize hs0_4 t = h4; revert h4; generalize ms0_4 t = a4; intro h4
  generalize hs0_5 t = h5; revert h5; generalize ms0_5 t = a5; intro h5
  generalize hs0_6 t = h6; revert h6; generalize ms0_6 t = a6; intro h6
  generalize hs0_7 t = h7; revert h7; generalize ms0_7 t = a7; intro h7
  dsimp only
  frame_out
  refine (fold3_le _ _ _ _ _ _ B).trans ?_
  refine (and_congr ((fold2_le _ _ _ _ _ _ B).trans (and_congr ((fold1_le _ _ _ _ _ _ B).trans
    (and_congr (fold0_le _ _ _ _ _ _ B) Iff.rfl)) Iff.rfl)) Iff.rfl).trans ?_
  refine regroup.trans (and_congr ?_ (below_iff m c t B _ _ _ _ ?_ ?_ ?_ ?_))
  rotate_left
  · exact fun r l q n hq hn => stripe m c t 0 (by omega) _ _ _ _ _ (by pointwise []) rfl (fun k l => by pointwise [Nat.zero_add])
      (fun l => by pointwise [Nat.zero_add]) (fun l => by pointwise [Nat.zero_add]) r l q n hq hn
  · exact fun r l q n hq hn => stripe m c t 256 (by omega) _ _ _ _ _ (by pointwise []) rfl (fun k l => by pointwise [])
      (fun l => by pointwise []) (fun l => by pointwise []) r l q n hq hn
  · exact fun r l q n hq hn => stripe m c t 512 (by omega) _ _ _ _ _ (by pointwise []) rfl (fun k l => by pointwise [])
      (fun l => by pointwise []) (fun l => by pointwise []) r l q n hq hn
  · exact fun r l q n hq hn => stripe m c t 768 (by omega) _ _ _ _ _ (by pointwise []) rfl (fun k l => by pointwise [])
      (fun l => by pointwise []) (fun l => by pointwise []) r l q n hq hn
  exact iff_of_eq (congrArg (fun f : S8x128.Idx → EReal => ∀ (a : Fin 8) (b : Fin 128), f (ix2 a b) ≤ B)
    (Memref.IsWhole.read_unread _ z))

set_option maxHeartbeats 800000 in
/-- The first point: the zero fill, and the point's own block. -/
theorem step_A (c : Dev nD) (t : Fin cfg0.N) (h0 : t.val % 108 = 0) (B : EReal) :
    (∀ (a : Fin 8) (b : Fin 128), ((outsAt0 m c t.val t.isLt).2.2 (ix2 a b) : EReal) ≤ B)
      ↔ 0 ≤ B ∧ below m c t.val B := by
  rw [outsAt0_A m c t h0 (by omega)]
  generalize hs0_0 t = h0; revert h0; generalize ms0_0 t = a0; intro h0
  generalize hs0_1 t = h1; revert h1; generalize ms0_1 t = a1; intro h1
  generalize hs0_2 t = h2; revert h2; generalize ms0_2 t = a2; intro h2
  generalize hs0_3 t = h3; revert h3; generalize ms0_3 t = a3; intro h3
  generalize hs0_4 t = h4; revert h4; generalize ms0_4 t = a4; intro h4
  generalize hs0_5 t = h5; revert h5; generalize ms0_5 t = a5; intro h5
  generalize hs0_6 t = h6; revert h6; generalize ms0_6 t = a6; intro h6
  generalize hs0_7 t = h7; revert h7; generalize ms0_7 t = a7; intro h7
  dsimp only
  frame_out
  refine (fold3_le _ _ _ _ _ _ B).trans ?_
  refine (and_congr ((fold2_le _ _ _ _ _ _ B).trans (and_congr ((fold1_le _ _ _ _ _ _ B).trans
    (and_congr (fold0_le _ _ _ _ _ _ B) Iff.rfl)) Iff.rfl)) Iff.rfl).trans ?_
  refine regroup.trans (and_congr ?_ (below_iff m c t B _ _ _ _ ?_ ?_ ?_ ?_))
  rotate_left
  · exact fun r l q n hq hn => stripe m c t 0 (by omega) _ _ _ _ _ (by pointwise []) rfl (fun k l => by pointwise [Nat.zero_add])
      (fun l => by pointwise [Nat.zero_add]) (fun l => by pointwise [Nat.zero_add]) r l q n hq hn
  · exact fun r l q n hq hn => stripe m c t 256 (by omega) _ _ _ _ _ (by pointwise []) rfl (fun k l => by pointwise [])
      (fun l => by pointwise []) (fun l => by pointwise []) r l q n hq hn
  · exact fun r l q n hq hn => stripe m c t 512 (by omega) _ _ _ _ _ (by pointwise []) rfl (fun k l => by pointwise [])
      (fun l => by pointwise []) (fun l => by pointwise []) r l q n hq hn
  · exact fun r l q n hq hn => stripe m c t 768 (by omega) _ _ _ _ _ (by pointwise []) rfl (fun k l => by pointwise [])
      (fun l => by pointwise []) (fun l => by pointwise []) r l q n hq hn
  simp only [zero_at]
  exact ⟨fun h => h 0 0, fun h _ _ => h⟩

end Cert.Proof.MlpMax

end
-- ==== Proof.MlpAmax.lean ====
/-
  Hand-written. THE MLP PROJECTION'S GREATEST ABSOLUTE VALUE: the kernel's running maximum over the whole grid is the reference's.
-/
module

public import proofs.«01_k».proof.Proof.Gen.KMlpIdeal.Value
public import proofs.«01_k».proof.Proof.MlpMax

@[expose] public section

set_option maxRecDepth 16384

noncomputable section

namespace Cert.Proof.MlpAmax

open Cert.Proof.Common
open Idealize.ShloMosaic Idealize.ShloMosaic.TcCoe Idealize.SL.Sem
open Idealize.ShloMosaic.Pipeline (Dat)
open Cert.KMlpIdeal Cert.KMlpIdeal.Gen
open Cert.Proof.MlpRef (gelu quantise magnitude CODES AMAX)
open Cert.Proof.MlpKer (idx)
open Cert.Proof.MlpMax

variable (m : (ℓ : Loc nD τ sig) → Buf (Elt Ideal) ℓ)

/-- After a grid point the scratch is below a bound exactly when zero and every block so far are. -/
theorem upto (c : Dev nD) (B : EReal) : ∀ (n : ℕ) (hn : n < cfg0.N),
    (∀ (a : Fin 8) (b : Fin 128), ((outsAt0 m c n hn).2.2 (ix2 a b) : EReal) ≤ B)
      ↔ 0 ≤ B ∧ ∀ t, t ≤ n → below m c t B
  | 0, hn => (step_A m c ⟨0, hn⟩ rfl B).trans
      ⟨fun h => ⟨h.1, fun t ht => (Nat.le_zero.mp ht) ▸ h.2⟩, fun h => ⟨h.1, h.2 0 le_rfl⟩⟩
  | n + 1, hn => by
    have hN : n + 1 < 108 := (idx ⟨n + 1, hn⟩).2.2.2.2.2.2.2.2
    have s : (∀ (a : Fin 8) (b : Fin 128), ((outsAt0 m c (n + 1) hn).2.2 (ix2 a b) : EReal) ≤ B)
        ↔ (∀ (a : Fin 8) (b : Fin 128), ((outsAt0 m c n (by omega)).2.2 (ix2 a b) : EReal) ≤ B) ∧ below m c (n + 1) B := by
      by_cases h : (n + 1) % 108 = 107
      · exact step_C m c ⟨n + 1, hn⟩ (by show ¬ (n + 1) % 108 = 0; omega) h B
      · exact step_B m c ⟨n + 1, hn⟩ (by show ¬ (n + 1) % 108 = 0; omega) h B
    rw [s, upto c B n (by omega)]
    constructor
    · rintro ⟨⟨h0, h1⟩, h2⟩
      refine ⟨h0, fun t ht => ?_⟩
      rcases Nat.lt_or_ge n t with g | g
      · have : t = n + 1 := by omega
        exact this ▸ h2
      · exact h1 t g
    · rintro ⟨h0, h1⟩
      exact ⟨⟨h0, fun t ht => h1 t (by omega)⟩, h1 _ le_rfl⟩

set_option maxHeartbeats 800000 in
/-- The last point's output is the greatest of what the scratch holds. -/
theorem out_le (c : Dev nD) (t : Fin cfg0.N) (h0 : ¬ t.val % 108 = 0) (h1 : t.val % 108 = 107) (y : S1x1.Idx) (B : EReal) :
    ((outsAt0 m c t.val t.isLt).2.1 y : EReal) ≤ B
      ↔ ∀ (a : Fin 8) (b : Fin 128), ((outsAt0 m c t.val t.isLt).2.2 (ix2 a b) : EReal) ≤ B := by
  rw [outsAt0_C m c t h0 h1]
  generalize (outsAt0 m c (t.val - 1) _).2.2 = z
  generalize hs0_0 t = h0; revert h0; generalize ms0_0 t = a0; intro h0
  generalize hs0_1 t = h1; revert h1; generalize ms0_1 t = a1; intro h1
  generalize hs0_2 t = h2; revert h2; generalize ms0_2 t = a2; intro h2
  generalize hs0_3 t = h3; revert h3; generalize ms0_3 t = a3; intro h3
  generalize hs0_4 t = h4; revert h4; generalize ms0_4 t = a4; intro h4
  generalize hs0_5 t = h5; revert h5; generalize ms0_5 t = a5; intro h5
  generalize hs0_6 t = h6; revert h6; generalize ms0_6 t = a6; intro h6
  generalize hs0_7 t = h7; revert h7; generalize ms0_7 t = a7; intro h7
  dsimp only
  frame_out
  exact last_le _ y B

/-- An absolute value is not negative. -/
theorem magnitude_nonneg (x : EReal) : 0 ≤ magnitude x := by
  unfold magnitude
  rcases le_total 0 x with h | h
  · exact h.trans (le_max_left _ _)
  · exact (EReal.neg_nonneg.mpr h).trans (le_max_right _ _)

/-- Every entry is in some grid point's block. -/
theorem all_below (c : Dev nD) (B : EReal) :
    (0 ≤ B ∧ ∀ t, t ≤ 107 → below m c t B)
      ↔ ∀ (q : Fin 9216) (n : Fin 12288), magnitude (gelu (MlpRef.hidden (m ((c : Thread nD τ).loc main_arg0)) (m ((c : Thread nD τ).loc main_arg1)) (m ((c : Thread nD τ).loc main_arg2)) (m ((c : Thread nD τ).loc main_arg3)) (m ((c : Thread nD τ).loc main_arg4)) q n)) ≤ B := by
  constructor
  · rintro ⟨-, h⟩ q n
    exact h (q.val / 1024 * 12 + n.val / 1024) (by omega) q n (by omega) (by omega)
  · intro h
    exact ⟨(magnitude_nonneg _).trans (h ⟨0, by omega⟩ ⟨0, by omega⟩), fun t _ q n _ _ => h q n⟩

/-- The kernel's greatest absolute value. -/
theorem final_amax (c : Dev nD) : (dats m 0 c).arrAt 7 (cfgs 0).N = AMAX (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  have h1 : t.val = 107 := by
    have hN := (idx t).2.2.2.2.2.2.2.2
    have := (flush0_7 t).mp hf
    omega
  rw [after0_7]
  blk_simp
  refine eq_of_forall_ge_iff (α := EReal) fun B => ?_
  refine (out_le m c t (by omega) (by omega) y B).trans ((upto m c B t.val t.isLt).trans ?_)
  rw [h1]
  refine (all_below m c B).trans ?_
  unfold AMAX
  simp only [iSup_le_iff]

end Cert.Proof.MlpAmax

end
-- ==== Proof.MlpClaim.lean ====
module

public import proofs.«01_k».proof.Defs
public import proofs.«01_k».proof.Proof.MlpAmax
public import Idealize.ShloMosaic.Lib.Claim

@[expose] public section

set_option maxRecDepth 16384

noncomputable section

namespace Cert.Proof

open Idealize.ShloMosaic Idealize.SL.Sem

/-- The MLP projection: the tiled kernel and the whole-array reference end with equal codes and equal greatest absolute
    values. -/
theorem algebraic_mlp : Cert.algebraic_KMlpIdeal_RMlpIdeal := by
  pair_intro
  · run_from Cert.KMlpIdeal.Gen.run_main m g
  · run_from Cert.RMlpIdeal.Gen.run_main m' g'
    · obtain ⟨h0, h1, h2, h3, h4, h5⟩ := hagree c
      refine (MlpRef.final_codes m' c).trans ?_
      rw [h0, h1, h2, h3, h4, h5]
      exact (MlpKer.final_codes m c).symm
    · obtain ⟨h0, h1, h2, h3, h4, h5⟩ := hagree c
      refine (MlpRef.final_amax m' c).trans ?_
      rw [h0, h1, h2, h3, h4]
      exact (MlpAmax.final_amax m c).symm

end Cert.Proof

end
-- ==== Proof.VRef.lean ====
/-
  Hand-written. THE VALUE PROJECTION, REFERENCE SIDE: the result array as one function of the argument arrays.
-/
module

public import proofs.«01_k».proof.Proof.Gen.RVIdeal.Value
public import proofs.«01_k».proof.Proof.Common

@[expose] public section

set_option maxRecDepth 16384

noncomputable section

namespace Cert.Proof.VRef

open Cert.Proof.Common
open Idealize.ShloMosaic Idealize.ShloMosaic.TcCoe Idealize.SL.Sem
open Idealize.ShloMosaic.Pipeline (Dat)
open Cert.RVIdeal Cert.RVIdeal.Gen

variable (m : (ℓ : Loc nD τ sig) → Buf (Elt Ideal) ℓ)

/-- Every window's one block starts at the origin. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0, 0] :=
  (by decide +kernel : ∀ t : Fin grid0.N, _)

/-- Entry `(batch, channel, token)` of the value projection: the row of codes against the column of the weights, scaled,
    plus the bias; the value columns start at 6144. -/
def REF (a : FVec Ideal S9216x3072 .fp8e4m3) (w : FVec Ideal S3072x21504 .fp8e4m3) (ws b : FVec Ideal ⟨1, ![21504]⟩ .f32)
    (sx : FVec Ideal ⟨0, ![]⟩ .f32) (j : S2x3072x4608.Idx) : EReal :=
  (∑ k : Fin 3072, a (ix2 ⟨(j 0).val * 4608 + (j 2).val,
        by have h0 : (j 0).val < 2 := (j 0).isLt
           have h2 : (j 2).val < 4608 := (j 2).isLt
           omega⟩ k)
      * w (ix2 k ⟨6144 + (j 1).val, by have : (j 1).val < 3072 := (j 1).isLt; omega⟩))
    * sx pt * ws (ix1 ⟨6144 + (j 1).val, by have : (j 1).val < 3072 := (j 1).isLt; omega⟩)
    + b (ix1 ⟨6144 + (j 1).val, by have : (j 1).val < 3072 := (j 1).isLt; omega⟩)

set_option maxHeartbeats 1600000 in
/-- The reference's result array. -/
theorem final (c : Dev nD) : (dats m 0 c).arrAt 5 (cfgs 0).N
    = REF (m ((c : Thread nD τ).loc main_arg0))
        (m ((c : Thread nD τ).loc main_arg1))
        (m ((c : Thread nD τ).loc main_arg2))
        (m ((c : Thread nD τ).loc main_arg3))
        (m ((c : Thread nD τ).loc main_arg4)) := by
  refine (dats m 0 c).arrAt_eq_of_covers 5 _ (by decide +kernel) fun t hf y => ?_
  rw [after0_5]
  unfold outsAt0
  generalize hs0_0 t = h0; revert h0; generalize ms0_0 t = a0; intro h0
  generalize hs0_1 t = h1; revert h1; generalize ms0_1 t = a1; intro h1
  generalize hs0_2 t = h2; revert h2; generalize ms0_2 t = a2; intro h2
  generalize hs0_3 t = h3; revert h3; generalize ms0_3 t = a3; intro h3
  generalize hs0_4 t = h4; revert h4; generalize ms0_4 t = a4; intro h4
  generalize hs0_5 t = h5; revert h5; generalize ms0_5 t = a5; intro h5
  blk_simp
  frame_out
  pointwise [k0_pay1, REF]
  blk_point [iblk, V, idx t]

end Cert.Proof.VRef

end
-- ==== Proof.VKer.lean ====
/-
  Hand-written. THE VALUE PROJECTION, KERNEL SIDE: every grid point's block of the result array is the function of the argument
  arrays that the reference computes (`VRef.REF`), and the blocks cover the array.
-/
module

public import proofs.«01_k».proof.Proof.Gen.KVIdeal.Value
public import proofs.«01_k».proof.Proof.VRef

@[expose] public section

set_option maxRecDepth 16384

noncomputable section

namespace Cert.Proof.VKer

open Cert.Proof.Common
open Idealize.ShloMosaic Idealize.ShloMosaic.TcCoe Idealize.SL.Sem
open Idealize.ShloMosaic.Pipeline (Dat)
open Cert.KVIdeal Cert.KVIdeal.Gen

variable (m : (ℓ : Loc nD τ sig) → Buf (Elt Ideal) ℓ)

/-- The block each window stages at a grid point: nine row blocks per batch, three column blocks. -/
theorem idx : ∀ t : Fin cfg0.N, win0_0.index t = ![t.val / 3, 0] ∧ win0_1.index t = ![0, t.val % 3 + 6]
    ∧ win0_2.index t = ![0, t.val % 3 + 6] ∧ win0_3.index t = ![0, t.val % 3 + 6] ∧ win0_4.index t = ![0, 0]
    ∧ win0_5.index t = ![t.val / 27, t.val % 3, t.val / 3 % 9] ∧ t.val < 54 :=
  (by decide +kernel : ∀ t : Fin grid0.N, _)

/-- A stripe of 256 channels of the stored block, before its channels are made rows. -/
def stripe (v0 : EReal) (v1 : FVec Ideal S512x3072 .fp8e4m3) (v2 : FVec Ideal S3072x256 .fp8e4m3)
    (v6 v10 : FVec Ideal S1x256 .f32) (x : S1x256x512.Idx) : EReal :=
  (∑ k : Fin 3072, v1 (ix2 (x 2) k) * v2 (ix2 k (x 1))) * v0 * v6 (ix2 0 (x 1)) + v10 (ix2 0 (x 1))

/-- The first stripe's payload. -/
theorem pay2_at (v0 : EReal) (v1 : FVec Ideal S512x3072 .fp8e4m3) (v2 : FVec Ideal S3072x256 .fp8e4m3)
    (v6 v10 : FVec Ideal S1x256 .f32) (x : S1x256x512.Idx) :
    k0_pay2 (F := Ideal) v0 v1 v2 v6 v10 x = stripe v0 v1 v2 v6 v10 x := by
  pointwise [k0_pay2, stripe]

/-- The second stripe's payload. -/
theorem pay4_at (v0 : EReal) (v1 : FVec Ideal S512x3072 .fp8e4m3) (v2 : FVec Ideal S3072x256 .fp8e4m3)
    (v6 v10 : FVec Ideal S1x256 .f32) (x : S1x256x512.Idx) :
    k0_pay4 (F := Ideal) (k0_pay3 v0 v1 v2 v6 v10) x = stripe v0 v1 v2 v6 v10 x := by
  pointwise [k0_pay4, k0_pay3, stripe]

/-- The third stripe's payload. -/
theorem pay5_at (v0 : EReal) (v1 : FVec Ideal S512x3072 .fp8e4m3) (v2 : FVec Ideal S3072x256 .fp8e4m3)
    (v6 v10 : FVec Ideal S1x256 .f32) (x : S1x256x512.Idx) :
    k0_pay5 (F := Ideal) v0 v1 v2 v6 v10 x = stripe v0 v1 v2 v6 v10 x := by
  pointwise [k0_pay5, stripe]

/-- The last stripe's payload. -/
theorem pay1_at (v0 : EReal) (v1 : FVec Ideal S512x3072 .fp8e4m3) (v2 : FVec Ideal S3072x256 .fp8e4m3)
    (v6 v10 : FVec Ideal S1x256 .f32) (x : S1x256x512.Idx) :
    k0_pay1 (F := Ideal) (k0_pay6 v0 v1 v2 v6 v10) x = stripe v0 v1 v2 v6 v10 x := by
  pointwise [k0_pay1, k0_pay6, stripe]

set_option maxHeartbeats 1600000 in
/-- The kernel's result array. -/
theorem final (c : Dev nD) : (dats m 0 c).arrAt 5 (cfgs 0).N
    = VRef.REF (m ((c : Thread nD τ).loc main_arg0))
        (m ((c : Thread nD τ).loc main_arg1))
        (m ((c : Thread nD τ).loc main_arg2))
        (m ((c : Thread nD τ).loc main_arg3))
        (m ((c : Thread nD τ).loc main_arg4)) := by
  refine (dats m 0 c).arrAt_eq_of_covers 5 _ (by decide +kernel) fun t hf y => ?_
  rw [after0_5]
  unfold outsAt0
  generalize hs0_0 t = h0; revert h0; generalize ms0_0 t = a0; intro h0
  generalize hs0_1 t = h1; revert h1; generalize ms0_1 t = a1; intro h1
  generalize hs0_2 t = h2; revert h2; generalize ms0_2 t = a2; intro h2
  generalize hs0_3 t = h3; revert h3; generalize ms0_3 t = a3; intro h3
  generalize hs0_4 t = h4; revert h4; generalize ms0_4 t = a4; intro h4
  generalize hs0_5 t = h5; revert h5; generalize ms0_5 t = a5; intro h5
  blk_simp
  frame_out
  canon_tiles x h
  all_goals
    first | rw [pay1_at] | rw [pay2_at] | rw [pay4_at] | rw [pay5_at]
    unfold VRef.REF stripe
    blk_simp [idx t]
    pointwise [h0, h1, h2]
    blk_point [iblk, V, idx t]

end Cert.Proof.VKer

end
-- ==== Proof.VClaim.lean ====
module

public import proofs.«01_k».proof.Defs
public import proofs.«01_k».proof.Proof.VKer
public import Idealize.ShloMosaic.Lib.Claim

@[expose] public section

set_option maxRecDepth 16384

noncomputable section

namespace Cert.Proof

open Idealize.ShloMosaic Idealize.SL.Sem

/-- The value projection: the tiled kernel and the whole-array reference end with equal results. -/
theorem algebraic_v : Cert.algebraic_KVIdeal_RVIdeal := by
  pair_intro
  · run_from Cert.KVIdeal.Gen.run_main m g
  · run_from Cert.RVIdeal.Gen.run_main m' g'
    obtain ⟨h0, h1, h2, h3, h4⟩ := hagree c
    refine (VRef.final m' c).trans ?_
    rw [h0, h1, h2, h3, h4]
    exact (VKer.final m c).symm

end Cert.Proof

end
-- ==== Proof.QkRef.lean ====
/-
  Hand-written. THE QUERY AND KEY PROJECTION, REFERENCE SIDE: the result array as one function of the argument arrays.
-/
module

public import proofs.«01_k».proof.Proof.Gen.RQkIdeal.Value
public import proofs.«01_k».proof.Proof.Common

@[expose] public section

set_option maxRecDepth 16384

noncomputable section

namespace Cert.Proof.QkRef

open Cert.Proof.Common
open Idealize.ShloMosaic Idealize.ShloMosaic.TcCoe Idealize.SL.Sem
open Idealize.ShloMosaic.Pipeline (Dat)
open Cert.RQkIdeal Cert.RQkIdeal.Gen

variable (m : (ℓ : Loc nD τ sig) → Buf (Elt Ideal) ℓ)

/-- Every window's one block starts at the origin. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0, 0]
    ∧ win0_7.index t = ![0, 0, 0] ∧ win0_8.index t = ![0, 0] ∧ win0_9.index t = ![0, 0] :=
  (by decide +kernel : ∀ t : Fin grid0.N, _)

/-- What the square root is taken of: the mean of a head's squares, plus the small constant. -/
def radicand (f : Fin 128 → EReal) : EReal :=
  Ideal.div (∑ k, f k * f k) (Ideal.ofBits .f32 0x43000000#32) + Ideal.ofBits .f32 0x358637BD#32

/-- A head normalised and weighted, at one of its channels. -/
def normed (f w : Fin 128 → EReal) (d : Fin 128) : EReal :=
  Ideal.div (f d) (Ideal.sqrt (radicand f)) * w d

/-- A head's pairs of channels rotated: pair `i` (channels `2 i` and `2 i + 1`) by the angle of cosine `cs i` and sine `sn i`. -/
def rotated (v : Fin 128 → EReal) (cs sn : Fin 64 → EReal) (d : Fin 128) : EReal :=
  if d.val % 2 = 0 then
    cs ⟨d.val / 2, by omega⟩ * v ⟨d.val / 2 * 2, by omega⟩ - sn ⟨d.val / 2, by omega⟩ * v ⟨d.val / 2 * 2 + 1, by omega⟩
  else
    sn ⟨d.val / 2, by omega⟩ * v ⟨d.val / 2 * 2, by omega⟩ + cs ⟨d.val / 2, by omega⟩ * v ⟨d.val / 2 * 2 + 1, by omega⟩

theorem rotated_even (v : Fin 128 → EReal) (cs sn : Fin 64 → EReal) (d : Fin 128) (hd : d.val % 2 = 0) :
    rotated v cs sn d
      = cs ⟨d.val / 2, by omega⟩ * v ⟨d.val / 2 * 2, by omega⟩ - sn ⟨d.val / 2, by omega⟩ * v ⟨d.val / 2 * 2 + 1, by omega⟩ :=
  if_pos hd

theorem rotated_odd (v : Fin 128 → EReal) (cs sn : Fin 64 → EReal) (d : Fin 128) (hd : ¬ d.val % 2 = 0) :
    rotated v cs sn d
      = sn ⟨d.val / 2, by omega⟩ * v ⟨d.val / 2 * 2, by omega⟩ + cs ⟨d.val / 2, by omega⟩ * v ⟨d.val / 2 * 2 + 1, by omega⟩ :=
  if_neg hd

/-- An entry of the result, from its head `f`, the norm's weights, and the angles' cosines and sines. -/
def entry (f w : Fin 128 → EReal) (cs sn : Fin 64 → EReal) (d : Fin 128) : EReal := rotated (normed f w) cs sn d

/-- `entry` depends on its arguments' values alone. -/
theorem entry_congr {f f' w w' : Fin 128 → EReal} {cs cs' sn sn' : Fin 64 → EReal} {d d' : Fin 128}
    (hf : ∀ k, f k = f' k) (hw : ∀ k, w k = w' k) (hc : ∀ i, cs i = cs' i) (hs : ∀ i, sn i = sn' i) (hd : d = d') :
    entry f w cs sn d = entry f' w' cs' sn' d' := by
  rw [funext hf, funext hw, funext hc, funext hs, hd]

/-- A projected value: a row of codes against a column of weights, scaled, plus the bias. -/
def linear (row col : Fin 3072 → EReal) (sx ws b : EReal) : EReal := (∑ k, row k * col k) * sx * ws + b

/-- `linear` depends on its arguments' values alone. -/
theorem linear_congr {row row' col col' : Fin 3072 → EReal} {sx sx' ws ws' b b' : EReal}
    (hr : ∀ k, row k = row' k) (hc : ∀ k, col k = col' k) (hs : sx = sx') (hw : ws = ws') (hb : b = b') :
    linear row col sx ws b = linear row' col' sx' ws' b' := by
  rw [funext hr, funext hc, hs, hw, hb]

/-- Entry `(token, channel)` of the result: the queries' 24 heads, then the keys'. -/
def AT (a : FVec Ideal S9216x3072 .fp8e4m3) (w : FVec Ideal S3072x21504 .fp8e4m3) (ws b : FVec Ideal ⟨1, ![21504]⟩ .f32)
    (qn kn : FVec Ideal ⟨1, ![128]⟩ .f32) (cs sn : FVec Ideal S2x4608x64 .f32) (sx : FVec Ideal ⟨0, ![]⟩ .f32)
    (r : Fin 9216) (n : Fin 6144) : EReal :=
  entry (fun k => linear (fun i => a (ix2 r i)) (fun i => w (ix2 i ⟨n.val / 128 * 128 + k.val, by omega⟩)) (sx pt)
      (ws (ix1 ⟨n.val / 128 * 128 + k.val, by omega⟩)) (b (ix1 ⟨n.val / 128 * 128 + k.val, by omega⟩)))
    (fun k => if n.val < 3072 then qn (ix1 k) else kn (ix1 k))
    (fun i => cs (ix3 ⟨r.val / 4608, by omega⟩ ⟨r.val % 4608, by omega⟩ i))
    (fun i => sn (ix3 ⟨r.val / 4608, by omega⟩ ⟨r.val % 4608, by omega⟩ i)) ⟨n.val % 128, by omega⟩

/-- The result array. -/
def REF (a : FVec Ideal S9216x3072 .fp8e4m3) (w : FVec Ideal S3072x21504 .fp8e4m3) (ws b : FVec Ideal ⟨1, ![21504]⟩ .f32)
    (qn kn : FVec Ideal ⟨1, ![128]⟩ .f32) (cs sn : FVec Ideal S2x4608x64 .f32) (sx : FVec Ideal ⟨0, ![]⟩ .f32)
    (j : S9216x6144.Idx) : EReal := AT a w ws b qn kn cs sn sx (j 0) (j 1)

/-- Its entry at an index whose coordinates are known. -/
theorem REF_at (a : FVec Ideal S9216x3072 .fp8e4m3) (w : FVec Ideal S3072x21504 .fp8e4m3) (ws b : FVec Ideal ⟨1, ![21504]⟩ .f32)
    (qn kn : FVec Ideal ⟨1, ![128]⟩ .f32) (cs sn : FVec Ideal S2x4608x64 .f32) (sx : FVec Ideal ⟨0, ![]⟩ .f32)
    (j : S9216x6144.Idx) (r : Fin 9216) (n : Fin 6144) (hr : r.val = (j 0).val) (hn : n.val = (j 1).val) :
    AT a w ws b qn kn cs sn sx r n = REF a w ws b qn kn cs sn sx j := by
  have e0 : r = j 0 := Fin.ext hr
  have e1 : n = j 1 := Fin.ext hn
  rw [e0, e1]
  rfl

/-- A head of a half's projected values. -/
def head (v0 : FVec Ideal S9216x3072 .fp8e4m3) (v1 : FVec Ideal S3072x3072 .fp8e4m3) (v3 : EReal)
    (v6 v10 : FVec Ideal S1x3072 .f32) (r : Fin 9216) (h : ℕ) (hh : h < 24) (k : Fin 128) : EReal :=
  linear (fun i => v0 (ix2 r i)) (fun i => v1 (ix2 i ⟨h * 128 + k.val, by omega⟩)) v3
    (v6 (ix2 0 ⟨h * 128 + k.val, by omega⟩)) (v10 (ix2 0 ⟨h * 128 + k.val, by omega⟩))

/-- The even channels of the normalised queries. -/
theorem pay5_at (v0 : FVec Ideal S9216x3072 .fp8e4m3) (v1 : FVec Ideal S3072x3072 .fp8e4m3) (v3 : EReal)
    (v6 v10 : FVec Ideal S1x3072 .f32) (v15 : FVec Ideal S1x128 .f32) (r : Fin 9216) (h : Fin 24) (i : Fin 64) :
    k0_pay5 (F := Ideal) v0 v1 v3 v6 v10 v15 (ix3 r h i)
      = normed (head v0 v1 v3 v6 v10 r h.val h.isLt) (fun k => v15 (ix2 0 k)) ⟨i.val * 2, by omega⟩ := by
  pointwise [k0_pay5, k0_pay4, normed, radicand, head, linear]

/-- The odd channels of the normalised queries. -/
theorem pay6_at (v0 : FVec Ideal S9216x3072 .fp8e4m3) (v1 : FVec Ideal S3072x3072 .fp8e4m3) (v3 : EReal)
    (v6 v10 : FVec Ideal S1x3072 .f32) (v15 : FVec Ideal S1x128 .f32) (r : Fin 9216) (h : Fin 24) (i : Fin 64) :
    k0_pay6 (F := Ideal) v0 v1 v3 v6 v10 v15 (ix4 r h i 0)
      = normed (head v0 v1 v3 v6 v10 r h.val h.isLt) (fun k => v15 (ix2 0 k)) ⟨i.val * 2 + 1, by omega⟩ := by
  pointwise [k0_pay6, k0_pay4, normed, radicand, head, linear]

set_option maxHeartbeats 800000 in
/-- The queries stored. -/
theorem query_at (v0 : FVec Ideal S9216x3072 .fp8e4m3) (v1 : FVec Ideal S3072x3072 .fp8e4m3) (v3 : EReal)
    (v6 v10 : FVec Ideal S1x3072 .f32) (v15 : FVec Ideal S1x128 .f32) (v30 v32 : FVec Ideal S2x4608x64 .f32) (r : Fin 9216) (n : Fin 3072) :
    k0_pay7 (F := Ideal) (k0_pay2 v30) (k0_pay3 v32) (k0_pay5 v0 v1 v3 v6 v10 v15) (k0_pay6 v0 v1 v3 v6 v10 v15) (ix2 r n)
      = entry (head v0 v1 v3 v6 v10 r (n.val / 128) (by omega)) (fun k => v15 (ix2 0 k))
          (fun i => v30 (ix3 ⟨r.val / 4608, by omega⟩ ⟨r.val % 4608, by omega⟩ i))
          (fun i => v32 (ix3 ⟨r.val / 4608, by omega⟩ ⟨r.val % 4608, by omega⟩ i)) ⟨n.val % 128, by omega⟩ := by
  pointwise [k0_pay7, k0_pay2, k0_pay3]
  simp only [pay5_at, pay6_at]
  unfold entry rotated
  by_cases hp : n.val % 128 % 2 = 0
  · rw [dif_pos (by omega), if_pos hp]
  · rw [dif_neg (by omega), if_neg hp]

/-- The keys projected. -/
theorem pay8_at (v0 : FVec Ideal S9216x3072 .fp8e4m3) (v1 : FVec Ideal S3072x3072 .fp8e4m3) (v3 : EReal)
    (v6 v10 : FVec Ideal S1x3072 .f32) (r : Fin 9216) (h : Fin 24) (k : Fin 128) :
    k0_pay8 (F := Ideal) v0 v1 v3 v6 v10 (ix3 r h k) = head v0 v1 v3 v6 v10 r h.val h.isLt k := by
  pointwise [k0_pay8, head, linear]

/-- The keys' norm weights. -/
theorem pay9_at (v73 : FVec Ideal S1x128 .f32) (k : Fin 128) : k0_pay9 (F := Ideal) v73 (ix1 k) = v73 (ix2 0 k) := by
  pointwise [k0_pay9]

/-- The mean of a head's squares. -/
theorem pay10_at (v0 : FVec Ideal S9216x3072 .fp8e4m3) (v1 : FVec Ideal S3072x3072 .fp8e4m3) (v3 : EReal)
    (v6 v10 : FVec Ideal S1x3072 .f32) (r : Fin 9216) (h : Fin 24) :
    k0_pay10 (F := Ideal) v0 v1 v3 v6 v10 (ix3 r h 0)
      = Ideal.div (∑ k, head v0 v1 v3 v6 v10 r h.val h.isLt k * head v0 v1 v3 v6 v10 r h.val h.isLt k)
          (Ideal.ofBits .f32 0x43000000#32) := by
  pointwise [k0_pay10]
  simp only [pay8_at]

/-- The rotation of the keys, for the normalised values `g` of the entry's head. -/
theorem pay1_at (v72 : FVec Ideal S9216x24x128 .f32) (v74 : FVec Ideal S128 .f32) (v79 : FVec Ideal S9216x24x1 .f32)
    (v88 v90 : FVec Ideal S2x4608x64 .f32) (r : Fin 9216) (n : Fin 3072) (g : Fin 128 → EReal)
    (hg : ∀ k, Ideal.div (v72 (ix3 r ⟨n.val / 128, by omega⟩ k))
        (Ideal.sqrt (v79 (ix3 r ⟨n.val / 128, by omega⟩ 0) + Ideal.ofBits .f32 0x358637BD#32)) * v74 (ix1 k) = g k) :
    k0_pay1 (F := Ideal) v72 v74 v79 v88 v90 (ix2 r n)
      = rotated g (fun i => v88 (ix3 ⟨r.val / 4608, by omega⟩ ⟨r.val % 4608, by omega⟩ i))
          (fun i => v90 (ix3 ⟨r.val / 4608, by omega⟩ ⟨r.val % 4608, by omega⟩ i)) ⟨n.val % 128, by omega⟩ := by
  pointwise [k0_pay1]
  simp only [hg]
  unfold rotated
  by_cases hp : n.val % 128 % 2 = 0
  · rw [dif_pos (by omega), if_pos hp]
  · rw [dif_neg (by omega), if_neg hp]

/-- The keys stored. -/
theorem key_at (v0 : FVec Ideal S9216x3072 .fp8e4m3) (v1 : FVec Ideal S3072x3072 .fp8e4m3) (v3 : EReal)
    (v6 v10 : FVec Ideal S1x3072 .f32) (v73 : FVec Ideal S1x128 .f32) (v88 v90 : FVec Ideal S2x4608x64 .f32) (r : Fin 9216) (n : Fin 3072) :
    k0_pay1 (F := Ideal) (k0_pay8 v0 v1 v3 v6 v10) (k0_pay9 v73) (k0_pay10 v0 v1 v3 v6 v10) v88 v90 (ix2 r n)
      = entry (head v0 v1 v3 v6 v10 r (n.val / 128) (by omega)) (fun k => v73 (ix2 0 k))
          (fun i => v88 (ix3 ⟨r.val / 4608, by omega⟩ ⟨r.val % 4608, by omega⟩ i))
          (fun i => v90 (ix3 ⟨r.val / 4608, by omega⟩ ⟨r.val % 4608, by omega⟩ i)) ⟨n.val % 128, by omega⟩ :=
  pay1_at _ _ _ _ _ _ _ _ fun k => by
    rw [pay8_at, pay9_at, pay10_at]
    rfl

/-- The codes. -/
theorem block0 (c : Dev nD) (t : Fin cfg0.N) (r : Fin 9216) (k : Fin 3072) :
    iblk m c 0 t (ix2 r k) = m ((c : Thread nD τ).loc main_arg0) (ix2 r k) := by
  blk_point [iblk, V, idx t]

/-- The weights. -/
theorem block1 (c : Dev nD) (t : Fin cfg0.N) (k : Fin 3072) (n : Fin 21504) :
    iblk m c 1 t (ix2 k n) = m ((c : Thread nD τ).loc main_arg1) (ix2 k n) := by
  blk_point [iblk, V, idx t]

/-- The weight scales. -/
theorem block2 (c : Dev nD) (t : Fin cfg0.N) (n : Fin 21504) :
    iblk m c 2 t (ix2 0 n) = m ((c : Thread nD τ).loc main_arg2) (ix1 n) := by
  blk_point [iblk, V, idx t]

/-- The biases. -/
theorem block3 (c : Dev nD) (t : Fin cfg0.N) (n : Fin 21504) :
    iblk m c 3 t (ix2 0 n) = m ((c : Thread nD τ).loc main_arg3) (ix1 n) := by
  blk_point [iblk, V, idx t]

/-- The queries' norm weights. -/
theorem block4 (c : Dev nD) (t : Fin cfg0.N) (n : Fin 128) :
    iblk m c 4 t (ix2 0 n) = m ((c : Thread nD τ).loc main_arg4) (ix1 n) := by
  blk_point [iblk, V, idx t]

/-- The keys' norm weights. -/
theorem block5 (c : Dev nD) (t : Fin cfg0.N) (n : Fin 128) :
    iblk m c 5 t (ix2 0 n) = m ((c : Thread nD τ).loc main_arg5) (ix1 n) := by
  blk_point [iblk, V, idx t]

/-- The cosines. -/
theorem block6 (c : Dev nD) (t : Fin cfg0.N) (r : Fin 2) (l : Fin 4608) (i : Fin 64) :
    iblk m c 6 t (ix3 r l i) = m ((c : Thread nD τ).loc main_arg6) (ix3 r l i) := by
  blk_point [iblk, V, idx t]

/-- The sines. -/
theorem block7 (c : Dev nD) (t : Fin cfg0.N) (r : Fin 2) (l : Fin 4608) (i : Fin 64) :
    iblk m c 7 t (ix3 r l i) = m ((c : Thread nD τ).loc main_arg7) (ix3 r l i) := by
  blk_point [iblk, V, idx t]

/-- The codes' scale. -/
theorem block8 (c : Dev nD) (t : Fin cfg0.N)  :
    iblk m c 8 t (ix2 0 0) = m ((c : Thread nD τ).loc main_arg8) pt := by
  blk_point [iblk, V, idx t]

/-- One half's entry (the queries' at column offset 0, the keys' at 3072) is the result's. -/
theorem half (c : Dev nD) (t : Fin cfg0.N) (v0 : FVec Ideal S9216x3072 .fp8e4m3) (v1 : FVec Ideal S3072x3072 .fp8e4m3) (v3 : EReal)
    (v6 v10 : FVec Ideal S1x3072 .f32)  (w : Fin 128 → EReal)
    (cs sn : FVec Ideal S2x4608x64 .f32) (o : ℕ) (ho : o = 0 ∨ o = 3072)
    (e0 : ∀ i k, v0 (ix2 i k) = iblk m c 0 t (ix2 i k)) (e3 : v3 = iblk m c 8 t (ix2 0 0))
    (e1 : ∀ (k : Fin 3072) (l : Fin 3072), v1 (ix2 k l) = iblk m c 1 t (ix2 k (⟨o + l.val, by omega⟩ : Fin 21504)))
    (e6 : ∀ l : Fin 3072, v6 (ix2 0 l) = iblk m c 2 t (ix2 0 (⟨o + l.val, by omega⟩ : Fin 21504)))
    (e10 : ∀ l : Fin 3072, v10 (ix2 0 l) = iblk m c 3 t (ix2 0 (⟨o + l.val, by omega⟩ : Fin 21504)))
    (ew : ∀ k, w k = if o < 3072 then m ((c : Thread nD τ).loc main_arg4) (ix1 k) else m ((c : Thread nD τ).loc main_arg5) (ix1 k))
    (ec : ∀ b l i, cs (ix3 b l i) = iblk m c 6 t (ix3 b l i)) (es : ∀ b l i, sn (ix3 b l i) = iblk m c 7 t (ix3 b l i))
    (r : Fin 9216) (n : Fin 3072) :
    entry (head v0 v1 v3 v6 v10 r (n.val / 128) (by omega)) w
          (fun i => cs (ix3 ⟨r.val / 4608, by omega⟩ ⟨r.val % 4608, by omega⟩ i))
          (fun i => sn (ix3 ⟨r.val / 4608, by omega⟩ ⟨r.val % 4608, by omega⟩ i)) ⟨n.val % 128, by omega⟩
      = AT (m ((c : Thread nD τ).loc main_arg0))
        (m ((c : Thread nD τ).loc main_arg1))
        (m ((c : Thread nD τ).loc main_arg2))
        (m ((c : Thread nD τ).loc main_arg3))
        (m ((c : Thread nD τ).loc main_arg4))
        (m ((c : Thread nD τ).loc main_arg5))
        (m ((c : Thread nD τ).loc main_arg6))
        (m ((c : Thread nD τ).loc main_arg7))
        (m ((c : Thread nD τ).loc main_arg8)) r ⟨o + n.val, by omega⟩ := by
  have hq : ∀ k : Fin 128, (⟨o + (n.val / 128 * 128 + k.val), by omega⟩ : Fin 21504)
      = ⟨(o + n.val) / 128 * 128 + k.val, by omega⟩ := fun k => Fin.ext (by simp only []; omega)
  refine entry_congr (fun k => linear_congr (fun i => ?_) (fun i => ?_) ?_ ?_ ?_) (fun k => ?_) (fun i => ?_) (fun i => ?_) ?_
  · exact (e0 _ _).trans (block0 m c t _ _)
  · exact (e1 _ _).trans ((block1 m c t _ _).trans (by rw [← hq]))
  · exact e3.trans (block8 m c t)
  · exact (e6 _).trans ((block2 m c t _).trans (by rw [← hq]))
  · exact (e10 _).trans ((block3 m c t _).trans (by rw [← hq]))
  · rw [ew]
    rcases ho with h | h
    · rw [if_pos (by omega), if_pos (by simp only []; omega)]
    · rw [if_neg (by omega), if_neg (by simp only []; omega)]
  · exact (ec _ _ _).trans (block6 m c t _ _ _)
  · exact (es _ _ _).trans (block7 m c t _ _ _)
  · refine Fin.ext ?_
    simp only []
    omega

set_option maxHeartbeats 1600000 in
/-- The reference's result array. -/
theorem final (c : Dev nD) : (dats m 0 c).arrAt 9 (cfgs 0).N
    = REF (m ((c : Thread nD τ).loc main_arg0))
        (m ((c : Thread nD τ).loc main_arg1))
        (m ((c : Thread nD τ).loc main_arg2))
        (m ((c : Thread nD τ).loc main_arg3))
        (m ((c : Thread nD τ).loc main_arg4))
        (m ((c : Thread nD τ).loc main_arg5))
        (m ((c : Thread nD τ).loc main_arg6))
        (m ((c : Thread nD τ).loc main_arg7))
        (m ((c : Thread nD τ).loc main_arg8)) := by
  refine (dats m 0 c).arrAt_eq_of_covers 9 _ (by decide +kernel) fun t hf y => ?_
  rw [after0_9]
  unfold outsAt0
  generalize hs0_0 t = h0; revert h0; generalize ms0_0 t = a0; intro h0
  generalize hs0_1 t = h1; revert h1; generalize ms0_1 t = a1; intro h1
  generalize hs0_2 t = h2; revert h2; generalize ms0_2 t = a2; intro h2
  generalize hs0_3 t = h3; revert h3; generalize ms0_3 t = a3; intro h3
  generalize hs0_4 t = h4; revert h4; generalize ms0_4 t = a4; intro h4
  generalize hs0_5 t = h5; revert h5; generalize ms0_5 t = a5; intro h5
  generalize hs0_6 t = h6; revert h6; generalize ms0_6 t = a6; intro h6
  generalize hs0_7 t = h7; revert h7; generalize ms0_7 t = a7; intro h7
  generalize hs0_8 t = h8; revert h8; generalize ms0_8 t = a8; intro h8
  generalize hs0_9 t = h9; revert h9; generalize ms0_9 t = a9; intro h9
  blk_simp
  frame_out
  canon_tiles x h
  · refine (key_at _ _ _ _ _ _ _ _ (x 0) (x 1)).trans ((half m c t _ _ _ _ _ _ _ _ 3072 (by omega)
      (fun i k => by pointwise []) (by pointwise []) (fun k l => by pointwise []) (fun l => by pointwise []) (fun l => by pointwise [])
      (fun k => ?_) (fun b l i => by pointwise []) (fun b l i => by pointwise []) (x 0) (x 1)).trans (REF_at _ _ _ _ _ _ _ _ _ _ _ _ ?_ ?_))
    · rw [if_neg (by omega)]
      exact block5 m c t k
    · blk_simp [idx t, h0]
    · blk_simp [idx t, h1]
  · refine (query_at _ _ _ _ _ _ _ _ (x 0) (x 1)).trans ((half m c t _ _ _ _ _ _ _ _ 0 (by omega)
      (fun i k => by pointwise []) (by pointwise []) (fun k l => by pointwise [Nat.zero_add]) (fun l => by pointwise [Nat.zero_add]) (fun l => by pointwise [Nat.zero_add])
      (fun k => ?_) (fun b l i => by pointwise []) (fun b l i => by pointwise []) (x 0) (x 1)).trans (REF_at _ _ _ _ _ _ _ _ _ _ _ _ ?_ ?_))
    · rw [if_pos (by omega)]
      exact block4 m c t k
    · blk_simp [idx t, h0]
    · blk_simp [idx t, h1]

end Cert.Proof.QkRef

end
-- ==== Proof.Norm.lean ====
/-
  Hand-written. Facts about extended reals that the two normalisations need: a multiplication by the reciprocal of a
  square root is a division by the square root, once the radicand is positive; and a mean of squares plus a positive
  constant is positive, whatever the data.
-/
module

public import Idealize.ShloMosaic.Lib.Pipeline.ValueKit
public import Idealize.ShloMosaic.Lib.Pointwise

@[expose] public section

noncomputable section

namespace Cert.Proof.Norm

open Idealize.ShloMosaic

/-- The divisor of the layer norm's means, 3072, is positive. -/
theorem width_pos : (0 : EReal) < Ideal.ofBits .f32 0x45400000#32 := by
  simp [Ideal.ofBits, Ideal.ieee, -EReal.coe_mul]

/-- The divisor of a head's mean, 128, is positive. -/
theorem head_pos : (0 : EReal) < Ideal.ofBits .f32 0x43000000#32 := by
  simp [Ideal.ofBits, Ideal.ieee, -EReal.coe_mul]

/-- The constant added under the square roots is positive. -/
theorem eps_pos : (0 : EReal) < Ideal.ofBits .f32 0x358637BD#32 := by
  simp [Ideal.ofBits, Ideal.ieee, -EReal.coe_mul]

/-- A square is not negative. -/
theorem square_nonneg (x : EReal) : 0 ≤ x * x := by
  induction x with
  | bot => simp
  | top => simp
  | coe r => exact_mod_cast mul_self_nonneg r

/-- Multiplying by `1/√y` is dividing by `√y` where `y` is positive. -/
theorem mul_rsqrt (x y : EReal) (h : 0 < y) : x * Ideal.rsqrt y = Ideal.div x (Ideal.sqrt y) := by
  induction y with
  | bot => simp at h
  | top => simp [Ideal.div]
  | coe r =>
    have hr : 0 < r := by exact_mod_cast h
    have hs : Real.sqrt r ≠ 0 := (Real.sqrt_pos.2 hr).ne'
    have hs' : ((Real.sqrt r : ℝ) : EReal) ≠ 0 := by exact_mod_cast hs
    simp [Ideal.div, not_lt.2 hr.le, hr.ne', hs', EReal.coe_inv]

/-- A quotient of a nonnegative by a positive number is not negative. -/
theorem quotient_nonneg (x y : EReal) (hx : 0 ≤ x) (hy : 0 < y) : 0 ≤ Ideal.div x y := by
  rw [Ideal.div, if_neg hy.ne']
  exact mul_nonneg hx (EReal.inv_nonneg_of_nonneg hy.le)

/-- A mean of squares plus a positive constant is positive. -/
theorem radicand_pos {n : Nat} (f : Fin n → EReal) (w e : EReal) (hw : 0 < w) (he : 0 < e) :
    0 < Ideal.div (∑ k, f k * f k) w + e :=
  lt_of_lt_of_le he (le_add_of_nonneg_left (quotient_nonneg _ _ (Finset.sum_nonneg fun k _ => square_nonneg (f k)) hw))

end Cert.Proof.Norm

end
-- ==== Proof.QkKer.lean ====
/-
  Hand-written. THE QUERY AND KEY PROJECTION, KERNEL SIDE: every grid point's block of the result array is the function of the
  argument arrays that the reference computes (`QkRef.REF`), and the blocks cover the array.
-/
module

public import proofs.«01_k».proof.Proof.Gen.KQkIdeal.Value
public import proofs.«01_k».proof.Proof.QkRef
public import proofs.«01_k».proof.Proof.Norm

@[expose] public section

set_option maxRecDepth 16384

noncomputable section

namespace Cert.Proof.QkKer

open Cert.Proof.Common
open Idealize.ShloMosaic Idealize.ShloMosaic.TcCoe Idealize.SL.Sem
open Idealize.ShloMosaic.Pipeline (Dat)
open Cert.KQkIdeal Cert.KQkIdeal.Gen
open Cert.Proof.QkRef (radicand normed rotated entry linear REF AT)

variable (m : (ℓ : Loc nD τ sig) → Buf (Elt Ideal) ℓ)

/-- The block each window stages at a grid point: nine row blocks, six column blocks (three of queries, three of keys). -/
theorem idx : ∀ t : Fin cfg0.N, win0_0.index t = ![t.val / 6, 0] ∧ win0_1.index t = ![0, t.val % 6]
    ∧ win0_2.index t = ![0, t.val % 6] ∧ win0_3.index t = ![0, t.val % 6] ∧ win0_4.index t = ![t.val % 6 / 3, 0, 0]
    ∧ win0_5.index t = ![t.val / 6, 0] ∧ win0_6.index t = ![t.val / 6, 0] ∧ win0_7.index t = ![0, 0]
    ∧ win0_8.index t = ![t.val / 6, t.val % 6] ∧ t.val < 54 :=
  (by decide +kernel : ∀ t : Fin grid0.N, _)

/-- An index from its two coordinates. -/
theorem pair_eta (x : S1024x128.Idx) : x = ix2 (x 0) (x 1) := by
  funext i
  match i with
  | 0 => rfl
  | 1 => rfl

/-- A head of the block: 128 columns of a product of 256, starting at column `o` of it. -/
def hd (v0 : EReal) (a : FVec Ideal S1024x3072 .fp8e4m3) (w : FVec Ideal S3072x256 .fp8e4m3) (s b : FVec Ideal S1x128 .f32)
    (r : Fin 1024) (o : ℕ) (ho : o ≤ 128) (k : Fin 128) : EReal :=
  linear (fun i => a (ix2 r i)) (fun i => w (ix2 i ⟨o + k.val, by omega⟩)) v0 (s (ix2 0 k)) (b (ix2 0 k))

/-- A head normalised and weighted as the kernel does it: times the reciprocal square root. -/
def scaled (f w : Fin 128 → EReal) (d : Fin 128) : EReal := f d * Ideal.rsqrt (radicand f) * w d

/-- The rotation as the kernel does it: the head times the cosines, plus the head shifted by one channel (left or right by the
    channel's parity `p`) times the signed sines. -/
def turned (v cs sn : Fin 128 → EReal) (p : Fin 128 → BitVec 1) (d : Fin 128) : EReal :=
  v d * cs d + Scalar.select (p d) (v ⟨(d.val + 128 - 1) % 128, by omega⟩) (v ⟨(d.val + 128 - 127) % 128, by omega⟩) * sn d

/-- The kernel's normalisation is the reference's. -/
theorem scaled_eq (f w : Fin 128 → EReal) (d : Fin 128) : scaled f w d = normed f w d := by
  unfold scaled normed radicand
  rw [Norm.mul_rsqrt _ _ (Norm.radicand_pos f _ _ Norm.head_pos Norm.eps_pos)]

/-- The kernel's rotation is the reference's. -/
theorem turned_eq (v cs sn : Fin 128 → EReal) (p : Fin 128 → BitVec 1) (c s : Fin 64 → EReal) (d : Fin 128)
    (hp : p d = if d.val % 2 = 1 then 1#1 else 0#1) (hc : cs d = c ⟨d.val / 2, by omega⟩)
    (hs : sn d = if d.val % 2 = 0 then - s ⟨d.val / 2, by omega⟩ else s ⟨d.val / 2, by omega⟩) :
    turned v cs sn p d = rotated v c s d := by
  unfold turned
  rw [hp, hc, hs]
  by_cases h : d.val % 2 = 0
  · rw [QkRef.rotated_even _ _ _ _ h, if_neg (by omega), if_pos h]
    have e0 : (⟨d.val / 2 * 2, by omega⟩ : Fin 128) = d := Fin.ext (by simp only []; omega)
    have e1 : (⟨d.val / 2 * 2 + 1, by omega⟩ : Fin 128) = ⟨(d.val + 128 - 127) % 128, by omega⟩ := Fin.ext (by simp only []; omega)
    rw [e0, e1]
    show _ + (v _) * _ = _
    rw [mul_neg, sub_eq_add_neg, mul_comm (v d), mul_comm (v _) (s _)]
  · rw [QkRef.rotated_odd _ _ _ _ h, if_pos (by omega), if_neg h]
    have e0 : (⟨d.val / 2 * 2 + 1, by omega⟩ : Fin 128) = d := Fin.ext (by simp only []; omega)
    have e1 : (⟨d.val / 2 * 2, by omega⟩ : Fin 128) = ⟨(d.val + 128 - 1) % 128, by omega⟩ := Fin.ext (by simp only []; omega)
    rw [e0, e1]
    show _ + (v _) * _ = _
    rw [add_comm, mul_comm (v d), mul_comm (v _) (s _)]

/-- The parity mask, by the remainder's bits. -/
theorem mask_at (r : Fin 1024) (d : Fin 128) : k0_pay3 (ix2 r d) = if d.val % 2 = 1 then 1#1 else 0#1 := by
  pointwise [k0_pay3]
  revert d
  decide +kernel

/-- A head projected, from the second half of a product. -/
theorem pay9_at (v0 : EReal) (a : FVec Ideal S1024x3072 .fp8e4m3) (w : FVec Ideal S3072x256 .fp8e4m3) (s b : FVec Ideal S1x128 .f32)
    (r : Fin 1024) (d : Fin 128) :
    k0_pay9 (F := Ideal) v0 (k0_pay5 a w) s b (ix2 r d) = hd v0 a w s b r 128 (by omega) d := by
  pointwise [k0_pay9, k0_pay5, hd, linear]

/-- A head projected, from the second half of a product. -/
theorem pay20_at (v0 : EReal) (a : FVec Ideal S1024x3072 .fp8e4m3) (w : FVec Ideal S3072x256 .fp8e4m3) (s b : FVec Ideal S1x128 .f32)
    (r : Fin 1024) (d : Fin 128) :
    k0_pay20 (F := Ideal) v0 (k0_pay18 a w) s b (ix2 r d) = hd v0 a w s b r 128 (by omega) d := by
  pointwise [k0_pay20, k0_pay18, hd, linear]

/-- A head projected, from the first half of a product. -/
theorem pay24_at (v0 : EReal) (a : FVec Ideal S1024x3072 .fp8e4m3) (w : FVec Ideal S3072x256 .fp8e4m3) (s b : FVec Ideal S1x128 .f32)
    (r : Fin 1024) (d : Fin 128) :
    k0_pay24 (F := Ideal) v0 a w s b (ix2 r d) = hd v0 a w s b r 0 (by omega) d := by
  pointwise [k0_pay24, k0_pay23, hd, linear, Nat.zero_add]

/-- A head projected and normalised. -/
theorem pay13_at (v0 : EReal) (a : FVec Ideal S1024x3072 .fp8e4m3) (w : FVec Ideal S3072x256 .fp8e4m3) (s b : FVec Ideal S1x128 .f32)
    (v25 : FVec Ideal S1x128 .f32) (r : Fin 1024) (d : Fin 128) :
    k0_pay13 (F := Ideal) v0 v25 a w s b (ix2 r d) = scaled (hd v0 a w s b r 0 (by omega)) (fun k => v25 (ix2 0 k)) d := by
  pointwise [k0_pay13, k0_pay12, hd, linear, scaled, radicand, Nat.zero_add]

/-- The head stored at an offset of 0 columns. -/
theorem head0_at (v2 v4 : FVec Ideal S1024x128 .f32) (v23 : IVec S1024x128 1)
    (v25 : FVec Ideal S1x128 .f32) (v0 : EReal) (a : FVec Ideal S1024x3072 .fp8e4m3) (w : FVec Ideal S3072x256 .fp8e4m3) (s b : FVec Ideal S1x128 .f32)
    (r : Fin 1024) (d : Fin 128) :
    k0_pay8 (F := Ideal) v2 v4 v23 v25 (k0_pay6 v0 a w) (k0_pay7 s) b (ix2 r d)
      = turned (scaled (hd v0 a w s b r 0 (by omega)) (fun k => v25 (ix2 0 k))) (fun k => v2 (ix2 r k)) (fun k => v4 (ix2 r k))
          (fun k => v23 (ix2 r k)) d := by
  pointwise [k0_pay8, k0_pay6, k0_pay7, k0_pay5, turned, scaled, hd, linear, radicand, Nat.zero_add]

/-- The same, at an index not yet taken apart. -/
theorem head0_idx (v2 v4 : FVec Ideal S1024x128 .f32) (v23 : IVec S1024x128 1)
    (v25 : FVec Ideal S1x128 .f32) (v0 : EReal) (a : FVec Ideal S1024x3072 .fp8e4m3) (w : FVec Ideal S3072x256 .fp8e4m3) (s b : FVec Ideal S1x128 .f32)
    (x : S1024x128.Idx) :
    k0_pay8 (F := Ideal) v2 v4 v23 v25 (k0_pay6 v0 a w) (k0_pay7 s) b x
      = turned (scaled (hd v0 a w s b (x 0) 0 (by omega)) (fun k => v25 (ix2 0 k))) (fun k => v2 (ix2 (x 0) k))
          (fun k => v4 (ix2 (x 0) k)) (fun k => v23 (ix2 (x 0) k)) (x 1) :=
  (congrArg _ (pair_eta x)).trans (head0_at v2 v4 v23 v25 v0 a w s b (x 0) (x 1))

/-- The head stored at an offset of 128 columns. -/
theorem head1_at (v2 v4 : FVec Ideal S1024x128 .f32) (v23 : IVec S1024x128 1)
    (v25 : FVec Ideal S1x128 .f32) (v0 : EReal) (a : FVec Ideal S1024x3072 .fp8e4m3) (w : FVec Ideal S3072x256 .fp8e4m3) (s b : FVec Ideal S1x128 .f32)
    (r : Fin 1024) (d : Fin 128) :
    k0_pay11 (F := Ideal) v2 v4 v23 v25 (k0_pay9 v0 (k0_pay5 a w) s b) (k0_pay10 v0 (k0_pay5 a w) s b) (ix2 r d)
      = turned (scaled (hd v0 a w s b r 128 (by omega)) (fun k => v25 (ix2 0 k))) (fun k => v2 (ix2 r k)) (fun k => v4 (ix2 r k))
          (fun k => v23 (ix2 r k)) d := by
  pointwise [k0_pay11, k0_pay10]
  simp only [pay9_at]
  rfl

/-- The same, at an index not yet taken apart. -/
theorem head1_idx (v2 v4 : FVec Ideal S1024x128 .f32) (v23 : IVec S1024x128 1)
    (v25 : FVec Ideal S1x128 .f32) (v0 : EReal) (a : FVec Ideal S1024x3072 .fp8e4m3) (w : FVec Ideal S3072x256 .fp8e4m3) (s b : FVec Ideal S1x128 .f32)
    (x : S1024x128.Idx) :
    k0_pay11 (F := Ideal) v2 v4 v23 v25 (k0_pay9 v0 (k0_pay5 a w) s b) (k0_pay10 v0 (k0_pay5 a w) s b) x
      = turned (scaled (hd v0 a w s b (x 0) 128 (by omega)) (fun k => v25 (ix2 0 k))) (fun k => v2 (ix2 (x 0) k))
          (fun k => v4 (ix2 (x 0) k)) (fun k => v23 (ix2 (x 0) k)) (x 1) :=
  (congrArg _ (pair_eta x)).trans (head1_at v2 v4 v23 v25 v0 a w s b (x 0) (x 1))

/-- The head stored at an offset of 256 columns. -/
theorem head2_at (v2 v4 : FVec Ideal S1024x128 .f32) (v23 : IVec S1024x128 1)
    (v25 : FVec Ideal S1x128 .f32) (v0 : EReal) (a : FVec Ideal S1024x3072 .fp8e4m3) (w : FVec Ideal S3072x256 .fp8e4m3) (s b : FVec Ideal S1x128 .f32)
    (r : Fin 1024) (d : Fin 128) :
    k0_pay16 (F := Ideal) v2 v4 v23 (k0_pay13 v0 v25 a w s b) (k0_pay14 v0 v25 a w s b) (k0_pay15 v0 v25 a w s b) (ix2 r d)
      = turned (scaled (hd v0 a w s b r 0 (by omega)) (fun k => v25 (ix2 0 k))) (fun k => v2 (ix2 r k)) (fun k => v4 (ix2 r k))
          (fun k => v23 (ix2 r k)) d := by
  pointwise [k0_pay16, k0_pay14, k0_pay15]
  simp only [pay13_at]
  rfl

/-- The same, at an index not yet taken apart. -/
theorem head2_idx (v2 v4 : FVec Ideal S1024x128 .f32) (v23 : IVec S1024x128 1)
    (v25 : FVec Ideal S1x128 .f32) (v0 : EReal) (a : FVec Ideal S1024x3072 .fp8e4m3) (w : FVec Ideal S3072x256 .fp8e4m3) (s b : FVec Ideal S1x128 .f32)
    (x : S1024x128.Idx) :
    k0_pay16 (F := Ideal) v2 v4 v23 (k0_pay13 v0 v25 a w s b) (k0_pay14 v0 v25 a w s b) (k0_pay15 v0 v25 a w s b) x
      = turned (scaled (hd v0 a w s b (x 0) 0 (by omega)) (fun k => v25 (ix2 0 k))) (fun k => v2 (ix2 (x 0) k))
          (fun k => v4 (ix2 (x 0) k)) (fun k => v23 (ix2 (x 0) k)) (x 1) :=
  (congrArg _ (pair_eta x)).trans (head2_at v2 v4 v23 v25 v0 a w s b (x 0) (x 1))

/-- The head stored at an offset of 384 columns. -/
theorem head3_at (v2 v4 : FVec Ideal S1024x128 .f32) (v23 : IVec S1024x128 1)
    (v25 : FVec Ideal S1x128 .f32) (v0 : EReal) (a : FVec Ideal S1024x3072 .fp8e4m3) (w : FVec Ideal S3072x256 .fp8e4m3) (s b : FVec Ideal S1x128 .f32)
    (r : Fin 1024) (d : Fin 128) :
    k0_pay17 (F := Ideal) v0 v2 v4 v23 v25 (k0_pay12 a w) s b (ix2 r d)
      = turned (scaled (hd v0 a w s b r 128 (by omega)) (fun k => v25 (ix2 0 k))) (fun k => v2 (ix2 r k)) (fun k => v4 (ix2 r k))
          (fun k => v23 (ix2 r k)) d := by
  pointwise [k0_pay17, k0_pay12, turned, scaled, hd, linear, radicand]

/-- The same, at an index not yet taken apart. -/
theorem head3_idx (v2 v4 : FVec Ideal S1024x128 .f32) (v23 : IVec S1024x128 1)
    (v25 : FVec Ideal S1x128 .f32) (v0 : EReal) (a : FVec Ideal S1024x3072 .fp8e4m3) (w : FVec Ideal S3072x256 .fp8e4m3) (s b : FVec Ideal S1x128 .f32)
    (x : S1024x128.Idx) :
    k0_pay17 (F := Ideal) v0 v2 v4 v23 v25 (k0_pay12 a w) s b x
      = turned (scaled (hd v0 a w s b (x 0) 128 (by omega)) (fun k => v25 (ix2 0 k))) (fun k => v2 (ix2 (x 0) k))
          (fun k => v4 (ix2 (x 0) k)) (fun k => v23 (ix2 (x 0) k)) (x 1) :=
  (congrArg _ (pair_eta x)).trans (head3_at v2 v4 v23 v25 v0 a w s b (x 0) (x 1))

/-- The head stored at an offset of 512 columns. -/
theorem head4_at (v2 v4 : FVec Ideal S1024x128 .f32) (v23 : IVec S1024x128 1)
    (v25 : FVec Ideal S1x128 .f32) (v0 : EReal) (a : FVec Ideal S1024x3072 .fp8e4m3) (w : FVec Ideal S3072x256 .fp8e4m3) (s b : FVec Ideal S1x128 .f32)
    (r : Fin 1024) (d : Fin 128) :
    k0_pay19 (F := Ideal) v0 v2 v4 v23 v25 (k0_pay18 a w) s b (ix2 r d)
      = turned (scaled (hd v0 a w s b r 0 (by omega)) (fun k => v25 (ix2 0 k))) (fun k => v2 (ix2 r k)) (fun k => v4 (ix2 r k))
          (fun k => v23 (ix2 r k)) d := by
  pointwise [k0_pay19, k0_pay18, turned, scaled, hd, linear, radicand, Nat.zero_add]

/-- The same, at an index not yet taken apart. -/
theorem head4_idx (v2 v4 : FVec Ideal S1024x128 .f32) (v23 : IVec S1024x128 1)
    (v25 : FVec Ideal S1x128 .f32) (v0 : EReal) (a : FVec Ideal S1024x3072 .fp8e4m3) (w : FVec Ideal S3072x256 .fp8e4m3) (s b : FVec Ideal S1x128 .f32)
    (x : S1024x128.Idx) :
    k0_pay19 (F := Ideal) v0 v2 v4 v23 v25 (k0_pay18 a w) s b x
      = turned (scaled (hd v0 a w s b (x 0) 0 (by omega)) (fun k => v25 (ix2 0 k))) (fun k => v2 (ix2 (x 0) k))
          (fun k => v4 (ix2 (x 0) k)) (fun k => v23 (ix2 (x 0) k)) (x 1) :=
  (congrArg _ (pair_eta x)).trans (head4_at v2 v4 v23 v25 v0 a w s b (x 0) (x 1))

/-- The head stored at an offset of 640 columns. -/
theorem head5_at (v2 v4 : FVec Ideal S1024x128 .f32) (v23 : IVec S1024x128 1)
    (v25 : FVec Ideal S1x128 .f32) (v0 : EReal) (a : FVec Ideal S1024x3072 .fp8e4m3) (w : FVec Ideal S3072x256 .fp8e4m3) (s b : FVec Ideal S1x128 .f32)
    (r : Fin 1024) (d : Fin 128) :
    k0_pay22 (F := Ideal) v2 v4 v23 v25 (k0_pay20 v0 (k0_pay18 a w) s b) (k0_pay21 v0 (k0_pay18 a w) s b) (ix2 r d)
      = turned (scaled (hd v0 a w s b r 128 (by omega)) (fun k => v25 (ix2 0 k))) (fun k => v2 (ix2 r k)) (fun k => v4 (ix2 r k))
          (fun k => v23 (ix2 r k)) d := by
  pointwise [k0_pay22, k0_pay21]
  simp only [pay20_at]
  rfl

/-- The same, at an index not yet taken apart. -/
theorem head5_idx (v2 v4 : FVec Ideal S1024x128 .f32) (v23 : IVec S1024x128 1)
    (v25 : FVec Ideal S1x128 .f32) (v0 : EReal) (a : FVec Ideal S1024x3072 .fp8e4m3) (w : FVec Ideal S3072x256 .fp8e4m3) (s b : FVec Ideal S1x128 .f32)
    (x : S1024x128.Idx) :
    k0_pay22 (F := Ideal) v2 v4 v23 v25 (k0_pay20 v0 (k0_pay18 a w) s b) (k0_pay21 v0 (k0_pay18 a w) s b) x
      = turned (scaled (hd v0 a w s b (x 0) 128 (by omega)) (fun k => v25 (ix2 0 k))) (fun k => v2 (ix2 (x 0) k))
          (fun k => v4 (ix2 (x 0) k)) (fun k => v23 (ix2 (x 0) k)) (x 1) :=
  (congrArg _ (pair_eta x)).trans (head5_at v2 v4 v23 v25 v0 a w s b (x 0) (x 1))

/-- The head stored at an offset of 768 columns. -/
theorem head6_at (v2 v4 : FVec Ideal S1024x128 .f32) (v23 : IVec S1024x128 1)
    (v25 : FVec Ideal S1x128 .f32) (v0 : EReal) (a : FVec Ideal S1024x3072 .fp8e4m3) (w : FVec Ideal S3072x256 .fp8e4m3) (s b : FVec Ideal S1x128 .f32)
    (r : Fin 1024) (d : Fin 128) :
    k0_pay26 (F := Ideal) v2 v4 v23 v25 (k0_pay24 v0 a w s b) (k0_pay25 v0 a w s b) (ix2 r d)
      = turned (scaled (hd v0 a w s b r 0 (by omega)) (fun k => v25 (ix2 0 k))) (fun k => v2 (ix2 r k)) (fun k => v4 (ix2 r k))
          (fun k => v23 (ix2 r k)) d := by
  pointwise [k0_pay26, k0_pay25]
  simp only [pay24_at]
  rfl

/-- The same, at an index not yet taken apart. -/
theorem head6_idx (v2 v4 : FVec Ideal S1024x128 .f32) (v23 : IVec S1024x128 1)
    (v25 : FVec Ideal S1x128 .f32) (v0 : EReal) (a : FVec Ideal S1024x3072 .fp8e4m3) (w : FVec Ideal S3072x256 .fp8e4m3) (s b : FVec Ideal S1x128 .f32)
    (x : S1024x128.Idx) :
    k0_pay26 (F := Ideal) v2 v4 v23 v25 (k0_pay24 v0 a w s b) (k0_pay25 v0 a w s b) x
      = turned (scaled (hd v0 a w s b (x 0) 0 (by omega)) (fun k => v25 (ix2 0 k))) (fun k => v2 (ix2 (x 0) k))
          (fun k => v4 (ix2 (x 0) k)) (fun k => v23 (ix2 (x 0) k)) (x 1) :=
  (congrArg _ (pair_eta x)).trans (head6_at v2 v4 v23 v25 v0 a w s b (x 0) (x 1))

/-- The head stored at an offset of 896 columns. -/
theorem head7_at (v2 v4 : FVec Ideal S1024x128 .f32) (v23 : IVec S1024x128 1)
    (v25 : FVec Ideal S1x128 .f32) (v0 : EReal) (a : FVec Ideal S1024x3072 .fp8e4m3) (w : FVec Ideal S3072x256 .fp8e4m3) (s b : FVec Ideal S1x128 .f32)
    (r : Fin 1024) (d : Fin 128) :
    k0_pay27 (F := Ideal) v0 v2 v4 v23 v25 (k0_pay23 a w) s b (ix2 r d)
      = turned (scaled (hd v0 a w s b r 128 (by omega)) (fun k => v25 (ix2 0 k))) (fun k => v2 (ix2 r k)) (fun k => v4 (ix2 r k))
          (fun k => v23 (ix2 r k)) d := by
  pointwise [k0_pay27, k0_pay23, turned, scaled, hd, linear, radicand]

/-- The same, at an index not yet taken apart. -/
theorem head7_idx (v2 v4 : FVec Ideal S1024x128 .f32) (v23 : IVec S1024x128 1)
    (v25 : FVec Ideal S1x128 .f32) (v0 : EReal) (a : FVec Ideal S1024x3072 .fp8e4m3) (w : FVec Ideal S3072x256 .fp8e4m3) (s b : FVec Ideal S1x128 .f32)
    (x : S1024x128.Idx) :
    k0_pay27 (F := Ideal) v0 v2 v4 v23 v25 (k0_pay23 a w) s b x
      = turned (scaled (hd v0 a w s b (x 0) 128 (by omega)) (fun k => v25 (ix2 0 k))) (fun k => v2 (ix2 (x 0) k))
          (fun k => v4 (ix2 (x 0) k)) (fun k => v23 (ix2 (x 0) k)) (x 1) :=
  (congrArg _ (pair_eta x)).trans (head7_at v2 v4 v23 v25 v0 a w s b (x 0) (x 1))

/-- The host's cosine table: every cosine twice. -/
theorem cosines (c : Dev nD) (r : Fin 9216) (d : Fin 128) :
    V m c main_v2 (ix2 r d) = m ((c : Thread nD τ).loc main_arg6)
      (ix3 (⟨r.val / 4608, by omega⟩ : Fin 2) (⟨r.val % 4608, by omega⟩ : Fin 4608) (⟨d.val / 2, by omega⟩ : Fin 64)) := by
  entry_read
  pointwise []

/-- The host's sine table: every sine negated, then as it is. -/
theorem sines (c : Dev nD) (r : Fin 9216) (d : Fin 128) :
    V m c main_v7 (ix2 r d) = if d.val % 2 = 0 then
      Neg.neg (α := EReal) (m ((c : Thread nD τ).loc main_arg7)
        (ix3 (⟨r.val / 4608, by omega⟩ : Fin 2) (⟨r.val % 4608, by omega⟩ : Fin 4608) (⟨d.val / 2, by omega⟩ : Fin 64)))
      else m ((c : Thread nD τ).loc main_arg7)
        (ix3 (⟨r.val / 4608, by omega⟩ : Fin 2) (⟨r.val % 4608, by omega⟩ : Fin 4608) (⟨d.val / 2, by omega⟩ : Fin 64)) := by
  entry_read
  pointwise []
  by_cases h : d.val % 2 = 0
  · rw [dif_pos (by omega), if_pos h]
  · rw [dif_neg (by omega), if_neg h]

/-- The host's stack of the two norms' weights. -/
theorem weights (c : Dev nD) (i : Fin 2) (k : Fin 128) :
    V m c main_v14 (ix3 i 0 k) = if i.val < 1 then m ((c : Thread nD τ).loc main_arg4) (ix1 k)
      else m ((c : Thread nD τ).loc main_arg5) (ix1 k) := by
  entry_read
  pointwise []
  by_cases h : i.val < 1
  · rw [dif_pos h, if_pos h]
  · rw [dif_neg h, if_neg h]

/-- The staged block of codes. -/
theorem block0 (c : Dev nD) (t : Fin cfg0.N) (r : Fin 1024) (k : Fin 3072) (q : Fin 9216) (hq : q.val = t.val / 6 * 1024 + r.val) :
    iblk m c 0 t (ix2 r k) = m ((c : Thread nD τ).loc main_arg0) (ix2 q k) := by
  blk_point [iblk, V, idx t, hq]

/-- The staged block of weights. -/
theorem block1 (c : Dev nD) (t : Fin cfg0.N) (k : Fin 3072) (l : Fin 1024) (q : Fin 21504) (hq : q.val = t.val % 6 * 1024 + l.val) :
    iblk m c 1 t (ix2 k l) = m ((c : Thread nD τ).loc main_arg1) (ix2 k q) := by
  blk_point [iblk, V, idx t, hq]

/-- The staged weight scales. -/
theorem block2 (c : Dev nD) (t : Fin cfg0.N) (l : Fin 1024) (q : Fin 21504) (hq : q.val = t.val % 6 * 1024 + l.val) :
    iblk m c 2 t (ix2 0 l) = m ((c : Thread nD τ).loc main_arg2) (ix1 q) := by
  blk_point [iblk, V, idx t, hq]

/-- The staged biases. -/
theorem block3 (c : Dev nD) (t : Fin cfg0.N) (l : Fin 1024) (q : Fin 21504) (hq : q.val = t.val % 6 * 1024 + l.val) :
    iblk m c 3 t (ix2 0 l) = m ((c : Thread nD τ).loc main_arg3) (ix1 q) := by
  blk_point [iblk, V, idx t, hq]

/-- The staged norm weights. -/
theorem block4 (c : Dev nD) (t : Fin cfg0.N) (k : Fin 128) (q : Fin 2) (hq : q.val = t.val % 6 / 3) :
    iblk m c 4 t (ix3 0 0 k) = V m c main_v14 (ix3 q 0 k) := by
  blk_point [iblk, V, idx t, hq]

/-- The staged cosines. -/
theorem block5 (c : Dev nD) (t : Fin cfg0.N) (r : Fin 1024) (k : Fin 128) (q : Fin 9216) (hq : q.val = t.val / 6 * 1024 + r.val) :
    iblk m c 5 t (ix2 r k) = V m c main_v2 (ix2 q k) := by
  blk_point [iblk, V, idx t, hq]

/-- The staged sines. -/
theorem block6 (c : Dev nD) (t : Fin cfg0.N) (r : Fin 1024) (k : Fin 128) (q : Fin 9216) (hq : q.val = t.val / 6 * 1024 + r.val) :
    iblk m c 6 t (ix2 r k) = V m c main_v7 (ix2 q k) := by
  blk_point [iblk, V, idx t, hq]

/-- The codes' scale. -/
theorem block7 (c : Dev nD) (t : Fin cfg0.N)  :
    iblk m c 7 t (ix2 0 0) = m ((c : Thread nD τ).loc main_arg8) pt := by
  blk_point [iblk, V, idx t]

/-- A stored head at a column offset `p + o` of a grid point's block (`p` the offset of the product of 256 columns that it is
    part of, `o` its own within that) is the result's. -/
theorem stored (c : Dev nD) (t : Fin cfg0.N) (p o : ℕ) (ho : o = 0 ∨ o = 128) (hp : p % 256 = 0) (hp' : p ≤ 768)
    (v2 v4 : FVec Ideal S1024x128 .f32) (v23 : IVec S1024x128 1)
    (v25 : FVec Ideal S1x128 .f32) (v0 : EReal) (a : FVec Ideal S1024x3072 .fp8e4m3) (w : FVec Ideal S3072x256 .fp8e4m3) (s b : FVec Ideal S1x128 .f32)
    (e0 : v0 = iblk m c 7 t (ix2 0 0)) (ea : ∀ i k, a (ix2 i k) = iblk m c 0 t (ix2 i k))
    (ew : ∀ (k : Fin 3072) (l : Fin 256), w (ix2 k l) = iblk m c 1 t (ix2 k (⟨p + l.val, by omega⟩ : Fin 1024)))
    (es : ∀ l : Fin 128, s (ix2 0 l) = iblk m c 2 t (ix2 0 (⟨p + o + l.val, by omega⟩ : Fin 1024)))
    (eb : ∀ l : Fin 128, b (ix2 0 l) = iblk m c 3 t (ix2 0 (⟨p + o + l.val, by omega⟩ : Fin 1024)))
    (e4 : ∀ k, v25 (ix2 0 k) = iblk m c 4 t (ix3 0 0 k)) (e5 : ∀ i k, v2 (ix2 i k) = iblk m c 5 t (ix2 i k))
    (e6 : ∀ i k, v4 (ix2 i k) = iblk m c 6 t (ix2 i k)) (em : v23 = k0_pay3)
    (r : Fin 1024) (d : Fin 128) (q : Fin 9216) (n : Fin 6144) (hq : q.val = t.val / 6 * 1024 + r.val)
    (hn : n.val = t.val % 6 * 1024 + (p + o + d.val)) :
    turned (scaled (hd v0 a w s b r o (by omega)) (fun k => v25 (ix2 0 k))) (fun k => v2 (ix2 r k)) (fun k => v4 (ix2 r k))
        (fun k => v23 (ix2 r k)) d
      = AT (m ((c : Thread nD τ).loc main_arg0))
        (m ((c : Thread nD τ).loc main_arg1))
        (m ((c : Thread nD τ).loc main_arg2))
        (m ((c : Thread nD τ).loc main_arg3))
        (m ((c : Thread nD τ).loc main_arg4))
        (m ((c : Thread nD τ).loc main_arg5))
        (m ((c : Thread nD τ).loc main_arg6))
        (m ((c : Thread nD τ).loc main_arg7))
        (m ((c : Thread nD τ).loc main_arg8)) q n := by
  have ht : t.val < 54 := (idx t).2.2.2.2.2.2.2.2.2
  refine (turned_eq _ _ _ _ (fun i => m ((c : Thread nD τ).loc main_arg6)
      (ix3 (⟨q.val / 4608, by omega⟩ : Fin 2) (⟨q.val % 4608, by omega⟩ : Fin 4608) i))
    (fun i => m ((c : Thread nD τ).loc main_arg7)
      (ix3 (⟨q.val / 4608, by omega⟩ : Fin 2) (⟨q.val % 4608, by omega⟩ : Fin 4608) i)) d ?_ ?_ ?_).trans ?_
  · rw [em]
    exact mask_at r d
  · exact (e5 r d).trans ((block5 m c t r d q hq).trans (cosines m c q d))
  · exact (e6 r d).trans ((block6 m c t r d q hq).trans (sines m c q d))
  rw [funext (scaled_eq _ _)]
  refine QkRef.entry_congr (fun k => ?_) (fun k => ?_) (fun i => rfl) (fun i => rfl) ?_
  · have hk : (⟨n.val / 128 * 128 + k.val, by omega⟩ : Fin 21504).val
        = t.val % 6 * 1024 + (⟨p + (o + k.val), by omega⟩ : Fin 1024).val := by simp only []; omega
    have hk' : (⟨n.val / 128 * 128 + k.val, by omega⟩ : Fin 21504).val
        = t.val % 6 * 1024 + (⟨p + o + k.val, by omega⟩ : Fin 1024).val := by simp only []; omega
    refine QkRef.linear_congr (fun i => ?_) (fun i => ?_) ?_ ?_ ?_
    · exact (ea _ _).trans (block0 m c t r i q hq)
    · exact (ew _ _).trans (block1 m c t i _ _ hk)
    · exact e0.trans (block7 m c t)
    · exact (es _).trans (block2 m c t _ _ hk')
    · exact (eb _).trans (block3 m c t _ _ hk')
  · refine (e4 k).trans ((block4 m c t k ⟨t.val % 6 / 3, by omega⟩ rfl).trans ((weights m c _ k).trans ?_))
    by_cases h : t.val % 6 / 3 < 1
    · rw [if_pos h, if_pos (by omega)]
    · rw [if_neg h, if_neg (by omega)]
  · refine Fin.ext ?_
    simp only []
    omega

set_option maxHeartbeats 1600000 in
/-- The kernel's result array. -/
theorem final (c : Dev nD) : (dats m 0 c).arrAt 8 (cfgs 0).N
    = REF (m ((c : Thread nD τ).loc main_arg0))
        (m ((c : Thread nD τ).loc main_arg1))
        (m ((c : Thread nD τ).loc main_arg2))
        (m ((c : Thread nD τ).loc main_arg3))
        (m ((c : Thread nD τ).loc main_arg4))
        (m ((c : Thread nD τ).loc main_arg5))
        (m ((c : Thread nD τ).loc main_arg6))
        (m ((c : Thread nD τ).loc main_arg7))
        (m ((c : Thread nD τ).loc main_arg8)) := by
  refine (dats m 0 c).arrAt_eq_of_covers 8 _ (by decide +kernel) fun t hf y => ?_
  rw [after0_8]
  unfold outsAt0
  generalize hs0_0 t = h0; revert h0; generalize ms0_0 t = a0; intro h0
  generalize hs0_1 t = h1; revert h1; generalize ms0_1 t = a1; intro h1
  generalize hs0_2 t = h2; revert h2; generalize ms0_2 t = a2; intro h2
  generalize hs0_3 t = h3; revert h3; generalize ms0_3 t = a3; intro h3
  generalize hs0_4 t = h4; revert h4; generalize ms0_4 t = a4; intro h4
  generalize hs0_5 t = h5; revert h5; generalize ms0_5 t = a5; intro h5
  generalize hs0_6 t = h6; revert h6; generalize ms0_6 t = a6; intro h6
  generalize hs0_7 t = h7; revert h7; generalize ms0_7 t = a7; intro h7
  generalize hs0_8 t = h8; revert h8; generalize ms0_8 t = a8; intro h8
  blk_simp
  frame_out
  canon_tiles x h
  · refine (head7_idx _ _ _ _ _ _ _ _ _ x).trans ((stored m c t 768 128 (by omega) (by omega) (by omega) _ _ _ _ _ _ _ _ _
      (by pointwise []) (fun i k => by pointwise []) (fun k l => by pointwise []) (fun l => by pointwise []) (fun l => by pointwise [])
      (fun k => by pointwise [k0_pay4]) (fun i k => by pointwise [k0_pay1]) (fun i k => by pointwise [k0_pay2]) rfl (x 0) (x 1) _ _ ?_ ?_).trans
      (QkRef.REF_at _ _ _ _ _ _ _ _ _ _ ((((View.whole main_v15).slice (win0_8.rect t)).emb y) 0) ((((View.whole main_v15).slice (win0_8.rect t)).emb y) 1) rfl rfl))
    · blk_simp [idx t, h0]
    · blk_simp [idx t, h1]
  · refine (head6_idx _ _ _ _ _ _ _ _ _ x).trans ((stored m c t 768 0 (by omega) (by omega) (by omega) _ _ _ _ _ _ _ _ _
      (by pointwise []) (fun i k => by pointwise []) (fun k l => by pointwise []) (fun l => by pointwise []) (fun l => by pointwise [])
      (fun k => by pointwise [k0_pay4]) (fun i k => by pointwise [k0_pay1]) (fun i k => by pointwise [k0_pay2]) rfl (x 0) (x 1) _ _ ?_ ?_).trans
      (QkRef.REF_at _ _ _ _ _ _ _ _ _ _ ((((View.whole main_v15).slice (win0_8.rect t)).emb y) 0) ((((View.whole main_v15).slice (win0_8.rect t)).emb y) 1) rfl rfl))
    · blk_simp [idx t, h0]
    · blk_simp [idx t, h1]
  · refine (head5_idx _ _ _ _ _ _ _ _ _ x).trans ((stored m c t 512 128 (by omega) (by omega) (by omega) _ _ _ _ _ _ _ _ _
      (by pointwise []) (fun i k => by pointwise []) (fun k l => by pointwise []) (fun l => by pointwise []) (fun l => by pointwise [])
      (fun k => by pointwise [k0_pay4]) (fun i k => by pointwise [k0_pay1]) (fun i k => by pointwise [k0_pay2]) rfl (x 0) (x 1) _ _ ?_ ?_).trans
      (QkRef.REF_at _ _ _ _ _ _ _ _ _ _ ((((View.whole main_v15).slice (win0_8.rect t)).emb y) 0) ((((View.whole main_v15).slice (win0_8.rect t)).emb y) 1) rfl rfl))
    · blk_simp [idx t, h0]
    · blk_simp [idx t, h1]
  · refine (head4_idx _ _ _ _ _ _ _ _ _ x).trans ((stored m c t 512 0 (by omega) (by omega) (by omega) _ _ _ _ _ _ _ _ _
      (by pointwise []) (fun i k => by pointwise []) (fun k l => by pointwise []) (fun l => by pointwise []) (fun l => by pointwise [])
      (fun k => by pointwise [k0_pay4]) (fun i k => by pointwise [k0_pay1]) (fun i k => by pointwise [k0_pay2]) rfl (x 0) (x 1) _ _ ?_ ?_).trans
      (QkRef.REF_at _ _ _ _ _ _ _ _ _ _ ((((View.whole main_v15).slice (win0_8.rect t)).emb y) 0) ((((View.whole main_v15).slice (win0_8.rect t)).emb y) 1) rfl rfl))
    · blk_simp [idx t, h0]
    · blk_simp [idx t, h1]
  · refine (head3_idx _ _ _ _ _ _ _ _ _ x).trans ((stored m c t 256 128 (by omega) (by omega) (by omega) _ _ _ _ _ _ _ _ _
      (by pointwise []) (fun i k => by pointwise []) (fun k l => by pointwise []) (fun l => by pointwise []) (fun l => by pointwise [])
      (fun k => by pointwise [k0_pay4]) (fun i k => by pointwise [k0_pay1]) (fun i k => by pointwise [k0_pay2]) rfl (x 0) (x 1) _ _ ?_ ?_).trans
      (QkRef.REF_at _ _ _ _ _ _ _ _ _ _ ((((View.whole main_v15).slice (win0_8.rect t)).emb y) 0) ((((View.whole main_v15).slice (win0_8.rect t)).emb y) 1) rfl rfl))
    · blk_simp [idx t, h0]
    · blk_simp [idx t, h1]
  · refine (head2_idx _ _ _ _ _ _ _ _ _ x).trans ((stored m c t 256 0 (by omega) (by omega) (by omega) _ _ _ _ _ _ _ _ _
      (by pointwise []) (fun i k => by pointwise []) (fun k l => by pointwise []) (fun l => by pointwise []) (fun l => by pointwise [])
      (fun k => by pointwise [k0_pay4]) (fun i k => by pointwise [k0_pay1]) (fun i k => by pointwise [k0_pay2]) rfl (x 0) (x 1) _ _ ?_ ?_).trans
      (QkRef.REF_at _ _ _ _ _ _ _ _ _ _ ((((View.whole main_v15).slice (win0_8.rect t)).emb y) 0) ((((View.whole main_v15).slice (win0_8.rect t)).emb y) 1) rfl rfl))
    · blk_simp [idx t, h0]
    · blk_simp [idx t, h1]
  · refine (head1_idx _ _ _ _ _ _ _ _ _ x).trans ((stored m c t 0 128 (by omega) (by omega) (by omega) _ _ _ _ _ _ _ _ _
      (by pointwise []) (fun i k => by pointwise []) (fun k l => by pointwise [Nat.zero_add]) (fun l => by pointwise []) (fun l => by pointwise [])
      (fun k => by pointwise [k0_pay4]) (fun i k => by pointwise [k0_pay1]) (fun i k => by pointwise [k0_pay2]) rfl (x 0) (x 1) _ _ ?_ ?_).trans
      (QkRef.REF_at _ _ _ _ _ _ _ _ _ _ ((((View.whole main_v15).slice (win0_8.rect t)).emb y) 0) ((((View.whole main_v15).slice (win0_8.rect t)).emb y) 1) rfl rfl))
    · blk_simp [idx t, h0]
    · blk_simp [idx t, h1]
  · refine (head0_idx _ _ _ _ _ _ _ _ _ x).trans ((stored m c t 0 0 (by omega) (by omega) (by omega) _ _ _ _ _ _ _ _ _
      (by pointwise []) (fun i k => by pointwise []) (fun k l => by pointwise [Nat.zero_add]) (fun l => by pointwise [Nat.zero_add]) (fun l => by pointwise [Nat.zero_add])
      (fun k => by pointwise [k0_pay4]) (fun i k => by pointwise [k0_pay1]) (fun i k => by pointwise [k0_pay2]) rfl (x 0) (x 1) _ _ ?_ ?_).trans
      (QkRef.REF_at _ _ _ _ _ _ _ _ _ _ ((((View.whole main_v15).slice (win0_8.rect t)).emb y) 0) ((((View.whole main_v15).slice (win0_8.rect t)).emb y) 1) rfl rfl))
    · blk_simp [idx t, h0]
    · blk_simp [idx t, h1]

end Cert.Proof.QkKer

end
-- ==== Proof.QkClaim.lean ====
module

public import proofs.«01_k».proof.Defs
public import proofs.«01_k».proof.Proof.QkKer
public import Idealize.ShloMosaic.Lib.Claim

@[expose] public section

set_option maxRecDepth 16384

noncomputable section

namespace Cert.Proof

open Idealize.ShloMosaic Idealize.SL.Sem

/-- The query and key projection: the tiled kernel and the whole-array reference end with equal results. -/
theorem algebraic_qk : Cert.algebraic_KQkIdeal_RQkIdeal := by
  pair_intro
  · run_from Cert.KQkIdeal.Gen.run_main m g
  · run_from Cert.RQkIdeal.Gen.run_main m' g'
    obtain ⟨h0, h1, h2, h3, h4, h5, h6, h7, h8⟩ := hagree c
    refine (QkRef.final m' c).trans ?_
    rw [h0, h1, h2, h3, h4, h5, h6, h7, h8]
    exact (QkKer.final m c).symm

end Cert.Proof

end
-- ==== Proof.LnRef.lean ====
/-
  Hand-written. THE QUANTISED LAYER NORM, REFERENCE SIDE: the result array as one function of the argument arrays.
-/
module

public import proofs.«01_k».proof.Proof.Gen.RLnIdeal.Value
public import proofs.«01_k».proof.Proof.Common

@[expose] public section

set_option maxRecDepth 16384

noncomputable section

namespace Cert.Proof.LnRef

open Cert.Proof.Common
open Idealize.ShloMosaic Idealize.ShloMosaic.TcCoe Idealize.SL.Sem
open Idealize.ShloMosaic.Pipeline (Dat)
open Cert.RLnIdeal Cert.RLnIdeal.Gen

variable (m : (ℓ : Loc nD τ sig) → Buf (Elt Ideal) ℓ)

/-- Every window's one block starts at the origin. -/
theorem idx : ∀ t : Fin cfg0.N, win0_0.index t = ![0, 0] ∧ win0_1.index t = ![0, 0] ∧ win0_2.index t = ![0, 0] :=
  (by decide +kernel : ∀ t : Fin grid0.N, _)

/-- A row's mean. -/
def mean (f : Fin 3072 → EReal) : EReal := Ideal.div (∑ k, f k) (Ideal.ofBits .f32 0x45400000#32)

/-- A row less its mean. -/
def centred (f : Fin 3072 → EReal) (k : Fin 3072) : EReal := f k - mean f

/-- What the square root is taken of: the mean of the centred row's squares, plus the small constant. -/
def radicand (f : Fin 3072 → EReal) : EReal :=
  mean (fun k => centred f k * centred f k) + Ideal.ofBits .f32 0x358637BD#32

/-- The quantiser: divide by the scale, clamp to the largest code. -/
def quantise (h s : EReal) : EReal :=
  min (Ideal.ofBits .f32 0x43E00000#32) (max (Ideal.ofBits .f32 0xC3E00000#32) (Ideal.div h s))

/-- A row normalised at column `l`, modulated, quantised. -/
def entry (row : Fin 3072 → EReal) (l : Fin 3072) (scale shift s : EReal) : EReal :=
  quantise (Ideal.div (centred row l) (Ideal.sqrt (radicand row)) * (1 + scale) + shift) s

/-- `entry` depends on its arguments' values alone. -/
theorem entry_congr {row row' : Fin 3072 → EReal} {l l' : Fin 3072} {sc sc' sh sh' s s' : EReal}
    (hr : ∀ k, row k = row' k) (hl : l = l') (h1 : sc = sc') (h2 : sh = sh') (h3 : s = s') :
    entry row l sc sh s = entry row' l' sc' sh' s' := by
  rw [funext hr, hl, h1, h2, h3]

/-- Entry `(token, channel)` of the result. -/
def REF (x : FVec Ideal S2x4608x3072 .bf16) (shift scale : FVec Ideal ⟨2, ![2, 3072]⟩ .f32) (sx : FVec Ideal ⟨0, ![]⟩ .f32)
    (j : S9216x3072.Idx) : EReal :=
  entry (fun k => x (ix3 ⟨(j 0).val / 4608, by have : (j 0).val < 9216 := (j 0).isLt; omega⟩
      ⟨(j 0).val % 4608, by omega⟩ k)) (j 1)
    (scale (ix2 ⟨(j 0).val / 4608, by have : (j 0).val < 9216 := (j 0).isLt; omega⟩ (j 1)))
    (shift (ix2 ⟨(j 0).val / 4608, by have : (j 0).val < 9216 := (j 0).isLt; omega⟩ (j 1))) (sx pt)

set_option maxHeartbeats 1600000 in
/-- The normalised array that the quantising call is given. -/
theorem normed (c : Dev nD) (r : Fin 9216) (l : Fin 3072) (s : EReal) :
    quantise (V m c main_v25 (ix2 r l)) s = entry
      (fun k => m ((c : Thread nD τ).loc main_arg0) (ix3 (⟨r.val / 4608, by omega⟩ : Fin 2) (⟨r.val % 4608, by omega⟩ : Fin 4608) k)) l
      (m ((c : Thread nD τ).loc main_arg2) (ix2 (⟨r.val / 4608, by omega⟩ : Fin 2) l))
      (m ((c : Thread nD τ).loc main_arg1) (ix2 (⟨r.val / 4608, by omega⟩ : Fin 2) l)) s := by
  entry_read
  pointwise [entry, radicand, centred, mean]

set_option maxHeartbeats 1600000 in
/-- The reference's result array. -/
theorem final (c : Dev nD) : (dats m 0 c).arrAt 2 (cfgs 0).N
    = REF (m ((c : Thread nD τ).loc main_arg0))
        (m ((c : Thread nD τ).loc main_arg1))
        (m ((c : Thread nD τ).loc main_arg2))
        (m ((c : Thread nD τ).loc main_arg3)) := by
  refine (dats m 0 c).arrAt_eq_of_covers 2 _ (by decide +kernel) fun t hf y => ?_
  rw [after0_2]
  unfold outsAt0
  generalize hs0_0 t = h0; revert h0; generalize ms0_0 t = a0; intro h0
  generalize hs0_1 t = h1; revert h1; generalize ms0_1 t = a1; intro h1
  generalize hs0_2 t = h2; revert h2; generalize ms0_2 t = a2; intro h2
  blk_simp
  frame_out
  have hp : ∀ (v : FVec Ideal S9216x3072 .f32) (s : EReal), k0_pay1 (F := Ideal) v s y = quantise (v y) s := fun v s => by
    pointwise [k0_pay1, quantise]
  rw [hp]
  refine Eq.trans ?_ ((normed m c (y 0) (y 1) (m ((c : Thread nD τ).loc main_arg3) pt)).trans
    (entry_congr (fun k => ?_) ?_ ?_ ?_ rfl))
  · refine congrArg₂ quantise ?_ ?_
    · blk_point [iblk, idx t]
    · pointwise []
      blk_point [iblk, V, idx t]
  · blk_point [iblk, idx t]
  · exact Fin.ext (by blk_simp [idx t])
  all_goals blk_point [iblk, idx t]

end Cert.Proof.LnRef

end
-- ==== Proof.LnKer.lean ====
/-
  Hand-written. THE QUANTISED LAYER NORM, KERNEL SIDE: every grid point's block of the result array is the function of the argument
  arrays that the reference computes (`LnRef.REF`), and the blocks cover the array.
-/
module

public import proofs.«01_k».proof.Proof.Gen.KLnIdeal.Value
public import proofs.«01_k».proof.Proof.LnRef
public import proofs.«01_k».proof.Proof.Norm

@[expose] public section

set_option maxRecDepth 16384

noncomputable section

namespace Cert.Proof.LnKer

open Cert.Proof.Common
open Idealize.ShloMosaic Idealize.ShloMosaic.TcCoe Idealize.SL.Sem
open Idealize.ShloMosaic.Pipeline (Dat)
open Cert.KLnIdeal Cert.KLnIdeal.Gen

variable (m : (ℓ : Loc nD τ sig) → Buf (Elt Ideal) ℓ)

/-- The block each window stages at a grid point: thirty-six row blocks, eighteen to a batch. -/
theorem idx : ∀ t : Fin cfg0.N, win0_0.index t = ![t.val, 0] ∧ win0_1.index t = ![t.val / 18, 0, 0]
    ∧ win0_2.index t = ![t.val / 18, 0, 0] ∧ win0_3.index t = ![0, 0] ∧ win0_4.index t = ![t.val, 0] ∧ t.val < 36 :=
  (by decide +kernel : ∀ t : Fin grid0.N, _)

/-- The stored block at a row and a column, with the reference's division by the square root. -/
theorem pay_at (v0 : FVec Ideal S256x3072 .bf16) (v19 v25 : FVec Ideal S1x1x3072 .f32) (v29 : EReal) (y : S256x3072.Idx) :
    k0_pay1 (F := Ideal) v0 v19 v25 v29 y
      = LnRef.entry (fun k => v0 (ix2 (y 0) k)) (y 1) (v19 (ix3 0 0 (y 1))) (v25 (ix3 0 0 (y 1))) v29 := by
  have h : ∀ x : EReal, Ideal.div x (Ideal.sqrt (LnRef.radicand fun k => v0 (ix2 (y 0) k)))
      = x * Ideal.rsqrt (LnRef.radicand fun k => v0 (ix2 (y 0) k)) := fun x =>
    (Norm.mul_rsqrt _ _ (Norm.radicand_pos _ _ _ Norm.width_pos Norm.eps_pos)).symm
  unfold LnRef.entry
  rw [h]
  pointwise [k0_pay1, LnRef.quantise, LnRef.radicand, LnRef.centred, LnRef.mean]

/-- The rows the call is given: the batches one after the other. -/
theorem rows (c : Dev nD) (r : Fin 9216) (k : Fin 3072) : V m c main_v0 (ix2 r k)
    = m ((c : Thread nD τ).loc main_arg0) (ix3 (⟨r.val / 4608, by omega⟩ : Fin 2) (⟨r.val % 4608, by omega⟩ : Fin 4608) k) := by
  entry_read
  pointwise []

/-- The shifts the call is given. -/
theorem shifts (c : Dev nD) (r : Fin 2) (k : Fin 3072) :
    V m c main_v2 (ix3 r 0 k) = m ((c : Thread nD τ).loc main_arg1) (ix2 r k) := by
  entry_read
  pointwise []

/-- The scales the call is given. -/
theorem scales (c : Dev nD) (r : Fin 2) (k : Fin 3072) :
    V m c main_v3 (ix3 r 0 k) = m ((c : Thread nD τ).loc main_arg2) (ix2 r k) := by
  entry_read
  pointwise []

/-- The staged block of rows. -/
theorem block0 (c : Dev nD) (t : Fin cfg0.N) (r : Fin 256) (k : Fin 3072) (q : Fin 9216)
    (hq : q.val = t.val * 256 + r.val) : iblk m c 0 t (ix2 r k) = V m c main_v0 (ix2 q k) := by
  blk_point [iblk, idx t, hq]

/-- The staged row of shifts. -/
theorem block1 (c : Dev nD) (t : Fin cfg0.N) (k : Fin 3072) (q : Fin 2) (hq : q.val = t.val / 18) :
    iblk m c 1 t (ix3 0 0 k) = V m c main_v2 (ix3 q 0 k) := by
  blk_point [iblk, idx t, hq]

/-- The staged row of scales. -/
theorem block2 (c : Dev nD) (t : Fin cfg0.N) (k : Fin 3072) (q : Fin 2) (hq : q.val = t.val / 18) :
    iblk m c 2 t (ix3 0 0 k) = V m c main_v3 (ix3 q 0 k) := by
  blk_point [iblk, idx t, hq]

set_option maxHeartbeats 300000 in
/-- The kernel's result array. -/
theorem final (c : Dev nD) : (dats m 0 c).arrAt 4 (cfgs 0).N
    = LnRef.REF (m ((c : Thread nD τ).loc main_arg0))
        (m ((c : Thread nD τ).loc main_arg1))
        (m ((c : Thread nD τ).loc main_arg2))
        (m ((c : Thread nD τ).loc main_arg3)) := by
  refine (dats m 0 c).arrAt_eq_of_covers 4 _ (by decide +kernel) fun t hf y => ?_
  rw [after0_4]
  unfold outsAt0
  generalize hs0_0 t = h0; revert h0; generalize ms0_0 t = a0; intro h0
  generalize hs0_1 t = h1; revert h1; generalize ms0_1 t = a1; intro h1
  generalize hs0_2 t = h2; revert h2; generalize ms0_2 t = a2; intro h2
  generalize hs0_3 t = h3; revert h3; generalize ms0_3 t = a3; intro h3
  generalize hs0_4 t = h4; revert h4; generalize ms0_4 t = a4; intro h4
  blk_simp
  frame_out
  rw [pay_at]
  have e0 : ((((View.whole main_v4).slice (win0_4.rect t)).emb y) 0).val = t.val * 256 + (y 0).val := by blk_simp [idx t]
  have e1 : y 1 = (((View.whole main_v4).slice (win0_4.rect t)).emb y) 1 := Fin.ext (by blk_simp [idx t])
  have y0 : (y 0).val < 256 := (y 0).isLt
  have ht := (idx t).2.2.2.2.2
  generalize ((View.whole main_v4).slice (win0_4.rect t)).emb y = j at e0 e1 ⊢
  refine LnRef.entry_congr (fun k => ?_) e1 ?_ ?_ ?_
  · exact (block0 m c t (y 0) k (j 0) e0).trans (rows m c (j 0) k)
  · exact ((block2 m c t (y 1) ⟨(j 0).val / 4608, _⟩ (by show (j 0).val / 4608 = _; omega)).trans (scales m c _ (y 1))).trans
      (congrArg (fun l => m ((c : Thread nD τ).loc main_arg2) (ix2 _ l)) e1)
  · exact ((block1 m c t (y 1) ⟨(j 0).val / 4608, _⟩ (by show (j 0).val / 4608 = _; omega)).trans (shifts m c _ (y 1))).trans
      (congrArg (fun l => m ((c : Thread nD τ).loc main_arg1) (ix2 _ l)) e1)
  · pointwise []
    blk_point [iblk, V, idx t]

end Cert.Proof.LnKer

end
-- ==== Proof.LnClaim.lean ====
module

public import proofs.«01_k».proof.Defs
public import proofs.«01_k».proof.Proof.LnKer
public import Idealize.ShloMosaic.Lib.Claim

@[expose] public section

set_option maxRecDepth 16384

noncomputable section

namespace Cert.Proof

open Idealize.ShloMosaic Idealize.SL.Sem

/-- The quantised layer norm: the tiled kernel and the whole-array reference end with equal results. -/
theorem algebraic_ln : Cert.algebraic_KLnIdeal_RLnIdeal := by
  pair_intro
  · run_from Cert.KLnIdeal.Gen.run_main m g
  · run_from Cert.RLnIdeal.Gen.run_main m' g'
    obtain ⟨h0, h1, h2, h3⟩ := hagree c
    refine (LnRef.final m' c).trans ?_
    rw [h0, h1, h2, h3]
    exact (LnKer.final m c).symm

end Cert.Proof

end
-- ==== Proof.lean ====
module

public import proofs.«01_k».proof.Defs
public import proofs.«01_k».proof.Proof.KAttnFrame
public import proofs.«01_k».proof.Proof.Gen.KOut.Frame
public import proofs.«01_k».proof.Proof.Gen.KMlp.Frame
public import proofs.«01_k».proof.Proof.Gen.KV.Frame
public import proofs.«01_k».proof.Proof.Gen.KQk.Frame
public import proofs.«01_k».proof.Proof.Gen.KLn.Frame
public import proofs.«01_k».proof.Proof.AttnClaim
public import proofs.«01_k».proof.Proof.OutClaim
public import proofs.«01_k».proof.Proof.MlpClaim
public import proofs.«01_k».proof.Proof.VClaim
public import proofs.«01_k».proof.Proof.QkClaim
public import proofs.«01_k».proof.Proof.LnClaim
public import Idealize.ShloMosaic.Adequacy
public import Idealize.ShloMosaic.Init

@[expose] public section

noncomputable section

namespace Cert.Proof

open Idealize.ShloMosaic Idealize.SL.Sem

/-- The certificate: every program's side conditions; every program runs, leaves its arguments as they are and ends; the
    idealized kernels are the kernels' own text, up to one named constant; and every kernel agrees with its reference. -/
theorem claim : Cert.Claim :=
  ⟨Cert.KAttn.Gen.facts, Cert.KAttnIdeal.Gen.facts, Cert.RAttnIdeal.Gen.facts,
    Cert.KOut.Gen.facts, Cert.KOutIdeal.Gen.facts, Cert.ROutIdeal.Gen.facts,
    Cert.KMlp.Gen.facts, Cert.KMlpIdeal.Gen.facts, Cert.RMlpIdeal.Gen.facts,
    Cert.KV.Gen.facts, Cert.KVIdeal.Gen.facts, Cert.RVIdeal.Gen.facts,
    Cert.KQk.Gen.facts, Cert.KQkIdeal.Gen.facts, Cert.RQkIdeal.Gen.facts,
    Cert.KLn.Gen.facts, Cert.KLnIdeal.Gen.facts, Cert.RLnIdeal.Gen.facts,
    fun m g _ => Cert.KAttn.Gen.frame m g,
    fun m g _ => Cert.KAttnIdeal.Gen.frame m g,
    fun m g _ => Cert.RAttnIdeal.Gen.frame m g,
    fun m g _ => Cert.KOut.Gen.frame m g,
    fun m g _ => Cert.KOutIdeal.Gen.frame m g,
    fun m g _ => Cert.ROutIdeal.Gen.frame m g,
    fun m g _ => Cert.KMlp.Gen.frame m g,
    fun m g _ => Cert.KMlpIdeal.Gen.frame m g,
    fun m g _ => Cert.RMlpIdeal.Gen.frame m g,
    fun m g _ => Cert.KV.Gen.frame m g,
    fun m g _ => Cert.KVIdeal.Gen.frame m g,
    fun m g _ => Cert.RVIdeal.Gen.frame m g,
    fun m g _ => Cert.KQk.Gen.frame m g,
    fun m g _ => Cert.KQkIdeal.Gen.frame m g,
    fun m g _ => Cert.RQkIdeal.Gen.frame m g,
    fun m g _ => Cert.KLn.Gen.frame m g,
    fun m g _ => Cert.KLnIdeal.Gen.frame m g,
    fun m g _ => Cert.RLnIdeal.Gen.frame m g,
    preserves_attn, algebraic_attn,
    trivial, algebraic_out,
    trivial, algebraic_mlp,
    trivial, algebraic_v,
    trivial, algebraic_qk,
    trivial, algebraic_ln⟩

end Cert.Proof

end
